-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v7_2)) (v2 : (c : Dev Cert.Kernel2Ideal.nD) → Buf (Elt Ideal) ((c.tc : Thread Cert.Kernel2Ideal.nD Cert.Kernel2Ideal.τ).loc Cert.Kernel2Ideal.main_v7_3)) (v3 : (c : Dev Cert.Kernel2Ideal.nD) → Buf (Elt Ideal) ((c.tc : Thread Cert.Kernel2Ideal.nD Cert.Kernel2Ideal.τ).loc Cert.Kernel2Ideal.main_v7_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v7_2) = v1 c
          ∧ r.2.mem ((c.tc : Thread Cert.Kernel2Ideal.nD Cert.Kernel2Ideal.τ).loc Cert.Kernel2Ideal.main_v7_3) = v2 c
          ∧ r.2.mem ((c.tc : Thread Cert.Kernel2Ideal.nD Cert.Kernel2Ideal.τ).loc Cert.Kernel2Ideal.main_v7_4) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v11_0)) (v3 : (c : Dev Cert.Kernel3Ideal.nD) → Buf (Elt Ideal) ((c.tc : Thread Cert.Kernel3Ideal.nD Cert.Kernel3Ideal.τ).loc Cert.Kernel3Ideal.main_v11_1)) (v4 : (c : Dev Cert.Kernel3Ideal.nD) → Buf (Elt Ideal) ((c.tc : Thread Cert.Kernel3Ideal.nD Cert.Kernel3Ideal.τ).loc Cert.Kernel3Ideal.main_v12)) (v5 : (c : Dev Cert.Kernel3Ideal.nD) → Buf (Elt Ideal) ((c.tc : Thread Cert.Kernel3Ideal.nD Cert.Kernel3Ideal.τ).loc Cert.Kernel3Ideal.main_v13)) (v6 : (c : Dev Cert.Kernel3Ideal.nD) → Buf (Elt Ideal) ((c.tc : Thread Cert.Kernel3Ideal.nD Cert.Kernel3Ideal.τ).loc Cert.Kernel3Ideal.main_v16)) (v7 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v11_0) = v2 c
          ∧ r.2.mem ((c.tc : Thread Cert.Kernel3Ideal.nD Cert.Kernel3Ideal.τ).loc Cert.Kernel3Ideal.main_v11_1) = v3 c
          ∧ r.2.mem ((c.tc : Thread Cert.Kernel3Ideal.nD Cert.Kernel3Ideal.τ).loc Cert.Kernel3Ideal.main_v12) = v4 c
          ∧ r.2.mem ((c.tc : Thread Cert.Kernel3Ideal.nD Cert.Kernel3Ideal.τ).loc Cert.Kernel3Ideal.main_v13) = v5 c
          ∧ r.2.mem ((c.tc : Thread Cert.Kernel3Ideal.nD Cert.Kernel3Ideal.τ).loc Cert.Kernel3Ideal.main_v16) = v6 c
          ∧ r.2.mem ((c.tc : Thread Cert.Kernel3Ideal.nD Cert.Kernel3Ideal.τ).loc Cert.Kernel3Ideal.main_v15) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v19) = v3 c
          ∧ r.2.mem ((c.tc : Thread Cert.Reference3Ideal.nD Cert.Reference3Ideal.τ).loc Cert.Reference3Ideal.main_v20) = v4 c
          ∧ r.2.mem ((c.tc : Thread Cert.Reference3Ideal.nD Cert.Reference3Ideal.τ).loc Cert.Reference3Ideal.main_v4) = v5 c
          ∧ r.2.mem ((c.tc : Thread Cert.Reference3Ideal.nD Cert.Reference3Ideal.τ).loc Cert.Reference3Ideal.main_v22) = v6 c
          ∧ r.2.mem ((c.tc : Thread Cert.Reference3Ideal.nD Cert.Reference3Ideal.τ).loc Cert.Reference3Ideal.main_v9) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2048x1024 : Shape := ⟨2, ![2048, 1024]⟩
abbrev S2048x512 : Shape := ⟨2, ![2048, 512]⟩
abbrev S_ : Shape := ⟨0, ![]⟩

class Facts : Prop where
  bcast_S_S2048x1024 : S_.BroadcastsInDim S2048x1024 (![] : Fin 0 → Fin S2048x1024.rank)
  bcast_S_S2048x512 : S_.BroadcastsInDim S2048x512 (![] : Fin 0 → Fin S2048x512.rank)

variable [Facts]

def fn_part1 {F : FTy → Type} [FloatOps F] (main_arg3 : FVec F S2048x1024 .f32) (main_v4 : IVec S2048x1024 1) (main_v9 : IVec S2048x1024 1) (main_v14 : IVec S2048x512 1) (main_v16 : IVec S2048x1024 1) : IVec S2048x1024 1 × IVec S2048x1024 1 × IVec S2048x512 1 × IVec S2048x1024 1 :=
  let main_cst_6 : FVec F S_ .f32 := constant S_ .f32 0x7F800000#32
  let main_v17 : FVec F S2048x1024 .f32 := broadcastInDim S2048x1024 ![] bcast_S_S2048x1024 main_cst_6
  let main_v18 : IVec S2048x1024 1 := cmpf .olt main_arg3 main_v17
  let main_v19 : IVec S2048x1024 1 := andi main_v16 main_v18
  (main_v4, main_v9, main_v14, main_v19)

def fn {F : FTy → Type} [FloatOps F] (main_arg0 : FVec F S2048x1024 .f32) (main_arg1 : FVec F S2048x1024 .f32) (main_arg2 : FVec F S2048x512 .f32) (main_arg3 : FVec F S2048x1024 .f32) : IVec S2048x1024 1 × IVec S2048x1024 1 × IVec S2048x512 1 × IVec S2048x1024 1 :=
  let main_cst : FVec F S_ .f32 := constant S_ .f32 0xFF800000#32
  let main_v0 : FVec F S2048x1024 .f32 := broadcastInDim S2048x1024 ![] bcast_S_S2048x1024 main_cst
  let main_v1 : IVec S2048x1024 1 := cmpf .ogt main_arg0 main_v0
  let main_cst_0 : FVec F S_ .f32 := constant S_ .f32 0x7F800000#32
  let main_v2 : FVec F S2048x1024 .f32 := broadcastInDim S2048x1024 ![] bcast_S_S2048x1024 main_cst_0
  let main_v3 : IVec S2048x1024 1 := cmpf .olt main_arg0 main_v2
  let main_v4 : IVec S2048x1024 1 := andi main_v1 main_v3
  let main_cst_1 : FVec F S_ .f32 := constant S_ .f32 0xFF800000#32
  let main_v5 : FVec F S2048x1024 .f32 := broadcastInDim S2048x1024 ![] bcast_S_S2048x1024 main_cst_1
  let main_v6 : IVec S2048x1024 1 := cmpf .ogt main_arg1 main_v5
  let main_cst_2 : FVec F S_ .f32 := constant S_ .f32 0x7F800000#32
  let main_v7 : FVec F S2048x1024 .f32 := broadcastInDim S2048x1024 ![] bcast_S_S2048x1024 main_cst_2
  let main_v8 : IVec S2048x1024 1 := cmpf .olt main_arg1 main_v7
  let main_v9 : IVec S2048x1024 1 := andi main_v6 main_v8
  let main_cst_3 : FVec F S_ .f32 := constant S_ .f32 0xFF800000#32
  let main_v10 : FVec F S2048x512 .f32 := broadcastInDim S2048x512 ![] bcast_S_S2048x512 main_cst_3
  let main_v11 : IVec S2048x512 1 := cmpf .ogt main_arg2 main_v10
  let main_cst_4 : FVec F S_ .f32 := constant S_ .f32 0x7F800000#32
  let main_v12 : FVec F S2048x512 .f32 := broadcastInDim S2048x512 ![] bcast_S_S2048x512 main_cst_4
  let main_v13 : IVec S2048x512 1 := cmpf .olt main_arg2 main_v12
  let main_v14 : IVec S2048x512 1 := andi main_v11 main_v13
  let main_cst_5 : FVec F S_ .f32 := constant S_ .f32 0xFF800000#32
  let main_v15 : FVec F S2048x1024 .f32 := broadcastInDim S2048x1024 ![] bcast_S_S2048x1024 main_cst_5
  let main_v16 : IVec S2048x1024 1 := cmpf .ogt main_arg3 main_v15
  fn_part1 (F := F) main_arg3 main_v4 main_v9 main_v14 main_v16
-- ==== Pre_finite2.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part2 {F : FTy → Type} [FloatOps F] (main_arg7 : FVec F S2048x1024 .f32) (main_v4 : IVec S2048x1024 1) (main_v9 : IVec S1x1024 1) (main_v14 : IVec S1x1024 1) (main_v19 : IVec S1x1024 1) (main_v24 : IVec S1024x2816 1) (main_v29 : IVec S1024x2816 1) (main_v31 : IVec S2816x1024 1) (main_v33 : IVec S2816x1024 1) : IVec S2048x1024 1 × IVec S1x1024 1 × IVec S1x1024 1 × IVec S1x1024 1 × IVec S1024x2816 1 × IVec S1024x2816 1 × IVec S2816x1024 1 × IVec S2048x1024 1 :=
  let main_v34 : IVec S2816x1024 1 := andi main_v31 main_v33
  let main_cst_13 : FVec F S_ .f32 := constant S_ .f32 0xFF800000#32
  let main_v35 : FVec F S2048x1024 .f32 := broadcastInDim S2048x1024 ![] bcast_S_S2048x1024 main_cst_13
  let main_v36 : IVec S2048x1024 1 := cmpf .ogt main_arg7 main_v35
  let main_cst_14 : FVec F S_ .f32 := constant S_ .f32 0x7F800000#32
  let main_v37 : FVec F S2048x1024 .f32 := broadcastInDim S2048x1024 ![] bcast_S_S2048x1024 main_cst_14
  let main_v38 : IVec S2048x1024 1 := cmpf .olt main_arg7 main_v37
  let main_v39 : IVec S2048x1024 1 := andi main_v36 main_v38
  (main_v4, main_v9, main_v14, main_v19, main_v24, main_v29, main_v34, main_v39)

def fn_part1 {F : FTy → Type} [FloatOps F] (main_arg3 : FVec F S1x1024 .f32) (main_arg4 : FVec F S1024x2816 .f32) (main_arg5 : FVec F S1024x2816 .f32) (main_arg6 : FVec F S2816x1024 .f32) (main_arg7 : FVec F S2048x1024 .f32) (main_v4 : IVec S2048x1024 1) (main_v9 : IVec S1x1024 1) (main_v14 : IVec S1x1024 1) (main_v16 : IVec S1x1024 1) : IVec S2048x1024 1 × IVec S1x1024 1 × IVec S1x1024 1 × IVec S1x1024 1 × IVec S1024x2816 1 × IVec S1024x2816 1 × IVec S2816x1024 1 × IVec S2048x1024 1 :=
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_arg3 main_v17
  let main_v19 : IVec S1x1024 1 := andi main_v16 main_v18
  let main_cst_7 : FVec F S_ .f32 := constant S_ .f32 0xFF800000#32
  let main_v20 : FVec F S1024x2816 .f32 := broadcastInDim S1024x2816 ![] bcast_S_S1024x2816 main_cst_7
  let main_v21 : IVec S1024x2816 1 := cmpf .ogt main_arg4 main_v20
  let main_cst_8 : FVec F S_ .f32 := constant S_ .f32 0x7F800000#32
  let main_v22 : FVec F S1024x2816 .f32 := broadcastInDim S1024x2816 ![] bcast_S_S1024x2816 main_cst_8
  let main_v23 : IVec S1024x2816 1 := cmpf .olt main_arg4 main_v22
  let main_v24 : IVec S1024x2816 1 := andi main_v21 main_v23
  let main_cst_9 : FVec F S_ .f32 := constant S_ .f32 0xFF800000#32
  let main_v25 : FVec F S1024x2816 .f32 := broadcastInDim S1024x2816 ![] bcast_S_S1024x2816 main_cst_9
  let main_v26 : IVec S1024x2816 1 := cmpf .ogt main_arg5 main_v25
  let main_cst_10 : FVec F S_ .f32 := constant S_ .f32 0x7F800000#32
  let main_v27 : FVec F S1024x2816 .f32 := broadcastInDim S1024x2816 ![] bcast_S_S1024x2816 main_cst_10
  let main_v28 : IVec S1024x2816 1 := cmpf .olt main_arg5 main_v27
  let main_v29 : IVec S1024x2816 1 := andi main_v26 main_v28
  let main_cst_11 : FVec F S_ .f32 := constant S_ .f32 0xFF800000#32
  let main_v30 : FVec F S2816x1024 .f32 := broadcastInDim S2816x1024 ![] bcast_S_S2816x1024 main_cst_11
  let main_v31 : IVec S2816x1024 1 := cmpf .ogt main_arg6 main_v30
  let main_cst_12 : FVec F S_ .f32 := constant S_ .f32 0x7F800000#32
  let main_v32 : FVec F S2816x1024 .f32 := broadcastInDim S2816x1024 ![] bcast_S_S2816x1024 main_cst_12
  let main_v33 : IVec S2816x1024 1 := cmpf .olt main_arg6 main_v32
  fn_part2 (F := F) main_arg7 main_v4 main_v9 main_v14 main_v19 main_v24 main_v29 main_v31 main_v33

def fn {F : FTy → Type} [FloatOps F] (main_arg0 : FVec F S2048x1024 .f32) (main_arg1 : FVec F S1x1024 .f32) (main_arg2 : FVec F S1x1024 .f32) (main_arg3 : FVec F S1x1024 .f32) (main_arg4 : FVec F S1024x2816 .f32) (main_arg5 : FVec F S1024x2816 .f32) (main_arg6 : FVec F S2816x1024 .f32) (main_arg7 : FVec F S2048x1024 .f32) : IVec S2048x1024 1 × IVec S1x1024 1 × IVec S1x1024 1 × IVec S1x1024 1 × IVec S1024x2816 1 × IVec S1024x2816 1 × IVec S2816x1024 1 × IVec S2048x1024 1 :=
  let main_cst : FVec F S_ .f32 := constant S_ .f32 0xFF800000#32
  let main_v0 : FVec F S2048x1024 .f32 := broadcastInDim S2048x1024 ![] bcast_S_S2048x1024 main_cst
  let main_v1 : IVec S2048x1024 1 := cmpf .ogt main_arg0 main_v0
  let main_cst_0 : FVec F S_ .f32 := constant S_ .f32 0x7F800000#32
  let main_v2 : FVec F S2048x1024 .f32 := broadcastInDim S2048x1024 ![] bcast_S_S2048x1024 main_cst_0
  let main_v3 : IVec S2048x1024 1 := cmpf .olt main_arg0 main_v2
  let main_v4 : IVec S2048x1024 1 := andi main_v1 main_v3
  let main_cst_1 : FVec F S_ .f32 := constant S_ .f32 0xFF800000#32
  let main_v5 : FVec F S1x1024 .f32 := broadcastInDim S1x1024 ![] bcast_S_S1x1024 main_cst_1
  let main_v6 : IVec S1x1024 1 := cmpf .ogt main_arg1 main_v5
  let main_cst_2 : FVec F S_ .f32 := constant S_ .f32 0x7F800000#32
  let main_v7 : FVec F S1x1024 .f32 := broadcastInDim S1x1024 ![] bcast_S_S1x1024 main_cst_2
  let main_v8 : IVec S1x1024 1 := cmpf .olt main_arg1 main_v7
  let main_v9 : IVec S1x1024 1 := andi main_v6 main_v8
  let main_cst_3 : FVec F S_ .f32 := constant S_ .f32 0xFF800000#32
  let main_v10 : FVec F S1x1024 .f32 := broadcastInDim S1x1024 ![] bcast_S_S1x1024 main_cst_3
  let main_v11 : IVec S1x1024 1 := cmpf .ogt main_arg2 main_v10
  let main_cst_4 : FVec F S_ .f32 := constant S_ .f32 0x7F800000#32
  let main_v12 : FVec F S1x1024 .f32 := broadcastInDim S1x1024 ![] bcast_S_S1x1024 main_cst_4
  let main_v13 : IVec S1x1024 1 := cmpf .olt main_arg2 main_v12
  let main_v14 : IVec S1x1024 1 := andi main_v11 main_v13
  let main_cst_5 : FVec F S_ .f32 := constant S_ .f32 0xFF800000#32
  let main_v15 : FVec F S1x1024 .f32 := broadcastInDim S1x1024 ![] bcast_S_S1x1024 main_cst_5
  let main_v16 : IVec S1x1024 1 := cmpf .ogt main_arg3 main_v15
  fn_part1 (F := F) main_arg3 main_arg4 main_arg5 main_arg6 main_arg7 main_v4 main_v9 main_v14 main_v16
-- ==== Kernel.lean ====
abbrev S2048x1024 : Shape := ⟨2, ![2048, 1024]⟩
abbrev S2048x512 : Shape := ⟨2, ![2048, 512]⟩
abbrev S4x2048x1 : Shape := ⟨3, ![4, 2048, 1]⟩
abbrev S512x256 : Shape := ⟨2, ![512, 256]⟩
abbrev S2048x256 : Shape := ⟨2, ![2048, 256]⟩
abbrev S2048x128 : Shape := ⟨2, ![2048, 128]⟩
abbrev S512x128 : Shape := ⟨2, ![512, 128]⟩
abbrev S1x512x1 : Shape := ⟨3, ![1, 512, 1]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S512x2048 : Shape := ⟨2, ![512, 2048]⟩

abbrev nBuf : Space → Nat
  | .hbm => 12
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x1024, .f32⟩
  | .hbm, ⟨4, _⟩ => ⟨S2048x1024, .bf16⟩
  | .hbm, ⟨5, _⟩ => ⟨S2048x1024, .bf16⟩
  | .hbm, ⟨6, _⟩ => ⟨S2048x512, .bf16⟩
  | .hbm, ⟨7, _⟩ => ⟨S2048x512, .f32⟩
  | .hbm, ⟨8, _⟩ => ⟨S4x2048x1, .f32⟩
  | .hbm, ⟨9, _⟩ => ⟨S2048x1024, .f32⟩
  | .hbm, ⟨10, _⟩ => ⟨S2048x1024, .f32⟩
  | .hbm, ⟨11, _⟩ => ⟨S2048x512, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S1x512x1, .f32⟩
  | .local _ .vmem, ⟨9, _⟩ => ⟨S1x512x1, .f32⟩
  | .local _ .vmem, ⟨10, _⟩ => ⟨S512x256, .bf16⟩
  | .local _ .vmem, ⟨11, _⟩ => ⟨S512x256, .bf16⟩
  | .local _ .vmem, ⟨12, _⟩ => ⟨S2048x256, .bf16⟩
  | .local _ .vmem, ⟨13, _⟩ => ⟨S2048x256, .bf16⟩
  | .local _ .vmem, ⟨14, _⟩ => ⟨S2048x128, .bf16⟩
  | .local _ .vmem, ⟨15, _⟩ => ⟨S2048x128, .bf16⟩
  | .local _ .vmem, ⟨16, _⟩ => ⟨S512x128, .f32⟩
  | .local _ .vmem, ⟨17, _⟩ => ⟨S512x128, .f32⟩
  | .local _ .vmem, ⟨18, _⟩ => ⟨S1x512x1, .f32⟩
  | .local _ .vmem, ⟨19, _⟩ => ⟨S1x512x1, .f32⟩
  | .local _ .vmem, ⟨20, _⟩ => ⟨S512x128, .f32⟩
  | .local _ .vmem, ⟨21, _⟩ => ⟨S512x128, .f32⟩
  | .local _ .vmem, ⟨22, _⟩ => ⟨S512x256, .f32⟩
  | .local _ .vmem, ⟨23, _⟩ => ⟨S512x256, .f32⟩
  | .local _ .vmem, ⟨24, _⟩ => ⟨S2048x256, .f32⟩
  | .local _ .vmem, ⟨25, _⟩ => ⟨S2048x256, .f32⟩
  | .local _ .vmem, ⟨26, _⟩ => ⟨S2048x128, .f32⟩
  | .local _ .vmem, ⟨27, _⟩ => ⟨S2048x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg1 : BitVec 32 := BitVec.ofNat 32 (i 1).val
  let c0_i32_8 : BitVec 32 := 0#32
  let v21 : BitVec 1 := Scalar.cmpi .sgt arg1 c0_i32_8
  let v22 : BitVec 32 := Scalar.extui v21
  let c0_i32_9 : BitVec 32 := 0#32
  let v23 : BitVec 1 := Scalar.cmpi .slt arg1 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg1 c1_i32_7
  let c0_i32_12 : BitVec 32 := 0#32
  let v33 : BitVec 1 := Scalar.cmpi .ne v32 c0_i32_12
  let v34 : BitVec 1 := Scalar.andi v31 v33
  let v20 : BitVec 32 := Scalar.divsi arg1 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def k0_cond3 (i : grid0.Coords) : BitVec 1 :=
  let arg1 : BitVec 32 := BitVec.ofNat 32 (i 1).val
  let c0_i32_17 : BitVec 32 := 0#32
  let v41 : BitVec 1 := Scalar.cmpi .sgt arg1 c0_i32_17
  let v42 : BitVec 32 := Scalar.extui v41
  let c0_i32_18 : BitVec 32 := 0#32
  let v43 : BitVec 1 := Scalar.cmpi .slt arg1 c0_i32_18
  let v44 : BitVec 32 := Scalar.extui v43
  let v45 : BitVec 32 := Scalar.subi v42 v44
  let c1_i32_16 : BitVec 32 := 1#32
  let c0_i32_19 : BitVec 32 := 0#32
  let v46 : BitVec 1 := Scalar.cmpi .sgt c1_i32_16 c0_i32_19
  let v47 : BitVec 32 := Scalar.extui v46
  let c0_i32_20 : BitVec 32 := 0#32
  let v48 : BitVec 1 := Scalar.cmpi .slt c1_i32_16 c0_i32_20
  let v49 : BitVec 32 := Scalar.extui v48
  let v50 : BitVec 32 := Scalar.subi v47 v49
  let v51 : BitVec 1 := Scalar.cmpi .ne v45 v50
  let v52 : BitVec 32 := Scalar.remsi arg1 c1_i32_16
  let c0_i32_21 : BitVec 32 := 0#32
  let v53 : BitVec 1 := Scalar.cmpi .ne v52 c0_i32_21
  let v54 : BitVec 1 := Scalar.andi v51 v53
  let v40 : BitVec 32 := Scalar.divsi arg1 c1_i32_16
  let c1_i32_22 : BitVec 32 := 1#32
  let v55 : BitVec 32 := Scalar.subi v40 c1_i32_22
  let v56 : BitVec 32 := Scalar.select v54 v55 v40
  let c2_i32 : BitVec 32 := 2#32
  let v57 : BitVec 1 := Scalar.cmpi .eq v56 c2_i32
  let v58 : BitVec 32 := Scalar.extui v57
  let c0_i32_23 : BitVec 32 := 0#32
  let v59 : BitVec 1 := Scalar.cmpi .ne v58 c0_i32_23
  v59

def k0_cond4 (i : grid0.Coords) : BitVec 1 :=
  let arg1 : BitVec 32 := BitVec.ofNat 32 (i 1).val
  let c0_i32_25 : BitVec 32 := 0#32
  let v61 : BitVec 1 := Scalar.cmpi .sgt arg1 c0_i32_25
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32_24 : BitVec 32 := 1#32
  let c0_i32_27 : BitVec 32 := 0#32
  let v66 : BitVec 1 := Scalar.cmpi .sgt c1_i32_24 c0_i32_27
  let v67 : BitVec 32 := Scalar.extui v66
  let c0_i32_28 : BitVec 32 := 0#32
  let v68 : BitVec 1 := Scalar.cmpi .slt c1_i32_24 c0_i32_28
  let v69 : BitVec 32 := Scalar.extui v68
  let v70 : BitVec 32 := Scalar.subi v67 v69
  let v71 : BitVec 1 := Scalar.cmpi .ne v65 v70
  let v72 : BitVec 32 := Scalar.remsi arg1 c1_i32_24
  let c0_i32_29 : BitVec 32 := 0#32
  let v73 : BitVec 1 := Scalar.cmpi .ne v72 c0_i32_29
  let v74 : BitVec 1 := Scalar.andi v71 v73
  let v60 : BitVec 32 := Scalar.divsi arg1 c1_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def k1_cond2 (i : grid1.Coords) : BitVec 1 :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c1_i32 : BitVec 32 := 1#32
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi arg1 c1_i32
  let c0_i32_5 : BitVec 32 := 0#32
  let v16 : BitVec 1 := Scalar.cmpi .ne v15 c0_i32_5
  let v17 : BitVec 1 := Scalar.andi v14 v16
  let v3 : BitVec 32 := Scalar.divsi arg1 c1_i32
  let c1_i32_6 : BitVec 32 := 1#32
  let v18 : BitVec 32 := Scalar.subi v3 c1_i32_6
  let v19 : BitVec 32 := Scalar.select v17 v18 v3
  let c0_i32_7 : BitVec 32 := 0#32
  let v20 : BitVec 1 := Scalar.cmpi .eq v19 c0_i32_7
  let v21 : BitVec 32 := Scalar.extui v20
  let c0_i32_8 : BitVec 32 := 0#32
  let v22 : BitVec 1 := Scalar.cmpi .ne v21 c0_i32_8
  v22

def k1_cond3 (i : grid1.Coords) : BitVec 1 :=
  let arg1 : BitVec 32 := BitVec.ofNat 32 (i 1).val
  let c0_i32_10 : BitVec 32 := 0#32
  let v24 : BitVec 1 := Scalar.cmpi .sgt arg1 c0_i32_10
  let v25 : BitVec 32 := Scalar.extui v24
  let c0_i32_11 : BitVec 32 := 0#32
  let v26 : BitVec 1 := Scalar.cmpi .slt arg1 c0_i32_11
  let v27 : BitVec 32 := Scalar.extui v26
  let v28 : BitVec 32 := Scalar.subi v25 v27
  let c1_i32_9 : BitVec 32 := 1#32
  let c0_i32_12 : BitVec 32 := 0#32
  let v29 : BitVec 1 := Scalar.cmpi .sgt c1_i32_9 c0_i32_12
  let v30 : BitVec 32 := Scalar.extui v29
  let c0_i32_13 : BitVec 32 := 0#32
  let v31 : BitVec 1 := Scalar.cmpi .slt c1_i32_9 c0_i32_13
  let v32 : BitVec 32 := Scalar.extui v31
  let v33 : BitVec 32 := Scalar.subi v30 v32
  let v34 : BitVec 1 := Scalar.cmpi .ne v28 v33
  let v35 : BitVec 32 := Scalar.remsi arg1 c1_i32_9
  let c0_i32_14 : BitVec 32 := 0#32
  let v36 : BitVec 1 := Scalar.cmpi .ne v35 c0_i32_14
  let v37 : BitVec 1 := Scalar.andi v34 v36
  let v23 : BitVec 32 := Scalar.divsi arg1 c1_i32_9
  let c1_i32_15 : BitVec 32 := 1#32
  let v38 : BitVec 32 := Scalar.subi v23 c1_i32_15
  let v39 : BitVec 32 := Scalar.select v37 v38 v23
  let c1_i32_16 : BitVec 32 := 1#32
  let v40 : BitVec 1 := Scalar.cmpi .eq v39 c1_i32_16
  let v41 : BitVec 32 := Scalar.extui v40
  let c0_i32_17 : BitVec 32 := 0#32
  let v42 : BitVec 1 := Scalar.cmpi .ne v41 c0_i32_17
  v42

def k1_cond4 (i : grid1.Coords) : BitVec 1 :=
  let arg1 : BitVec 32 := BitVec.ofNat 32 (i 1).val
  let c0_i32_19 : BitVec 32 := 0#32
  let v44 : BitVec 1 := Scalar.cmpi .sgt arg1 c0_i32_19
  let v45 : BitVec 32 := Scalar.extui v44
  let c0_i32_20 : BitVec 32 := 0#32
  let v46 : BitVec 1 := Scalar.cmpi .slt arg1 c0_i32_20
  let v47 : BitVec 32 := Scalar.extui v46
  let v48 : BitVec 32 := Scalar.subi v45 v47
  let c1_i32_18 : BitVec 32 := 1#32
  let c0_i32_21 : BitVec 32 := 0#32
  let v49 : BitVec 1 := Scalar.cmpi .sgt c1_i32_18 c0_i32_21
  let v50 : BitVec 32 := Scalar.extui v49
  let c0_i32_22 : BitVec 32 := 0#32
  let v51 : BitVec 1 := Scalar.cmpi .slt c1_i32_18 c0_i32_22
  let v52 : BitVec 32 := Scalar.extui v51
  let v53 : BitVec 32 := Scalar.subi v50 v52
  let v54 : BitVec 1 := Scalar.cmpi .ne v48 v53
  let v55 : BitVec 32 := Scalar.remsi arg1 c1_i32_18
  let c0_i32_23 : BitVec 32 := 0#32
  let v56 : BitVec 1 := Scalar.cmpi .ne v55 c0_i32_23
  let v57 : BitVec 1 := Scalar.andi v54 v56
  let v43 : BitVec 32 := Scalar.divsi arg1 c1_i32_18
  let c1_i32_24 : BitVec 32 := 1#32
  let v58 : BitVec 32 := Scalar.subi v43 c1_i32_24
  let v59 : BitVec 32 := Scalar.select v57 v58 v43
  let c2_i32 : BitVec 32 := 2#32
  let v60 : BitVec 1 := Scalar.cmpi .eq v59 c2_i32
  let v61 : BitVec 32 := Scalar.extui v60
  let c0_i32_25 : BitVec 32 := 0#32
  let v62 : BitVec 1 := Scalar.cmpi .ne v61 c0_i32_25
  v62

def k1_cond5 (i : grid1.Coords) : BitVec 1 :=
  let arg1 : BitVec 32 := BitVec.ofNat 32 (i 1).val
  let c0_i32_27 : BitVec 32 := 0#32
  let v64 : BitVec 1 := Scalar.cmpi .sgt arg1 c0_i32_27
  let v65 : BitVec 32 := Scalar.extui v64
  let c0_i32_28 : BitVec 32 := 0#32
  let v66 : BitVec 1 := Scalar.cmpi .slt arg1 c0_i32_28
  let v67 : BitVec 32 := Scalar.extui v66
  let v68 : BitVec 32 := Scalar.subi v65 v67
  let c1_i32_26 : BitVec 32 := 1#32
  let c0_i32_29 : BitVec 32 := 0#32
  let v69 : BitVec 1 := Scalar.cmpi .sgt c1_i32_26 c0_i32_29
  let v70 : BitVec 32 := Scalar.extui v69
  let c0_i32_30 : BitVec 32 := 0#32
  let v71 : BitVec 1 := Scalar.cmpi .slt c1_i32_26 c0_i32_30
  let v72 : BitVec 32 := Scalar.extui v71
  let v73 : BitVec 32 := Scalar.subi v70 v72
  let v74 : BitVec 1 := Scalar.cmpi .ne v68 v73
  let v75 : BitVec 32 := Scalar.remsi arg1 c1_i32_26
  let c0_i32_31 : BitVec 32 := 0#32
  let v76 : BitVec 1 := Scalar.cmpi .ne v75 c0_i32_31
  let v77 : BitVec 1 := Scalar.andi v74 v76
  let v63 : BitVec 32 := Scalar.divsi arg1 c1_i32_26
  let c1_i32_32 : BitVec 32 := 1#32
  let v78 : BitVec 32 := Scalar.subi v63 c1_i32_32
  let v79 : BitVec 32 := Scalar.select v77 v78 v63
  let c3_i32 : BitVec 32 := 3#32
  let v80 : BitVec 1 := Scalar.cmpi .eq v79 c3_i32
  let v81 : BitVec 32 := Scalar.extui v80
  let c0_i32_33 : BitVec 32 := 0#32
  let v82 : BitVec 1 := Scalar.cmpi .ne v81 c0_i32_33
  v82

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S2048x1024 : Shape := ⟨2, ![2048, 1024]⟩
abbrev S2048x512 : Shape := ⟨2, ![2048, 512]⟩
abbrev S2048x4x256 : Shape := ⟨3, ![2048, 4, 256]⟩
abbrev S4x2048x256 : Shape := ⟨3, ![4, 2048, 256]⟩
abbrev S2048x4x128 : Shape := ⟨3, ![2048, 4, 128]⟩
abbrev S4x2048x128 : Shape := ⟨3, ![4, 2048, 128]⟩
abbrev S4x2048x2048 : Shape := ⟨3, ![4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x2048 : Shape := ⟨2, ![4, 2048]⟩
abbrev S4x2048x1 : Shape := ⟨3, ![4, 2048, 1]⟩
abbrev S4x128x2048 : Shape := ⟨3, ![4, 128, 2048]⟩

abbrev nBuf : Space → Nat
  | .hbm => 102
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x1024, .f32⟩
  | .hbm, ⟨4, _⟩ => ⟨S2048x4x256, .f32⟩
  | .hbm, ⟨5, _⟩ => ⟨S4x2048x256, .f32⟩
  | .hbm, ⟨6, _⟩ => ⟨S2048x4x256, .f32⟩
  | .hbm, ⟨7, _⟩ => ⟨S4x2048x256, .f32⟩
  | .hbm, ⟨8, _⟩ => ⟨S2048x4x128, .f32⟩
  | .hbm, ⟨9, _⟩ => ⟨S4x2048x128, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S2048, .i32⟩
  | .hbm, ⟨15, _⟩ => ⟨S2048x1, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S4x2048x2048, .i1⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .i1⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .i1⟩
  | .hbm, ⟨41, _⟩ => ⟨S_, .f32⟩
  | .hbm, ⟨42, _⟩ => ⟨S4x2048, .f32⟩
  | .hbm, ⟨43, _⟩ => ⟨S4x2048, .i1⟩
  | .hbm, ⟨44, _⟩ => ⟨S_, .f32⟩
  | .hbm, ⟨45, _⟩ => ⟨S4x2048, .f32⟩
  | .hbm, ⟨46, _⟩ => ⟨S_, .f32⟩
  | .hbm, ⟨47, _⟩ => ⟨S4x2048, .f32⟩
  | .hbm, ⟨48, _⟩ => ⟨S_, .f32⟩
  | .hbm, ⟨49, _⟩ => ⟨S4x2048, .f32⟩
  | .hbm, ⟨50, _⟩ => ⟨S4x2048, .f32⟩
  | .hbm, ⟨51, _⟩ => ⟨S4x2048, .f32⟩
  | .hbm, ⟨52, _⟩ => ⟨S4x2048x1, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S4x2048x2048, .f32⟩
  | .hbm, ⟨60, _⟩ => ⟨S4x2048x2048, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S4x2048x128, .f32⟩
  | .hbm, ⟨66, _⟩ => ⟨S2048x4x128, .f32⟩
  | .hbm, ⟨67, _⟩ => ⟨S2048x512, .f32⟩
  | .hbm, ⟨68, _⟩ => ⟨S2048x512, .f32⟩
  | .hbm, ⟨69, _⟩ => ⟨S2048x4x128, .f32⟩
  | .hbm, ⟨70, _⟩ => ⟨S4x2048x128, .f32⟩
  | .hbm, ⟨71, _⟩ => ⟨S4x128x2048, .f32⟩
  | .hbm, ⟨72, _⟩ => ⟨S4x2048x128, .f32⟩
  | .hbm, ⟨73, _⟩ => ⟨S4x2048x2048, .f32⟩
  | .hbm, ⟨74, _⟩ => ⟨S4x2048x2048, .f32⟩
  | .hbm, ⟨75, _⟩ => ⟨S4x2048x2048, .f32⟩
  | .hbm, ⟨76, _⟩ => ⟨S4x2048x2048, .f32⟩
  | .hbm, ⟨77, _⟩ => ⟨S_, .f32⟩
  | .hbm, ⟨78, _⟩ => ⟨S4x2048, .f32⟩
  | .hbm, ⟨79, _⟩ => ⟨S4x2048x1, .f32⟩
  | .hbm, ⟨80, _⟩ => ⟨S4x2048x1, .f32⟩
  | .hbm, ⟨81, _⟩ => ⟨S4x2048x2048, .f32⟩
  | .hbm, ⟨82, _⟩ => ⟨S4x2048x2048, .f32⟩
  | .hbm, ⟨83, _⟩ => ⟨S_, .f32⟩
  | .hbm, ⟨84, _⟩ => ⟨S4x2048, .f32⟩
  | .hbm, ⟨85, _⟩ => ⟨S4x2048x2048, .f32⟩
  | .hbm, ⟨86, _⟩ => ⟨S4x2048x2048, .f32⟩
  | .hbm, ⟨87, _⟩ => ⟨S4x2048x2048, .f32⟩
  | .hbm, ⟨88, _⟩ => ⟨S_, .f32⟩
  | .hbm, ⟨89, _⟩ => ⟨S4x2048x2048, .f32⟩
  | .hbm, ⟨90, _⟩ => ⟨S4x2048x2048, .f32⟩
  | .hbm, ⟨91, _⟩ => ⟨S_, .f32⟩
  | .hbm, ⟨92, _⟩ => ⟨S4x2048x2048, .f32⟩
  | .hbm, ⟨93, _⟩ => ⟨S4x2048x2048, .f32⟩
  | .hbm, ⟨94, _⟩ => ⟨S4x2048x256, .f32⟩
  | .hbm, ⟨95, _⟩ => ⟨S4x2048x256, .f32⟩
  | .hbm, ⟨96, _⟩ => ⟨S2048x4x128, .f32⟩
  | .hbm, ⟨97, _⟩ => ⟨S2048x512, .f32⟩
  | .hbm, ⟨98, _⟩ => ⟨S2048x4x256, .f32⟩
  | .hbm, ⟨99, _⟩ => ⟨S2048x1024, .f32⟩
  | .hbm, ⟨100, _⟩ => ⟨S2048x4x256, .f32⟩
  | .hbm, ⟨101, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩
abbrev S2048 : Shape := ⟨1, ![2048]⟩
abbrev S2048x1 : Shape := ⟨2, ![2048, 1]⟩
abbrev S2816x512 : Shape := ⟨2, ![2816, 512]⟩
abbrev S1024x512 : Shape := ⟨2, ![1024, 512]⟩

abbrev nBuf : Space → Nat
  | .hbm => 24
  | .vmem => 45
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2048x1024, .f32⟩
  | .hbm, ⟨8, _⟩ => ⟨S1024x2816, .bf16⟩
  | .hbm, ⟨9, _⟩ => ⟨S2816x1024, .bf16⟩
  | .hbm, ⟨10, _⟩ => ⟨S1024x2816, .bf16⟩
  | .hbm, ⟨11, _⟩ => ⟨S2816x1024, .bf16⟩
  | .hbm, ⟨12, _⟩ => ⟨S2816x1024, .bf16⟩
  | .hbm, ⟨13, _⟩ => ⟨S2048x1024, .bf16⟩
  | .hbm, ⟨14, _⟩ => ⟨S2048x2816, .bf16⟩
  | .hbm, ⟨15, _⟩ => ⟨S2048x2816, .bf16⟩
  | .hbm, ⟨16, _⟩ => ⟨S2048x2816, .bf16⟩
  | .hbm, ⟨17, _⟩ => ⟨S2048x1024, .bf16⟩
  | .hbm, ⟨18, _⟩ => ⟨S2048x2816, .bf16⟩
  | .hbm, ⟨19, _⟩ => ⟨S2048x2816, .bf16⟩
  | .hbm, ⟨20, _⟩ => ⟨S2816x1024, .bf16⟩
  | .hbm, ⟨21, _⟩ => ⟨S2816x1024, .bf16⟩
  | .hbm, ⟨22, _⟩ => ⟨S2816x1024, .bf16⟩
  | .hbm, ⟨23, _⟩ => ⟨S2048x1024, .f32⟩
  | .local _ .vmem, ⟨0, _⟩ => ⟨S2048x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S2048x1024, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x1024, .bf16⟩
  | .local _ .vmem, ⟨16, _⟩ => ⟨S2048x1024, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S256x1024, .bf16⟩
  | .local _ .vmem, ⟨24, _⟩ => ⟨S256x1024, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S1024x2816, .bf16⟩
  | .local _ .vmem, ⟨36, _⟩ => ⟨S1024x2816, .bf16⟩
  | .local _ .vmem, ⟨37, _⟩ => ⟨S2816x512, .bf16⟩
  | .local _ .vmem, ⟨38, _⟩ => ⟨S2816x512, .bf16⟩
  | .local _ .vmem, ⟨39, _⟩ => ⟨S1024x2816, .bf16⟩
  | .local _ .vmem, ⟨40, _⟩ => ⟨S1024x2816, .bf16⟩
  | .local _ .vmem, ⟨41, _⟩ => ⟨S2816x512, .bf16⟩
  | .local _ .vmem, ⟨42, _⟩ => ⟨S2816x512, .bf16⟩
  | .local _ .vmem, ⟨43, _⟩ => ⟨S1024x512, .f32⟩
  | .local _ .vmem, ⟨44, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v8 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg3_1 : Ref sig .tc := ⟨.vmem, 42, rfl⟩
abbrev cc2_stg4_0 : Ref sig .tc := ⟨.vmem, 43, rfl⟩
abbrev cc2_stg4_1 : Ref sig .tc := ⟨.vmem, 44, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem10_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem3_1 : DmaSem sig := 42
abbrev cc2_sem4_0 : DmaSem sig := 43
abbrev cc2_sem4_1 : DmaSem sig := 44

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2816x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2816x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== Reference2Ideal.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩

abbrev nBuf : Space → Nat
  | .hbm => 68
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x1024, .f32⟩
  | .hbm, ⟨47, _⟩ => ⟨S1024x2816, .f32⟩
  | .hbm, ⟨48, _⟩ => ⟨S2816x1024, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2816x1024, .f32⟩
  | .hbm, ⟨53, _⟩ => ⟨S1024x2816, .f32⟩
  | .hbm, ⟨54, _⟩ => ⟨S2048x1024, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S2816x1024, .f32⟩
  | .hbm, ⟨60, _⟩ => ⟨S1024x2816, .f32⟩
  | .hbm, ⟨61, _⟩ => ⟨S2048x1024, .f32⟩
  | .hbm, ⟨62, _⟩ => ⟨S2048x1024, .f32⟩
  | .hbm, ⟨63, _⟩ => ⟨S2816x1024, .bf16⟩
  | .hbm, ⟨64, _⟩ => ⟨S2816x1024, .f32⟩
  | .hbm, ⟨65, _⟩ => ⟨S2816x1024, .bf16⟩
  | .hbm, ⟨66, _⟩ => ⟨S2816x1024, .f32⟩
  | .hbm, ⟨67, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v19_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v19_1 : Ref sig .tc := ⟨.hbm, 42, rfl⟩
abbrev main_v19_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== Kernel3.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024x1024 : Shape := ⟨2, ![1024, 1024]⟩
abbrev S1024x1216 : Shape := ⟨2, ![1024, 1216]⟩
abbrev S2048x1280 : Shape := ⟨2, ![2048, 1280]⟩
abbrev S1216x1024 : Shape := ⟨2, ![1216, 1024]⟩
abbrev S_ : Shape := ⟨0, ![]⟩
abbrev S1280x1024 : Shape := ⟨2, ![1280, 1024]⟩
abbrev S512x2816 : Shape := ⟨2, ![512, 2816]⟩
abbrev S512x1024 : Shape := ⟨2, ![512, 1024]⟩
abbrev S2048x512 : Shape := ⟨2, ![2048, 512]⟩
abbrev S2048x256 : Shape := ⟨2, ![2048, 256]⟩
abbrev S256x1024 : Shape := ⟨2, ![256, 1024]⟩
abbrev S1024x1280 : Shape := ⟨2, ![1024, 1280]⟩

abbrev nBuf : Space → Nat
  | .hbm => 33
  | .vmem => 40
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S1024x1216, .f32⟩
  | .hbm, ⟨11, _⟩ => ⟨S2048x1280, .f32⟩
  | .hbm, ⟨12, _⟩ => ⟨S2816x1024, .bf16⟩
  | .hbm, ⟨13, _⟩ => ⟨S1024x1024, .bf16⟩
  | .hbm, ⟨14, _⟩ => ⟨S1024x1216, .bf16⟩
  | .hbm, ⟨15, _⟩ => ⟨S1216x1024, .bf16⟩
  | .hbm, ⟨16, _⟩ => ⟨S_, .i32⟩
  | .hbm, ⟨17, _⟩ => ⟨S_, .bf16⟩
  | .hbm, ⟨18, _⟩ => ⟨S1280x1024, .bf16⟩
  | .hbm, ⟨19, _⟩ => ⟨S2048x2816, .bf16⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S2048x1280, .bf16⟩
  | .hbm, ⟨24, _⟩ => ⟨S2048x1024, .bf16⟩
  | .hbm, ⟨25, _⟩ => ⟨S2048x1024, .f32⟩
  | .hbm, ⟨26, _⟩ => ⟨S2048x1024, .bf16⟩
  | .hbm, ⟨27, _⟩ => ⟨S2048x1024, .f32⟩
  | .hbm, ⟨28, _⟩ => ⟨S1024x1024, .bf16⟩
  | .hbm, ⟨29, _⟩ => ⟨S2048x1024, .f32⟩
  | .hbm, ⟨30, _⟩ => ⟨S1280x1024, .bf16⟩
  | .hbm, ⟨31, _⟩ => ⟨S2048x1024, .f32⟩
  | .hbm, ⟨32, _⟩ => ⟨S1216x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S2048x512, .bf16⟩
  | .local _ .vmem, ⟨21, _⟩ => ⟨S2048x512, .bf16⟩
  | .local _ .vmem, ⟨22, _⟩ => ⟨S2048x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1024x1024, .f32⟩
  | .local _ .vmem, ⟨30, _⟩ => ⟨S2048x256, .bf16⟩
  | .local _ .vmem, ⟨31, _⟩ => ⟨S2048x256, .bf16⟩
  | .local _ .vmem, ⟨32, _⟩ => ⟨S2048x1024, .bf16⟩
  | .local _ .vmem, ⟨33, _⟩ => ⟨S256x1024, .bf16⟩
  | .local _ .vmem, ⟨34, _⟩ => ⟨S256x1024, .bf16⟩
  | .local _ .vmem, ⟨35, _⟩ => ⟨S1024x1280, .bf16⟩
  | .local _ .vmem, ⟨36, _⟩ => ⟨S1024x1280, .bf16⟩
  | .local _ .vmem, ⟨37, _⟩ => ⟨S1280x1024, .bf16⟩
  | .local _ .vmem, ⟨38, _⟩ => ⟨S1024x1024, .f32⟩
  | .local _ .vmem, ⟨39, _⟩ => ⟨S1024x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v11_0 : Ref sig .tc := ⟨.hbm, 26, rfl⟩
abbrev main_v11_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![5, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x1280 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S1280x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference3Ideal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024x1024 : Shape := ⟨2, ![1024, 1024]⟩
abbrev S1024x1216 : Shape := ⟨2, ![1024, 1216]⟩
abbrev S2048x1280 : Shape := ⟨2, ![2048, 1280]⟩
abbrev S2048x1216 : Shape := ⟨2, ![2048, 1216]⟩
abbrev S1216x1024 : Shape := ⟨2, ![1216, 1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S1024x1216, .f32⟩
  | .hbm, ⟨11, _⟩ => ⟨S2048x1280, .f32⟩
  | .hbm, ⟨12, _⟩ => ⟨S2048x1024, .f32⟩
  | .hbm, ⟨13, _⟩ => ⟨S2048x1024, .f32⟩
  | .hbm, ⟨14, _⟩ => ⟨S1024x1024, .f32⟩
  | .hbm, ⟨15, _⟩ => ⟨S1024x1024, .f32⟩
  | .hbm, ⟨16, _⟩ => ⟨S2048x1024, .f32⟩
  | .hbm, ⟨17, _⟩ => ⟨S2048x1216, .f32⟩
  | .hbm, ⟨18, _⟩ => ⟨S2048x1216, .f32⟩
  | .hbm, ⟨19, _⟩ => ⟨S1216x1024, .f32⟩
  | .hbm, ⟨20, _⟩ => ⟨S1024x1216, .f32⟩
  | .hbm, ⟨21, _⟩ => ⟨S2048x1024, .f32⟩
  | .hbm, ⟨22, _⟩ => ⟨S2048x1024, .bf16⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .bf16⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S1024x1024, .bf16⟩
  | .hbm, ⟨34, _⟩ => ⟨S1216x1024, .f32⟩
  | .hbm, ⟨35, _⟩ => ⟨S1216x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel4.lean ====
abbrev S8x1024 : Shape := ⟨2, ![8, 1024]⟩
abbrev S8x4x1152 : Shape := ⟨3, ![8, 4, 1152]⟩
abbrev S4x8x1152 : Shape := ⟨3, ![4, 8, 1152]⟩
abbrev S_ : Shape := ⟨0, ![]⟩
abbrev S4x128x1152 : Shape := ⟨3, ![4, 128, 1152]⟩
abbrev S128x1024 : Shape := ⟨2, ![128, 1024]⟩
abbrev S4x1024x1152 : Shape := ⟨3, ![4, 1024, 1152]⟩
abbrev S1x128x1152 : Shape := ⟨3, ![1, 128, 1152]⟩
abbrev S1x1024x1152 : Shape := ⟨3, ![1, 1024, 1152]⟩
abbrev S128x1152 : Shape := ⟨2, ![128, 1152]⟩
abbrev S1024x1152 : Shape := ⟨2, ![1024, 1152]⟩

abbrev nBuf : Space → Nat
  | .hbm => 10
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x4x1152, .f32⟩
  | .hbm, ⟨2, _⟩ => ⟨S4x8x1152, .f32⟩
  | .hbm, ⟨3, _⟩ => ⟨S_, .i32⟩
  | .hbm, ⟨4, _⟩ => ⟨S_, .f32⟩
  | .hbm, ⟨5, _⟩ => ⟨S4x128x1152, .f32⟩
  | .hbm, ⟨6, _⟩ => ⟨S_, .i32⟩
  | .hbm, ⟨7, _⟩ => ⟨S_, .f32⟩
  | .hbm, ⟨8, _⟩ => ⟨S128x1024, .f32⟩
  | .hbm, ⟨9, _⟩ => ⟨S4x1024x1152, .f32⟩
  | .local _ .vmem, ⟨0, _⟩ => ⟨S128x1024, .f32⟩
  | .local _ .vmem, ⟨1, _⟩ => ⟨S1x128x1152, .f32⟩
  | .local _ .vmem, ⟨2, _⟩ => ⟨S1x128x1152, .f32⟩
  | .local _ .vmem, ⟨3, _⟩ => ⟨S1x1024x1152, .f32⟩
  | .local _ .vmem, ⟨4, _⟩ => ⟨S1x1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8x1024 : Shape := ⟨2, ![8, 1024]⟩
abbrev S8x4x1152 : Shape := ⟨3, ![8, 4, 1152]⟩
abbrev S_ : Shape := ⟨0, ![]⟩
abbrev S4x1152x1024 : Shape := ⟨3, ![4, 1152, 1024]⟩
abbrev S4x1024x1152 : Shape := ⟨3, ![4, 1024, 1152]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x4x1152, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S4x1152x1024, .f32⟩
  | .hbm, ⟨12, _⟩ => ⟨S4x1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel5.lean ====
abbrev S4x1024x1152 : Shape := ⟨3, ![4, 1024, 1152]⟩
abbrev S4096x1152 : Shape := ⟨2, ![4096, 1152]⟩
abbrev S512x1152 : Shape := ⟨2, ![512, 1152]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1152, .f32⟩
  | .hbm, ⟨1, _⟩ => ⟨S4x1024x1152, .f32⟩
  | .hbm, ⟨2, _⟩ => ⟨S4x1024x1152, .f32⟩
  | .hbm, ⟨3, _⟩ => ⟨S4x1024x1152, .f32⟩
  | .hbm, ⟨4, _⟩ => ⟨S4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .hbm, ⟨8, _⟩ => ⟨S4096x1152, .f32⟩
  | .hbm, ⟨9, _⟩ => ⟨S4096x1152, .f32⟩
  | .hbm, ⟨10, _⟩ => ⟨S4096x1152, .f32⟩
  | .local _ .vmem, ⟨0, _⟩ => ⟨S512x1152, .f32⟩
  | .local _ .vmem, ⟨1, _⟩ => ⟨S512x1152, .f32⟩
  | .local _ .vmem, ⟨2, _⟩ => ⟨S512x1152, .f32⟩
  | .local _ .vmem, ⟨3, _⟩ => ⟨S512x1152, .f32⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | _, _ => ⟨S4x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4x1024x1152 : Shape := ⟨3, ![4, 1024, 1152]⟩
abbrev S_ : Shape := ⟨0, ![]⟩
abbrev S4096x1152 : Shape := ⟨2, ![4096, 1152]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1152, .f32⟩
  | .hbm, ⟨1, _⟩ => ⟨S4x1024x1152, .f32⟩
  | .hbm, ⟨2, _⟩ => ⟨S4x1024x1152, .f32⟩
  | .hbm, ⟨3, _⟩ => ⟨S4x1024x1152, .f32⟩
  | .hbm, ⟨4, _⟩ => ⟨S_, .f32⟩
  | .hbm, ⟨5, _⟩ => ⟨S4x1024x1152, .f32⟩
  | .hbm, ⟨6, _⟩ => ⟨S4x1024x1152, .f32⟩
  | .hbm, ⟨7, _⟩ => ⟨S_, .f32⟩
  | .hbm, ⟨8, _⟩ => ⟨S4x1024x1152, .f32⟩
  | .hbm, ⟨9, _⟩ => ⟨S4x1024x1152, .f32⟩
  | .hbm, ⟨10, _⟩ => ⟨S4x1024x1152, .f32⟩
  | .hbm, ⟨11, _⟩ => ⟨S_, .f32⟩
  | .hbm, ⟨12, _⟩ => ⟨S4x1024x1152, .f32⟩
  | .hbm, ⟨13, _⟩ => ⟨S4x1024x1152, .f32⟩
  | .hbm, ⟨14, _⟩ => ⟨S4x1024x1152, .f32⟩
  | .hbm, ⟨15, _⟩ => ⟨S_, .f32⟩
  | .hbm, ⟨16, _⟩ => ⟨S4x1024x1152, .f32⟩
  | .hbm, ⟨17, _⟩ => ⟨S4x1024x1152, .f32⟩
  | .hbm, ⟨18, _⟩ => ⟨S4x1024x1152, .f32⟩
  | .hbm, ⟨19, _⟩ => ⟨S_, .f32⟩
  | .hbm, ⟨20, _⟩ => ⟨S4x1024x1152, .f32⟩
  | .hbm, ⟨21, _⟩ => ⟨S4x1024x1152, .f32⟩
  | .hbm, ⟨22, _⟩ => ⟨S_, .f32⟩
  | .hbm, ⟨23, _⟩ => ⟨S4x1024x1152, .f32⟩
  | .hbm, ⟨24, _⟩ => ⟨S4x1024x1152, .f32⟩
  | .hbm, ⟨25, _⟩ => ⟨S4x1024x1152, .f32⟩
  | .hbm, ⟨26, _⟩ => ⟨S_, .f32⟩
  | .hbm, ⟨27, _⟩ => ⟨S4x1024x1152, .f32⟩
  | .hbm, ⟨28, _⟩ => ⟨S4x1024x1152, .f32⟩
  | .hbm, ⟨29, _⟩ => ⟨S4x1024x1152, .f32⟩
  | .hbm, ⟨30, _⟩ => ⟨S_, .f32⟩
  | .hbm, ⟨31, _⟩ => ⟨S4x1024x1152, .f32⟩
  | .hbm, ⟨32, _⟩ => ⟨S4x1024x1152, .f32⟩
  | .hbm, ⟨33, _⟩ => ⟨S4x1024x1152, .f32⟩
  | .hbm, ⟨34, _⟩ => ⟨S_, .f32⟩
  | .hbm, ⟨35, _⟩ => ⟨S4x1024x1152, .f32⟩
  | .hbm, ⟨36, _⟩ => ⟨S4x1024x1152, .f32⟩
  | .hbm, ⟨37, _⟩ => ⟨S4096x1152, .f32⟩
  | .hbm, ⟨38, _⟩ => ⟨S4096x1152, .f32⟩
  | .hbm, ⟨39, _⟩ => ⟨S4096x1152, .f32⟩
  | _, _ => ⟨S4x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S1024x1216 : Shape := ⟨2, ![1024, 1216]⟩
abbrev S1216x1024 : Shape := ⟨2, ![1216, 1024]⟩
abbrev S_ : Shape := ⟨0, ![]⟩
abbrev S1280x1024 : Shape := ⟨2, ![1280, 1024]⟩
abbrev S2048x1280 : Shape := ⟨2, ![2048, 1280]⟩
abbrev S1024x1024 : Shape := ⟨2, ![1024, 1024]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 12
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x1216, .f32⟩
  | .hbm, ⟨5, _⟩ => ⟨S1024x1216, .bf16⟩
  | .hbm, ⟨6, _⟩ => ⟨S1216x1024, .bf16⟩
  | .hbm, ⟨7, _⟩ => ⟨S_, .i32⟩
  | .hbm, ⟨8, _⟩ => ⟨S_, .bf16⟩
  | .hbm, ⟨9, _⟩ => ⟨S1280x1024, .bf16⟩
  | .hbm, ⟨10, _⟩ => ⟨S2048x1024, .bf16⟩
  | .hbm, ⟨11, _⟩ => ⟨S2048x1280, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1280x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1280, .f32⟩
  | .local _ .vmem, ⟨9, _⟩ => ⟨S1024x1280, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2048x1024 : Shape := ⟨2, ![2048, 1024]⟩
abbrev S1x1024 : Shape := ⟨2, ![1, 1024]⟩
abbrev S1024x1216 : Shape := ⟨2, ![1024, 1216]⟩
abbrev S_ : Shape := ⟨0, ![]⟩
abbrev S2048 : Shape := ⟨1, ![2048]⟩
abbrev S2048x1 : Shape := ⟨2, ![2048, 1]⟩
abbrev S2048x1216 : Shape := ⟨2, ![2048, 1216]⟩
abbrev S2048x1280 : Shape := ⟨2, ![2048, 1280]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x1216, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .bf16⟩
  | .hbm, ⟨28, _⟩ => ⟨S2048x1216, .f32⟩
  | .hbm, ⟨29, _⟩ => ⟨S_, .i32⟩
  | .hbm, ⟨30, _⟩ => ⟨S_, .f32⟩
  | .hbm, ⟨31, _⟩ => ⟨S2048x1280, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.FwdBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # The kernel bodies of causal attention, forward and backward, one grid point at a time

Both kernels walk a grid of 4 heads by 4 tiles of 512 query rows. The body reads the keys and values of the prefix its tile
can see: tile `r` sees the first `512 (r + 1)` rows. This module runs each body once per tile number and names what it leaves
in every output block. -/

/-- The resources a core's triple speaks of. -/
abbrev Res (F : FTy → Type) : Type := MT nD τ sig Unit (Elt F) ℕ (UR sig nD τ) ℕ

section Stores
variable {Val : EltTy → Type} {sg : RefSig} {κ : Kind} {sp : Space} {S : Shape} {e : EltTy}

/-- A buffer after one store reads as the old contents with the stored rectangle laid over them. -/
theorem read_one (v : View sg κ sp S e) (f : v.ty.Contents Val) (L : List (View.Piece Val S e)) (p : View.Piece Val S e) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [View.read_writes_cons_emb]; exact (r.overlay_emb _ _ x).symm
  · rw [View.read_writes_cons_miss v f p L y hy]; exact (p.1.overlay_of_not_mem _ _ hy).symm

/-- Laying a whole-buffer rectangle over any contents leaves what was laid. -/
theorem overlay_all {off : Fin S.rank → Nat} (inb : ∀ a, off a + S.size a ≤ S.size a) (h : ∀ a, off a = 0)
    (X w : S.Idx → Val e) : (Rect.unit off (no_index S.size) inb).overlay X w = w := by
  funext y
  have hy : (Rect.unit off S.size inb).emb y = y := funext fun a => Fin.ext (by
    show off a + 1 * (y a).val = (y a).val
    rw [h a]; omega)
  exact (congrArg ((Rect.unit off S.size inb).overlay X w) hy.symm).trans ((Rect.unit off S.size inb).overlay_emb X w y)

/-- What is loaded back after a whole-buffer fill is the fill. -/
theorem load_fill [∀ e, Nonempty (Val e)] (v : View sg κ sp S e) {off : Fin S.rank → Nat} (inb : ∀ a, off a + S.size a ≤ S.size a)
    (h : ∀ a, off a = 0) (w : S.Idx → Val e) (B : Rect S) :
    v.readCov [⟨Rect.unit off (no_index S.size) inb, w⟩] B.toLoadRect = View.ld w B := by
  rw [View.readCov_eq_canon']
  have e1 := View.canon_cons_unit_lit inb w [] h
  rw [e1]
end Stores

/-! ## Which tile a grid point works on -/

/-- Which of the four branches a grid step takes. -/
theorem g0_when1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- Which of the four branches a grid step takes. -/
theorem g0_when2 : ∀ t : Fin cfg0.N, k0_cond2 (grid0.coords t) = 1#1 ↔ t.val % 4 = 1 :=
  (by decide +kernel : ∀ t : Fin grid0.N, k0_cond2 (grid0.coords t) = 1#1 ↔ t.val % 4 = 1)
/-- Which of the four branches a grid step takes. -/
theorem g0_when3 : ∀ t : Fin cfg0.N, k0_cond3 (grid0.coords t) = 1#1 ↔ t.val % 4 = 2 :=
  (by decide +kernel : ∀ t : Fin grid0.N, k0_cond3 (grid0.coords t) = 1#1 ↔ t.val % 4 = 2)
/-- Which of the four branches a grid step takes. -/
theorem g0_when4 : ∀ t : Fin cfg0.N, k0_cond4 (grid0.coords t) = 1#1 ↔ t.val % 4 = 3 :=
  (by decide +kernel : ∀ t : Fin grid0.N, k0_cond4 (grid0.coords t) = 1#1 ↔ t.val % 4 = 3)
/-- Which of the four branches a grid step takes. -/
theorem g0_tile : ∀ t : Fin cfg0.N, (grid0.coords t 1).val = t.val % 4 :=
  (by decide +kernel : ∀ t : Fin grid0.N, (grid0.coords t 1).val = t.val % 4)
/-- Which of the four branches a grid step takes. -/
theorem g1_when1 : ∀ t : Fin cfg1.N, k1_cond1 (grid1.coords t) = 1#1 ↔ t.val % 4 = 0 :=
  (by decide +kernel : ∀ t : Fin grid1.N, k1_cond1 (grid1.coords t) = 1#1 ↔ t.val % 4 = 0)
/-- Which of the four branches a grid step takes. -/
theorem g1_when2 : ∀ t : Fin cfg1.N, k1_cond2 (grid1.coords t) = 1#1 ↔ t.val % 4 = 0 :=
  (by decide +kernel : ∀ t : Fin grid1.N, k1_cond2 (grid1.coords t) = 1#1 ↔ t.val % 4 = 0)
/-- Which of the four branches a grid step takes. -/
theorem g1_when3 : ∀ t : Fin cfg1.N, k1_cond3 (grid1.coords t) = 1#1 ↔ t.val % 4 = 1 :=
  (by decide +kernel : ∀ t : Fin grid1.N, k1_cond3 (grid1.coords t) = 1#1 ↔ t.val % 4 = 1)
/-- Which of the four branches a grid step takes. -/
theorem g1_when4 : ∀ t : Fin cfg1.N, k1_cond4 (grid1.coords t) = 1#1 ↔ t.val % 4 = 2 :=
  (by decide +kernel : ∀ t : Fin grid1.N, k1_cond4 (grid1.coords t) = 1#1 ↔ t.val % 4 = 2)
/-- Which of the four branches a grid step takes. -/
theorem g1_when5 : ∀ t : Fin cfg1.N, k1_cond5 (grid1.coords t) = 1#1 ↔ t.val % 4 = 3 :=
  (by decide +kernel : ∀ t : Fin grid1.N, k1_cond5 (grid1.coords t) = 1#1 ↔ t.val % 4 = 3)
/-- Which of the four branches a grid step takes. -/
theorem g1_tile : ∀ t : Fin cfg1.N, (grid1.coords t 1).val = t.val % 4 :=
  (by decide +kernel : ∀ t : Fin grid1.N, (grid1.coords t 1).val = t.val % 4)

/-! ## The rectangles the bodies load and store -/

/-- Where the body reads or writes in the block. -/
abbrev rQ : Rect S512x256 := Rect.unit (s := S512x256) ![0, 0] S512x256.size inb_S512x256_S512x256_0_0
/-- Where the body reads or writes in the block. -/
abbrev rO : Rect S512x128 := Rect.unit (s := S512x128) ![0, 0] S512x128.size inb_S512x128_S512x128_0_0
/-- Where the body reads or writes in the block. -/
abbrev rL : Rect S1x512x1 := Rect.unit (s := S1x512x1) ![0, 0, 0] S1x512x1.size inb_S1x512x1_S1x512x1_0_0_0
/-- Where the body reads or writes in the block. -/
abbrev rK0 : Rect S2048x256 := Rect.unit (s := S2048x256) ![0, 0] S512x256.size inb_S2048x256_S512x256_0_0
/-- Where the body reads or writes in the block. -/
abbrev rV0 : Rect S2048x128 := Rect.unit (s := S2048x128) ![0, 0] S512x128.size inb_S2048x128_S512x128_0_0
/-- Where the body reads or writes in the block. -/
abbrev rK1 : Rect S2048x256 := Rect.unit (s := S2048x256) ![0, 0] S1024x256.size inb_S2048x256_S1024x256_0_0
/-- Where the body reads or writes in the block. -/
abbrev rV1 : Rect S2048x128 := Rect.unit (s := S2048x128) ![0, 0] S1024x128.size inb_S2048x128_S1024x128_0_0
/-- Where the body reads or writes in the block. -/
abbrev rK2 : Rect S2048x256 := Rect.unit (s := S2048x256) ![0, 0] S1536x256.size inb_S2048x256_S1536x256_0_0
/-- Where the body reads or writes in the block. -/
abbrev rV2 : Rect S2048x128 := Rect.unit (s := S2048x128) ![0, 0] S1536x128.size inb_S2048x128_S1536x128_0_0
/-- Where the body reads or writes in the block. -/
abbrev rK3 : Rect S2048x256 := Rect.unit (s := S2048x256) ![0, 0] S2048x256.size inb_S2048x256_S2048x256_0_0
/-- Where the body reads or writes in the block. -/
abbrev rV3 : Rect S2048x128 := Rect.unit (s := S2048x128) ![0, 0] S2048x128.size inb_S2048x128_S2048x128_0_0

/-! ## The forward body -/

/-- The block of outputs the forward body leaves at grid point `i`, from its blocks of queries, keys and values. -/
def fwdO (i : grid0.Coords) (x0 : Vec F S512x256 .bf16) (x1 : Vec F S2048x256 .bf16) (x2 : Vec F S2048x128 .bf16) : Vec F S512x128 .f32 :=
  if (i 1).val = 0 then k0_pay11 i (View.ld x0 rQ) (View.ld x1 rK0) (View.ld x2 rV0) else
  if (i 1).val = 1 then k0_pay17 (BitVec.ofNat 32 (i 1).val) (View.ld x0 rQ) (View.ld x1 rK1) (View.ld x2 rV1) else
  if (i 1).val = 2 then k0_pay23 (BitVec.ofNat 32 (i 1).val) (View.ld x0 rQ) (View.ld x1 rK2) (View.ld x2 rV2) else
  k0_pay5 (BitVec.ofNat 32 (i 1).val) (View.ld x0 rQ) (View.ld x1 rK3) (View.ld x2 rV3)

/-- The block of log-sum-exps the forward body leaves at grid point `i`. -/
def fwdL (i : grid0.Coords) (x0 : Vec F S512x256 .bf16) (x1 : Vec F S2048x256 .bf16) : Vec F S1x512x1 .f32 :=
  if (i 1).val = 0 then k0_pay12 i (View.ld x0 rQ) (View.ld x1 rK0) else
  if (i 1).val = 1 then k0_pay18 (BitVec.ofNat 32 (i 1).val) (View.ld x0 rQ) (View.ld x1 rK1) else
  if (i 1).val = 2 then k0_pay24 (BitVec.ofNat 32 (i 1).val) (View.ld x0 rQ) (View.ld x1 rK2) else
  k0_pay6 (BitVec.ofNat 32 (i 1).val) (View.ld x0 rQ) (View.ld x1 rK3)

/-- The output block at tile 0. -/
theorem fwdO_0 {i : grid0.Coords} (h : (i 1).val = 0) (x0 : Vec F S512x256 .bf16) (x1 : Vec F S2048x256 .bf16) (x2 : Vec F S2048x128 .bf16) :
    fwdO i x0 x1 x2 = k0_pay11 i (View.ld x0 rQ) (View.ld x1 rK0) (View.ld x2 rV0) := by
  unfold fwdO; simp [h]
/-- The output block at tile 1. -/
theorem fwdO_1 {i : grid0.Coords} (h : (i 1).val = 1) (x0 : Vec F S512x256 .bf16) (x1 : Vec F S2048x256 .bf16) (x2 : Vec F S2048x128 .bf16) :
    fwdO i x0 x1 x2 = k0_pay17 (BitVec.ofNat 32 (i 1).val) (View.ld x0 rQ) (View.ld x1 rK1) (View.ld x2 rV1) := by
  unfold fwdO; simp [h]
/-- The output block at tile 2. -/
theorem fwdO_2 {i : grid0.Coords} (h : (i 1).val = 2) (x0 : Vec F S512x256 .bf16) (x1 : Vec F S2048x256 .bf16) (x2 : Vec F S2048x128 .bf16) :
    fwdO i x0 x1 x2 = k0_pay23 (BitVec.ofNat 32 (i 1).val) (View.ld x0 rQ) (View.ld x1 rK2) (View.ld x2 rV2) := by
  unfold fwdO; simp [h]
/-- The output block at tile 3. -/
theorem fwdO_3 {i : grid0.Coords} (h : (i 1).val = 3) (x0 : Vec F S512x256 .bf16) (x1 : Vec F S2048x256 .bf16) (x2 : Vec F S2048x128 .bf16) :
    fwdO i x0 x1 x2 = k0_pay5 (BitVec.ofNat 32 (i 1).val) (View.ld x0 rQ) (View.ld x1 rK3) (View.ld x2 rV3) := by
  unfold fwdO; simp [h]
/-- The log-sums at tile 0. -/
theorem fwdL_0 {i : grid0.Coords} (h : (i 1).val = 0) (x0 : Vec F S512x256 .bf16) (x1 : Vec F S2048x256 .bf16) :
    fwdL i x0 x1 = k0_pay12 i (View.ld x0 rQ) (View.ld x1 rK0) := by
  unfold fwdL; simp [h]
/-- The log-sums at tile 1. -/
theorem fwdL_1 {i : grid0.Coords} (h : (i 1).val = 1) (x0 : Vec F S512x256 .bf16) (x1 : Vec F S2048x256 .bf16) :
    fwdL i x0 x1 = k0_pay18 (BitVec.ofNat 32 (i 1).val) (View.ld x0 rQ) (View.ld x1 rK1) := by
  unfold fwdL; simp [h]
/-- The log-sums at tile 2. -/
theorem fwdL_2 {i : grid0.Coords} (h : (i 1).val = 2) (x0 : Vec F S512x256 .bf16) (x1 : Vec F S2048x256 .bf16) :
    fwdL i x0 x1 = k0_pay24 (BitVec.ofNat 32 (i 1).val) (View.ld x0 rQ) (View.ld x1 rK2) := by
  unfold fwdL; simp [h]
/-- The log-sums at tile 3. -/
theorem fwdL_3 {i : grid0.Coords} (h : (i 1).val = 3) (x0 : Vec F S512x256 .bf16) (x1 : Vec F S2048x256 .bf16) :
    fwdL i x0 x1 = k0_pay6 (BitVec.ofNat 32 (i 1).val) (View.ld x0 rQ) (View.ld x1 rK3) := by
  unfold fwdL; simp [h]

set_option maxHeartbeats 1000000 in
/-- The forward body at a first tile: the inputs stay, the two output blocks hold `fwdO` and `fwdL`. -/
theorem fwd_run0 (c : Dev nD) (i : grid0.Coords)
    (arg2 : Memref sig .tc .vmem S512x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S512x128 .f32) (harg5 : arg5.IsWhole)
    (arg6 : Memref sig .tc .vmem S1x512x1 .f32) (harg6 : arg6.IsWhole)
    (hi : (i 1).val = 0) (h1 : k0_cond1 i = 1#1) (h2 : ¬ k0_cond2 i = 1#1) (h3 : ¬ k0_cond3 i = 1#1) (h4 : ¬ k0_cond4 i = 1#1)
    (x0 : Vec F S512x256 .bf16) (x1 : Vec F S2048x256 .bf16) (x2 : Vec F S2048x128 .bf16) (E : Set ℕ) (K : PUnit → sProp (Res F)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (fwdO i x0 x1 x2) ∗ owns (c : Thread nD τ) arg6 fullShare (fwdL i x0 x1)) -∗ K ⟨⟩))
      ⊢ wp frame (wpE (defs₀ (F := F)) Variants.none c none) E (cc0_attn_fwd i arg2 harg2 arg3 harg3 arg4 harg4 arg5 harg5 arg6 harg6) K := by
  rw [fwdO_0 hi, fwdL_0 hi]
  simp only [cc0_attn_fwd_eq_skeleton]; unfold cc0_attn_fwd_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact h1 | sl_exact h2 | sl_exact h3 | sl_exact h4)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    exact (read_one _ _ _ _).trans (overlay_all inb_S512x128_S512x128_0_0 (by decide) _ _)
  iexists _; isplitr
  swap; · iexact H4
  ipureintro
  exact (read_one _ _ _ _).trans (overlay_all inb_S1x512x1_S1x512x1_0_0_0 (by decide) _ _)

set_option maxHeartbeats 1000000 in
/-- The forward body at a second tile: the inputs stay, the two output blocks hold `fwdO` and `fwdL`. -/
theorem fwd_run1 (c : Dev nD) (i : grid0.Coords)
    (arg2 : Memref sig .tc .vmem S512x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S512x128 .f32) (harg5 : arg5.IsWhole)
    (arg6 : Memref sig .tc .vmem S1x512x1 .f32) (harg6 : arg6.IsWhole)
    (hi : (i 1).val = 1) (h1 : ¬ k0_cond1 i = 1#1) (h2 : k0_cond2 i = 1#1) (h3 : ¬ k0_cond3 i = 1#1) (h4 : ¬ k0_cond4 i = 1#1)
    (x0 : Vec F S512x256 .bf16) (x1 : Vec F S2048x256 .bf16) (x2 : Vec F S2048x128 .bf16) (E : Set ℕ) (K : PUnit → sProp (Res F)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (fwdO i x0 x1 x2) ∗ owns (c : Thread nD τ) arg6 fullShare (fwdL i x0 x1)) -∗ K ⟨⟩))
      ⊢ wp frame (wpE (defs₀ (F := F)) Variants.none c none) E (cc0_attn_fwd i arg2 harg2 arg3 harg3 arg4 harg4 arg5 harg5 arg6 harg6) K := by
  rw [fwdO_1 hi, fwdL_1 hi]
  simp only [cc0_attn_fwd_eq_skeleton]; unfold cc0_attn_fwd_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact h1 | sl_exact h2 | sl_exact h3 | sl_exact h4)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    exact (read_one _ _ _ _).trans (overlay_all inb_S512x128_S512x128_0_0 (by decide) _ _)
  iexists _; isplitr
  swap; · iexact H4
  ipureintro
  exact (read_one _ _ _ _).trans (overlay_all inb_S1x512x1_S1x512x1_0_0_0 (by decide) _ _)

set_option maxHeartbeats 1000000 in
/-- The forward body at a third tile: the inputs stay, the two output blocks hold `fwdO` and `fwdL`. -/
theorem fwd_run2 (c : Dev nD) (i : grid0.Coords)
    (arg2 : Memref sig .tc .vmem S512x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S512x128 .f32) (harg5 : arg5.IsWhole)
    (arg6 : Memref sig .tc .vmem S1x512x1 .f32) (harg6 : arg6.IsWhole)
    (hi : (i 1).val = 2) (h1 : ¬ k0_cond1 i = 1#1) (h2 : ¬ k0_cond2 i = 1#1) (h3 : k0_cond3 i = 1#1) (h4 : ¬ k0_cond4 i = 1#1)
    (x0 : Vec F S512x256 .bf16) (x1 : Vec F S2048x256 .bf16) (x2 : Vec F S2048x128 .bf16) (E : Set ℕ) (K : PUnit → sProp (Res F)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (fwdO i x0 x1 x2) ∗ owns (c : Thread nD τ) arg6 fullShare (fwdL i x0 x1)) -∗ K ⟨⟩))
      ⊢ wp frame (wpE (defs₀ (F := F)) Variants.none c none) E (cc0_attn_fwd i arg2 harg2 arg3 harg3 arg4 harg4 arg5 harg5 arg6 harg6) K := by
  rw [fwdO_2 hi, fwdL_2 hi]
  simp only [cc0_attn_fwd_eq_skeleton]; unfold cc0_attn_fwd_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact h1 | sl_exact h2 | sl_exact h3 | sl_exact h4)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    exact (read_one _ _ _ _).trans (overlay_all inb_S512x128_S512x128_0_0 (by decide) _ _)
  iexists _; isplitr
  swap; · iexact H4
  ipureintro
  exact (read_one _ _ _ _).trans (overlay_all inb_S1x512x1_S1x512x1_0_0_0 (by decide) _ _)

set_option maxHeartbeats 1000000 in
/-- The forward body at a last tile: the inputs stay, the two output blocks hold `fwdO` and `fwdL`. -/
theorem fwd_run3 (c : Dev nD) (i : grid0.Coords)
    (arg2 : Memref sig .tc .vmem S512x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S512x128 .f32) (harg5 : arg5.IsWhole)
    (arg6 : Memref sig .tc .vmem S1x512x1 .f32) (harg6 : arg6.IsWhole)
    (hi : (i 1).val = 3) (h1 : ¬ k0_cond1 i = 1#1) (h2 : ¬ k0_cond2 i = 1#1) (h3 : ¬ k0_cond3 i = 1#1) (h4 : k0_cond4 i = 1#1)
    (x0 : Vec F S512x256 .bf16) (x1 : Vec F S2048x256 .bf16) (x2 : Vec F S2048x128 .bf16) (E : Set ℕ) (K : PUnit → sProp (Res F)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (fwdO i x0 x1 x2) ∗ owns (c : Thread nD τ) arg6 fullShare (fwdL i x0 x1)) -∗ K ⟨⟩))
      ⊢ wp frame (wpE (defs₀ (F := F)) Variants.none c none) E (cc0_attn_fwd i arg2 harg2 arg3 harg3 arg4 harg4 arg5 harg5 arg6 harg6) K := by
  rw [fwdO_3 hi, fwdL_3 hi]
  simp only [cc0_attn_fwd_eq_skeleton]; unfold cc0_attn_fwd_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact h1 | sl_exact h2 | sl_exact h3 | sl_exact h4)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    exact (read_one _ _ _ _).trans (overlay_all inb_S512x128_S512x128_0_0 (by decide) _ _)
  iexists _; isplitr
  swap; · iexact H4
  ipureintro
  exact (read_one _ _ _ _).trans (overlay_all inb_S1x512x1_S1x512x1_0_0_0 (by decide) _ _)

end Cert.KernelIdeal.Attn

end
-- ==== Proof.FwdRegion.lean ====
module

public import proofs.«01_k».proof.Proof.FwdBody

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # The forward pipeline: what its buffers hold at every grid point

`V` is what the core's buffers hold when the pipeline starts. -/

section Region0
variable (V : (c : Dev nD) → (b : Ref sig .tc) → Buf (Elt F) ((c : Thread nD τ).loc b))

/-- The block of window `w` at point `t`, read from its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the pipeline's buffers hold after the body at each point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => fwdO (grid0.coords t) (blk0 V c 0 t) (blk0 V c 1 t) (blk0 V c 2 t)
    | ⟨4, _⟩ => fwdL (grid0.coords t) (blk0 V c 0 t) (blk0 V c 1 t)
  Φ _ := Pipeline.ΦA spec0 c
  q _ := fullShare
  owed _ := 0

/-- The arrays are as the pipeline finds them. -/
theorem A_eq0 (c : Dev nD) (w : Fin cfg0.W) : (dat0 V c).A w = V c (Pipeline.arrRef spec0 w) := by
  dsimp only [dat0]
/-- What the body leaves in window 0 at a grid step. -/
theorem after0_0 (c : Dev nD) (t : Fin cfg0.N) : (dat0 V c).after 0 t = blk0 V c 0 t := by dsimp only [dat0]
/-- What the body leaves in window 1 at a grid step. -/
theorem after0_1 (c : Dev nD) (t : Fin cfg0.N) : (dat0 V c).after 1 t = blk0 V c 1 t := by dsimp only [dat0]
/-- What the body leaves in window 2 at a grid step. -/
theorem after0_2 (c : Dev nD) (t : Fin cfg0.N) : (dat0 V c).after 2 t = blk0 V c 2 t := by dsimp only [dat0]
/-- What the body leaves in window 3 at a grid step. -/
theorem after0_3 (c : Dev nD) (t : Fin cfg0.N) : (dat0 V c).after 3 t = fwdO (grid0.coords t) (blk0 V c 0 t) (blk0 V c 1 t) (blk0 V c 2 t) := by dsimp only [dat0]
/-- What the body leaves in window 4 at a grid step. -/
theorem after0_4 (c : Dev nD) (t : Fin cfg0.N) : (dat0 V c).after 4 t = fwdL (grid0.coords t) (blk0 V c 0 t) (blk0 V c 1 t) := by dsimp only [dat0]
/-- What the body finds in window 0 at a grid step: the array's block. -/
theorem found0_0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
/-- What the body finds in window 1 at a grid step: the array's block. -/
theorem found0_1 (c : Dev nD) (t : Fin cfg0.N) (d) : (dat0 V c).before 1 t d = blk0 V c 1 t :=
  ((dat0 V c).before_in_eq_fetched 1 rfl (fun _ => rfl) (fun _ _ _ => rfl) (fun _ => rfl) t d).trans rfl
/-- What the body finds in window 2 at a grid step: the array's block. -/
theorem found0_2 (c : Dev nD) (t : Fin cfg0.N) (d) : (dat0 V c).before 2 t d = blk0 V c 2 t :=
  ((dat0 V c).before_in_eq_fetched 2 rfl (fun _ => rfl) (fun _ _ _ => rfl) (fun _ => rfl) t d).trans rfl

/-! Every output block is stored at every point. -/
theorem live0_0 : ∀ t : Fin cfg0.N, cfg0.idle 0 (grid0.coords t) = false := fun _ => rfl
/-- The body touches window 1 at every grid step. -/
theorem live0_1 : ∀ t : Fin cfg0.N, cfg0.idle 1 (grid0.coords t) = false := fun _ => rfl
/-- The body touches window 2 at every grid step. -/
theorem live0_2 : ∀ t : Fin cfg0.N, cfg0.idle 2 (grid0.coords t) = false := fun _ => rfl
/-- The body touches window 3 at every grid step. -/
theorem live0_3 : ∀ t : Fin cfg0.N, cfg0.idle 3 (grid0.coords t) = false :=
  (by decide +kernel : ∀ t : Fin grid0.N, idle0 3 (grid0.coords t) = false)
/-- The body touches window 4 at every grid step. -/
theorem live0_4 : ∀ t : Fin cfg0.N, cfg0.idle 4 (grid0.coords t) = false :=
  (by decide +kernel : ∀ t : Fin grid0.N, idle0 4 (grid0.coords t) = false)

/-- What the body is given at point `t`. -/
def pre0 (c : Dev nD) (t : Fin cfg0.N) : sProp (Res F) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))
/-- What the body gives back at point `t`. -/
def post0 (c : Dev nD) (t : Fin cfg0.N) : sProp (Res F) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- The body takes what it is given to what it gives back, at every point. -/
theorem step0 (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  rw [show (dat0 V c).leavesExact 2 t = owns (c : Thread nD τ) (st0_2 t) fullShare ((dat0 V c).after 2 t) from by
      unfold Dat.leavesExact; rw [live0_2 t], after0_2]
  rw [show (dat0 V c).leavesExact 3 t = owns (c : Thread nD τ) (st0_3 t) fullShare ((dat0 V c).after 3 t) from by
      unfold Dat.leavesExact; rw [live0_3 t], after0_3]
  rw [show (dat0 V c).leavesExact 4 t = owns (c : Thread nD τ) (st0_4 t) fullShare ((dat0 V c).after 4 t) from by
      unfold Dat.leavesExact; rw [live0_4 t], after0_4]
  iintro ⟨HΦ, Ho, ⟨%d0, H0⟩, ⟨%d1, H1⟩, ⟨%d2, H2⟩, ⟨%d3, H3⟩, ⟨%d4, H4⟩⟩
  have hlt : t.val % 4 < 4 := Nat.mod_lt _ (by omega)
  by_cases hr0 : t.val % 4 = 0
  · iapply (fwd_run0 c (grid0.coords t) _ _ _ _ _ _ _ _ _ _ ((g0_tile t).trans hr0) ((g0_when1 t).mpr hr0) (fun h => absurd ((g0_when2 t).mp h) (by omega)) (fun h => absurd ((g0_when3 t).mp h) (by omega)) (fun h => absurd ((g0_when4 t).mp h) (by omega)) (blk0 V c 0 t) (blk0 V c 1 t) (blk0 V c 2 t)  Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  by_cases hr1 : t.val % 4 = 1
  · iapply (fwd_run1 c (grid0.coords t) _ _ _ _ _ _ _ _ _ _ ((g0_tile t).trans hr1) (fun h => absurd ((g0_when1 t).mp h) (by omega)) ((g0_when2 t).mpr hr1) (fun h => absurd ((g0_when3 t).mp h) (by omega)) (fun h => absurd ((g0_when4 t).mp h) (by omega)) (blk0 V c 0 t) (blk0 V c 1 t) (blk0 V c 2 t)  Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  by_cases hr2 : t.val % 4 = 2
  · iapply (fwd_run2 c (grid0.coords t) _ _ _ _ _ _ _ _ _ _ ((g0_tile t).trans hr2) (fun h => absurd ((g0_when1 t).mp h) (by omega)) (fun h => absurd ((g0_when2 t).mp h) (by omega)) ((g0_when3 t).mpr hr2) (fun h => absurd ((g0_when4 t).mp h) (by omega)) (blk0 V c 0 t) (blk0 V c 1 t) (blk0 V c 2 t)  Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  have hr3 : t.val % 4 = 3 := by omega
  iapply (fwd_run3 c (grid0.coords t) _ _ _ _ _ _ _ _ _ _ ((g0_tile t).trans hr3) (fun h => absurd ((g0_when1 t).mp h) (by omega)) (fun h => absurd ((g0_when2 t).mp h) (by omega)) (fun h => absurd ((g0_when3 t).mp h) (by omega)) ((g0_when4 t).mpr hr3) (blk0 V c 0 t) (blk0 V c 1 t) (blk0 V c 2 t)  Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's row of the body table is the body. -/
theorem row0 (t : Fin cfg0.N) :
    defs₀ (F := F) .tc cfg0.body (cfg0.bodyArgs t (cfg0.slots t)) = bodyAt0 t := by
  unfold defs₀; rw [Defs.onTc_tc]

/-- The body's obligation at every point. -/
theorem obligation0 (c : Dev nD) : BodyObligation (dat0 (F := F) V c) (defs₀ (F := F)) Variants.none () Set.univ := fun t => by
  rw [bigSep_W0, bigSep_W0, row0]
  exact triple_restated (step0 V c t) rfl .rfl fun _ => .rfl

end Region0

end Cert.KernelIdeal.Attn

end
-- ==== Proof.BwdBody.lean ====
module

public import proofs.«01_k».proof.Proof.FwdBody

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # The backward body of causal attention, one grid point at a time -/

/-- The block of query gradients the backward body leaves at grid point `i`. -/
def bwdQ (i : grid1.Coords) (x0 : Vec F S512x256 .bf16) (x1 : Vec F S2048x256 .bf16) (x2 : Vec F S2048x128 .bf16) (x3 : Vec F S512x128 .f32) (x4 : Vec F S1x512x1 .f32) (x5 : Vec F S512x128 .f32) : Vec F S512x256 .f32 :=
  if (i 1).val = 0 then k1_pay8 (BitVec.ofNat 32 (i 1).val) (View.ld x0 rQ) (View.ld x1 rK0) (View.ld x5 rO) (View.ld x3 rO) (View.ld x4 rL) (View.ld x2 rV0) else
  if (i 1).val = 1 then k1_pay14 (BitVec.ofNat 32 (i 1).val) (View.ld x0 rQ) (View.ld x1 rK1) (View.ld x5 rO) (View.ld x3 rO) (View.ld x4 rL) (View.ld x2 rV1) else
  if (i 1).val = 2 then k1_pay20 (BitVec.ofNat 32 (i 1).val) (View.ld x0 rQ) (View.ld x1 rK2) (View.ld x5 rO) (View.ld x3 rO) (View.ld x4 rL) (View.ld x2 rV2) else
  k1_pay26 (BitVec.ofNat 32 (i 1).val) (View.ld x0 rQ) (View.ld x1 rK3) (View.ld x5 rO) (View.ld x3 rO) (View.ld x4 rL) (View.ld x2 rV3)

/-- The block of key gradients the backward body leaves at grid point `i`, from what the block held (`X`). -/
def bwdK (i : grid1.Coords) (x0 : Vec F S512x256 .bf16) (x1 : Vec F S2048x256 .bf16) (x2 : Vec F S2048x128 .bf16) (x3 : Vec F S512x128 .f32) (x4 : Vec F S1x512x1 .f32) (x5 : Vec F S512x128 .f32) (X : Vec F S2048x256 .f32) : Vec F S2048x256 .f32 :=
  if (i 1).val = 0 then rK0.overlay X (k1_pay29 (k1_pay3 (View.ld x0 rQ)) (k1_pay7 (BitVec.ofNat 32 (i 1).val) (View.ld x0 rQ) (View.ld x1 rK0) (View.ld x5 rO) (View.ld x3 rO) (View.ld x4 rL) (View.ld x2 rV0)) (View.ld X rK0)) else
  if (i 1).val = 1 then rK1.overlay X (k1_pay31 (k1_pay9 (View.ld x0 rQ)) (k1_pay13 (BitVec.ofNat 32 (i 1).val) (View.ld x0 rQ) (View.ld x1 rK1) (View.ld x5 rO) (View.ld x3 rO) (View.ld x4 rL) (View.ld x2 rV1)) (View.ld X rK1)) else
  if (i 1).val = 2 then rK2.overlay X (k1_pay33 (k1_pay15 (View.ld x0 rQ)) (k1_pay19 (BitVec.ofNat 32 (i 1).val) (View.ld x0 rQ) (View.ld x1 rK2) (View.ld x5 rO) (View.ld x3 rO) (View.ld x4 rL) (View.ld x2 rV2)) (View.ld X rK2)) else
  rK3.overlay X (k1_pay1 (k1_pay21 (View.ld x0 rQ)) (k1_pay25 (BitVec.ofNat 32 (i 1).val) (View.ld x0 rQ) (View.ld x1 rK3) (View.ld x5 rO) (View.ld x3 rO) (View.ld x4 rL) (View.ld x2 rV3)) (View.ld X rK3))

/-- The block of value gradients the backward body leaves at grid point `i`, from what the block held (`X`). -/
def bwdV (i : grid1.Coords) (x0 : Vec F S512x256 .bf16) (x1 : Vec F S2048x256 .bf16) (x2 : Vec F S2048x128 .bf16) (x3 : Vec F S512x128 .f32) (x4 : Vec F S1x512x1 .f32) (x5 : Vec F S512x128 .f32) (X : Vec F S2048x128 .f32) : Vec F S2048x128 .f32 :=
  if (i 1).val = 0 then rV0.overlay X (k1_pay30 (k1_pay5 (View.ld x5 rO)) (k1_pay6 (BitVec.ofNat 32 (i 1).val) (View.ld x0 rQ) (View.ld x1 rK0) (View.ld x4 rL)) (View.ld X rV0)) else
  if (i 1).val = 1 then rV1.overlay X (k1_pay32 (k1_pay11 (View.ld x5 rO)) (k1_pay12 (BitVec.ofNat 32 (i 1).val) (View.ld x0 rQ) (View.ld x1 rK1) (View.ld x4 rL)) (View.ld X rV1)) else
  if (i 1).val = 2 then rV2.overlay X (k1_pay34 (k1_pay17 (View.ld x5 rO)) (k1_pay18 (BitVec.ofNat 32 (i 1).val) (View.ld x0 rQ) (View.ld x1 rK2) (View.ld x4 rL)) (View.ld X rV2)) else
  rV3.overlay X (k1_pay2 (k1_pay23 (View.ld x5 rO)) (k1_pay24 (BitVec.ofNat 32 (i 1).val) (View.ld x0 rQ) (View.ld x1 rK3) (View.ld x4 rL)) (View.ld X rV3))

/-- The query gradients that the body stores at tile 0. -/
theorem bwdQ_0 {i : grid1.Coords} (h : (i 1).val = 0) (x0 : Vec F S512x256 .bf16) (x1 : Vec F S2048x256 .bf16) (x2 : Vec F S2048x128 .bf16) (x3 : Vec F S512x128 .f32) (x4 : Vec F S1x512x1 .f32) (x5 : Vec F S512x128 .f32) :
    bwdQ i x0 x1 x2 x3 x4 x5 = k1_pay8 (BitVec.ofNat 32 (i 1).val) (View.ld x0 rQ) (View.ld x1 rK0) (View.ld x5 rO) (View.ld x3 rO) (View.ld x4 rL) (View.ld x2 rV0) := by
  unfold bwdQ; simp [h]
/-- The query gradients that the body stores at tile 1. -/
theorem bwdQ_1 {i : grid1.Coords} (h : (i 1).val = 1) (x0 : Vec F S512x256 .bf16) (x1 : Vec F S2048x256 .bf16) (x2 : Vec F S2048x128 .bf16) (x3 : Vec F S512x128 .f32) (x4 : Vec F S1x512x1 .f32) (x5 : Vec F S512x128 .f32) :
    bwdQ i x0 x1 x2 x3 x4 x5 = k1_pay14 (BitVec.ofNat 32 (i 1).val) (View.ld x0 rQ) (View.ld x1 rK1) (View.ld x5 rO) (View.ld x3 rO) (View.ld x4 rL) (View.ld x2 rV1) := by
  unfold bwdQ; simp [h]
/-- The query gradients that the body stores at tile 2. -/
theorem bwdQ_2 {i : grid1.Coords} (h : (i 1).val = 2) (x0 : Vec F S512x256 .bf16) (x1 : Vec F S2048x256 .bf16) (x2 : Vec F S2048x128 .bf16) (x3 : Vec F S512x128 .f32) (x4 : Vec F S1x512x1 .f32) (x5 : Vec F S512x128 .f32) :
    bwdQ i x0 x1 x2 x3 x4 x5 = k1_pay20 (BitVec.ofNat 32 (i 1).val) (View.ld x0 rQ) (View.ld x1 rK2) (View.ld x5 rO) (View.ld x3 rO) (View.ld x4 rL) (View.ld x2 rV2) := by
  unfold bwdQ; simp [h]
/-- The query gradients that the body stores at tile 3. -/
theorem bwdQ_3 {i : grid1.Coords} (h : (i 1).val = 3) (x0 : Vec F S512x256 .bf16) (x1 : Vec F S2048x256 .bf16) (x2 : Vec F S2048x128 .bf16) (x3 : Vec F S512x128 .f32) (x4 : Vec F S1x512x1 .f32) (x5 : Vec F S512x128 .f32) :
    bwdQ i x0 x1 x2 x3 x4 x5 = k1_pay26 (BitVec.ofNat 32 (i 1).val) (View.ld x0 rQ) (View.ld x1 rK3) (View.ld x5 rO) (View.ld x3 rO) (View.ld x4 rL) (View.ld x2 rV3) := by
  unfold bwdQ; simp [h]
/-- The key gradients that the body stores at tile 0. -/
theorem bwdK_0 {i : grid1.Coords} (h : (i 1).val = 0) (x0 : Vec F S512x256 .bf16) (x1 : Vec F S2048x256 .bf16) (x2 : Vec F S2048x128 .bf16) (x3 : Vec F S512x128 .f32) (x4 : Vec F S1x512x1 .f32) (x5 : Vec F S512x128 .f32) (X : Vec F S2048x256 .f32) :
    bwdK i x0 x1 x2 x3 x4 x5 X = rK0.overlay X (k1_pay29 (k1_pay3 (View.ld x0 rQ)) (k1_pay7 (BitVec.ofNat 32 (i 1).val) (View.ld x0 rQ) (View.ld x1 rK0) (View.ld x5 rO) (View.ld x3 rO) (View.ld x4 rL) (View.ld x2 rV0)) (View.ld X rK0)) := by
  unfold bwdK; simp [h]
/-- The key gradients that the body stores at tile 1. -/
theorem bwdK_1 {i : grid1.Coords} (h : (i 1).val = 1) (x0 : Vec F S512x256 .bf16) (x1 : Vec F S2048x256 .bf16) (x2 : Vec F S2048x128 .bf16) (x3 : Vec F S512x128 .f32) (x4 : Vec F S1x512x1 .f32) (x5 : Vec F S512x128 .f32) (X : Vec F S2048x256 .f32) :
    bwdK i x0 x1 x2 x3 x4 x5 X = rK1.overlay X (k1_pay31 (k1_pay9 (View.ld x0 rQ)) (k1_pay13 (BitVec.ofNat 32 (i 1).val) (View.ld x0 rQ) (View.ld x1 rK1) (View.ld x5 rO) (View.ld x3 rO) (View.ld x4 rL) (View.ld x2 rV1)) (View.ld X rK1)) := by
  unfold bwdK; simp [h]
/-- The key gradients that the body stores at tile 2. -/
theorem bwdK_2 {i : grid1.Coords} (h : (i 1).val = 2) (x0 : Vec F S512x256 .bf16) (x1 : Vec F S2048x256 .bf16) (x2 : Vec F S2048x128 .bf16) (x3 : Vec F S512x128 .f32) (x4 : Vec F S1x512x1 .f32) (x5 : Vec F S512x128 .f32) (X : Vec F S2048x256 .f32) :
    bwdK i x0 x1 x2 x3 x4 x5 X = rK2.overlay X (k1_pay33 (k1_pay15 (View.ld x0 rQ)) (k1_pay19 (BitVec.ofNat 32 (i 1).val) (View.ld x0 rQ) (View.ld x1 rK2) (View.ld x5 rO) (View.ld x3 rO) (View.ld x4 rL) (View.ld x2 rV2)) (View.ld X rK2)) := by
  unfold bwdK; simp [h]
/-- The key gradients that the body stores at tile 3. -/
theorem bwdK_3 {i : grid1.Coords} (h : (i 1).val = 3) (x0 : Vec F S512x256 .bf16) (x1 : Vec F S2048x256 .bf16) (x2 : Vec F S2048x128 .bf16) (x3 : Vec F S512x128 .f32) (x4 : Vec F S1x512x1 .f32) (x5 : Vec F S512x128 .f32) (X : Vec F S2048x256 .f32) :
    bwdK i x0 x1 x2 x3 x4 x5 X = rK3.overlay X (k1_pay1 (k1_pay21 (View.ld x0 rQ)) (k1_pay25 (BitVec.ofNat 32 (i 1).val) (View.ld x0 rQ) (View.ld x1 rK3) (View.ld x5 rO) (View.ld x3 rO) (View.ld x4 rL) (View.ld x2 rV3)) (View.ld X rK3)) := by
  unfold bwdK; simp [h]
/-- The value gradients that the body stores at tile 0. -/
theorem bwdV_0 {i : grid1.Coords} (h : (i 1).val = 0) (x0 : Vec F S512x256 .bf16) (x1 : Vec F S2048x256 .bf16) (x2 : Vec F S2048x128 .bf16) (x3 : Vec F S512x128 .f32) (x4 : Vec F S1x512x1 .f32) (x5 : Vec F S512x128 .f32) (X : Vec F S2048x128 .f32) :
    bwdV i x0 x1 x2 x3 x4 x5 X = rV0.overlay X (k1_pay30 (k1_pay5 (View.ld x5 rO)) (k1_pay6 (BitVec.ofNat 32 (i 1).val) (View.ld x0 rQ) (View.ld x1 rK0) (View.ld x4 rL)) (View.ld X rV0)) := by
  unfold bwdV; simp [h]
/-- The value gradients that the body stores at tile 1. -/
theorem bwdV_1 {i : grid1.Coords} (h : (i 1).val = 1) (x0 : Vec F S512x256 .bf16) (x1 : Vec F S2048x256 .bf16) (x2 : Vec F S2048x128 .bf16) (x3 : Vec F S512x128 .f32) (x4 : Vec F S1x512x1 .f32) (x5 : Vec F S512x128 .f32) (X : Vec F S2048x128 .f32) :
    bwdV i x0 x1 x2 x3 x4 x5 X = rV1.overlay X (k1_pay32 (k1_pay11 (View.ld x5 rO)) (k1_pay12 (BitVec.ofNat 32 (i 1).val) (View.ld x0 rQ) (View.ld x1 rK1) (View.ld x4 rL)) (View.ld X rV1)) := by
  unfold bwdV; simp [h]
/-- The value gradients that the body stores at tile 2. -/
theorem bwdV_2 {i : grid1.Coords} (h : (i 1).val = 2) (x0 : Vec F S512x256 .bf16) (x1 : Vec F S2048x256 .bf16) (x2 : Vec F S2048x128 .bf16) (x3 : Vec F S512x128 .f32) (x4 : Vec F S1x512x1 .f32) (x5 : Vec F S512x128 .f32) (X : Vec F S2048x128 .f32) :
    bwdV i x0 x1 x2 x3 x4 x5 X = rV2.overlay X (k1_pay34 (k1_pay17 (View.ld x5 rO)) (k1_pay18 (BitVec.ofNat 32 (i 1).val) (View.ld x0 rQ) (View.ld x1 rK2) (View.ld x4 rL)) (View.ld X rV2)) := by
  unfold bwdV; simp [h]
/-- The value gradients that the body stores at tile 3. -/
theorem bwdV_3 {i : grid1.Coords} (h : (i 1).val = 3) (x0 : Vec F S512x256 .bf16) (x1 : Vec F S2048x256 .bf16) (x2 : Vec F S2048x128 .bf16) (x3 : Vec F S512x128 .f32) (x4 : Vec F S1x512x1 .f32) (x5 : Vec F S512x128 .f32) (X : Vec F S2048x128 .f32) :
    bwdV i x0 x1 x2 x3 x4 x5 X = rV3.overlay X (k1_pay2 (k1_pay23 (View.ld x5 rO)) (k1_pay24 (BitVec.ofNat 32 (i 1).val) (View.ld x0 rQ) (View.ld x1 rK3) (View.ld x4 rL)) (View.ld X rV3)) := by
  unfold bwdV; simp [h]

set_option maxHeartbeats 1000000 in
/-- The backward body at a first tile: both accumulators start from zero. -/
theorem bwd_run0 (c : Dev nD) (i : grid1.Coords)
    (arg2 : Memref sig .tc .vmem S512x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S512x128 .f32) (harg5 : arg5.IsWhole)
    (arg6 : Memref sig .tc .vmem S1x512x1 .f32) (harg6 : arg6.IsWhole) (arg7 : Memref sig .tc .vmem S512x128 .f32) (harg7 : arg7.IsWhole)
    (arg8 : Memref sig .tc .vmem S512x256 .f32) (harg8 : arg8.IsWhole) (arg9 : Memref sig .tc .vmem S2048x256 .f32) (harg9 : arg9.IsWhole)
    (arg10 : Memref sig .tc .vmem S2048x128 .f32) (harg10 : arg10.IsWhole)
    (hi : (i 1).val = 0) (h1 : k1_cond1 i = 1#1) (h2 : k1_cond2 i = 1#1) (h3 : ¬ k1_cond3 i = 1#1) (h4 : ¬ k1_cond4 i = 1#1) (h5 : ¬ k1_cond5 i = 1#1)
    (x0 : Vec F S512x256 .bf16) (x1 : Vec F S2048x256 .bf16) (x2 : Vec F S2048x128 .bf16) (x3 : Vec F S512x128 .f32) (x4 : Vec F S1x512x1 .f32) (x5 : Vec F S512x128 .f32)
    (E : Set ℕ) (K : PUnit → sProp (Res F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (bwdQ i x0 x1 x2 x3 x4 x5) ∗ owns (c : Thread nD τ) arg9 fullShare (bwdK i x0 x1 x2 x3 x4 x5 k1_pay27) ∗ owns (c : Thread nD τ) arg10 fullShare (bwdV i x0 x1 x2 x3 x4 x5 k1_pay28)) -∗ K ⟨⟩))
      ⊢ wp frame (wpE (defs₀ (F := F)) Variants.none c none) E (cc1_attn_bwd i arg2 harg2 arg3 harg3 arg4 harg4 arg5 harg5 arg6 harg6 arg7 harg7 arg8 harg8 arg9 harg9 arg10 harg10) K := by
  rw [bwdQ_0 hi, bwdK_0 hi, bwdV_0 hi]
  simp only [cc1_attn_bwd_eq_skeleton]; unfold cc1_attn_bwd_skel
  simp only [k1_part5_eq_skeleton, k1_part6_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact h1 | sl_exact h2 | sl_exact h3 | sl_exact h4 | sl_exact h5)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact (read_one _ _ _ _).trans (overlay_all inb_S512x256_S512x256_0_0 (by decide) _ _)
  isplitl [H7]
  · iexists _; isplitr
    swap; · iexact H7
    ipureintro
    refine (read_one _ _ _ _).trans (congrArg₂ _ ?_ ?_)
    · exact (read_one _ _ _ _).trans (overlay_all inb_S2048x256_S2048x256_0_0 (by decide) _ _)
    · rw [← load_fill (Val := Elt F) arg9.view inb_S2048x256_S2048x256_0_0 (by decide) (k1_pay27 (F := F)) rK0]; rfl
  · iexists _; isplitr
    swap; · iexact H8
    ipureintro
    refine (read_one _ _ _ _).trans (congrArg₂ _ ?_ ?_)
    · exact (read_one _ _ _ _).trans (overlay_all inb_S2048x128_S2048x128_0_0 (by decide) _ _)
    · rw [← load_fill (Val := Elt F) arg10.view inb_S2048x128_S2048x128_0_0 (by decide) (k1_pay28 (F := F)) rV0]; rfl

set_option maxHeartbeats 1000000 in
/-- The backward body at a second tile: both accumulators go on from what they hold. -/
theorem bwd_run1 (c : Dev nD) (i : grid1.Coords)
    (arg2 : Memref sig .tc .vmem S512x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S512x128 .f32) (harg5 : arg5.IsWhole)
    (arg6 : Memref sig .tc .vmem S1x512x1 .f32) (harg6 : arg6.IsWhole) (arg7 : Memref sig .tc .vmem S512x128 .f32) (harg7 : arg7.IsWhole)
    (arg8 : Memref sig .tc .vmem S512x256 .f32) (harg8 : arg8.IsWhole) (arg9 : Memref sig .tc .vmem S2048x256 .f32) (harg9 : arg9.IsWhole)
    (arg10 : Memref sig .tc .vmem S2048x128 .f32) (harg10 : arg10.IsWhole)
    (hi : (i 1).val = 1) (h1 : ¬ k1_cond1 i = 1#1) (h2 : ¬ k1_cond2 i = 1#1) (h3 : k1_cond3 i = 1#1) (h4 : ¬ k1_cond4 i = 1#1) (h5 : ¬ k1_cond5 i = 1#1)
    (x0 : Vec F S512x256 .bf16) (x1 : Vec F S2048x256 .bf16) (x2 : Vec F S2048x128 .bf16) (x3 : Vec F S512x128 .f32) (x4 : Vec F S1x512x1 .f32) (x5 : Vec F S512x128 .f32) (X7 : Vec F S2048x256 .f32) (X8 : Vec F S2048x128 .f32)
    (E : Set ℕ) (K : PUnit → sProp (Res F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare X7 ∗ owns (c : Thread nD τ) arg10 fullShare X8
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (bwdQ i x0 x1 x2 x3 x4 x5) ∗ owns (c : Thread nD τ) arg9 fullShare (bwdK i x0 x1 x2 x3 x4 x5 X7) ∗ owns (c : Thread nD τ) arg10 fullShare (bwdV i x0 x1 x2 x3 x4 x5 X8)) -∗ K ⟨⟩))
      ⊢ wp frame (wpE (defs₀ (F := F)) Variants.none c none) E (cc1_attn_bwd i arg2 harg2 arg3 harg3 arg4 harg4 arg5 harg5 arg6 harg6 arg7 harg7 arg8 harg8 arg9 harg9 arg10 harg10) K := by
  rw [bwdQ_1 hi, bwdK_1 hi, bwdV_1 hi]
  simp only [cc1_attn_bwd_eq_skeleton]; unfold cc1_attn_bwd_skel
  simp only [k1_part5_eq_skeleton, k1_part6_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | sl_exact h1 | sl_exact h2 | sl_exact h3 | sl_exact h4 | sl_exact h5)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact (read_one _ _ _ _).trans (overlay_all inb_S512x256_S512x256_0_0 (by decide) _ _)
  isplitl [H7]
  · iexists _; isplitr
    swap; · iexact H7
    ipureintro
    exact read_one _ _ _ _
  · iexists _; isplitr
    swap; · iexact H8
    ipureintro
    exact read_one _ _ _ _

set_option maxHeartbeats 1000000 in
/-- The backward body at a third tile: both accumulators go on from what they hold. -/
theorem bwd_run2 (c : Dev nD) (i : grid1.Coords)
    (arg2 : Memref sig .tc .vmem S512x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S512x128 .f32) (harg5 : arg5.IsWhole)
    (arg6 : Memref sig .tc .vmem S1x512x1 .f32) (harg6 : arg6.IsWhole) (arg7 : Memref sig .tc .vmem S512x128 .f32) (harg7 : arg7.IsWhole)
    (arg8 : Memref sig .tc .vmem S512x256 .f32) (harg8 : arg8.IsWhole) (arg9 : Memref sig .tc .vmem S2048x256 .f32) (harg9 : arg9.IsWhole)
    (arg10 : Memref sig .tc .vmem S2048x128 .f32) (harg10 : arg10.IsWhole)
    (hi : (i 1).val = 2) (h1 : ¬ k1_cond1 i = 1#1) (h2 : ¬ k1_cond2 i = 1#1) (h3 : ¬ k1_cond3 i = 1#1) (h4 : k1_cond4 i = 1#1) (h5 : ¬ k1_cond5 i = 1#1)
    (x0 : Vec F S512x256 .bf16) (x1 : Vec F S2048x256 .bf16) (x2 : Vec F S2048x128 .bf16) (x3 : Vec F S512x128 .f32) (x4 : Vec F S1x512x1 .f32) (x5 : Vec F S512x128 .f32) (X7 : Vec F S2048x256 .f32) (X8 : Vec F S2048x128 .f32)
    (E : Set ℕ) (K : PUnit → sProp (Res F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare X7 ∗ owns (c : Thread nD τ) arg10 fullShare X8
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (bwdQ i x0 x1 x2 x3 x4 x5) ∗ owns (c : Thread nD τ) arg9 fullShare (bwdK i x0 x1 x2 x3 x4 x5 X7) ∗ owns (c : Thread nD τ) arg10 fullShare (bwdV i x0 x1 x2 x3 x4 x5 X8)) -∗ K ⟨⟩))
      ⊢ wp frame (wpE (defs₀ (F := F)) Variants.none c none) E (cc1_attn_bwd i arg2 harg2 arg3 harg3 arg4 harg4 arg5 harg5 arg6 harg6 arg7 harg7 arg8 harg8 arg9 harg9 arg10 harg10) K := by
  rw [bwdQ_2 hi, bwdK_2 hi, bwdV_2 hi]
  simp only [cc1_attn_bwd_eq_skeleton]; unfold cc1_attn_bwd_skel
  simp only [k1_part5_eq_skeleton, k1_part6_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | sl_exact h1 | sl_exact h2 | sl_exact h3 | sl_exact h4 | sl_exact h5)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact (read_one _ _ _ _).trans (overlay_all inb_S512x256_S512x256_0_0 (by decide) _ _)
  isplitl [H7]
  · iexists _; isplitr
    swap; · iexact H7
    ipureintro
    exact read_one _ _ _ _
  · iexists _; isplitr
    swap; · iexact H8
    ipureintro
    exact read_one _ _ _ _

set_option maxHeartbeats 1000000 in
/-- The backward body at a last tile: both accumulators go on from what they hold. -/
theorem bwd_run3 (c : Dev nD) (i : grid1.Coords)
    (arg2 : Memref sig .tc .vmem S512x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S512x128 .f32) (harg5 : arg5.IsWhole)
    (arg6 : Memref sig .tc .vmem S1x512x1 .f32) (harg6 : arg6.IsWhole) (arg7 : Memref sig .tc .vmem S512x128 .f32) (harg7 : arg7.IsWhole)
    (arg8 : Memref sig .tc .vmem S512x256 .f32) (harg8 : arg8.IsWhole) (arg9 : Memref sig .tc .vmem S2048x256 .f32) (harg9 : arg9.IsWhole)
    (arg10 : Memref sig .tc .vmem S2048x128 .f32) (harg10 : arg10.IsWhole)
    (hi : (i 1).val = 3) (h1 : ¬ k1_cond1 i = 1#1) (h2 : ¬ k1_cond2 i = 1#1) (h3 : ¬ k1_cond3 i = 1#1) (h4 : ¬ k1_cond4 i = 1#1) (h5 : k1_cond5 i = 1#1)
    (x0 : Vec F S512x256 .bf16) (x1 : Vec F S2048x256 .bf16) (x2 : Vec F S2048x128 .bf16) (x3 : Vec F S512x128 .f32) (x4 : Vec F S1x512x1 .f32) (x5 : Vec F S512x128 .f32) (X7 : Vec F S2048x256 .f32) (X8 : Vec F S2048x128 .f32)
    (E : Set ℕ) (K : PUnit → sProp (Res F)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare X7 ∗ owns (c : Thread nD τ) arg10 fullShare X8
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (bwdQ i x0 x1 x2 x3 x4 x5) ∗ owns (c : Thread nD τ) arg9 fullShare (bwdK i x0 x1 x2 x3 x4 x5 X7) ∗ owns (c : Thread nD τ) arg10 fullShare (bwdV i x0 x1 x2 x3 x4 x5 X8)) -∗ K ⟨⟩))
      ⊢ wp frame (wpE (defs₀ (F := F)) Variants.none c none) E (cc1_attn_bwd i arg2 harg2 arg3 harg3 arg4 harg4 arg5 harg5 arg6 harg6 arg7 harg7 arg8 harg8 arg9 harg9 arg10 harg10) K := by
  rw [bwdQ_3 hi, bwdK_3 hi, bwdV_3 hi]
  simp only [cc1_attn_bwd_eq_skeleton]; unfold cc1_attn_bwd_skel
  simp only [k1_part5_eq_skeleton, k1_part6_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | sl_exact h1 | sl_exact h2 | sl_exact h3 | sl_exact h4 | sl_exact h5)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact (read_one _ _ _ _).trans (overlay_all inb_S512x256_S512x256_0_0 (by decide) _ _)
  isplitl [H7]
  · iexists _; isplitr
    swap; · iexact H7
    ipureintro
    exact read_one _ _ _ _
  · iexists _; isplitr
    swap; · iexact H8
    ipureintro
    exact read_one _ _ _ _

end Cert.KernelIdeal.Attn

end
-- ==== Proof.BwdRegion.lean ====
module

public import proofs.«01_k».proof.Proof.BwdBody

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # The backward pipeline: what its buffers hold at every grid point

`V` is what the core's buffers hold when the pipeline starts. -/

section Region1
variable (V : (c : Dev nD) → (b : Ref sig .tc) → Buf (Elt F) ((c : Thread nD τ).loc b))

/-- The block of window `w` at point `t`, read from its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum in output 7's buffer after point `n`: it starts from zero at the first tile of a head. -/
def accK (c : Dev nD) : (n : ℕ) → n < cfg1.N → Vec F S2048x256 .f32
  | 0, h => (fun t : Fin cfg1.N => bwdK (grid1.coords t) (blk1 V c 0 t) (blk1 V c 1 t) (blk1 V c 2 t) (blk1 V c 3 t) (blk1 V c 4 t) (blk1 V c 5 t) k1_pay27) ⟨0, h⟩
  | n + 1, h => (fun t : Fin cfg1.N => bwdK (grid1.coords t) (blk1 V c 0 t) (blk1 V c 1 t) (blk1 V c 2 t) (blk1 V c 3 t) (blk1 V c 4 t) (blk1 V c 5 t) (if (n + 1) % 4 = 0 then k1_pay27 else accK c n (by omega))) ⟨n + 1, h⟩
/-- The accumulator after the first tile. -/
theorem accK_first (c : Dev nD) (t : Fin cfg1.N) (h : t.val % 4 = 0) :
    accK V c t.val t.isLt = bwdK (grid1.coords t) (blk1 V c 0 t) (blk1 V c 1 t) (blk1 V c 2 t) (blk1 V c 3 t) (blk1 V c 4 t) (blk1 V c 5 t) k1_pay27 := by
  obtain ⟨n, hn⟩ := t
  cases n with
  | zero => rfl
  | succ n => rw [accK]; dsimp only; rw [if_pos h]
/-- The accumulator after one more tile. -/
theorem accK_next (c : Dev nD) (t : Fin cfg1.N) (h : t.val % 4 ≠ 0) :
    accK V c t.val t.isLt = bwdK (grid1.coords t) (blk1 V c 0 t) (blk1 V c 1 t) (blk1 V c 2 t) (blk1 V c 3 t) (blk1 V c 4 t) (blk1 V c 5 t)
      (accK V c (t.val - 1) (Nat.lt_of_le_of_lt (Nat.sub_le _ _) t.isLt)) := by
  obtain ⟨n, hn⟩ := t
  cases n with
  | zero => exact absurd rfl h
  | succ n => rw [accK]; dsimp only; rw [if_neg h]; rfl

/-- The running sum in output 8's buffer after point `n`: it starts from zero at the first tile of a head. -/
def accV (c : Dev nD) : (n : ℕ) → n < cfg1.N → Vec F S2048x128 .f32
  | 0, h => (fun t : Fin cfg1.N => bwdV (grid1.coords t) (blk1 V c 0 t) (blk1 V c 1 t) (blk1 V c 2 t) (blk1 V c 3 t) (blk1 V c 4 t) (blk1 V c 5 t) k1_pay28) ⟨0, h⟩
  | n + 1, h => (fun t : Fin cfg1.N => bwdV (grid1.coords t) (blk1 V c 0 t) (blk1 V c 1 t) (blk1 V c 2 t) (blk1 V c 3 t) (blk1 V c 4 t) (blk1 V c 5 t) (if (n + 1) % 4 = 0 then k1_pay28 else accV c n (by omega))) ⟨n + 1, h⟩
/-- The accumulator after the first tile. -/
theorem accV_first (c : Dev nD) (t : Fin cfg1.N) (h : t.val % 4 = 0) :
    accV V c t.val t.isLt = bwdV (grid1.coords t) (blk1 V c 0 t) (blk1 V c 1 t) (blk1 V c 2 t) (blk1 V c 3 t) (blk1 V c 4 t) (blk1 V c 5 t) k1_pay28 := by
  obtain ⟨n, hn⟩ := t
  cases n with
  | zero => rfl
  | succ n => rw [accV]; dsimp only; rw [if_pos h]
/-- The accumulator after one more tile. -/
theorem accV_next (c : Dev nD) (t : Fin cfg1.N) (h : t.val % 4 ≠ 0) :
    accV V c t.val t.isLt = bwdV (grid1.coords t) (blk1 V c 0 t) (blk1 V c 1 t) (blk1 V c 2 t) (blk1 V c 3 t) (blk1 V c 4 t) (blk1 V c 5 t)
      (accV V c (t.val - 1) (Nat.lt_of_le_of_lt (Nat.sub_le _ _) t.isLt)) := by
  obtain ⟨n, hn⟩ := t
  cases n with
  | zero => exact absurd rfl h
  | succ n => rw [accV]; dsimp only; rw [if_neg h]; rfl

/-- What the pipeline's buffers hold after the body at each point. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => bwdQ (grid1.coords t) (blk1 V c 0 t) (blk1 V c 1 t) (blk1 V c 2 t) (blk1 V c 3 t) (blk1 V c 4 t) (blk1 V c 5 t)
    | ⟨7, _⟩ => accK V c t.val t.isLt
    | ⟨8, _⟩ => accV V c t.val t.isLt
  Φ _ := Pipeline.ΦA spec1 c
  q _ := fullShare
  owed _ := 0

/-- The arrays are as the pipeline finds them. -/
theorem A_eq1 (c : Dev nD) (w : Fin cfg1.W) : (dat1 V c).A w = V c (Pipeline.arrRef spec1 w) := by
  dsimp only [dat1]
/-- What the body leaves in window 0 at a grid step. -/
theorem after1_0 (c : Dev nD) (t : Fin cfg1.N) : (dat1 V c).after 0 t = blk1 V c 0 t := by dsimp only [dat1]
/-- What the body leaves in window 1 at a grid step. -/
theorem after1_1 (c : Dev nD) (t : Fin cfg1.N) : (dat1 V c).after 1 t = blk1 V c 1 t := by dsimp only [dat1]
/-- What the body leaves in window 2 at a grid step. -/
theorem after1_2 (c : Dev nD) (t : Fin cfg1.N) : (dat1 V c).after 2 t = blk1 V c 2 t := by dsimp only [dat1]
/-- What the body leaves in window 3 at a grid step. -/
theorem after1_3 (c : Dev nD) (t : Fin cfg1.N) : (dat1 V c).after 3 t = blk1 V c 3 t := by dsimp only [dat1]
/-- What the body leaves in window 4 at a grid step. -/
theorem after1_4 (c : Dev nD) (t : Fin cfg1.N) : (dat1 V c).after 4 t = blk1 V c 4 t := by dsimp only [dat1]
/-- What the body leaves in window 5 at a grid step. -/
theorem after1_5 (c : Dev nD) (t : Fin cfg1.N) : (dat1 V c).after 5 t = blk1 V c 5 t := by dsimp only [dat1]
/-- What the body leaves in window 6 at a grid step. -/
theorem after1_6 (c : Dev nD) (t : Fin cfg1.N) : (dat1 V c).after 6 t = bwdQ (grid1.coords t) (blk1 V c 0 t) (blk1 V c 1 t) (blk1 V c 2 t) (blk1 V c 3 t) (blk1 V c 4 t) (blk1 V c 5 t) := by dsimp only [dat1]
/-- What the body leaves in window 7 at a grid step. -/
theorem after1_7 (c : Dev nD) (t : Fin cfg1.N) : (dat1 V c).after 7 t = accK V c t.val t.isLt := by dsimp only [dat1]
/-- What the body leaves in window 8 at a grid step. -/
theorem after1_8 (c : Dev nD) (t : Fin cfg1.N) : (dat1 V c).after 8 t = accV V c t.val t.isLt := by dsimp only [dat1]
/-- What the body finds in window 0 at a grid step: the array's block. -/
theorem found1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
/-- What the body finds in window 1 at a grid step: the array's block. -/
theorem found1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
/-- What the body finds in window 2 at a grid step: the array's block. -/
theorem found1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl
/-- What the body finds in window 3 at a grid step: the array's block. -/
theorem found1_3 (c : Dev nD) (t : Fin cfg1.N) (d) : (dat1 V c).before 3 t d = blk1 V c 3 t :=
  ((dat1 V c).before_in_eq_fetched 3 rfl (fun _ => rfl) (fun _ _ _ => rfl) (fun _ => rfl) t d).trans rfl
/-- What the body finds in window 4 at a grid step: the array's block. -/
theorem found1_4 (c : Dev nD) (t : Fin cfg1.N) (d) : (dat1 V c).before 4 t d = blk1 V c 4 t :=
  ((dat1 V c).before_in_eq_fetched 4 rfl (fun _ => rfl) (fun _ _ _ => rfl) (fun _ => rfl) t d).trans rfl
/-- What the body finds in window 5 at a grid step: the array's block. -/
theorem found1_5 (c : Dev nD) (t : Fin cfg1.N) (d) : (dat1 V c).before 5 t d = blk1 V c 5 t :=
  ((dat1 V c).before_in_eq_fetched 5 rfl (fun _ => rfl) (fun _ _ _ => rfl) (fun _ => rfl) t d).trans rfl

/-! Every output block is stored at every point. -/
theorem live1_0 : ∀ t : Fin cfg1.N, cfg1.idle 0 (grid1.coords t) = false := fun _ => rfl
/-- The body touches window 1 at every grid step. -/
theorem live1_1 : ∀ t : Fin cfg1.N, cfg1.idle 1 (grid1.coords t) = false := fun _ => rfl
/-- The body touches window 2 at every grid step. -/
theorem live1_2 : ∀ t : Fin cfg1.N, cfg1.idle 2 (grid1.coords t) = false := fun _ => rfl
/-- The body touches window 3 at every grid step. -/
theorem live1_3 : ∀ t : Fin cfg1.N, cfg1.idle 3 (grid1.coords t) = false := fun _ => rfl
/-- The body touches window 4 at every grid step. -/
theorem live1_4 : ∀ t : Fin cfg1.N, cfg1.idle 4 (grid1.coords t) = false := fun _ => rfl
/-- The body touches window 5 at every grid step. -/
theorem live1_5 : ∀ t : Fin cfg1.N, cfg1.idle 5 (grid1.coords t) = false := fun _ => rfl
/-- The body touches window 6 at every grid step. -/
theorem live1_6 : ∀ t : Fin cfg1.N, cfg1.idle 6 (grid1.coords t) = false :=
  (by decide +kernel : ∀ t : Fin grid1.N, idle1 6 (grid1.coords t) = false)
/-- The body touches window 7 at every grid step. -/
theorem live1_7 : ∀ t : Fin cfg1.N, cfg1.idle 7 (grid1.coords t) = false :=
  (by decide +kernel : ∀ t : Fin grid1.N, idle1 7 (grid1.coords t) = false)
/-- The body touches window 8 at every grid step. -/
theorem live1_8 : ∀ t : Fin cfg1.N, cfg1.idle 8 (grid1.coords t) = false :=
  (by decide +kernel : ∀ t : Fin grid1.N, idle1 8 (grid1.coords t) = false)
/-- Past the first tile of a head, the body finds in output 7's buffer the running sum of the tile before. -/
theorem found1_7 (c : Dev nD) (t : Fin cfg1.N) (h : t.val % 4 ≠ 0) (d) :
    (dat1 V c).before 7 t d = accK V c (t.val - 1) (Nat.lt_of_le_of_lt (Nat.sub_le _ _) t.isLt) := by
  have h0 : t.val ≠ 0 := fun h' => h (by rw [h'])
  rw [(dat1 V c).before_of_pos 7 t h0 rfl d, if_neg]
  · unfold Dat.left
    rw [live1_7]
    exact after1_7 V c _
  · intro hf
    have := (flush1_7 _).mp hf
    dsimp only at this
    omega
/-- Past the first tile of a head, the body finds in output 8's buffer the running sum of the tile before. -/
theorem found1_8 (c : Dev nD) (t : Fin cfg1.N) (h : t.val % 4 ≠ 0) (d) :
    (dat1 V c).before 8 t d = accV V c (t.val - 1) (Nat.lt_of_le_of_lt (Nat.sub_le _ _) t.isLt) := by
  have h0 : t.val ≠ 0 := fun h' => h (by rw [h'])
  rw [(dat1 V c).before_of_pos 8 t h0 rfl d, if_neg]
  · unfold Dat.left
    rw [live1_8]
    exact after1_8 V c _
  · intro hf
    have := (flush1_8 _).mp hf
    dsimp only at this
    omega

/-- What the body is given at point `t`. -/
def pre1 (c : Dev nD) (t : Fin cfg1.N) : sProp (Res F) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))
/-- What the body gives back at point `t`. -/
def post1 (c : Dev nD) (t : Fin cfg1.N) : sProp (Res F) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

/-- The body takes what it is given to what it gives back, at every point. -/
theorem step1 (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2, found1_3, found1_4, found1_5]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
      unfold Dat.leavesExact; rw [live1_0 t], after1_0]
  rw [show (dat1 V c).leavesExact 1 t = owns (c : Thread nD τ) (st1_1 t) fullShare ((dat1 V c).after 1 t) from by
      unfold Dat.leavesExact; rw [live1_1 t], after1_1]
  rw [show (dat1 V c).leavesExact 2 t = owns (c : Thread nD τ) (st1_2 t) fullShare ((dat1 V c).after 2 t) from by
      unfold Dat.leavesExact; rw [live1_2 t], after1_2]
  rw [show (dat1 V c).leavesExact 3 t = owns (c : Thread nD τ) (st1_3 t) fullShare ((dat1 V c).after 3 t) from by
      unfold Dat.leavesExact; rw [live1_3 t], after1_3]
  rw [show (dat1 V c).leavesExact 4 t = owns (c : Thread nD τ) (st1_4 t) fullShare ((dat1 V c).after 4 t) from by
      unfold Dat.leavesExact; rw [live1_4 t], after1_4]
  rw [show (dat1 V c).leavesExact 5 t = owns (c : Thread nD τ) (st1_5 t) fullShare ((dat1 V c).after 5 t) from by
      unfold Dat.leavesExact; rw [live1_5 t], after1_5]
  rw [show (dat1 V c).leavesExact 6 t = owns (c : Thread nD τ) (st1_6 t) fullShare ((dat1 V c).after 6 t) from by
      unfold Dat.leavesExact; rw [live1_6 t], after1_6]
  rw [show (dat1 V c).leavesExact 7 t = owns (c : Thread nD τ) (st1_7 t) fullShare ((dat1 V c).after 7 t) from by
      unfold Dat.leavesExact; rw [live1_7 t], after1_7]
  rw [show (dat1 V c).leavesExact 8 t = owns (c : Thread nD τ) (st1_8 t) fullShare ((dat1 V c).after 8 t) from by
      unfold Dat.leavesExact; rw [live1_8 t], after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hlt : t.val % 4 < 4 := Nat.mod_lt _ (by omega)
  by_cases hr0 : t.val % 4 = 0
  · rw [accK_first V c t hr0]
    rw [accV_first V c t hr0]
    iapply (bwd_run0 c (grid1.coords t) _ _ _ _ _ _ _ _ _ _ _ _ _ _ _ _ _ _ ((g1_tile t).trans hr0) ((g1_when1 t).mpr hr0) ((g1_when2 t).mpr hr0) (fun h => absurd ((g1_when3 t).mp h) (by omega)) (fun h => absurd ((g1_when4 t).mp h) (by omega)) (fun h => absurd ((g1_when5 t).mp h) (by omega)) (blk1 V c 0 t) (blk1 V c 1 t) (blk1 V c 2 t) (blk1 V c 3 t) (blk1 V c 4 t) (blk1 V c 5 t)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  by_cases hr1 : t.val % 4 = 1
  · have hne : t.val % 4 ≠ 0 := by omega
    rw [accK_next V c t hne]
    rw [accV_next V c t hne]
    simp only [found1_7 V c t hne]
    simp only [found1_8 V c t hne]
    iapply (bwd_run1 c (grid1.coords t) _ _ _ _ _ _ _ _ _ _ _ _ _ _ _ _ _ _ ((g1_tile t).trans hr1) (fun h => absurd ((g1_when1 t).mp h) (by omega)) (fun h => absurd ((g1_when2 t).mp h) (by omega)) ((g1_when3 t).mpr hr1) (fun h => absurd ((g1_when4 t).mp h) (by omega)) (fun h => absurd ((g1_when5 t).mp h) (by omega)) (blk1 V c 0 t) (blk1 V c 1 t) (blk1 V c 2 t) (blk1 V c 3 t) (blk1 V c 4 t) (blk1 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  by_cases hr2 : t.val % 4 = 2
  · have hne : t.val % 4 ≠ 0 := by omega
    rw [accK_next V c t hne]
    rw [accV_next V c t hne]
    simp only [found1_7 V c t hne]
    simp only [found1_8 V c t hne]
    iapply (bwd_run2 c (grid1.coords t) _ _ _ _ _ _ _ _ _ _ _ _ _ _ _ _ _ _ ((g1_tile t).trans hr2) (fun h => absurd ((g1_when1 t).mp h) (by omega)) (fun h => absurd ((g1_when2 t).mp h) (by omega)) (fun h => absurd ((g1_when3 t).mp h) (by omega)) ((g1_when4 t).mpr hr2) (fun h => absurd ((g1_when5 t).mp h) (by omega)) (blk1 V c 0 t) (blk1 V c 1 t) (blk1 V c 2 t) (blk1 V c 3 t) (blk1 V c 4 t) (blk1 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have hr3 : t.val % 4 = 3 := by omega
  have hne : t.val % 4 ≠ 0 := by omega
  rw [accK_next V c t hne]
  rw [accV_next V c t hne]
  simp only [found1_7 V c t hne]
  simp only [found1_8 V c t hne]
  iapply (bwd_run3 c (grid1.coords t) _ _ _ _ _ _ _ _ _ _ _ _ _ _ _ _ _ _ ((g1_tile t).trans hr3) (fun h => absurd ((g1_when1 t).mp h) (by omega)) (fun h => absurd ((g1_when2 t).mp h) (by omega)) (fun h => absurd ((g1_when3 t).mp h) (by omega)) (fun h => absurd ((g1_when4 t).mp h) (by omega)) ((g1_when5 t).mpr hr3) (blk1 V c 0 t) (blk1 V c 1 t) (blk1 V c 2 t) (blk1 V c 3 t) (blk1 V c 4 t) (blk1 V c 5 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's row of the body table is the body. -/
theorem row1 (t : Fin cfg1.N) :
    defs₀ (F := F) .tc cfg1.body (cfg1.bodyArgs t (cfg1.slots t)) = bodyAt1 t := by
  unfold defs₀; rw [Defs.onTc_tc]

/-- The body's obligation at every point. -/
theorem obligation1 (c : Dev nD) : BodyObligation (dat1 (F := F) V c) (defs₀ (F := F)) Variants.none () Set.univ := fun t => by
  rw [bigSep_W1, bigSep_W1, row1]
  exact triple_restated (step1 V c t) rfl .rfl fun _ => .rfl

end Region1

end Cert.KernelIdeal.Attn

end
-- ==== Proof.AttnRun.lean ====
module

public import proofs.«01_k».proof.Proof.FwdRegion
public import proofs.«01_k».proof.Proof.BwdRegion
public import proofs.«01_k».proof.Proof.Gen.KernelIdeal.Regions

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # The run of the whole program: its host lines and pipelines in order

`B0` is what the buffers hold at launch and `B3` what they hold at the end; the run theorem says every unscoped buffer ends
at `B3`. -/

variable (m : (ℓ : Loc nD τ sig) → Buf (Elt F) ℓ) (ρ : Dev nD → PrngReg)

/-- The argument arrays. -/
abbrev theArgs : List (Ref sig .tc) := [main_arg0, main_arg1, main_arg2, main_arg3]

/-- The buffers at launch. -/
abbrev B0 : Dev nD → Valuation τ sig (Elt F) := fun c b => (s₀ m ρ).mem ((c : Dev nD), b)
/-- The arguments are unchanged there. -/
theorem B0_args (c : Dev nD) : ∀ a ∈ theArgs, B0 m ρ c (Proc.devRef .tc a) = m ((c : Thread nD τ).loc a) := fun _ _ => rfl
/-- The same, read at a core's references. -/
abbrev U0 : (c : Dev nD) → (b : Ref sig .tc) → Buf (Elt F) ((c : Thread nD τ).loc b) := fun c b => B0 m ρ c b

/-- The buffers after host stretch 0. -/
def B1 (c : Dev nD) : Valuation τ sig (Elt F) := StableHlo.after hostOps0 (B0 m ρ c)
/-- A buffer that the stretch does not write keeps its contents. -/
theorem B1_of (c : Dev nD) (r : Ref sig .tc) (h : r ∉ hostOps0_W) : B1 m ρ c (Proc.devRef .tc r) = B0 m ρ c (Proc.devRef .tc r) := by
  unfold B1; exact StableHlo.after_of_writes_sub hostOps0 _ hostOps0_writes h
/-- The stretch writes no argument. -/
theorem args_host0 : ∀ a ∈ theArgs, a ∉ hostOps0_W := by decide +kernel
/-- The arguments are unchanged there. -/
theorem B1_args (c : Dev nD) : ∀ a ∈ theArgs, B1 m ρ c (Proc.devRef .tc a) = m ((c : Thread nD τ).loc a) :=
  fun a ha => (B1_of m ρ c a (args_host0 a ha)).trans (B0_args m ρ c a ha)
/-- The same, read at a core's references. -/
abbrev U1 : (c : Dev nD) → (b : Ref sig .tc) → Buf (Elt F) ((c : Thread nD τ).loc b) := fun c b => B1 m ρ c b

/-- The buffers after pipeline 0: its arrays at what its write-backs leave, every other buffer as before. -/
def B2 (c : Dev nD) : Valuation τ sig (Elt F) :=
  Pipeline.withArrays spec0 c (B1 m ρ c) fun w => (dat0 (U1 m ρ) c).arrAt w cfg0.N
/-- The pipeline's arrays are what its write-backs leave. -/
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
/-- Every other buffer is as before. -/
theorem B2_other (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- A buffer that is no output of pipeline 0 keeps its contents across it. -/
theorem B2_of (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    exact (B2_arr m ρ c w).trans (((dat0 (U1 m ρ) c).arrAt_in w (h w rfl) _).trans (A_eq0 (U1 m ρ) c w))
  · exact B2_other m ρ c r fun w e => hw ⟨w, e⟩
/-- No argument is an output of the pipeline. -/
theorem args_region0 : ∀ a ∈ theArgs, ∀ w : Fin cfg0.W, Pipeline.arrRef spec0 w = a → (cfg0.win w).isOut = false :=
  ListAll.forall_mem_of_all_decide (by decide +kernel)
/-- The arguments are unchanged there. -/
theorem B2_args (c : Dev nD) : ∀ a ∈ theArgs, B2 m ρ c (Proc.devRef .tc a) = m ((c : Thread nD τ).loc a) :=
  fun a ha => (B2_of m ρ c a (args_region0 a ha)).trans (B1_args m ρ c a ha)
/-- The same, read at a core's references. -/
abbrev U2 : (c : Dev nD) → (b : Ref sig .tc) → Buf (Elt F) ((c : Thread nD τ).loc b) := fun c b => B2 m ρ c b
/-- What the pipeline leaves in its arrays. -/
theorem left_arr0 (c : Dev nD) (w : Fin cfg0.W) : (dat0 (U1 m ρ) c).arrAt w cfg0.N = U2 m ρ c (Pipeline.arrRef spec0 w) :=
  (B2_arr m ρ c w).symm
/-- What it leaves in the other buffers. -/
theorem left_rest0 (c : Dev nD) : ∀ b, b ∉ Finset.univ.image (Pipeline.arrRef spec0) → U2 m ρ c b = U1 m ρ c b :=
  fun b hb => B2_other m ρ c b fun w e => hb (Finset.mem_image.mpr ⟨w, Finset.mem_univ _, e⟩)

/-- The buffers after pipeline 1: its arrays at what its write-backs leave, every other buffer as before. -/
def B3 (c : Dev nD) : Valuation τ sig (Elt F) :=
  Pipeline.withArrays spec1 c (B2 m ρ c) fun w => (dat1 (U2 m ρ) c).arrAt w cfg1.N
/-- The pipeline's arrays are what its write-backs leave. -/
theorem B3_arr (c : Dev nD) (w : Fin cfg1.W) :
    B3 m ρ c (Proc.devRef .tc (Pipeline.arrRef spec1 w)) = (dat1 (U2 m ρ) c).arrAt w cfg1.N := by
  unfold B3; exact Pipeline.withArrays_arr spec1 launch1.win.arr_inj c _ _ w
/-- Every other buffer is as before. -/
theorem B3_other (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
/-- A buffer that is no output of pipeline 1 keeps its contents across it. -/
theorem B3_of (c : Dev nD) (r : Ref sig .tc) (h : ∀ w : Fin cfg1.W, Pipeline.arrRef spec1 w = r → (cfg1.win w).isOut = false) :
    B3 m ρ c (Proc.devRef .tc r) = B2 m ρ c (Proc.devRef .tc r) := by
  by_cases hw : ∃ w : Fin cfg1.W, Pipeline.arrRef spec1 w = r
  · obtain ⟨w, rfl⟩ := hw
    exact (B3_arr m ρ c w).trans (((dat1 (U2 m ρ) c).arrAt_in w (h w rfl) _).trans (A_eq1 (U2 m ρ) c w))
  · exact B3_other m ρ c r fun w e => hw ⟨w, e⟩
/-- No argument is an output of the pipeline. -/
theorem args_region1 : ∀ a ∈ theArgs, ∀ w : Fin cfg1.W, Pipeline.arrRef spec1 w = a → (cfg1.win w).isOut = false :=
  ListAll.forall_mem_of_all_decide (by decide +kernel)
/-- The arguments are unchanged there. -/
theorem B3_args (c : Dev nD) : ∀ a ∈ theArgs, B3 m ρ c (Proc.devRef .tc a) = m ((c : Thread nD τ).loc a) :=
  fun a ha => (B3_of m ρ c a (args_region1 a ha)).trans (B2_args m ρ c a ha)
/-- The same, read at a core's references. -/
abbrev U3 : (c : Dev nD) → (b : Ref sig .tc) → Buf (Elt F) ((c : Thread nD τ).loc b) := fun c b => B3 m ρ c b
/-- What the pipeline leaves in its arrays. -/
theorem left_arr1 (c : Dev nD) (w : Fin cfg1.W) : (dat1 (U2 m ρ) c).arrAt w cfg1.N = U3 m ρ c (Pipeline.arrRef spec1 w) :=
  (B3_arr m ρ c w).symm
/-- What it leaves in the other buffers. -/
theorem left_rest1 (c : Dev nD) : ∀ b, b ∉ Finset.univ.image (Pipeline.arrRef spec1) → U3 m ρ c b = U2 m ρ c b :=
  fun b hb => B3_other m ρ c b fun w e => hb (Finset.mem_image.mpr ⟨w, Finset.mem_univ _, e⟩)

/-! ## The pipelines and host lines as segments -/

/-- No pipeline has a prefetched table. -/
abbrev adm : (p : Fin 2) → (pcfgs (F := F) p).Adm := fun p => (cfgs p).toPCfg_adm
/-- The proof data of every pipeline. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
/-- No core owes another anything. -/
abbrev noL : GSem nD τ sig → Finset Unit := fun _ => ∅
/-- No counter is waited for between pipelines. -/
abbrev noLv : GSem nD τ sig → Unit → ℕ := fun _ _ => 0
/-- What rides along beside the buffers: the generator register, and nothing owed. -/
abbrev Rest (c : Dev nD) : sProp (Res F) := iprop((∃ r, prngReg c r) ∗ ∃ W, owes (c : Thread nD τ) (0 : CellTallies nD τ sig Unit) W)
/-- A host stretch as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- Every buffer that outlives the pipelines is among those held. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Final (c : Dev nD) : sProp (Res F) := iprop(StableHlo.held (c : Thread nD τ) (Pipeline.ucRefs τ sig) (B3 m ρ c) ∗ ∃ r, prngReg c r)

set_option backward.isDefEq.respectTransparency.types false in
/-- Pipeline 0 as a segment: from the buffers at `B1` to the buffers at `B2`. -/
def seg_region0 : Pipeline.RegionSeg (pcfgs (F := F)) adm (pdats m ρ) () defs₀ Variants.none noL noLv 0 where
  win := launch0.win.to₀
  block_pos := launch0.block_pos
  stage_whole := launch0.stage_whole
  K := PEmpty
  osem k := k.elim
  ho := Pipeline.OwnSemFacts.none _
  hbody c := (obligation0 (U1 m ρ) c).loose
  hwaits := Pipeline.hwaits_of_owed_zero _ _ _ _ noL noLv 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (left_arr0 m ρ c) (left_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment: from the buffers at `B2` to the buffers at `B3`. -/
def seg_region1 : Pipeline.RegionSeg (pcfgs (F := F)) adm (pdats m ρ) () defs₀ Variants.none noL noLv 1 where
  win := launch1.win.to₀
  block_pos := launch1.block_pos
  stage_whole := launch1.stage_whole
  K := PEmpty
  osem k := k.elim
  ho := Pipeline.OwnSemFacts.none _
  hbody c := (obligation1 (U2 m ρ) c).loose
  hwaits := Pipeline.hwaits_of_owed_zero _ _ _ _ noL noLv 1 fun _ _ => rfl
  pre c := iprop(StableHlo.held (c : Thread nD τ) (Pipeline.ucRefs τ sig) (B2 m ρ c) ∗ Rest c)
  post c := iprop(Final m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) (A_eq1 (U2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (left_arr1 m ρ c) (left_rest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ Variants.none noL noLv) :=
  [ .host (hostSeg hostOps0 hostOps0_sub hostOps0_fresh (B0 m ρ)),
    .region (seg_region0 m ρ),
    .region (seg_region1 m ρ) ]
/-- The program is its stretches and pipelines in order. -/
theorem main_segs (c : Dev nD) : main (F := F) c = Pipeline.Seg.run (segs m ρ) := (main_chain c).trans (by chain_rfl)
/-- Every counter belongs to a pipeline. -/
theorem all_scoped : ∀ sm : SemLoc sig, sm.isScoped .tc = true := by decide

set_option backward.isDefEq.respectTransparency.types false in
/-- From any memory the program ends without a fault, every counter at zero and every unscoped buffer at `B3`. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = B3 m ρ c b) ∧ r.2.sem = fun _ => 0) :=
  Pipeline.θ_run_regions_kit_sems (pcfgs (F := F)) adm (pdats m ρ) () cellOf_inj emb₁ defs₀ Variants.none noL noLv m ρ main (segs m ρ)
    (fun c Q => by rw [main_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (B0 m ρ c) ∗ Rest c)) (Tₙ := Final m ρ)
    (hch := ⟨fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h hz => ⟨h, funext fun g => hz g (.inr (all_scoped g.2))⟩)

end Cert.KernelIdeal.Attn

end
-- ==== Proof.AttnMath.lean ====
module

public import Idealize.ShloMosaic.PureOps.Ideal
public import Idealize.ShloMosaic.Lib.Pipeline.ValueKit
public import Idealize.ShloMosaic.Lib.Pointwise
public import Idealize.ShloMosaic.Lib.IdealHost
public import Idealize.ShloMosaic.Lib.WordCmp

@[expose] public section

noncomputable section

namespace Cert.Reals

open Idealize.ShloMosaic
open Finset (range)

/-! # Real numbers inside the extended reals

Every array of the two programs, started from finite arguments, holds real numbers (or `⊥` where a score is masked).
These lemmas carry an operation on such values to the operation on the reals. -/

/-- A finite sum of reals. -/
theorem coe_sum {ι : Type} (s : Finset ι) (f : ι → ℝ) : ∑ b ∈ s, ((f b : ℝ) : EReal) = ((∑ b ∈ s, f b : ℝ) : EReal) := by
  classical
  induction s using Finset.induction_on with
  | empty => simp
  | insert a s ha ih => rw [Finset.sum_insert ha, Finset.sum_insert ha, ih, EReal.coe_add]

/-- A sum over `Fin n` of reals read at the index's number. -/
theorem coe_sum_range {n : ℕ} (f : ℕ → ℝ) : ∑ b : Fin n, ((f b.val : ℝ) : EReal) = ((∑ b ∈ range n, f b : ℝ) : EReal) := by
  rw [coe_sum, Finset.sum_range]

/-- A real quotient whose divisor is not zero. -/
theorem div_coe (x : ℝ) {y : ℝ} (hy : y ≠ 0) : Ideal.div (x : EReal) (y : EReal) = ((x / y : ℝ) : EReal) := by
  have : (y : EReal) ≠ 0 := by exact_mod_cast hy
  simp only [Ideal.div, this, if_false]
  rw [div_eq_mul_inv, EReal.coe_mul, EReal.coe_inv]

/-- The exponential of a real. -/
theorem exp_coe (x : ℝ) : Ideal.exp (x : EReal) = ((Real.exp x : ℝ) : EReal) := rfl

/-- The exponential of `⊥`. -/
theorem exp_bot : Ideal.exp ⊥ = 0 := rfl

/-- The logarithm of a positive real. -/
theorem log_coe {x : ℝ} (hx : 0 < x) : Ideal.log (x : EReal) = ((Real.log x : ℝ) : EReal) := by
  show (if x ≤ 0 then (⊥ : EReal) else _) = _
  rw [if_neg (not_le.mpr hx)]

/-- A value that is neither infinity is the real it names. -/
theorem coe_toReal_of {x : EReal} (h1 : ⊥ < x) (h2 : x < ⊤) : ((x.toReal : ℝ) : EReal) = x :=
  EReal.coe_toReal h2.ne h1.ne'

/-- The largest of `f 0, …, f i`. -/
def rowMax (f : ℕ → ℝ) (i : ℕ) : ℝ := (range (i + 1)).sup' Finset.nonempty_range_add_one f

/-- The maximum of a row whose entries past `i` are `⊥`. -/
theorem fold_max_masked {n : ℕ} (f : ℕ → ℝ) {i : ℕ} (hi : i < n) :
    Finset.univ.fold max (⊥ : EReal) (fun b : Fin n => if b.val ≤ i then ((f b.val : ℝ) : EReal) else ⊥)
      = ((rowMax f i : ℝ) : EReal) := by
  apply le_antisymm
  · rw [Finset.fold_max_le]
    refine ⟨bot_le, fun b _ => ?_⟩
    split
    · next h =>
      exact EReal.coe_le_coe_iff.mpr (Finset.le_sup' f (Finset.mem_range.mpr (by omega)))
    · exact bot_le
  · obtain ⟨j, hj, e⟩ := Finset.exists_mem_eq_sup' (s := range (i + 1)) Finset.nonempty_range_add_one f
    rw [rowMax, e, Finset.le_fold_max]
    have hj' := Finset.mem_range.mp hj
    refine .inr ⟨⟨j, by omega⟩, Finset.mem_univ _, ?_⟩
    rw [if_pos (by show j ≤ i; omega)]

/-- A row sum that stops contributing past `i`. -/
theorem sum_prefix {n : ℕ} (f : ℕ → ℝ) {i : ℕ} (hi : i < n) (hf : ∀ j, i < j → f j = 0) :
    ∑ j ∈ range n, f j = ∑ j ∈ range (i + 1), f j := by
  symm
  apply Finset.sum_subset
  · intro x hx; simp only [Finset.mem_range] at *; omega
  · intro x _ hx; simp only [Finset.mem_range] at *; exact hf x (by omega)

/-! # Masked softmax attention of one head and its gradient, over the reals -/

variable (c : ℝ) (q k v g : ℕ → ℕ → ℝ)

/-- The scaled score of query `i` and key `j`. -/
def score (i j : ℕ) : ℝ := (∑ d ∈ range 256, q i d * k j d) * c

/-- The exponential of a score less its row's maximum; zero where masked. -/
def wgt (i j : ℕ) : ℝ := if j ≤ i then Real.exp (score c q k i j - rowMax (score c q k i) i) else 0

/-- The row's normalizer. -/
def norm (i : ℕ) : ℝ := ∑ j ∈ range (i + 1), wgt c q k i j

/-- The softmax weight. -/
def prob (i j : ℕ) : ℝ := wgt c q k i j / norm c q k i

/-- The head's output. -/
def outv (i d : ℕ) : ℝ := ∑ j ∈ range (i + 1), prob c q k i j * v j d

/-- The logarithm of the row's sum of exponentials. -/
def lse (i : ℕ) : ℝ := rowMax (score c q k i) i + Real.log (norm c q k i)

/-- The cotangent of a softmax weight. -/
def dprob (i j : ℕ) : ℝ := ∑ d ∈ range 128, g i d * v j d

/-- The row's correction: the cotangent against the output. -/
def corr (i : ℕ) : ℝ := ∑ d ∈ range 128, g i d * outv c q k v i d

/-- The cotangent of an unscaled score. -/
def dscore (i j : ℕ) : ℝ := prob c q k i j * (dprob v g i j - corr c q k v g i) * c

/-- The gradient of a query. -/
def dq (i d : ℕ) : ℝ := ∑ j ∈ range (i + 1), dscore c q k v g i j * k j d

/-- The gradient of a key. -/
def dk (j d : ℕ) : ℝ := ∑ i ∈ range 2048, dscore c q k v g i j * q i d

/-- The gradient of a value. -/
def dv (j d : ℕ) : ℝ := ∑ i ∈ range 2048, prob c q k i j * g i d

variable {c q k v g}

/-- A later key has no weight. -/
theorem wgt_zero {i j : ℕ} (h : i < j) : wgt c q k i j = 0 := if_neg (by omega)

/-- Weights are not negative. -/
theorem wgt_nonneg (i j : ℕ) : 0 ≤ wgt c q k i j := by
  unfold wgt; split
  · exact (Real.exp_pos _).le
  · exact le_rfl

/-- The normalizer is positive. -/
theorem norm_pos (i : ℕ) : 0 < norm c q k i := by
  refine Finset.sum_pos (fun j hj => ?_) Finset.nonempty_range_add_one
  rw [wgt, if_pos (by have := Finset.mem_range.mp hj; omega)]
  exact Real.exp_pos _

/-- It is not zero. -/
theorem norm_ne (i : ℕ) : norm c q k i ≠ 0 := (norm_pos i).ne'

/-- A later key has probability zero. -/
theorem prob_zero {i j : ℕ} (h : i < j) : prob c q k i j = 0 := by rw [prob, wgt_zero h, zero_div]

/-- A later key's score has gradient zero. -/
theorem dscore_zero {i j : ℕ} (h : i < j) : dscore c q k v g i j = 0 := by rw [dscore, prob_zero h, zero_mul, zero_mul]

/-- The weight from the saved logarithm. -/
theorem prob_lse {i j : ℕ} (h : j ≤ i) : Real.exp (score c q k i j - lse c q k i) = prob c q k i j := by
  rw [prob, wgt, if_pos h, lse, ← sub_sub, Real.exp_sub, Real.exp_log (norm_pos i)]

/-- The correction is the weighted mean of the weights' cotangents. -/
theorem corr_eq (i : ℕ) : corr c q k v g i = ∑ j ∈ range (i + 1), prob c q k i j * dprob v g i j := by
  simp only [corr, outv, dprob, Finset.mul_sum]
  rw [Finset.sum_comm]
  exact Finset.sum_congr rfl fun j _ => Finset.sum_congr rfl fun d _ => by ring

/-- The cotangent of a score as the derivative of the quotient by the normalizer gives it. -/
theorem dscore_quotient (i j : ℕ) :
    (dprob v g i j / norm c q k i + -∑ b ∈ range (i + 1), dprob v g i b * (1 / (norm c q k i * norm c q k i)) * wgt c q k i b)
      * wgt c q k i j * c = dscore c q k v g i j := by
  rw [dscore, corr_eq]
  have hz := norm_ne (c := c) (q := q) (k := k) i
  have : ∑ b ∈ range (i + 1), dprob v g i b * (1 / (norm c q k i * norm c q k i)) * wgt c q k i b
      = (∑ b ∈ range (i + 1), prob c q k i b * dprob v g i b) / norm c q k i := by
    rw [Finset.sum_div]
    refine Finset.sum_congr rfl fun b _ => ?_
    rw [prob]; field_simp
  rw [this, prob]; field_simp; ring

/-- The scale factor as a real. -/
def scale : ℝ := (Ideal.ofBits .f32 0x3D93CD3A#32).toReal

/-- The scale as an extended real. -/
theorem coe_scale : ((scale : ℝ) : EReal) = Ideal.ofBits .f32 0x3D93CD3A#32 := by
  unfold scale
  apply coe_toReal_of <;> · simp [Ideal.ofBits, Ideal.ieee, ← EReal.coe_mul]

/-- The pattern the masked scores carry is `⊥`. -/
theorem ofBits_neg_inf : Ideal.ofBits .f32 0xFF800000#32 = ⊥ := by simp [Ideal.ofBits, Ideal.ieee]

/-- Row `a` of tile `r`. -/
def row (r a : ℕ) : ℕ := 512 * r + a

/-- The causal mask at a row of tile `r` and a column, read as the comparison of the numbers. -/
theorem mask_tile {φ : FTy} {w : BitVec 32} {r a b : ℕ} (hw : w = BitVec.ofNat 32 r) (hr : r < 4) (ha : a < 512) (hb : b < 2048)
    (x y : Ideal φ) :
    Scalar.select (IntOp.cmpi .sge (IntOp.addi (Scalar.muli w 512#32) (BitVec.ofNat 32 a)) (BitVec.ofNat 32 b)) x y
      = if b ≤ row r a then x else y := by
  have e : IntOp.addi (Scalar.muli w 512#32) (BitVec.ofNat 32 a) = BitVec.ofNat 32 (512 * r + a) := by
    subst hw
    show BitVec.ofNat 32 r * BitVec.ofNat 32 512 + BitVec.ofNat 32 a = _
    rw [← BitVec.ofNat_mul, ← BitVec.ofNat_add, Nat.mul_comm]
  rw [e, row]
  simp (disch := omega) only [hlo_ix, ge_iff_le]

/-- A masked row's sum over `n` columns past the diagonal. -/
theorem sum_masked {n : ℕ} (f : ℕ → ℝ) {i : ℕ} (hi : i < n) (hf : ∀ j, i < j → f j = 0) :
    ∑ b : Fin n, ((f b.val : ℝ) : EReal) = ((∑ j ∈ range (i + 1), f j : ℝ) : EReal) := by
  rw [coe_sum_range, sum_prefix f hi hf]

/-- The exponential of a masked score less the row's maximum. -/
theorem exp_masked (c : ℝ) (q k : ℕ → ℕ → ℝ) (i j : ℕ) :
    Ideal.exp ((if j ≤ i then ((score c q k i j : ℝ) : EReal) else ⊥) - ((rowMax (score c q k i) i : ℝ) : EReal))
      = ((wgt c q k i j : ℝ) : EReal) := by
  by_cases h : j ≤ i
  · rw [if_pos h, ← EReal.coe_sub, exp_coe, wgt, if_pos h]
  · rw [if_neg h, wgt, if_neg h, EReal.bot_sub, exp_bot, EReal.coe_zero]

/-- The exponential of a masked score less the row's saved logarithm. -/
theorem exp_prob (c : ℝ) (q k : ℕ → ℕ → ℝ) (i j : ℕ) :
    Ideal.exp ((if j ≤ i then ((score c q k i j : ℝ) : EReal) else ⊥) - ((lse c q k i : ℝ) : EReal))
      = ((prob c q k i j : ℝ) : EReal) := by
  by_cases h : j ≤ i
  · rw [if_pos h, ← EReal.coe_sub, exp_coe, prob_lse h]
  · rw [if_neg h, prob_zero (by omega), EReal.bot_sub, exp_bot, EReal.coe_zero]

/-- The sum over the 512 rows of tile `r`. -/
def tileSum (r : ℕ) (f : ℕ → ℝ) : ℝ := ∑ a ∈ range 512, f (row r a)

/-- A sum over a tile's rows. -/
theorem tileSum_fin (r : ℕ) (f : ℕ → ℝ) : tileSum r f = ∑ a : Fin 512, f (row r a.val) := by
  rw [tileSum, Finset.sum_range]

/-- Four tiles make the whole column. -/
theorem tileSum_all (f : ℕ → ℝ) : tileSum 0 f + tileSum 1 f + tileSum 2 f + tileSum 3 f = ∑ i ∈ range 2048, f i := by
  simp only [tileSum, row]
  rw [show (2048 : ℕ) = 512 + 512 + 512 + 512 from rfl, Finset.sum_range_add, Finset.sum_range_add, Finset.sum_range_add]
  simp

/-- Columns `n h, n h + 1, …` of an array: one head. -/
def hd (n : ℕ) (A : ℕ → ℕ → ℝ) (h : ℕ) : ℕ → ℕ → ℝ := fun i d => A i (n * h + d)

/-- An array's elements as real numbers, read at any pair of numbers. -/
def at2 {R C : ℕ} (X : Fin R → Fin C → EReal) (i j : ℕ) : ℝ := if h : i < R ∧ j < C then (X ⟨i, h.1⟩ ⟨j, h.2⟩).toReal else 0

/-- A finite array as real numbers. -/
theorem at2_coe {R C : ℕ} (X : Fin R → Fin C → EReal) (h : ∀ i j, ⊥ < X i j ∧ X i j < ⊤) (i : Fin R) (j : Fin C) :
    X i j = ((at2 X i.val j.val : ℝ) : EReal) := by
  rw [at2, dif_pos ⟨i.isLt, j.isLt⟩, coe_toReal_of (h i j).1 (h i j).2]

end Cert.Reals

end
-- ==== Proof.BwdPay.lean ====
module

public import proofs.«01_k».proof.Proof.AttnMath
public import proofs.«01_k».proof.Proof.Gen.KernelIdeal.Skeleton
public import Idealize.ShloMosaic.Lib.Pipeline.ValueKit
public import Idealize.ShloMosaic.Lib.Pointwise

@[expose] public section

noncomputable section

namespace Cert.KernelIdeal.Attn

open Idealize.ShloMosaic Idealize.ShloMosaic.Tactic
open Cert.KernelIdeal Cert.KernelIdeal.Gen
open Cert.Reals

variable {q k v g : ℕ → ℕ → ℝ}

/-! # What the backward body computes on a tile, as real numbers -/

/-- Tile 0: the softmax weights, from the saved logarithm. -/
theorem bwd_prob0 {w : BitVec 32} (hw : w = BitVec.ofNat 32 0) (x : Vec Ideal S512x256 .bf16) (y : Vec Ideal S512x256 .bf16) (l : Vec Ideal S1x512x1 .f32)
    (hq : ∀ (a : Fin 512) (d : Fin 256), x (ix2 a d) = ((q (row 0 a.val) d.val : ℝ) : EReal))
    (hk : ∀ (a : Fin 512) (d : Fin 256), y (ix2 a d) = ((k (a.val) d.val : ℝ) : EReal))
    (hl : ∀ a : Fin 512, l (ix3 0 a 0) = ((lse scale q k (row 0 a.val) : ℝ) : EReal)) (a : Fin 512) (b : Fin 512) :
    k1_pay6 (F := Ideal) w x y l (ix2 a b) = ((prob scale q k (row 0 a.val) b.val : ℝ) : EReal) := by
  pointwise [k1_pay6, k1_pay3, k1_pay4]
  rw [mask_tile (r := 0) hw (by omega) a.isLt (by omega), ofBits_neg_inf, ← coe_scale]
  simp only [hq, hk, hl, ← EReal.coe_mul]
  rw [coe_sum_range (fun d => q (row 0 a.val) d * k b.val d), ← EReal.coe_mul]
  exact exp_prob ..

/-- Tile 0: the cotangents of the scores. -/
theorem bwd_dscore0 {w : BitVec 32} (hw : w = BitVec.ofNat 32 0) (x : Vec Ideal S512x256 .bf16) (y : Vec Ideal S512x256 .bf16) (z : Vec Ideal S512x128 .f32) (o : Vec Ideal S512x128 .f32) (l : Vec Ideal S1x512x1 .f32) (u : Vec Ideal S512x128 .bf16)
    (hq : ∀ (a : Fin 512) (d : Fin 256), x (ix2 a d) = ((q (row 0 a.val) d.val : ℝ) : EReal))
    (hk : ∀ (a : Fin 512) (d : Fin 256), y (ix2 a d) = ((k (a.val) d.val : ℝ) : EReal))
    (hl : ∀ a : Fin 512, l (ix3 0 a 0) = ((lse scale q k (row 0 a.val) : ℝ) : EReal))
    (hg : ∀ (a : Fin 512) (d : Fin 128), z (ix2 a d) = ((g (row 0 a.val) d.val : ℝ) : EReal))
    (ho : ∀ (a : Fin 512) (d : Fin 128), o (ix2 a d) = ((outv scale q k v (row 0 a.val) d.val : ℝ) : EReal))
    (hv : ∀ (a : Fin 512) (d : Fin 128), u (ix2 a d) = ((v (a.val) d.val : ℝ) : EReal)) (a : Fin 512) (b : Fin 512) :
    k1_pay7 (F := Ideal) w x y z o l u (ix2 a b) = ((dscore scale q k v g (row 0 a.val) b.val : ℝ) : EReal) := by
  pointwise [k1_pay7, k1_pay5]
  rw [bwd_prob0 hw x y l hq hk hl, ← coe_scale]
  simp only [hg, ho, hv, ← EReal.coe_mul]
  rw [coe_sum_range (fun d => g (row 0 a.val) d * v b.val d), coe_sum_range (fun d => g (row 0 a.val) d * outv scale q k v (row 0 a.val) d),
    ← EReal.coe_sub, ← EReal.coe_mul, ← EReal.coe_mul]
  rfl

/-- Tile 0: the gradient of the queries. -/
theorem bwd_dq0 {w : BitVec 32} (hw : w = BitVec.ofNat 32 0) (x : Vec Ideal S512x256 .bf16) (y : Vec Ideal S512x256 .bf16) (z : Vec Ideal S512x128 .f32) (o : Vec Ideal S512x128 .f32) (l : Vec Ideal S1x512x1 .f32) (u : Vec Ideal S512x128 .bf16)
    (hq : ∀ (a : Fin 512) (d : Fin 256), x (ix2 a d) = ((q (row 0 a.val) d.val : ℝ) : EReal))
    (hk : ∀ (a : Fin 512) (d : Fin 256), y (ix2 a d) = ((k (a.val) d.val : ℝ) : EReal))
    (hl : ∀ a : Fin 512, l (ix3 0 a 0) = ((lse scale q k (row 0 a.val) : ℝ) : EReal))
    (hg : ∀ (a : Fin 512) (d : Fin 128), z (ix2 a d) = ((g (row 0 a.val) d.val : ℝ) : EReal))
    (ho : ∀ (a : Fin 512) (d : Fin 128), o (ix2 a d) = ((outv scale q k v (row 0 a.val) d.val : ℝ) : EReal))
    (hv : ∀ (a : Fin 512) (d : Fin 128), u (ix2 a d) = ((v (a.val) d.val : ℝ) : EReal)) (a : Fin 512) (d : Fin 256) :
    k1_pay8 (F := Ideal) w x y z o l u (ix2 a d) = ((dq scale q k v g (row 0 a.val) d.val : ℝ) : EReal) := by
  pointwise [k1_pay8, k1_pay4]
  simp only [bwd_dscore0 hw x y z o l u hq hk hl hg ho hv, hk, ← EReal.coe_mul]
  exact sum_masked (fun b => dscore scale q k v g (row 0 a.val) b * k b d.val) (show row 0 a.val < 512 by have := a.isLt; unfold row; omega) fun j h => by
    show dscore scale q k v g _ j * _ = 0
    rw [dscore_zero h, zero_mul]

/-- Tile 0: what a key's gradient gains. -/
theorem bwd_dk0 {w : BitVec 32} (hw : w = BitVec.ofNat 32 0) (x : Vec Ideal S512x256 .bf16) (y : Vec Ideal S512x256 .bf16) (z : Vec Ideal S512x128 .f32) (o : Vec Ideal S512x128 .f32) (l : Vec Ideal S1x512x1 .f32) (u : Vec Ideal S512x128 .bf16)
    (hq : ∀ (a : Fin 512) (d : Fin 256), x (ix2 a d) = ((q (row 0 a.val) d.val : ℝ) : EReal))
    (hk : ∀ (a : Fin 512) (d : Fin 256), y (ix2 a d) = ((k (a.val) d.val : ℝ) : EReal))
    (hl : ∀ a : Fin 512, l (ix3 0 a 0) = ((lse scale q k (row 0 a.val) : ℝ) : EReal))
    (hg : ∀ (a : Fin 512) (d : Fin 128), z (ix2 a d) = ((g (row 0 a.val) d.val : ℝ) : EReal))
    (ho : ∀ (a : Fin 512) (d : Fin 128), o (ix2 a d) = ((outv scale q k v (row 0 a.val) d.val : ℝ) : EReal))
    (hv : ∀ (a : Fin 512) (d : Fin 128), u (ix2 a d) = ((v (a.val) d.val : ℝ) : EReal))
    (X : Vec Ideal S512x256 .f32) (T : ℕ → ℕ → ℝ) (hX : ∀ (b : Fin 512) (d : Fin 256), X (ix2 b d) = ((T b.val d.val : ℝ) : EReal))
    (b : Fin 512) (d : Fin 256) :
    k1_pay29 (F := Ideal) (k1_pay3 x) (k1_pay7 w x y z o l u) X (ix2 b d)
      = ((T b.val d.val + tileSum 0 (fun i => dscore scale q k v g i b.val * q i d.val) : ℝ) : EReal) := by
  pointwise [k1_pay29, k1_pay3]
  simp only [bwd_dscore0 hw x y z o l u hq hk hl hg ho hv, hX, hq, ← EReal.coe_mul]
  rw [coe_sum, ← EReal.coe_add, tileSum_fin]

/-- Tile 0: what a value's gradient gains. -/
theorem bwd_dv0 {w : BitVec 32} (hw : w = BitVec.ofNat 32 0) (x : Vec Ideal S512x256 .bf16) (y : Vec Ideal S512x256 .bf16) (l : Vec Ideal S1x512x1 .f32)
    (hq : ∀ (a : Fin 512) (d : Fin 256), x (ix2 a d) = ((q (row 0 a.val) d.val : ℝ) : EReal))
    (hk : ∀ (a : Fin 512) (d : Fin 256), y (ix2 a d) = ((k (a.val) d.val : ℝ) : EReal))
    (hl : ∀ a : Fin 512, l (ix3 0 a 0) = ((lse scale q k (row 0 a.val) : ℝ) : EReal))
    (z : Vec Ideal S512x128 .f32) (hg : ∀ (a : Fin 512) (d : Fin 128), z (ix2 a d) = ((g (row 0 a.val) d.val : ℝ) : EReal))
    (X : Vec Ideal S512x128 .f32) (T : ℕ → ℕ → ℝ) (hX : ∀ (b : Fin 512) (d : Fin 128), X (ix2 b d) = ((T b.val d.val : ℝ) : EReal))
    (b : Fin 512) (d : Fin 128) :
    k1_pay30 (F := Ideal) (k1_pay5 z) (k1_pay6 w x y l) X (ix2 b d)
      = ((T b.val d.val + tileSum 0 (fun i => prob scale q k i b.val * g i d.val) : ℝ) : EReal) := by
  pointwise [k1_pay30, k1_pay5]
  simp only [bwd_prob0 hw x y l hq hk hl, hX, hg, ← EReal.coe_mul]
  rw [coe_sum, ← EReal.coe_add, tileSum_fin]

/-- Tile 1: the softmax weights, from the saved logarithm. -/
theorem bwd_prob1 {w : BitVec 32} (hw : w = BitVec.ofNat 32 1) (x : Vec Ideal S512x256 .bf16) (y : Vec Ideal S1024x256 .bf16) (l : Vec Ideal S1x512x1 .f32)
    (hq : ∀ (a : Fin 512) (d : Fin 256), x (ix2 a d) = ((q (row 1 a.val) d.val : ℝ) : EReal))
    (hk : ∀ (a : Fin 1024) (d : Fin 256), y (ix2 a d) = ((k (a.val) d.val : ℝ) : EReal))
    (hl : ∀ a : Fin 512, l (ix3 0 a 0) = ((lse scale q k (row 1 a.val) : ℝ) : EReal)) (a : Fin 512) (b : Fin 1024) :
    k1_pay12 (F := Ideal) w x y l (ix2 a b) = ((prob scale q k (row 1 a.val) b.val : ℝ) : EReal) := by
  pointwise [k1_pay12, k1_pay9, k1_pay10]
  rw [mask_tile (r := 1) hw (by omega) a.isLt (by omega), ofBits_neg_inf, ← coe_scale]
  simp only [hq, hk, hl, ← EReal.coe_mul]
  rw [coe_sum_range (fun d => q (row 1 a.val) d * k b.val d), ← EReal.coe_mul]
  exact exp_prob ..

/-- Tile 1: the cotangents of the scores. -/
theorem bwd_dscore1 {w : BitVec 32} (hw : w = BitVec.ofNat 32 1) (x : Vec Ideal S512x256 .bf16) (y : Vec Ideal S1024x256 .bf16) (z : Vec Ideal S512x128 .f32) (o : Vec Ideal S512x128 .f32) (l : Vec Ideal S1x512x1 .f32) (u : Vec Ideal S1024x128 .bf16)
    (hq : ∀ (a : Fin 512) (d : Fin 256), x (ix2 a d) = ((q (row 1 a.val) d.val : ℝ) : EReal))
    (hk : ∀ (a : Fin 1024) (d : Fin 256), y (ix2 a d) = ((k (a.val) d.val : ℝ) : EReal))
    (hl : ∀ a : Fin 512, l (ix3 0 a 0) = ((lse scale q k (row 1 a.val) : ℝ) : EReal))
    (hg : ∀ (a : Fin 512) (d : Fin 128), z (ix2 a d) = ((g (row 1 a.val) d.val : ℝ) : EReal))
    (ho : ∀ (a : Fin 512) (d : Fin 128), o (ix2 a d) = ((outv scale q k v (row 1 a.val) d.val : ℝ) : EReal))
    (hv : ∀ (a : Fin 1024) (d : Fin 128), u (ix2 a d) = ((v (a.val) d.val : ℝ) : EReal)) (a : Fin 512) (b : Fin 1024) :
    k1_pay13 (F := Ideal) w x y z o l u (ix2 a b) = ((dscore scale q k v g (row 1 a.val) b.val : ℝ) : EReal) := by
  pointwise [k1_pay13, k1_pay11]
  rw [bwd_prob1 hw x y l hq hk hl, ← coe_scale]
  simp only [hg, ho, hv, ← EReal.coe_mul]
  rw [coe_sum_range (fun d => g (row 1 a.val) d * v b.val d), coe_sum_range (fun d => g (row 1 a.val) d * outv scale q k v (row 1 a.val) d),
    ← EReal.coe_sub, ← EReal.coe_mul, ← EReal.coe_mul]
  rfl

/-- Tile 1: the gradient of the queries. -/
theorem bwd_dq1 {w : BitVec 32} (hw : w = BitVec.ofNat 32 1) (x : Vec Ideal S512x256 .bf16) (y : Vec Ideal S1024x256 .bf16) (z : Vec Ideal S512x128 .f32) (o : Vec Ideal S512x128 .f32) (l : Vec Ideal S1x512x1 .f32) (u : Vec Ideal S1024x128 .bf16)
    (hq : ∀ (a : Fin 512) (d : Fin 256), x (ix2 a d) = ((q (row 1 a.val) d.val : ℝ) : EReal))
    (hk : ∀ (a : Fin 1024) (d : Fin 256), y (ix2 a d) = ((k (a.val) d.val : ℝ) : EReal))
    (hl : ∀ a : Fin 512, l (ix3 0 a 0) = ((lse scale q k (row 1 a.val) : ℝ) : EReal))
    (hg : ∀ (a : Fin 512) (d : Fin 128), z (ix2 a d) = ((g (row 1 a.val) d.val : ℝ) : EReal))
    (ho : ∀ (a : Fin 512) (d : Fin 128), o (ix2 a d) = ((outv scale q k v (row 1 a.val) d.val : ℝ) : EReal))
    (hv : ∀ (a : Fin 1024) (d : Fin 128), u (ix2 a d) = ((v (a.val) d.val : ℝ) : EReal)) (a : Fin 512) (d : Fin 256) :
    k1_pay14 (F := Ideal) w x y z o l u (ix2 a d) = ((dq scale q k v g (row 1 a.val) d.val : ℝ) : EReal) := by
  pointwise [k1_pay14, k1_pay10]
  simp only [bwd_dscore1 hw x y z o l u hq hk hl hg ho hv, hk, ← EReal.coe_mul]
  exact sum_masked (fun b => dscore scale q k v g (row 1 a.val) b * k b d.val) (show row 1 a.val < 1024 by have := a.isLt; unfold row; omega) fun j h => by
    show dscore scale q k v g _ j * _ = 0
    rw [dscore_zero h, zero_mul]

/-- Tile 1: what a key's gradient gains. -/
theorem bwd_dk1 {w : BitVec 32} (hw : w = BitVec.ofNat 32 1) (x : Vec Ideal S512x256 .bf16) (y : Vec Ideal S1024x256 .bf16) (z : Vec Ideal S512x128 .f32) (o : Vec Ideal S512x128 .f32) (l : Vec Ideal S1x512x1 .f32) (u : Vec Ideal S1024x128 .bf16)
    (hq : ∀ (a : Fin 512) (d : Fin 256), x (ix2 a d) = ((q (row 1 a.val) d.val : ℝ) : EReal))
    (hk : ∀ (a : Fin 1024) (d : Fin 256), y (ix2 a d) = ((k (a.val) d.val : ℝ) : EReal))
    (hl : ∀ a : Fin 512, l (ix3 0 a 0) = ((lse scale q k (row 1 a.val) : ℝ) : EReal))
    (hg : ∀ (a : Fin 512) (d : Fin 128), z (ix2 a d) = ((g (row 1 a.val) d.val : ℝ) : EReal))
    (ho : ∀ (a : Fin 512) (d : Fin 128), o (ix2 a d) = ((outv scale q k v (row 1 a.val) d.val : ℝ) : EReal))
    (hv : ∀ (a : Fin 1024) (d : Fin 128), u (ix2 a d) = ((v (a.val) d.val : ℝ) : EReal))
    (X : Vec Ideal S1024x256 .f32) (T : ℕ → ℕ → ℝ) (hX : ∀ (b : Fin 1024) (d : Fin 256), X (ix2 b d) = ((T b.val d.val : ℝ) : EReal))
    (b : Fin 1024) (d : Fin 256) :
    k1_pay31 (F := Ideal) (k1_pay9 x) (k1_pay13 w x y z o l u) X (ix2 b d)
      = ((T b.val d.val + tileSum 1 (fun i => dscore scale q k v g i b.val * q i d.val) : ℝ) : EReal) := by
  pointwise [k1_pay31, k1_pay9]
  simp only [bwd_dscore1 hw x y z o l u hq hk hl hg ho hv, hX, hq, ← EReal.coe_mul]
  rw [coe_sum, ← EReal.coe_add, tileSum_fin]

/-- Tile 1: what a value's gradient gains. -/
theorem bwd_dv1 {w : BitVec 32} (hw : w = BitVec.ofNat 32 1) (x : Vec Ideal S512x256 .bf16) (y : Vec Ideal S1024x256 .bf16) (l : Vec Ideal S1x512x1 .f32)
    (hq : ∀ (a : Fin 512) (d : Fin 256), x (ix2 a d) = ((q (row 1 a.val) d.val : ℝ) : EReal))
    (hk : ∀ (a : Fin 1024) (d : Fin 256), y (ix2 a d) = ((k (a.val) d.val : ℝ) : EReal))
    (hl : ∀ a : Fin 512, l (ix3 0 a 0) = ((lse scale q k (row 1 a.val) : ℝ) : EReal))
    (z : Vec Ideal S512x128 .f32) (hg : ∀ (a : Fin 512) (d : Fin 128), z (ix2 a d) = ((g (row 1 a.val) d.val : ℝ) : EReal))
    (X : Vec Ideal S1024x128 .f32) (T : ℕ → ℕ → ℝ) (hX : ∀ (b : Fin 1024) (d : Fin 128), X (ix2 b d) = ((T b.val d.val : ℝ) : EReal))
    (b : Fin 1024) (d : Fin 128) :
    k1_pay32 (F := Ideal) (k1_pay11 z) (k1_pay12 w x y l) X (ix2 b d)
      = ((T b.val d.val + tileSum 1 (fun i => prob scale q k i b.val * g i d.val) : ℝ) : EReal) := by
  pointwise [k1_pay32, k1_pay11]
  simp only [bwd_prob1 hw x y l hq hk hl, hX, hg, ← EReal.coe_mul]
  rw [coe_sum, ← EReal.coe_add, tileSum_fin]

/-- Tile 2: the softmax weights, from the saved logarithm. -/
theorem bwd_prob2 {w : BitVec 32} (hw : w = BitVec.ofNat 32 2) (x : Vec Ideal S512x256 .bf16) (y : Vec Ideal S1536x256 .bf16) (l : Vec Ideal S1x512x1 .f32)
    (hq : ∀ (a : Fin 512) (d : Fin 256), x (ix2 a d) = ((q (row 2 a.val) d.val : ℝ) : EReal))
    (hk : ∀ (a : Fin 1536) (d : Fin 256), y (ix2 a d) = ((k (a.val) d.val : ℝ) : EReal))
    (hl : ∀ a : Fin 512, l (ix3 0 a 0) = ((lse scale q k (row 2 a.val) : ℝ) : EReal)) (a : Fin 512) (b : Fin 1536) :
    k1_pay18 (F := Ideal) w x y l (ix2 a b) = ((prob scale q k (row 2 a.val) b.val : ℝ) : EReal) := by
  pointwise [k1_pay18, k1_pay15, k1_pay16]
  rw [mask_tile (r := 2) hw (by omega) a.isLt (by omega), ofBits_neg_inf, ← coe_scale]
  simp only [hq, hk, hl, ← EReal.coe_mul]
  rw [coe_sum_range (fun d => q (row 2 a.val) d * k b.val d), ← EReal.coe_mul]
  exact exp_prob ..

/-- Tile 2: the cotangents of the scores. -/
theorem bwd_dscore2 {w : BitVec 32} (hw : w = BitVec.ofNat 32 2) (x : Vec Ideal S512x256 .bf16) (y : Vec Ideal S1536x256 .bf16) (z : Vec Ideal S512x128 .f32) (o : Vec Ideal S512x128 .f32) (l : Vec Ideal S1x512x1 .f32) (u : Vec Ideal S1536x128 .bf16)
    (hq : ∀ (a : Fin 512) (d : Fin 256), x (ix2 a d) = ((q (row 2 a.val) d.val : ℝ) : EReal))
    (hk : ∀ (a : Fin 1536) (d : Fin 256), y (ix2 a d) = ((k (a.val) d.val : ℝ) : EReal))
    (hl : ∀ a : Fin 512, l (ix3 0 a 0) = ((lse scale q k (row 2 a.val) : ℝ) : EReal))
    (hg : ∀ (a : Fin 512) (d : Fin 128), z (ix2 a d) = ((g (row 2 a.val) d.val : ℝ) : EReal))
    (ho : ∀ (a : Fin 512) (d : Fin 128), o (ix2 a d) = ((outv scale q k v (row 2 a.val) d.val : ℝ) : EReal))
    (hv : ∀ (a : Fin 1536) (d : Fin 128), u (ix2 a d) = ((v (a.val) d.val : ℝ) : EReal)) (a : Fin 512) (b : Fin 1536) :
    k1_pay19 (F := Ideal) w x y z o l u (ix2 a b) = ((dscore scale q k v g (row 2 a.val) b.val : ℝ) : EReal) := by
  pointwise [k1_pay19, k1_pay17]
  rw [bwd_prob2 hw x y l hq hk hl, ← coe_scale]
  simp only [hg, ho, hv, ← EReal.coe_mul]
  rw [coe_sum_range (fun d => g (row 2 a.val) d * v b.val d), coe_sum_range (fun d => g (row 2 a.val) d * outv scale q k v (row 2 a.val) d),
    ← EReal.coe_sub, ← EReal.coe_mul, ← EReal.coe_mul]
  rfl

/-- Tile 2: the gradient of the queries. -/
theorem bwd_dq2 {w : BitVec 32} (hw : w = BitVec.ofNat 32 2) (x : Vec Ideal S512x256 .bf16) (y : Vec Ideal S1536x256 .bf16) (z : Vec Ideal S512x128 .f32) (o : Vec Ideal S512x128 .f32) (l : Vec Ideal S1x512x1 .f32) (u : Vec Ideal S1536x128 .bf16)
    (hq : ∀ (a : Fin 512) (d : Fin 256), x (ix2 a d) = ((q (row 2 a.val) d.val : ℝ) : EReal))
    (hk : ∀ (a : Fin 1536) (d : Fin 256), y (ix2 a d) = ((k (a.val) d.val : ℝ) : EReal))
    (hl : ∀ a : Fin 512, l (ix3 0 a 0) = ((lse scale q k (row 2 a.val) : ℝ) : EReal))
    (hg : ∀ (a : Fin 512) (d : Fin 128), z (ix2 a d) = ((g (row 2 a.val) d.val : ℝ) : EReal))
    (ho : ∀ (a : Fin 512) (d : Fin 128), o (ix2 a d) = ((outv scale q k v (row 2 a.val) d.val : ℝ) : EReal))
    (hv : ∀ (a : Fin 1536) (d : Fin 128), u (ix2 a d) = ((v (a.val) d.val : ℝ) : EReal)) (a : Fin 512) (d : Fin 256) :
    k1_pay20 (F := Ideal) w x y z o l u (ix2 a d) = ((dq scale q k v g (row 2 a.val) d.val : ℝ) : EReal) := by
  pointwise [k1_pay20, k1_pay16]
  simp only [bwd_dscore2 hw x y z o l u hq hk hl hg ho hv, hk, ← EReal.coe_mul]
  exact sum_masked (fun b => dscore scale q k v g (row 2 a.val) b * k b d.val) (show row 2 a.val < 1536 by have := a.isLt; unfold row; omega) fun j h => by
    show dscore scale q k v g _ j * _ = 0
    rw [dscore_zero h, zero_mul]

/-- Tile 2: what a key's gradient gains. -/
theorem bwd_dk2 {w : BitVec 32} (hw : w = BitVec.ofNat 32 2) (x : Vec Ideal S512x256 .bf16) (y : Vec Ideal S1536x256 .bf16) (z : Vec Ideal S512x128 .f32) (o : Vec Ideal S512x128 .f32) (l : Vec Ideal S1x512x1 .f32) (u : Vec Ideal S1536x128 .bf16)
    (hq : ∀ (a : Fin 512) (d : Fin 256), x (ix2 a d) = ((q (row 2 a.val) d.val : ℝ) : EReal))
    (hk : ∀ (a : Fin 1536) (d : Fin 256), y (ix2 a d) = ((k (a.val) d.val : ℝ) : EReal))
    (hl : ∀ a : Fin 512, l (ix3 0 a 0) = ((lse scale q k (row 2 a.val) : ℝ) : EReal))
    (hg : ∀ (a : Fin 512) (d : Fin 128), z (ix2 a d) = ((g (row 2 a.val) d.val : ℝ) : EReal))
    (ho : ∀ (a : Fin 512) (d : Fin 128), o (ix2 a d) = ((outv scale q k v (row 2 a.val) d.val : ℝ) : EReal))
    (hv : ∀ (a : Fin 1536) (d : Fin 128), u (ix2 a d) = ((v (a.val) d.val : ℝ) : EReal))
    (X : Vec Ideal S1536x256 .f32) (T : ℕ → ℕ → ℝ) (hX : ∀ (b : Fin 1536) (d : Fin 256), X (ix2 b d) = ((T b.val d.val : ℝ) : EReal))
    (b : Fin 1536) (d : Fin 256) :
    k1_pay33 (F := Ideal) (k1_pay15 x) (k1_pay19 w x y z o l u) X (ix2 b d)
      = ((T b.val d.val + tileSum 2 (fun i => dscore scale q k v g i b.val * q i d.val) : ℝ) : EReal) := by
  pointwise [k1_pay33, k1_pay15]
  simp only [bwd_dscore2 hw x y z o l u hq hk hl hg ho hv, hX, hq, ← EReal.coe_mul]
  rw [coe_sum, ← EReal.coe_add, tileSum_fin]

/-- Tile 2: what a value's gradient gains. -/
theorem bwd_dv2 {w : BitVec 32} (hw : w = BitVec.ofNat 32 2) (x : Vec Ideal S512x256 .bf16) (y : Vec Ideal S1536x256 .bf16) (l : Vec Ideal S1x512x1 .f32)
    (hq : ∀ (a : Fin 512) (d : Fin 256), x (ix2 a d) = ((q (row 2 a.val) d.val : ℝ) : EReal))
    (hk : ∀ (a : Fin 1536) (d : Fin 256), y (ix2 a d) = ((k (a.val) d.val : ℝ) : EReal))
    (hl : ∀ a : Fin 512, l (ix3 0 a 0) = ((lse scale q k (row 2 a.val) : ℝ) : EReal))
    (z : Vec Ideal S512x128 .f32) (hg : ∀ (a : Fin 512) (d : Fin 128), z (ix2 a d) = ((g (row 2 a.val) d.val : ℝ) : EReal))
    (X : Vec Ideal S1536x128 .f32) (T : ℕ → ℕ → ℝ) (hX : ∀ (b : Fin 1536) (d : Fin 128), X (ix2 b d) = ((T b.val d.val : ℝ) : EReal))
    (b : Fin 1536) (d : Fin 128) :
    k1_pay34 (F := Ideal) (k1_pay17 z) (k1_pay18 w x y l) X (ix2 b d)
      = ((T b.val d.val + tileSum 2 (fun i => prob scale q k i b.val * g i d.val) : ℝ) : EReal) := by
  pointwise [k1_pay34, k1_pay17]
  simp only [bwd_prob2 hw x y l hq hk hl, hX, hg, ← EReal.coe_mul]
  rw [coe_sum, ← EReal.coe_add, tileSum_fin]

/-- Tile 3: the softmax weights, from the saved logarithm. -/
theorem bwd_prob3 {w : BitVec 32} (hw : w = BitVec.ofNat 32 3) (x : Vec Ideal S512x256 .bf16) (y : Vec Ideal S2048x256 .bf16) (l : Vec Ideal S1x512x1 .f32)
    (hq : ∀ (a : Fin 512) (d : Fin 256), x (ix2 a d) = ((q (row 3 a.val) d.val : ℝ) : EReal))
    (hk : ∀ (a : Fin 2048) (d : Fin 256), y (ix2 a d) = ((k (a.val) d.val : ℝ) : EReal))
    (hl : ∀ a : Fin 512, l (ix3 0 a 0) = ((lse scale q k (row 3 a.val) : ℝ) : EReal)) (a : Fin 512) (b : Fin 2048) :
    k1_pay24 (F := Ideal) w x y l (ix2 a b) = ((prob scale q k (row 3 a.val) b.val : ℝ) : EReal) := by
  pointwise [k1_pay24, k1_pay21, k1_pay22]
  rw [mask_tile (r := 3) hw (by omega) a.isLt (by omega), ofBits_neg_inf, ← coe_scale]
  simp only [hq, hk, hl, ← EReal.coe_mul]
  rw [coe_sum_range (fun d => q (row 3 a.val) d * k b.val d), ← EReal.coe_mul]
  exact exp_prob ..

/-- Tile 3: the cotangents of the scores. -/
theorem bwd_dscore3 {w : BitVec 32} (hw : w = BitVec.ofNat 32 3) (x : Vec Ideal S512x256 .bf16) (y : Vec Ideal S2048x256 .bf16) (z : Vec Ideal S512x128 .f32) (o : Vec Ideal S512x128 .f32) (l : Vec Ideal S1x512x1 .f32) (u : Vec Ideal S2048x128 .bf16)
    (hq : ∀ (a : Fin 512) (d : Fin 256), x (ix2 a d) = ((q (row 3 a.val) d.val : ℝ) : EReal))
    (hk : ∀ (a : Fin 2048) (d : Fin 256), y (ix2 a d) = ((k (a.val) d.val : ℝ) : EReal))
    (hl : ∀ a : Fin 512, l (ix3 0 a 0) = ((lse scale q k (row 3 a.val) : ℝ) : EReal))
    (hg : ∀ (a : Fin 512) (d : Fin 128), z (ix2 a d) = ((g (row 3 a.val) d.val : ℝ) : EReal))
    (ho : ∀ (a : Fin 512) (d : Fin 128), o (ix2 a d) = ((outv scale q k v (row 3 a.val) d.val : ℝ) : EReal))
    (hv : ∀ (a : Fin 2048) (d : Fin 128), u (ix2 a d) = ((v (a.val) d.val : ℝ) : EReal)) (a : Fin 512) (b : Fin 2048) :
    k1_pay25 (F := Ideal) w x y z o l u (ix2 a b) = ((dscore scale q k v g (row 3 a.val) b.val : ℝ) : EReal) := by
  pointwise [k1_pay25, k1_pay23]
  rw [bwd_prob3 hw x y l hq hk hl, ← coe_scale]
  simp only [hg, ho, hv, ← EReal.coe_mul]
  rw [coe_sum_range (fun d => g (row 3 a.val) d * v b.val d), coe_sum_range (fun d => g (row 3 a.val) d * outv scale q k v (row 3 a.val) d),
    ← EReal.coe_sub, ← EReal.coe_mul, ← EReal.coe_mul]
  rfl

/-- Tile 3: the gradient of the queries. -/
theorem bwd_dq3 {w : BitVec 32} (hw : w = BitVec.ofNat 32 3) (x : Vec Ideal S512x256 .bf16) (y : Vec Ideal S2048x256 .bf16) (z : Vec Ideal S512x128 .f32) (o : Vec Ideal S512x128 .f32) (l : Vec Ideal S1x512x1 .f32) (u : Vec Ideal S2048x128 .bf16)
    (hq : ∀ (a : Fin 512) (d : Fin 256), x (ix2 a d) = ((q (row 3 a.val) d.val : ℝ) : EReal))
    (hk : ∀ (a : Fin 2048) (d : Fin 256), y (ix2 a d) = ((k (a.val) d.val : ℝ) : EReal))
    (hl : ∀ a : Fin 512, l (ix3 0 a 0) = ((lse scale q k (row 3 a.val) : ℝ) : EReal))
    (hg : ∀ (a : Fin 512) (d : Fin 128), z (ix2 a d) = ((g (row 3 a.val) d.val : ℝ) : EReal))
    (ho : ∀ (a : Fin 512) (d : Fin 128), o (ix2 a d) = ((outv scale q k v (row 3 a.val) d.val : ℝ) : EReal))
    (hv : ∀ (a : Fin 2048) (d : Fin 128), u (ix2 a d) = ((v (a.val) d.val : ℝ) : EReal)) (a : Fin 512) (d : Fin 256) :
    k1_pay26 (F := Ideal) w x y z o l u (ix2 a d) = ((dq scale q k v g (row 3 a.val) d.val : ℝ) : EReal) := by
  pointwise [k1_pay26, k1_pay22]
  simp only [bwd_dscore3 hw x y z o l u hq hk hl hg ho hv, hk, ← EReal.coe_mul]
  exact sum_masked (fun b => dscore scale q k v g (row 3 a.val) b * k b d.val) (show row 3 a.val < 2048 by have := a.isLt; unfold row; omega) fun j h => by
    show dscore scale q k v g _ j * _ = 0
    rw [dscore_zero h, zero_mul]

/-- Tile 3: what a key's gradient gains. -/
theorem bwd_dk3 {w : BitVec 32} (hw : w = BitVec.ofNat 32 3) (x : Vec Ideal S512x256 .bf16) (y : Vec Ideal S2048x256 .bf16) (z : Vec Ideal S512x128 .f32) (o : Vec Ideal S512x128 .f32) (l : Vec Ideal S1x512x1 .f32) (u : Vec Ideal S2048x128 .bf16)
    (hq : ∀ (a : Fin 512) (d : Fin 256), x (ix2 a d) = ((q (row 3 a.val) d.val : ℝ) : EReal))
    (hk : ∀ (a : Fin 2048) (d : Fin 256), y (ix2 a d) = ((k (a.val) d.val : ℝ) : EReal))
    (hl : ∀ a : Fin 512, l (ix3 0 a 0) = ((lse scale q k (row 3 a.val) : ℝ) : EReal))
    (hg : ∀ (a : Fin 512) (d : Fin 128), z (ix2 a d) = ((g (row 3 a.val) d.val : ℝ) : EReal))
    (ho : ∀ (a : Fin 512) (d : Fin 128), o (ix2 a d) = ((outv scale q k v (row 3 a.val) d.val : ℝ) : EReal))
    (hv : ∀ (a : Fin 2048) (d : Fin 128), u (ix2 a d) = ((v (a.val) d.val : ℝ) : EReal))
    (X : Vec Ideal S2048x256 .f32) (T : ℕ → ℕ → ℝ) (hX : ∀ (b : Fin 2048) (d : Fin 256), X (ix2 b d) = ((T b.val d.val : ℝ) : EReal))
    (b : Fin 2048) (d : Fin 256) :
    k1_pay1 (F := Ideal) (k1_pay21 x) (k1_pay25 w x y z o l u) X (ix2 b d)
      = ((T b.val d.val + tileSum 3 (fun i => dscore scale q k v g i b.val * q i d.val) : ℝ) : EReal) := by
  pointwise [k1_pay1, k1_pay21]
  simp only [bwd_dscore3 hw x y z o l u hq hk hl hg ho hv, hX, hq, ← EReal.coe_mul]
  rw [coe_sum, ← EReal.coe_add, tileSum_fin]

/-- Tile 3: what a value's gradient gains. -/
theorem bwd_dv3 {w : BitVec 32} (hw : w = BitVec.ofNat 32 3) (x : Vec Ideal S512x256 .bf16) (y : Vec Ideal S2048x256 .bf16) (l : Vec Ideal S1x512x1 .f32)
    (hq : ∀ (a : Fin 512) (d : Fin 256), x (ix2 a d) = ((q (row 3 a.val) d.val : ℝ) : EReal))
    (hk : ∀ (a : Fin 2048) (d : Fin 256), y (ix2 a d) = ((k (a.val) d.val : ℝ) : EReal))
    (hl : ∀ a : Fin 512, l (ix3 0 a 0) = ((lse scale q k (row 3 a.val) : ℝ) : EReal))
    (z : Vec Ideal S512x128 .f32) (hg : ∀ (a : Fin 512) (d : Fin 128), z (ix2 a d) = ((g (row 3 a.val) d.val : ℝ) : EReal))
    (X : Vec Ideal S2048x128 .f32) (T : ℕ → ℕ → ℝ) (hX : ∀ (b : Fin 2048) (d : Fin 128), X (ix2 b d) = ((T b.val d.val : ℝ) : EReal))
    (b : Fin 2048) (d : Fin 128) :
    k1_pay2 (F := Ideal) (k1_pay23 z) (k1_pay24 w x y l) X (ix2 b d)
      = ((T b.val d.val + tileSum 3 (fun i => prob scale q k i b.val * g i d.val) : ℝ) : EReal) := by
  pointwise [k1_pay2, k1_pay23]
  simp only [bwd_prob3 hw x y l hq hk hl, hX, hg, ← EReal.coe_mul]
  rw [coe_sum, ← EReal.coe_add, tileSum_fin]

end Cert.KernelIdeal.Attn

end
-- ==== Proof.FwdPay.lean ====
module

public import proofs.«01_k».proof.Proof.AttnMath
public import proofs.«01_k».proof.Proof.Gen.KernelIdeal.Skeleton
public import Idealize.ShloMosaic.Lib.Pipeline.ValueKit
public import Idealize.ShloMosaic.Lib.Pointwise

@[expose] public section

noncomputable section

namespace Cert.KernelIdeal.Attn

open Idealize.ShloMosaic Idealize.ShloMosaic.Tactic
open Cert.KernelIdeal Cert.KernelIdeal.Gen
open Cert.Reals

variable {q k v g : ℕ → ℕ → ℝ}

/-! # What the forward body computes on a tile, as real numbers

A tile holds rows `512 r, …, 512 r + 511` and meets the first `512 (r + 1)` keys. -/

/-- A column written as a block of one row of it. -/
theorem lse_cast (Q : FVec Ideal S512x1 .f32) (a : Fin 512) :
    shapeCast S1x512x1 Q shapeCasts_S512x1_S1x512x1 (ix3 0 a 0) = Q (ix2 a 0) := by
  pointwise

/-- A sum with a logarithm, at an index. -/
theorem add_log (P Q : FVec Ideal S512x1 .f32) (j : S512x1.Idx) : addf P (log Q) j = P j + Ideal.log (Q j) := rfl

/-- Tile 0: the masked scores. -/
theorem fwd_score0 {i : grid0.Coords} (hw : (i 1).val = 0) (x : Vec Ideal S512x256 .bf16) (y : Vec Ideal S512x256 .bf16)
    (hq : ∀ (a : Fin 512) (d : Fin 256), x (ix2 a d) = ((q (row 0 a.val) d.val : ℝ) : EReal))
    (hk : ∀ (b : Fin 512) (d : Fin 256), y (ix2 b d) = ((k b.val d.val : ℝ) : EReal)) (a : Fin 512) (b : Fin 512) :
    k0_pay7 (F := Ideal) i x y (ix2 a b)
      = if b.val ≤ row 0 a.val then ((score scale q k (row 0 a.val) b.val : ℝ) : EReal) else ⊥ := by
  pointwise [k0_pay7]
  rw [mask_tile (r := 0) (by rw [hw]) (by omega) a.isLt (by omega), ofBits_neg_inf, ← coe_scale]
  simp only [hq, hk, ← EReal.coe_mul]
  rw [coe_sum_range (fun d => q (row 0 a.val) d * k b.val d), ← EReal.coe_mul]
  rfl

/-- Tile 0: the row maximum. -/
theorem fwd_max0 {i : grid0.Coords} (hw : (i 1).val = 0) (x : Vec Ideal S512x256 .bf16) (y : Vec Ideal S512x256 .bf16)
    (hq : ∀ (a : Fin 512) (d : Fin 256), x (ix2 a d) = ((q (row 0 a.val) d.val : ℝ) : EReal))
    (hk : ∀ (b : Fin 512) (d : Fin 256), y (ix2 b d) = ((k b.val d.val : ℝ) : EReal)) (a : Fin 512) :
    k0_pay8 (F := Ideal) i x y (ix2 a 0) = ((rowMax (score scale q k (row 0 a.val)) (row 0 a.val) : ℝ) : EReal) := by
  pointwise [k0_pay8]
  simp only [fwd_score0 hw x y hq hk, ofBits_neg_inf]
  rw [fold_max_masked (n := 512) (score scale q k (row 0 a.val)) (show row 0 a.val < 512 by have := a.isLt; unfold row; omega)]

/-- Tile 0: the exponentials. -/
theorem fwd_exp0 {i : grid0.Coords} (hw : (i 1).val = 0) (x : Vec Ideal S512x256 .bf16) (y : Vec Ideal S512x256 .bf16)
    (hq : ∀ (a : Fin 512) (d : Fin 256), x (ix2 a d) = ((q (row 0 a.val) d.val : ℝ) : EReal))
    (hk : ∀ (b : Fin 512) (d : Fin 256), y (ix2 b d) = ((k b.val d.val : ℝ) : EReal)) (a : Fin 512) (b : Fin 512) :
    k0_pay9 (F := Ideal) i x y (ix2 a b) = ((wgt scale q k (row 0 a.val) b.val : ℝ) : EReal) := by
  pointwise [k0_pay9]
  rw [fwd_score0 hw x y hq hk, fwd_max0 hw x y hq hk]
  exact exp_masked ..

/-- Tile 0: the normalizer. -/
theorem fwd_sum0 {i : grid0.Coords} (hw : (i 1).val = 0) (x : Vec Ideal S512x256 .bf16) (y : Vec Ideal S512x256 .bf16)
    (hq : ∀ (a : Fin 512) (d : Fin 256), x (ix2 a d) = ((q (row 0 a.val) d.val : ℝ) : EReal))
    (hk : ∀ (b : Fin 512) (d : Fin 256), y (ix2 b d) = ((k b.val d.val : ℝ) : EReal)) (a : Fin 512) :
    k0_pay10 (F := Ideal) i x y (ix2 a 0) = ((norm scale q k (row 0 a.val) : ℝ) : EReal) := by
  pointwise [k0_pay10]
  simp only [fwd_exp0 hw x y hq hk]
  exact sum_masked (fun b => wgt scale q k (row 0 a.val) b) (show row 0 a.val < 512 by have := a.isLt; unfold row; omega) fun j h => wgt_zero h

/-- Tile 0: the output block. -/
theorem fwd_out0 {i : grid0.Coords} (hw : (i 1).val = 0) (x : Vec Ideal S512x256 .bf16) (y : Vec Ideal S512x256 .bf16)
    (hq : ∀ (a : Fin 512) (d : Fin 256), x (ix2 a d) = ((q (row 0 a.val) d.val : ℝ) : EReal))
    (hk : ∀ (b : Fin 512) (d : Fin 256), y (ix2 b d) = ((k b.val d.val : ℝ) : EReal))
    (z : Vec Ideal S512x128 .bf16) (hv : ∀ (b : Fin 512) (d : Fin 128), z (ix2 b d) = ((v b.val d.val : ℝ) : EReal)) (a : Fin 512) (d : Fin 128) :
    k0_pay11 (F := Ideal) i x y z (ix2 a d) = ((outv scale q k v (row 0 a.val) d.val : ℝ) : EReal) := by
  pointwise [k0_pay11]
  simp only [fwd_exp0 hw x y hq hk, fwd_sum0 hw x y hq hk, hv, div_coe _ (norm_ne _), ← EReal.coe_mul]
  exact sum_masked (fun b => prob scale q k (row 0 a.val) b * v b d.val) (show row 0 a.val < 512 by have := a.isLt; unfold row; omega) fun j h => by
    show prob scale q k _ j * _ = 0
    rw [prob_zero h, zero_mul]

/-- Tile 0: the saved logarithm. -/
theorem fwd_lse0 {i : grid0.Coords} (hw : (i 1).val = 0) (x : Vec Ideal S512x256 .bf16) (y : Vec Ideal S512x256 .bf16)
    (hq : ∀ (a : Fin 512) (d : Fin 256), x (ix2 a d) = ((q (row 0 a.val) d.val : ℝ) : EReal))
    (hk : ∀ (b : Fin 512) (d : Fin 256), y (ix2 b d) = ((k b.val d.val : ℝ) : EReal)) (a : Fin 512) :
    k0_pay12 (F := Ideal) i x y (ix3 0 a 0) = ((lse scale q k (row 0 a.val) : ℝ) : EReal) := by
  unfold k0_pay12
  refine (lse_cast _ a).trans ?_
  refine (add_log _ _ _).trans ?_
  rw [fwd_max0 hw x y hq hk, fwd_sum0 hw x y hq hk, log_coe (norm_pos _), ← EReal.coe_add]
  rfl

/-- Tile 1: the masked scores. -/
theorem fwd_score1 {w : BitVec 32} (hw : w = BitVec.ofNat 32 1) (x : Vec Ideal S512x256 .bf16) (y : Vec Ideal S1024x256 .bf16)
    (hq : ∀ (a : Fin 512) (d : Fin 256), x (ix2 a d) = ((q (row 1 a.val) d.val : ℝ) : EReal))
    (hk : ∀ (b : Fin 1024) (d : Fin 256), y (ix2 b d) = ((k b.val d.val : ℝ) : EReal)) (a : Fin 512) (b : Fin 1024) :
    k0_pay13 (F := Ideal) w x y (ix2 a b)
      = if b.val ≤ row 1 a.val then ((score scale q k (row 1 a.val) b.val : ℝ) : EReal) else ⊥ := by
  pointwise [k0_pay13]
  rw [mask_tile (r := 1) hw (by omega) a.isLt (by omega), ofBits_neg_inf, ← coe_scale]
  simp only [hq, hk, ← EReal.coe_mul]
  rw [coe_sum_range (fun d => q (row 1 a.val) d * k b.val d), ← EReal.coe_mul]
  rfl

/-- Tile 1: the row maximum. -/
theorem fwd_max1 {w : BitVec 32} (hw : w = BitVec.ofNat 32 1) (x : Vec Ideal S512x256 .bf16) (y : Vec Ideal S1024x256 .bf16)
    (hq : ∀ (a : Fin 512) (d : Fin 256), x (ix2 a d) = ((q (row 1 a.val) d.val : ℝ) : EReal))
    (hk : ∀ (b : Fin 1024) (d : Fin 256), y (ix2 b d) = ((k b.val d.val : ℝ) : EReal)) (a : Fin 512) :
    k0_pay14 (F := Ideal) w x y (ix2 a 0) = ((rowMax (score scale q k (row 1 a.val)) (row 1 a.val) : ℝ) : EReal) := by
  pointwise [k0_pay14]
  simp only [fwd_score1 hw x y hq hk, ofBits_neg_inf]
  rw [fold_max_masked (n := 1024) (score scale q k (row 1 a.val)) (show row 1 a.val < 1024 by have := a.isLt; unfold row; omega)]

/-- Tile 1: the exponentials. -/
theorem fwd_exp1 {w : BitVec 32} (hw : w = BitVec.ofNat 32 1) (x : Vec Ideal S512x256 .bf16) (y : Vec Ideal S1024x256 .bf16)
    (hq : ∀ (a : Fin 512) (d : Fin 256), x (ix2 a d) = ((q (row 1 a.val) d.val : ℝ) : EReal))
    (hk : ∀ (b : Fin 1024) (d : Fin 256), y (ix2 b d) = ((k b.val d.val : ℝ) : EReal)) (a : Fin 512) (b : Fin 1024) :
    k0_pay15 (F := Ideal) w x y (ix2 a b) = ((wgt scale q k (row 1 a.val) b.val : ℝ) : EReal) := by
  pointwise [k0_pay15]
  rw [fwd_score1 hw x y hq hk, fwd_max1 hw x y hq hk]
  exact exp_masked ..

/-- Tile 1: the normalizer. -/
theorem fwd_sum1 {w : BitVec 32} (hw : w = BitVec.ofNat 32 1) (x : Vec Ideal S512x256 .bf16) (y : Vec Ideal S1024x256 .bf16)
    (hq : ∀ (a : Fin 512) (d : Fin 256), x (ix2 a d) = ((q (row 1 a.val) d.val : ℝ) : EReal))
    (hk : ∀ (b : Fin 1024) (d : Fin 256), y (ix2 b d) = ((k b.val d.val : ℝ) : EReal)) (a : Fin 512) :
    k0_pay16 (F := Ideal) w x y (ix2 a 0) = ((norm scale q k (row 1 a.val) : ℝ) : EReal) := by
  pointwise [k0_pay16]
  simp only [fwd_exp1 hw x y hq hk]
  exact sum_masked (fun b => wgt scale q k (row 1 a.val) b) (show row 1 a.val < 1024 by have := a.isLt; unfold row; omega) fun j h => wgt_zero h

/-- Tile 1: the output block. -/
theorem fwd_out1 {w : BitVec 32} (hw : w = BitVec.ofNat 32 1) (x : Vec Ideal S512x256 .bf16) (y : Vec Ideal S1024x256 .bf16)
    (hq : ∀ (a : Fin 512) (d : Fin 256), x (ix2 a d) = ((q (row 1 a.val) d.val : ℝ) : EReal))
    (hk : ∀ (b : Fin 1024) (d : Fin 256), y (ix2 b d) = ((k b.val d.val : ℝ) : EReal))
    (z : Vec Ideal S1024x128 .bf16) (hv : ∀ (b : Fin 1024) (d : Fin 128), z (ix2 b d) = ((v b.val d.val : ℝ) : EReal)) (a : Fin 512) (d : Fin 128) :
    k0_pay17 (F := Ideal) w x y z (ix2 a d) = ((outv scale q k v (row 1 a.val) d.val : ℝ) : EReal) := by
  pointwise [k0_pay17]
  simp only [fwd_exp1 hw x y hq hk, fwd_sum1 hw x y hq hk, hv, div_coe _ (norm_ne _), ← EReal.coe_mul]
  exact sum_masked (fun b => prob scale q k (row 1 a.val) b * v b d.val) (show row 1 a.val < 1024 by have := a.isLt; unfold row; omega) fun j h => by
    show prob scale q k _ j * _ = 0
    rw [prob_zero h, zero_mul]

/-- Tile 1: the saved logarithm. -/
theorem fwd_lse1 {w : BitVec 32} (hw : w = BitVec.ofNat 32 1) (x : Vec Ideal S512x256 .bf16) (y : Vec Ideal S1024x256 .bf16)
    (hq : ∀ (a : Fin 512) (d : Fin 256), x (ix2 a d) = ((q (row 1 a.val) d.val : ℝ) : EReal))
    (hk : ∀ (b : Fin 1024) (d : Fin 256), y (ix2 b d) = ((k b.val d.val : ℝ) : EReal)) (a : Fin 512) :
    k0_pay18 (F := Ideal) w x y (ix3 0 a 0) = ((lse scale q k (row 1 a.val) : ℝ) : EReal) := by
  unfold k0_pay18
  refine (lse_cast _ a).trans ?_
  refine (add_log _ _ _).trans ?_
  rw [fwd_max1 hw x y hq hk, fwd_sum1 hw x y hq hk, log_coe (norm_pos _), ← EReal.coe_add]
  rfl

/-- Tile 2: the masked scores. -/
theorem fwd_score2 {w : BitVec 32} (hw : w = BitVec.ofNat 32 2) (x : Vec Ideal S512x256 .bf16) (y : Vec Ideal S1536x256 .bf16)
    (hq : ∀ (a : Fin 512) (d : Fin 256), x (ix2 a d) = ((q (row 2 a.val) d.val : ℝ) : EReal))
    (hk : ∀ (b : Fin 1536) (d : Fin 256), y (ix2 b d) = ((k b.val d.val : ℝ) : EReal)) (a : Fin 512) (b : Fin 1536) :
    k0_pay19 (F := Ideal) w x y (ix2 a b)
      = if b.val ≤ row 2 a.val then ((score scale q k (row 2 a.val) b.val : ℝ) : EReal) else ⊥ := by
  pointwise [k0_pay19]
  rw [mask_tile (r := 2) hw (by omega) a.isLt (by omega), ofBits_neg_inf, ← coe_scale]
  simp only [hq, hk, ← EReal.coe_mul]
  rw [coe_sum_range (fun d => q (row 2 a.val) d * k b.val d), ← EReal.coe_mul]
  rfl

/-- Tile 2: the row maximum. -/
theorem fwd_max2 {w : BitVec 32} (hw : w = BitVec.ofNat 32 2) (x : Vec Ideal S512x256 .bf16) (y : Vec Ideal S1536x256 .bf16)
    (hq : ∀ (a : Fin 512) (d : Fin 256), x (ix2 a d) = ((q (row 2 a.val) d.val : ℝ) : EReal))
    (hk : ∀ (b : Fin 1536) (d : Fin 256), y (ix2 b d) = ((k b.val d.val : ℝ) : EReal)) (a : Fin 512) :
    k0_pay20 (F := Ideal) w x y (ix2 a 0) = ((rowMax (score scale q k (row 2 a.val)) (row 2 a.val) : ℝ) : EReal) := by
  pointwise [k0_pay20]
  simp only [fwd_score2 hw x y hq hk, ofBits_neg_inf]
  rw [fold_max_masked (n := 1536) (score scale q k (row 2 a.val)) (show row 2 a.val < 1536 by have := a.isLt; unfold row; omega)]

/-- Tile 2: the exponentials. -/
theorem fwd_exp2 {w : BitVec 32} (hw : w = BitVec.ofNat 32 2) (x : Vec Ideal S512x256 .bf16) (y : Vec Ideal S1536x256 .bf16)
    (hq : ∀ (a : Fin 512) (d : Fin 256), x (ix2 a d) = ((q (row 2 a.val) d.val : ℝ) : EReal))
    (hk : ∀ (b : Fin 1536) (d : Fin 256), y (ix2 b d) = ((k b.val d.val : ℝ) : EReal)) (a : Fin 512) (b : Fin 1536) :
    k0_pay21 (F := Ideal) w x y (ix2 a b) = ((wgt scale q k (row 2 a.val) b.val : ℝ) : EReal) := by
  pointwise [k0_pay21]
  rw [fwd_score2 hw x y hq hk, fwd_max2 hw x y hq hk]
  exact exp_masked ..

/-- Tile 2: the normalizer. -/
theorem fwd_sum2 {w : BitVec 32} (hw : w = BitVec.ofNat 32 2) (x : Vec Ideal S512x256 .bf16) (y : Vec Ideal S1536x256 .bf16)
    (hq : ∀ (a : Fin 512) (d : Fin 256), x (ix2 a d) = ((q (row 2 a.val) d.val : ℝ) : EReal))
    (hk : ∀ (b : Fin 1536) (d : Fin 256), y (ix2 b d) = ((k b.val d.val : ℝ) : EReal)) (a : Fin 512) :
    k0_pay22 (F := Ideal) w x y (ix2 a 0) = ((norm scale q k (row 2 a.val) : ℝ) : EReal) := by
  pointwise [k0_pay22]
  simp only [fwd_exp2 hw x y hq hk]
  exact sum_masked (fun b => wgt scale q k (row 2 a.val) b) (show row 2 a.val < 1536 by have := a.isLt; unfold row; omega) fun j h => wgt_zero h

/-- Tile 2: the output block. -/
theorem fwd_out2 {w : BitVec 32} (hw : w = BitVec.ofNat 32 2) (x : Vec Ideal S512x256 .bf16) (y : Vec Ideal S1536x256 .bf16)
    (hq : ∀ (a : Fin 512) (d : Fin 256), x (ix2 a d) = ((q (row 2 a.val) d.val : ℝ) : EReal))
    (hk : ∀ (b : Fin 1536) (d : Fin 256), y (ix2 b d) = ((k b.val d.val : ℝ) : EReal))
    (z : Vec Ideal S1536x128 .bf16) (hv : ∀ (b : Fin 1536) (d : Fin 128), z (ix2 b d) = ((v b.val d.val : ℝ) : EReal)) (a : Fin 512) (d : Fin 128) :
    k0_pay23 (F := Ideal) w x y z (ix2 a d) = ((outv scale q k v (row 2 a.val) d.val : ℝ) : EReal) := by
  pointwise [k0_pay23]
  simp only [fwd_exp2 hw x y hq hk, fwd_sum2 hw x y hq hk, hv, div_coe _ (norm_ne _), ← EReal.coe_mul]
  exact sum_masked (fun b => prob scale q k (row 2 a.val) b * v b d.val) (show row 2 a.val < 1536 by have := a.isLt; unfold row; omega) fun j h => by
    show prob scale q k _ j * _ = 0
    rw [prob_zero h, zero_mul]

/-- Tile 2: the saved logarithm. -/
theorem fwd_lse2 {w : BitVec 32} (hw : w = BitVec.ofNat 32 2) (x : Vec Ideal S512x256 .bf16) (y : Vec Ideal S1536x256 .bf16)
    (hq : ∀ (a : Fin 512) (d : Fin 256), x (ix2 a d) = ((q (row 2 a.val) d.val : ℝ) : EReal))
    (hk : ∀ (b : Fin 1536) (d : Fin 256), y (ix2 b d) = ((k b.val d.val : ℝ) : EReal)) (a : Fin 512) :
    k0_pay24 (F := Ideal) w x y (ix3 0 a 0) = ((lse scale q k (row 2 a.val) : ℝ) : EReal) := by
  unfold k0_pay24
  refine (lse_cast _ a).trans ?_
  refine (add_log _ _ _).trans ?_
  rw [fwd_max2 hw x y hq hk, fwd_sum2 hw x y hq hk, log_coe (norm_pos _), ← EReal.coe_add]
  rfl

/-- Tile 3: the masked scores. -/
theorem fwd_score3 {w : BitVec 32} (hw : w = BitVec.ofNat 32 3) (x : Vec Ideal S512x256 .bf16) (y : Vec Ideal S2048x256 .bf16)
    (hq : ∀ (a : Fin 512) (d : Fin 256), x (ix2 a d) = ((q (row 3 a.val) d.val : ℝ) : EReal))
    (hk : ∀ (b : Fin 2048) (d : Fin 256), y (ix2 b d) = ((k b.val d.val : ℝ) : EReal)) (a : Fin 512) (b : Fin 2048) :
    k0_pay1 (F := Ideal) w x y (ix2 a b)
      = if b.val ≤ row 3 a.val then ((score scale q k (row 3 a.val) b.val : ℝ) : EReal) else ⊥ := by
  pointwise [k0_pay1]
  rw [mask_tile (r := 3) hw (by omega) a.isLt (by omega), ofBits_neg_inf, ← coe_scale]
  simp only [hq, hk, ← EReal.coe_mul]
  rw [coe_sum_range (fun d => q (row 3 a.val) d * k b.val d), ← EReal.coe_mul]
  rfl

/-- Tile 3: the row maximum. -/
theorem fwd_max3 {w : BitVec 32} (hw : w = BitVec.ofNat 32 3) (x : Vec Ideal S512x256 .bf16) (y : Vec Ideal S2048x256 .bf16)
    (hq : ∀ (a : Fin 512) (d : Fin 256), x (ix2 a d) = ((q (row 3 a.val) d.val : ℝ) : EReal))
    (hk : ∀ (b : Fin 2048) (d : Fin 256), y (ix2 b d) = ((k b.val d.val : ℝ) : EReal)) (a : Fin 512) :
    k0_pay2 (F := Ideal) w x y (ix2 a 0) = ((rowMax (score scale q k (row 3 a.val)) (row 3 a.val) : ℝ) : EReal) := by
  pointwise [k0_pay2]
  simp only [fwd_score3 hw x y hq hk, ofBits_neg_inf]
  rw [fold_max_masked (n := 2048) (score scale q k (row 3 a.val)) (show row 3 a.val < 2048 by have := a.isLt; unfold row; omega)]

/-- Tile 3: the exponentials. -/
theorem fwd_exp3 {w : BitVec 32} (hw : w = BitVec.ofNat 32 3) (x : Vec Ideal S512x256 .bf16) (y : Vec Ideal S2048x256 .bf16)
    (hq : ∀ (a : Fin 512) (d : Fin 256), x (ix2 a d) = ((q (row 3 a.val) d.val : ℝ) : EReal))
    (hk : ∀ (b : Fin 2048) (d : Fin 256), y (ix2 b d) = ((k b.val d.val : ℝ) : EReal)) (a : Fin 512) (b : Fin 2048) :
    k0_pay3 (F := Ideal) w x y (ix2 a b) = ((wgt scale q k (row 3 a.val) b.val : ℝ) : EReal) := by
  pointwise [k0_pay3]
  rw [fwd_score3 hw x y hq hk, fwd_max3 hw x y hq hk]
  exact exp_masked ..

/-- Tile 3: the normalizer. -/
theorem fwd_sum3 {w : BitVec 32} (hw : w = BitVec.ofNat 32 3) (x : Vec Ideal S512x256 .bf16) (y : Vec Ideal S2048x256 .bf16)
    (hq : ∀ (a : Fin 512) (d : Fin 256), x (ix2 a d) = ((q (row 3 a.val) d.val : ℝ) : EReal))
    (hk : ∀ (b : Fin 2048) (d : Fin 256), y (ix2 b d) = ((k b.val d.val : ℝ) : EReal)) (a : Fin 512) :
    k0_pay4 (F := Ideal) w x y (ix2 a 0) = ((norm scale q k (row 3 a.val) : ℝ) : EReal) := by
  pointwise [k0_pay4]
  simp only [fwd_exp3 hw x y hq hk]
  exact sum_masked (fun b => wgt scale q k (row 3 a.val) b) (show row 3 a.val < 2048 by have := a.isLt; unfold row; omega) fun j h => wgt_zero h

/-- Tile 3: the output block. -/
theorem fwd_out3 {w : BitVec 32} (hw : w = BitVec.ofNat 32 3) (x : Vec Ideal S512x256 .bf16) (y : Vec Ideal S2048x256 .bf16)
    (hq : ∀ (a : Fin 512) (d : Fin 256), x (ix2 a d) = ((q (row 3 a.val) d.val : ℝ) : EReal))
    (hk : ∀ (b : Fin 2048) (d : Fin 256), y (ix2 b d) = ((k b.val d.val : ℝ) : EReal))
    (z : Vec Ideal S2048x128 .bf16) (hv : ∀ (b : Fin 2048) (d : Fin 128), z (ix2 b d) = ((v b.val d.val : ℝ) : EReal)) (a : Fin 512) (d : Fin 128) :
    k0_pay5 (F := Ideal) w x y z (ix2 a d) = ((outv scale q k v (row 3 a.val) d.val : ℝ) : EReal) := by
  pointwise [k0_pay5]
  simp only [fwd_exp3 hw x y hq hk, fwd_sum3 hw x y hq hk, hv, div_coe _ (norm_ne _), ← EReal.coe_mul]
  exact sum_masked (fun b => prob scale q k (row 3 a.val) b * v b d.val) (show row 3 a.val < 2048 by have := a.isLt; unfold row; omega) fun j h => by
    show prob scale q k _ j * _ = 0
    rw [prob_zero h, zero_mul]

/-- Tile 3: the saved logarithm. -/
theorem fwd_lse3 {w : BitVec 32} (hw : w = BitVec.ofNat 32 3) (x : Vec Ideal S512x256 .bf16) (y : Vec Ideal S2048x256 .bf16)
    (hq : ∀ (a : Fin 512) (d : Fin 256), x (ix2 a d) = ((q (row 3 a.val) d.val : ℝ) : EReal))
    (hk : ∀ (b : Fin 2048) (d : Fin 256), y (ix2 b d) = ((k b.val d.val : ℝ) : EReal)) (a : Fin 512) :
    k0_pay6 (F := Ideal) w x y (ix3 0 a 0) = ((lse scale q k (row 3 a.val) : ℝ) : EReal) := by
  unfold k0_pay6
  refine (lse_cast _ a).trans ?_
  refine (add_log _ _ _).trans ?_
  rw [fwd_max3 hw x y hq hk, fwd_sum3 hw x y hq hk, log_coe (norm_pos _), ← EReal.coe_add]
  rfl

end Cert.KernelIdeal.Attn

end
-- ==== Proof.FwdValue.lean ====
module

public import proofs.«01_k».proof.Proof.FwdRegion
public import proofs.«01_k».proof.Proof.FwdPay

@[expose] public section

noncomputable section

namespace Cert.KernelIdeal.Attn

open Idealize.ShloMosaic Idealize.ShloMosaic.TcCoe Idealize.ShloMosaic.Tactic
open Idealize.ShloMosaic.Pipeline (Dat Cfg Window)
open Cert.KernelIdeal Cert.KernelIdeal.Gen
open Cert.Reals

/-! # What the forward pipeline leaves in its two arrays, as real numbers -/

/-- The forward pipeline's blocks at each grid point: row tile `t % 4` of head `t / 4`. -/
theorem idx0 : ∀ t : Fin cfg0.N, win0_0.index t = ![t.val % 4, t.val / 4] ∧ win0_1.index t = ![0, t.val / 4]
    ∧ win0_2.index t = ![0, t.val / 4] ∧ win0_3.index t = ![t.val % 4, t.val / 4] ∧ win0_4.index t = ![t.val / 4, t.val % 4, 0] :=
  (by decide +kernel : ∀ t : Fin grid0.N, _)

/-- The number of grid steps. -/
theorem lt0 (t : Fin cfg0.N) : t.val < 16 := t.isLt

variable (V : (c : Dev nD) → (b : Ref sig .tc) → Buf (Elt Ideal) ((c : Thread nD τ).loc b)) (c : Dev nD)
variable {A0 A1 A2 : ℕ → ℕ → ℝ}

/-- The query block. -/
theorem blk0_q (h0 : ∀ (i : Fin 2048) (j : Fin 1024), V c main_v0 (ix2 i j) = ((A0 i.val j.val : ℝ) : EReal)) (t : Fin cfg0.N)
    (a : Fin 512) (d : Fin 256) :
    blk0 V c 0 t (ix2 a d) = ((hd 256 A0 (t.val / 4) (row (t.val % 4) a.val) d.val : ℝ) : EReal) := by
  have ht := lt0 t
  refine Eq.trans (b := V c main_v0 (ix2 ⟨512 * (t.val % 4) + a.val, by omega⟩ ⟨256 * (t.val / 4) + d.val, by omega⟩)) ?_ (h0 _ _)
  blk_ext [blk0, idx0 t]

/-- The keys' block. -/
theorem blk0_k (h1 : ∀ (i : Fin 2048) (j : Fin 1024), V c main_v1 (ix2 i j) = ((A1 i.val j.val : ℝ) : EReal)) (t : Fin cfg0.N)
    (a : Fin 2048) (d : Fin 256) :
    blk0 V c 1 t (ix2 a d) = ((hd 256 A1 (t.val / 4) a.val d.val : ℝ) : EReal) := by
  have ht := lt0 t
  refine Eq.trans (b := V c main_v1 (ix2 a ⟨256 * (t.val / 4) + d.val, by omega⟩)) ?_ (h1 _ _)
  blk_ext [blk0, idx0 t]

/-- The values' block. -/
theorem blk0_v (h2 : ∀ (i : Fin 2048) (j : Fin 512), V c main_v2 (ix2 i j) = ((A2 i.val j.val : ℝ) : EReal)) (t : Fin cfg0.N)
    (a : Fin 2048) (d : Fin 128) :
    blk0 V c 2 t (ix2 a d) = ((hd 128 A2 (t.val / 4) a.val d.val : ℝ) : EReal) := by
  have ht := lt0 t
  refine Eq.trans (b := V c main_v2 (ix2 a ⟨128 * (t.val / 4) + d.val, by omega⟩)) ?_ (h2 _ _)
  blk_ext [blk0, idx0 t]

/-! # Reading the loaded parts -/

/-- Reading the block, or the prefix of it, that the body loads. -/
theorem ld_q (x : Vec Ideal S512x256 .bf16) (a : Fin 512) (d : Fin 256) : View.ld x rQ (ix2 a d) = x (ix2 a d) := by
  pointwise
  blk_ext
/-- Reading the block, or the prefix of it, that the body loads. -/
theorem ld_k0 (x : Vec Ideal S2048x256 .bf16) (a : Fin 512) (d : Fin 256) : View.ld x rK0 (ix2 a d) = x (ix2 ⟨a.val, by omega⟩ d) := by
  pointwise
  blk_ext
/-- Reading the block, or the prefix of it, that the body loads. -/
theorem ld_v0 (x : Vec Ideal S2048x128 .bf16) (a : Fin 512) (d : Fin 128) : View.ld x rV0 (ix2 a d) = x (ix2 ⟨a.val, by omega⟩ d) := by
  pointwise
  blk_ext
/-- Reading the block, or the prefix of it, that the body loads. -/
theorem ld_k1 (x : Vec Ideal S2048x256 .bf16) (a : Fin 1024) (d : Fin 256) : View.ld x rK1 (ix2 a d) = x (ix2 ⟨a.val, by omega⟩ d) := by
  pointwise
  blk_ext
/-- Reading the block, or the prefix of it, that the body loads. -/
theorem ld_v1 (x : Vec Ideal S2048x128 .bf16) (a : Fin 1024) (d : Fin 128) : View.ld x rV1 (ix2 a d) = x (ix2 ⟨a.val, by omega⟩ d) := by
  pointwise
  blk_ext
/-- Reading the block, or the prefix of it, that the body loads. -/
theorem ld_k2 (x : Vec Ideal S2048x256 .bf16) (a : Fin 1536) (d : Fin 256) : View.ld x rK2 (ix2 a d) = x (ix2 ⟨a.val, by omega⟩ d) := by
  pointwise
  blk_ext
/-- Reading the block, or the prefix of it, that the body loads. -/
theorem ld_v2 (x : Vec Ideal S2048x128 .bf16) (a : Fin 1536) (d : Fin 128) : View.ld x rV2 (ix2 a d) = x (ix2 ⟨a.val, by omega⟩ d) := by
  pointwise
  blk_ext
/-- Reading the block, or the prefix of it, that the body loads. -/
theorem ld_k3 (x : Vec Ideal S2048x256 .bf16) (a : Fin 2048) (d : Fin 256) : View.ld x rK3 (ix2 a d) = x (ix2 ⟨a.val, by omega⟩ d) := by
  pointwise
  blk_ext
/-- Reading the block, or the prefix of it, that the body loads. -/
theorem ld_v3 (x : Vec Ideal S2048x128 .bf16) (a : Fin 2048) (d : Fin 128) : View.ld x rV3 (ix2 a d) = x (ix2 ⟨a.val, by omega⟩ d) := by
  pointwise
  blk_ext

section
variable {q k v : ℕ → ℕ → ℝ} {i : grid0.Coords} {x0 : Vec Ideal S512x256 .bf16} {x1 : Vec Ideal S2048x256 .bf16} {x2 : Vec Ideal S2048x128 .bf16}

/-- The forward body's output block. -/
theorem fwdO_val (hq : ∀ (a : Fin 512) (d : Fin 256), x0 (ix2 a d) = ((q (row (i 1).val a.val) d.val : ℝ) : EReal))
    (hk : ∀ (a : Fin 2048) (d : Fin 256), x1 (ix2 a d) = ((k a.val d.val : ℝ) : EReal))
    (hv : ∀ (a : Fin 2048) (d : Fin 128), x2 (ix2 a d) = ((v a.val d.val : ℝ) : EReal)) (a : Fin 512) (d : Fin 128) :
    fwdO (F := Ideal) i x0 x1 x2 (ix2 a d) = ((outv scale q k v (row (i 1).val a.val) d.val : ℝ) : EReal) := by
  have hlt : (i 1).val < 4 := (i 1).isLt
  obtain h | h | h | h : (i 1).val = 0 ∨ (i 1).val = 1 ∨ (i 1).val = 2 ∨ (i 1).val = 3 := by omega
  · rw [fwdO_0 h, h]
    rw [h] at hq
    exact fwd_out0 h _ _ (fun a d => (ld_q _ _ _).trans (hq a d)) (fun b d => (ld_k0 _ _ _).trans (hk _ d)) _ (fun b d => (ld_v0 _ _ _).trans (hv _ d)) a d
  · rw [fwdO_1 h, h]
    rw [h] at hq
    exact fwd_out1 rfl _ _ (fun a d => (ld_q _ _ _).trans (hq a d)) (fun b d => (ld_k1 _ _ _).trans (hk _ d)) _ (fun b d => (ld_v1 _ _ _).trans (hv _ d)) a d
  · rw [fwdO_2 h, h]
    rw [h] at hq
    exact fwd_out2 rfl _ _ (fun a d => (ld_q _ _ _).trans (hq a d)) (fun b d => (ld_k2 _ _ _).trans (hk _ d)) _ (fun b d => (ld_v2 _ _ _).trans (hv _ d)) a d
  · rw [fwdO_3 h, h]
    rw [h] at hq
    exact fwd_out3 rfl _ _ (fun a d => (ld_q _ _ _).trans (hq a d)) (fun b d => (ld_k3 _ _ _).trans (hk _ d)) _ (fun b d => (ld_v3 _ _ _).trans (hv _ d)) a d

/-- The forward body's saved logarithms. -/
theorem fwdL_val (hq : ∀ (a : Fin 512) (d : Fin 256), x0 (ix2 a d) = ((q (row (i 1).val a.val) d.val : ℝ) : EReal))
    (hk : ∀ (a : Fin 2048) (d : Fin 256), x1 (ix2 a d) = ((k a.val d.val : ℝ) : EReal)) (a : Fin 512) :
    fwdL (F := Ideal) i x0 x1 (ix3 0 a 0) = ((lse scale q k (row (i 1).val a.val) : ℝ) : EReal) := by
  have hlt : (i 1).val < 4 := (i 1).isLt
  obtain h | h | h | h : (i 1).val = 0 ∨ (i 1).val = 1 ∨ (i 1).val = 2 ∨ (i 1).val = 3 := by omega
  · rw [fwdL_0 h, h]
    rw [h] at hq
    exact fwd_lse0 h _ _ (fun a d => (ld_q _ _ _).trans (hq a d)) (fun b d => (ld_k0 _ _ _).trans (hk _ d)) a
  · rw [fwdL_1 h, h]
    rw [h] at hq
    exact fwd_lse1 rfl _ _ (fun a d => (ld_q _ _ _).trans (hq a d)) (fun b d => (ld_k1 _ _ _).trans (hk _ d)) a
  · rw [fwdL_2 h, h]
    rw [h] at hq
    exact fwd_lse2 rfl _ _ (fun a d => (ld_q _ _ _).trans (hq a d)) (fun b d => (ld_k2 _ _ _).trans (hk _ d)) a
  · rw [fwdL_3 h, h]
    rw [h] at hq
    exact fwd_lse3 rfl _ _ (fun a d => (ld_q _ _ _).trans (hq a d)) (fun b d => (ld_k3 _ _ _).trans (hk _ d)) a

end

/-! # The two arrays after the pipeline -/

/-- The output array: every head's rows. -/
theorem final0_3 (h0 : ∀ (i : Fin 2048) (j : Fin 1024), V c main_v0 (ix2 i j) = ((A0 i.val j.val : ℝ) : EReal))
    (h1 : ∀ (i : Fin 2048) (j : Fin 1024), V c main_v1 (ix2 i j) = ((A1 i.val j.val : ℝ) : EReal))
    (h2 : ∀ (i : Fin 2048) (j : Fin 512), V c main_v2 (ix2 i j) = ((A2 i.val j.val : ℝ) : EReal)) :
    (dat0 V c).arrAt 3 cfg0.N = fun y : S2048x512.Idx => ((outv scale (hd 256 A0 ((y 1).val / 128)) (hd 256 A1 ((y 1).val / 128))
      (hd 128 A2 ((y 1).val / 128)) (y 0).val ((y 1).val % 128) : ℝ) : EReal) := by
  refine (dat0 V c).arrAt_eq_of_covers 3 _ (by decide +kernel) fun t hf y => ?_
  have ht := lt0 t
  have y0 : (y 0).val < 512 := (y 0).isLt
  have y1 : (y 1).val < 128 := (y 1).isLt
  blk_simp [idx0 t]
  rw [after0_3]
  refine (congrArg _ (eq_ix2 y)).trans ?_
  refine (fwdO_val (q := hd 256 A0 (t.val / 4)) (fun a d => ?_) (fun a d => blk0_k V c h1 t a d) (fun a d => blk0_v V c h2 t a d) (y 0) (y 1)).trans ?_
  · rw [g0_tile t]; exact blk0_q V c h0 t a d
  · have e1 : (t.val / 4 * 128 + (y 1).val) / 128 = t.val / 4 := by omega
    have e2 : (t.val / 4 * 128 + (y 1).val) % 128 = (y 1).val := by omega
    have e3 : row (t.val % 4) (y 0).val = t.val % 4 * 512 + (y 0).val := by unfold row; omega
    rw [g0_tile t, e1, e2, e3]

/-- The saved logarithms of every head's rows. -/
theorem final0_4 (h0 : ∀ (i : Fin 2048) (j : Fin 1024), V c main_v0 (ix2 i j) = ((A0 i.val j.val : ℝ) : EReal))
    (h1 : ∀ (i : Fin 2048) (j : Fin 1024), V c main_v1 (ix2 i j) = ((A1 i.val j.val : ℝ) : EReal)) :
    (dat0 V c).arrAt 4 cfg0.N = fun y : S4x2048x1.Idx => ((lse scale (hd 256 A0 (y 0).val) (hd 256 A1 (y 0).val) (y 1).val : ℝ) : EReal) := by
  refine (dat0 V c).arrAt_eq_of_covers 4 _ (by decide +kernel) fun t hf y => ?_
  have ht := lt0 t
  have y0 : (y 0).val < 1 := (y 0).isLt
  have y1 : (y 1).val < 512 := (y 1).isLt
  have y2 : (y 2).val < 1 := (y 2).isLt
  blk_simp [idx0 t]
  rw [after0_4]
  refine (congrArg _ (?_ : y = ix3 0 (y 1) 0)).trans ?_
  · refine (eq_ix3 y).trans ?_
    blk_ext
  refine (fwdL_val (q := hd 256 A0 (t.val / 4)) (fun a d => ?_) (fun a d => blk0_k V c h1 t a d) (y 1)).trans ?_
  · rw [g0_tile t]; exact blk0_q V c h0 t a d
  · have e3 : row (t.val % 4) (y 1).val = t.val % 4 * 512 + (y 1).val := by unfold row; omega
    rw [g0_tile t, e3]

end Cert.KernelIdeal.Attn

end
-- ==== Proof.BwdValue.lean ====
module

public import proofs.«01_k».proof.Proof.BwdRegion
public import proofs.«01_k».proof.Proof.BwdPay
public import proofs.«01_k».proof.Proof.FwdValue

@[expose] public section

noncomputable section

namespace Cert.KernelIdeal.Attn

open Idealize.ShloMosaic Idealize.ShloMosaic.TcCoe Idealize.ShloMosaic.Tactic
open Idealize.ShloMosaic.Pipeline (Dat Cfg Window)
open Cert.KernelIdeal Cert.KernelIdeal.Gen
open Cert.Reals

/-! # What the backward pipeline leaves in its three arrays, as real numbers -/

/-- The backward pipeline's blocks at each grid point: row tile `t % 4` of head `t / 4`. -/
theorem idx1 : ∀ t : Fin cfg1.N, win1_0.index t = ![t.val % 4, t.val / 4] ∧ win1_1.index t = ![0, t.val / 4]
    ∧ win1_2.index t = ![0, t.val / 4] ∧ win1_3.index t = ![t.val % 4, t.val / 4] ∧ win1_4.index t = ![t.val / 4, t.val % 4, 0]
    ∧ win1_5.index t = ![t.val % 4, 4 + t.val / 4] ∧ win1_6.index t = ![t.val % 4, t.val / 4]
    ∧ win1_7.index t = ![0, t.val / 4] ∧ win1_8.index t = ![0, t.val / 4] :=
  (by decide +kernel : ∀ t : Fin grid1.N, _)

/-- The number of grid steps. -/
theorem lt1 (t : Fin cfg1.N) : t.val < 16 := t.isLt

variable (V : (c : Dev nD) → (b : Ref sig .tc) → Buf (Elt Ideal) ((c : Thread nD τ).loc b)) (c : Dev nD)

/-- What the backward pipeline finds: queries, keys, values, the forward's two results and the cotangent of its output. -/
structure Found (A0 A1 A2 A3 : ℕ → ℕ → ℝ) : Prop where
  hq : ∀ (i : Fin 2048) (j : Fin 1024), V c main_v0 (ix2 i j) = ((A0 i.val j.val : ℝ) : EReal)
  hk : ∀ (i : Fin 2048) (j : Fin 1024), V c main_v1 (ix2 i j) = ((A1 i.val j.val : ℝ) : EReal)
  hv : ∀ (i : Fin 2048) (j : Fin 512), V c main_v2 (ix2 i j) = ((A2 i.val j.val : ℝ) : EReal)
  ho : ∀ (i : Fin 2048) (j : Fin 512), V c main_v3_0 (ix2 i j) = ((outv scale (hd 256 A0 (j.val / 128)) (hd 256 A1 (j.val / 128))
      (hd 128 A2 (j.val / 128)) i.val (j.val % 128) : ℝ) : EReal)
  hl : ∀ (h : Fin 4) (i : Fin 2048), V c main_v3_1 (ix3 h i 0) = ((lse scale (hd 256 A0 h.val) (hd 256 A1 h.val) i.val : ℝ) : EReal)
  hg : ∀ (i : Fin 2048) (j : Fin 512), V c main_arg3 (ix2 i ⟨512 + j.val, by omega⟩) = ((A3 i.val j.val : ℝ) : EReal)

variable {A0 A1 A2 A3 : ℕ → ℕ → ℝ}

/-- The query block. -/
theorem blk1_q (H : Found V c A0 A1 A2 A3) (t : Fin cfg1.N) (a : Fin 512) (d : Fin 256) :
    blk1 V c 0 t (ix2 a d) = ((hd 256 A0 (t.val / 4) (row (t.val % 4) a.val) d.val : ℝ) : EReal) := by
  have ht := lt1 t
  refine Eq.trans (b := V c main_v0 (ix2 ⟨512 * (t.val % 4) + a.val, by omega⟩ ⟨256 * (t.val / 4) + d.val, by omega⟩)) ?_ (H.hq _ _)
  blk_ext [blk1, idx1 t]

/-- The keys' block. -/
theorem blk1_k (H : Found V c A0 A1 A2 A3) (t : Fin cfg1.N) (a : Fin 2048) (d : Fin 256) :
    blk1 V c 1 t (ix2 a d) = ((hd 256 A1 (t.val / 4) a.val d.val : ℝ) : EReal) := by
  have ht := lt1 t
  refine Eq.trans (b := V c main_v1 (ix2 a ⟨256 * (t.val / 4) + d.val, by omega⟩)) ?_ (H.hk _ _)
  blk_ext [blk1, idx1 t]

/-- The values' block. -/
theorem blk1_v (H : Found V c A0 A1 A2 A3) (t : Fin cfg1.N) (a : Fin 2048) (d : Fin 128) :
    blk1 V c 2 t (ix2 a d) = ((hd 128 A2 (t.val / 4) a.val d.val : ℝ) : EReal) := by
  have ht := lt1 t
  refine Eq.trans (b := V c main_v2 (ix2 a ⟨128 * (t.val / 4) + d.val, by omega⟩)) ?_ (H.hv _ _)
  blk_ext [blk1, idx1 t]

/-- The output cotangent's block. -/
theorem blk1_g (H : Found V c A0 A1 A2 A3) (t : Fin cfg1.N) (a : Fin 512) (d : Fin 128) :
    blk1 V c 5 t (ix2 a d) = ((hd 128 A3 (t.val / 4) (row (t.val % 4) a.val) d.val : ℝ) : EReal) := by
  have ht := lt1 t
  refine Eq.trans (b := V c main_arg3 (ix2 ⟨512 * (t.val % 4) + a.val, by omega⟩ ⟨512 + (128 * (t.val / 4) + d.val), by omega⟩)) ?_ (H.hg _ ⟨128 * (t.val / 4) + d.val, by omega⟩)
  blk_ext [blk1, idx1 t]

/-- The forward output's block. -/
theorem blk1_o (H : Found V c A0 A1 A2 A3) (t : Fin cfg1.N) (a : Fin 512) (d : Fin 128) :
    blk1 V c 3 t (ix2 a d) = ((outv scale (hd 256 A0 (t.val / 4)) (hd 256 A1 (t.val / 4)) (hd 128 A2 (t.val / 4))
      (row (t.val % 4) a.val) d.val : ℝ) : EReal) := by
  have ht := lt1 t
  refine Eq.trans (b := V c main_v3_0 (ix2 ⟨512 * (t.val % 4) + a.val, by omega⟩ ⟨128 * (t.val / 4) + d.val, by omega⟩)) ?_ ((H.ho _ _).trans ?_)
  · blk_ext [blk1, idx1 t]
  · have e1 : (128 * (t.val / 4) + d.val) / 128 = t.val / 4 := by omega
    have e2 : (128 * (t.val / 4) + d.val) % 128 = d.val := by omega
    simp only [e1, e2, row]

/-- The saved logarithms' block. -/
theorem blk1_l (H : Found V c A0 A1 A2 A3) (t : Fin cfg1.N) (a : Fin 512) :
    blk1 V c 4 t (ix3 0 a 0) = ((lse scale (hd 256 A0 (t.val / 4)) (hd 256 A1 (t.val / 4)) (row (t.val % 4) a.val) : ℝ) : EReal) := by
  have ht := lt1 t
  refine Eq.trans (b := V c main_v3_1 (ix3 ⟨t.val / 4, by omega⟩ ⟨512 * (t.val % 4) + a.val, by omega⟩ 0)) ?_ (H.hl _ _)
  blk_ext [blk1, idx1 t]

/-! # Reading the loaded parts, and the accumulators written in part -/

/-- Reading the part of the block that the body loads. -/
theorem ld_o (x : Vec Ideal S512x128 .f32) (a : Fin 512) (d : Fin 128) : View.ld x rO (ix2 a d) = x (ix2 a d) := by
  pointwise
  blk_ext
/-- Reading the part of the block that the body loads. -/
theorem ld_l (x : Vec Ideal S1x512x1 .f32) (a : Fin 512) : View.ld x rL (ix3 0 a 0) = x (ix3 0 a 0) := by
  pointwise
  blk_ext
/-- Reading the part of the block that the body loads. -/
theorem ldf_k0 (x : Vec Ideal S2048x256 .f32) (a : Fin 512) (d : Fin 256) : View.ld x rK0 (ix2 a d) = x (ix2 ⟨a.val, by omega⟩ d) := by
  pointwise
  blk_ext
/-- Where an entry of the prefix lies in the block. -/
theorem emb_k0 (a : Fin 512) (d : Fin 256) : rK0.emb (ix2 a d) = ix2 ⟨a.val, by omega⟩ d := by
  funext e
  match e with
  | ⟨0, _⟩ => exact Fin.ext (by show 0 + 1 * a.val = a.val; omega)
  | ⟨1, _⟩ => exact Fin.ext (by show 0 + 1 * d.val = d.val; omega)
/-- A store to a prefix of the block: its rows are new, the others stay. -/
theorem over_k0 (X : Vec Ideal S2048x256 .f32) (G : Vec Ideal S512x256 .f32) (b : Fin 2048) (d : Fin 256) :
    rK0.overlay X G (ix2 b d) = if h : b.val < 512 then G (ix2 ⟨b.val, h⟩ d) else X (ix2 b d) := by
  by_cases h : b.val < 512
  · rw [dif_pos h]
    exact (congrArg (rK0.overlay X G) (emb_k0 ⟨b.val, h⟩ d).symm).trans (rK0.overlay_emb X G _)
  · rw [dif_neg h]
    refine rK0.overlay_of_not_mem X G fun hm => h ?_
    obtain ⟨x, hx⟩ : ∃ x, rK0.emb x = ix2 b d := LoadRect.exists_idx_of_mem rK0.toLoadRect hm
    have := (x 0).isLt
    have e := congrArg (fun y : S2048x256.Idx => (y 0).val) hx
    have e' : 0 + 1 * (x 0).val = b.val := e
    have : (x 0).val < 512 := (x 0).isLt
    omega
/-- Reading the part of the block that the body loads. -/
theorem ldf_v0 (x : Vec Ideal S2048x128 .f32) (a : Fin 512) (d : Fin 128) : View.ld x rV0 (ix2 a d) = x (ix2 ⟨a.val, by omega⟩ d) := by
  pointwise
  blk_ext
/-- Where an entry of the prefix lies in the block. -/
theorem emb_v0 (a : Fin 512) (d : Fin 128) : rV0.emb (ix2 a d) = ix2 ⟨a.val, by omega⟩ d := by
  funext e
  match e with
  | ⟨0, _⟩ => exact Fin.ext (by show 0 + 1 * a.val = a.val; omega)
  | ⟨1, _⟩ => exact Fin.ext (by show 0 + 1 * d.val = d.val; omega)
/-- A store to a prefix of the block: its rows are new, the others stay. -/
theorem over_v0 (X : Vec Ideal S2048x128 .f32) (G : Vec Ideal S512x128 .f32) (b : Fin 2048) (d : Fin 128) :
    rV0.overlay X G (ix2 b d) = if h : b.val < 512 then G (ix2 ⟨b.val, h⟩ d) else X (ix2 b d) := by
  by_cases h : b.val < 512
  · rw [dif_pos h]
    exact (congrArg (rV0.overlay X G) (emb_v0 ⟨b.val, h⟩ d).symm).trans (rV0.overlay_emb X G _)
  · rw [dif_neg h]
    refine rV0.overlay_of_not_mem X G fun hm => h ?_
    obtain ⟨x, hx⟩ : ∃ x, rV0.emb x = ix2 b d := LoadRect.exists_idx_of_mem rV0.toLoadRect hm
    have := (x 0).isLt
    have e := congrArg (fun y : S2048x128.Idx => (y 0).val) hx
    have e' : 0 + 1 * (x 0).val = b.val := e
    have : (x 0).val < 512 := (x 0).isLt
    omega
/-- Reading the part of the block that the body loads. -/
theorem ldf_k1 (x : Vec Ideal S2048x256 .f32) (a : Fin 1024) (d : Fin 256) : View.ld x rK1 (ix2 a d) = x (ix2 ⟨a.val, by omega⟩ d) := by
  pointwise
  blk_ext
/-- Where an entry of the prefix lies in the block. -/
theorem emb_k1 (a : Fin 1024) (d : Fin 256) : rK1.emb (ix2 a d) = ix2 ⟨a.val, by omega⟩ d := by
  funext e
  match e with
  | ⟨0, _⟩ => exact Fin.ext (by show 0 + 1 * a.val = a.val; omega)
  | ⟨1, _⟩ => exact Fin.ext (by show 0 + 1 * d.val = d.val; omega)
/-- A store to a prefix of the block: its rows are new, the others stay. -/
theorem over_k1 (X : Vec Ideal S2048x256 .f32) (G : Vec Ideal S1024x256 .f32) (b : Fin 2048) (d : Fin 256) :
    rK1.overlay X G (ix2 b d) = if h : b.val < 1024 then G (ix2 ⟨b.val, h⟩ d) else X (ix2 b d) := by
  by_cases h : b.val < 1024
  · rw [dif_pos h]
    exact (congrArg (rK1.overlay X G) (emb_k1 ⟨b.val, h⟩ d).symm).trans (rK1.overlay_emb X G _)
  · rw [dif_neg h]
    refine rK1.overlay_of_not_mem X G fun hm => h ?_
    obtain ⟨x, hx⟩ : ∃ x, rK1.emb x = ix2 b d := LoadRect.exists_idx_of_mem rK1.toLoadRect hm
    have := (x 0).isLt
    have e := congrArg (fun y : S2048x256.Idx => (y 0).val) hx
    have e' : 0 + 1 * (x 0).val = b.val := e
    have : (x 0).val < 1024 := (x 0).isLt
    omega
/-- Reading the part of the block that the body loads. -/
theorem ldf_v1 (x : Vec Ideal S2048x128 .f32) (a : Fin 1024) (d : Fin 128) : View.ld x rV1 (ix2 a d) = x (ix2 ⟨a.val, by omega⟩ d) := by
  pointwise
  blk_ext
/-- Where an entry of the prefix lies in the block. -/
theorem emb_v1 (a : Fin 1024) (d : Fin 128) : rV1.emb (ix2 a d) = ix2 ⟨a.val, by omega⟩ d := by
  funext e
  match e with
  | ⟨0, _⟩ => exact Fin.ext (by show 0 + 1 * a.val = a.val; omega)
  | ⟨1, _⟩ => exact Fin.ext (by show 0 + 1 * d.val = d.val; omega)
/-- A store to a prefix of the block: its rows are new, the others stay. -/
theorem over_v1 (X : Vec Ideal S2048x128 .f32) (G : Vec Ideal S1024x128 .f32) (b : Fin 2048) (d : Fin 128) :
    rV1.overlay X G (ix2 b d) = if h : b.val < 1024 then G (ix2 ⟨b.val, h⟩ d) else X (ix2 b d) := by
  by_cases h : b.val < 1024
  · rw [dif_pos h]
    exact (congrArg (rV1.overlay X G) (emb_v1 ⟨b.val, h⟩ d).symm).trans (rV1.overlay_emb X G _)
  · rw [dif_neg h]
    refine rV1.overlay_of_not_mem X G fun hm => h ?_
    obtain ⟨x, hx⟩ : ∃ x, rV1.emb x = ix2 b d := LoadRect.exists_idx_of_mem rV1.toLoadRect hm
    have := (x 0).isLt
    have e := congrArg (fun y : S2048x128.Idx => (y 0).val) hx
    have e' : 0 + 1 * (x 0).val = b.val := e
    have : (x 0).val < 1024 := (x 0).isLt
    omega
/-- Reading the part of the block that the body loads. -/
theorem ldf_k2 (x : Vec Ideal S2048x256 .f32) (a : Fin 1536) (d : Fin 256) : View.ld x rK2 (ix2 a d) = x (ix2 ⟨a.val, by omega⟩ d) := by
  pointwise
  blk_ext
/-- Where an entry of the prefix lies in the block. -/
theorem emb_k2 (a : Fin 1536) (d : Fin 256) : rK2.emb (ix2 a d) = ix2 ⟨a.val, by omega⟩ d := by
  funext e
  match e with
  | ⟨0, _⟩ => exact Fin.ext (by show 0 + 1 * a.val = a.val; omega)
  | ⟨1, _⟩ => exact Fin.ext (by show 0 + 1 * d.val = d.val; omega)
/-- A store to a prefix of the block: its rows are new, the others stay. -/
theorem over_k2 (X : Vec Ideal S2048x256 .f32) (G : Vec Ideal S1536x256 .f32) (b : Fin 2048) (d : Fin 256) :
    rK2.overlay X G (ix2 b d) = if h : b.val < 1536 then G (ix2 ⟨b.val, h⟩ d) else X (ix2 b d) := by
  by_cases h : b.val < 1536
  · rw [dif_pos h]
    exact (congrArg (rK2.overlay X G) (emb_k2 ⟨b.val, h⟩ d).symm).trans (rK2.overlay_emb X G _)
  · rw [dif_neg h]
    refine rK2.overlay_of_not_mem X G fun hm => h ?_
    obtain ⟨x, hx⟩ : ∃ x, rK2.emb x = ix2 b d := LoadRect.exists_idx_of_mem rK2.toLoadRect hm
    have := (x 0).isLt
    have e := congrArg (fun y : S2048x256.Idx => (y 0).val) hx
    have e' : 0 + 1 * (x 0).val = b.val := e
    have : (x 0).val < 1536 := (x 0).isLt
    omega
/-- Reading the part of the block that the body loads. -/
theorem ldf_v2 (x : Vec Ideal S2048x128 .f32) (a : Fin 1536) (d : Fin 128) : View.ld x rV2 (ix2 a d) = x (ix2 ⟨a.val, by omega⟩ d) := by
  pointwise
  blk_ext
/-- Where an entry of the prefix lies in the block. -/
theorem emb_v2 (a : Fin 1536) (d : Fin 128) : rV2.emb (ix2 a d) = ix2 ⟨a.val, by omega⟩ d := by
  funext e
  match e with
  | ⟨0, _⟩ => exact Fin.ext (by show 0 + 1 * a.val = a.val; omega)
  | ⟨1, _⟩ => exact Fin.ext (by show 0 + 1 * d.val = d.val; omega)
/-- A store to a prefix of the block: its rows are new, the others stay. -/
theorem over_v2 (X : Vec Ideal S2048x128 .f32) (G : Vec Ideal S1536x128 .f32) (b : Fin 2048) (d : Fin 128) :
    rV2.overlay X G (ix2 b d) = if h : b.val < 1536 then G (ix2 ⟨b.val, h⟩ d) else X (ix2 b d) := by
  by_cases h : b.val < 1536
  · rw [dif_pos h]
    exact (congrArg (rV2.overlay X G) (emb_v2 ⟨b.val, h⟩ d).symm).trans (rV2.overlay_emb X G _)
  · rw [dif_neg h]
    refine rV2.overlay_of_not_mem X G fun hm => h ?_
    obtain ⟨x, hx⟩ : ∃ x, rV2.emb x = ix2 b d := LoadRect.exists_idx_of_mem rV2.toLoadRect hm
    have := (x 0).isLt
    have e := congrArg (fun y : S2048x128.Idx => (y 0).val) hx
    have e' : 0 + 1 * (x 0).val = b.val := e
    have : (x 0).val < 1536 := (x 0).isLt
    omega
/-- Reading the part of the block that the body loads. -/
theorem ldf_k3 (x : Vec Ideal S2048x256 .f32) (a : Fin 2048) (d : Fin 256) : View.ld x rK3 (ix2 a d) = x (ix2 ⟨a.val, by omega⟩ d) := by
  pointwise
  blk_ext
/-- Where an entry of the prefix lies in the block. -/
theorem emb_k3 (a : Fin 2048) (d : Fin 256) : rK3.emb (ix2 a d) = ix2 ⟨a.val, by omega⟩ d := by
  funext e
  match e with
  | ⟨0, _⟩ => exact Fin.ext (by show 0 + 1 * a.val = a.val; omega)
  | ⟨1, _⟩ => exact Fin.ext (by show 0 + 1 * d.val = d.val; omega)
/-- A store to a prefix of the block: its rows are new, the others stay. -/
theorem over_k3 (X : Vec Ideal S2048x256 .f32) (G : Vec Ideal S2048x256 .f32) (b : Fin 2048) (d : Fin 256) :
    rK3.overlay X G (ix2 b d) = if h : b.val < 2048 then G (ix2 ⟨b.val, h⟩ d) else X (ix2 b d) := by
  by_cases h : b.val < 2048
  · rw [dif_pos h]
    exact (congrArg (rK3.overlay X G) (emb_k3 ⟨b.val, h⟩ d).symm).trans (rK3.overlay_emb X G _)
  · rw [dif_neg h]
    refine rK3.overlay_of_not_mem X G fun hm => h ?_
    obtain ⟨x, hx⟩ : ∃ x, rK3.emb x = ix2 b d := LoadRect.exists_idx_of_mem rK3.toLoadRect hm
    have := (x 0).isLt
    have e := congrArg (fun y : S2048x256.Idx => (y 0).val) hx
    have e' : 0 + 1 * (x 0).val = b.val := e
    have : (x 0).val < 2048 := (x 0).isLt
    omega
/-- Reading the part of the block that the body loads. -/
theorem ldf_v3 (x : Vec Ideal S2048x128 .f32) (a : Fin 2048) (d : Fin 128) : View.ld x rV3 (ix2 a d) = x (ix2 ⟨a.val, by omega⟩ d) := by
  pointwise
  blk_ext
/-- Where an entry of the prefix lies in the block. -/
theorem emb_v3 (a : Fin 2048) (d : Fin 128) : rV3.emb (ix2 a d) = ix2 ⟨a.val, by omega⟩ d := by
  funext e
  match e with
  | ⟨0, _⟩ => exact Fin.ext (by show 0 + 1 * a.val = a.val; omega)
  | ⟨1, _⟩ => exact Fin.ext (by show 0 + 1 * d.val = d.val; omega)
/-- A store to a prefix of the block: its rows are new, the others stay. -/
theorem over_v3 (X : Vec Ideal S2048x128 .f32) (G : Vec Ideal S2048x128 .f32) (b : Fin 2048) (d : Fin 128) :
    rV3.overlay X G (ix2 b d) = if h : b.val < 2048 then G (ix2 ⟨b.val, h⟩ d) else X (ix2 b d) := by
  by_cases h : b.val < 2048
  · rw [dif_pos h]
    exact (congrArg (rV3.overlay X G) (emb_v3 ⟨b.val, h⟩ d).symm).trans (rV3.overlay_emb X G _)
  · rw [dif_neg h]
    refine rV3.overlay_of_not_mem X G fun hm => h ?_
    obtain ⟨x, hx⟩ : ∃ x, rV3.emb x = ix2 b d := LoadRect.exists_idx_of_mem rV3.toLoadRect hm
    have := (x 0).isLt
    have e := congrArg (fun y : S2048x128.Idx => (y 0).val) hx
    have e' : 0 + 1 * (x 0).val = b.val := e
    have : (x 0).val < 2048 := (x 0).isLt
    omega

/-! # The body on a tile -/

/-- A tile whose rows all come before key `b` gives it nothing. -/
theorem tileSum_dk_zero (c' : ℝ) (q k v g : ℕ → ℕ → ℝ) {r b : ℕ} (d : ℕ) (h : 512 * (r + 1) ≤ b) :
    tileSum r (fun i => dscore c' q k v g i b * q i d) = 0 :=
  Finset.sum_eq_zero fun a ha => by
    have := Finset.mem_range.mp ha
    show dscore c' q k v g (row r a) b * _ = 0
    rw [dscore_zero (by unfold row; omega), zero_mul]
/-- A key after all the tiles so far adds nothing to its value gradient. -/
theorem tileSum_dv_zero (c' : ℝ) (q k g : ℕ → ℕ → ℝ) {r b : ℕ} (d : ℕ) (h : 512 * (r + 1) ≤ b) :
    tileSum r (fun i => prob c' q k i b * g i d) = 0 :=
  Finset.sum_eq_zero fun a ha => by
    have := Finset.mem_range.mp ha
    show prob c' q k (row r a) b * _ = 0
    rw [prob_zero (by unfold row; omega), zero_mul]

section
variable {q k v g : ℕ → ℕ → ℝ} {i : grid1.Coords} {x0 : Vec Ideal S512x256 .bf16} {x1 : Vec Ideal S2048x256 .bf16} {x2 : Vec Ideal S2048x128 .bf16}
  {x3 : Vec Ideal S512x128 .f32} {x4 : Vec Ideal S1x512x1 .f32} {x5 : Vec Ideal S512x128 .f32}
  (hq : ∀ (a : Fin 512) (d : Fin 256), x0 (ix2 a d) = ((q (row (i 1).val a.val) d.val : ℝ) : EReal))
  (hk : ∀ (a : Fin 2048) (d : Fin 256), x1 (ix2 a d) = ((k a.val d.val : ℝ) : EReal))
  (hv : ∀ (a : Fin 2048) (d : Fin 128), x2 (ix2 a d) = ((v a.val d.val : ℝ) : EReal))
  (ho : ∀ (a : Fin 512) (d : Fin 128), x3 (ix2 a d) = ((outv scale q k v (row (i 1).val a.val) d.val : ℝ) : EReal))
  (hl : ∀ a : Fin 512, x4 (ix3 0 a 0) = ((lse scale q k (row (i 1).val a.val) : ℝ) : EReal))
  (hg : ∀ (a : Fin 512) (d : Fin 128), x5 (ix2 a d) = ((g (row (i 1).val a.val) d.val : ℝ) : EReal))
include hq hk hv ho hl hg

/-- The gradient of the queries of a tile. -/
theorem bwdQ_val (a : Fin 512) (d : Fin 256) :
    bwdQ (F := Ideal) i x0 x1 x2 x3 x4 x5 (ix2 a d) = ((dq scale q k v g (row (i 1).val a.val) d.val : ℝ) : EReal) := by
  have hlt : (i 1).val < 4 := (i 1).isLt
  obtain h | h | h | h : (i 1).val = 0 ∨ (i 1).val = 1 ∨ (i 1).val = 2 ∨ (i 1).val = 3 := by omega
  · rw [bwdQ_0 h, h]
    rw [h] at hq ho hl hg
    exact bwd_dq0 rfl _ _ _ _ _ _ (fun a d => (ld_q _ _ _).trans (hq a d)) (fun b d => (ld_k0 _ _ _).trans (hk _ d)) (fun a => (ld_l _ _).trans (hl a))
          (fun a d => (ld_o _ _ _).trans (hg a d)) (fun a d => (ld_o _ _ _).trans (ho a d)) (fun b d => (ld_v0 _ _ _).trans (hv _ d)) a d
  · rw [bwdQ_1 h, h]
    rw [h] at hq ho hl hg
    exact bwd_dq1 rfl _ _ _ _ _ _ (fun a d => (ld_q _ _ _).trans (hq a d)) (fun b d => (ld_k1 _ _ _).trans (hk _ d)) (fun a => (ld_l _ _).trans (hl a))
          (fun a d => (ld_o _ _ _).trans (hg a d)) (fun a d => (ld_o _ _ _).trans (ho a d)) (fun b d => (ld_v1 _ _ _).trans (hv _ d)) a d
  · rw [bwdQ_2 h, h]
    rw [h] at hq ho hl hg
    exact bwd_dq2 rfl _ _ _ _ _ _ (fun a d => (ld_q _ _ _).trans (hq a d)) (fun b d => (ld_k2 _ _ _).trans (hk _ d)) (fun a => (ld_l _ _).trans (hl a))
          (fun a d => (ld_o _ _ _).trans (hg a d)) (fun a d => (ld_o _ _ _).trans (ho a d)) (fun b d => (ld_v2 _ _ _).trans (hv _ d)) a d
  · rw [bwdQ_3 h, h]
    rw [h] at hq ho hl hg
    exact bwd_dq3 rfl _ _ _ _ _ _ (fun a d => (ld_q _ _ _).trans (hq a d)) (fun b d => (ld_k3 _ _ _).trans (hk _ d)) (fun a => (ld_l _ _).trans (hl a))
          (fun a d => (ld_o _ _ _).trans (hg a d)) (fun a d => (ld_o _ _ _).trans (ho a d)) (fun b d => (ld_v3 _ _ _).trans (hv _ d)) a d

/-- A key gradient's accumulator gains the tile's rows. -/
theorem bwdK_val {X : Vec Ideal S2048x256 .f32} {T : ℕ → ℕ → ℝ} (hX : ∀ (b : Fin 2048) (d : Fin 256), X (ix2 b d) = ((T b.val d.val : ℝ) : EReal))
    (b : Fin 2048) (d : Fin 256) :
    bwdK (F := Ideal) i x0 x1 x2 x3 x4 x5 X (ix2 b d)
      = ((T b.val d.val + tileSum (i 1).val (fun i' => dscore scale q k v g i' b.val * q i' d.val) : ℝ) : EReal) := by
  have hlt : (i 1).val < 4 := (i 1).isLt
  obtain h | h | h | h : (i 1).val = 0 ∨ (i 1).val = 1 ∨ (i 1).val = 2 ∨ (i 1).val = 3 := by omega
  · rw [bwdK_0 h, h, over_k0]
    rw [h] at hq ho hl hg
    by_cases hb : b.val < 512
    · rw [dif_pos hb]
      exact bwd_dk0 rfl _ _ _ _ _ _ (fun a d => (ld_q _ _ _).trans (hq a d)) (fun b d => (ld_k0 _ _ _).trans (hk _ d)) (fun a => (ld_l _ _).trans (hl a))
          (fun a d => (ld_o _ _ _).trans (hg a d)) (fun a d => (ld_o _ _ _).trans (ho a d)) (fun b d => (ld_v0 _ _ _).trans (hv _ d)) _ T (fun b d => (ldf_k0 _ _ _).trans (hX _ d)) ⟨b.val, hb⟩ d
    · rw [dif_neg hb, hX, tileSum_dk_zero scale q k v g d.val (by omega), add_zero]
  · rw [bwdK_1 h, h, over_k1]
    rw [h] at hq ho hl hg
    by_cases hb : b.val < 1024
    · rw [dif_pos hb]
      exact bwd_dk1 rfl _ _ _ _ _ _ (fun a d => (ld_q _ _ _).trans (hq a d)) (fun b d => (ld_k1 _ _ _).trans (hk _ d)) (fun a => (ld_l _ _).trans (hl a))
          (fun a d => (ld_o _ _ _).trans (hg a d)) (fun a d => (ld_o _ _ _).trans (ho a d)) (fun b d => (ld_v1 _ _ _).trans (hv _ d)) _ T (fun b d => (ldf_k1 _ _ _).trans (hX _ d)) ⟨b.val, hb⟩ d
    · rw [dif_neg hb, hX, tileSum_dk_zero scale q k v g d.val (by omega), add_zero]
  · rw [bwdK_2 h, h, over_k2]
    rw [h] at hq ho hl hg
    by_cases hb : b.val < 1536
    · rw [dif_pos hb]
      exact bwd_dk2 rfl _ _ _ _ _ _ (fun a d => (ld_q _ _ _).trans (hq a d)) (fun b d => (ld_k2 _ _ _).trans (hk _ d)) (fun a => (ld_l _ _).trans (hl a))
          (fun a d => (ld_o _ _ _).trans (hg a d)) (fun a d => (ld_o _ _ _).trans (ho a d)) (fun b d => (ld_v2 _ _ _).trans (hv _ d)) _ T (fun b d => (ldf_k2 _ _ _).trans (hX _ d)) ⟨b.val, hb⟩ d
    · rw [dif_neg hb, hX, tileSum_dk_zero scale q k v g d.val (by omega), add_zero]
  · rw [bwdK_3 h, h, over_k3]
    rw [h] at hq ho hl hg
    by_cases hb : b.val < 2048
    · rw [dif_pos hb]
      exact bwd_dk3 rfl _ _ _ _ _ _ (fun a d => (ld_q _ _ _).trans (hq a d)) (fun b d => (ld_k3 _ _ _).trans (hk _ d)) (fun a => (ld_l _ _).trans (hl a))
          (fun a d => (ld_o _ _ _).trans (hg a d)) (fun a d => (ld_o _ _ _).trans (ho a d)) (fun b d => (ld_v3 _ _ _).trans (hv _ d)) _ T (fun b d => (ldf_k3 _ _ _).trans (hX _ d)) ⟨b.val, hb⟩ d
    · rw [dif_neg hb, hX, tileSum_dk_zero scale q k v g d.val (by omega), add_zero]

/-- A value gradient's accumulator gains the tile's rows. -/
theorem bwdV_val {X : Vec Ideal S2048x128 .f32} {T : ℕ → ℕ → ℝ} (hX : ∀ (b : Fin 2048) (d : Fin 128), X (ix2 b d) = ((T b.val d.val : ℝ) : EReal))
    (b : Fin 2048) (d : Fin 128) :
    bwdV (F := Ideal) i x0 x1 x2 x3 x4 x5 X (ix2 b d)
      = ((T b.val d.val + tileSum (i 1).val (fun i' => prob scale q k i' b.val * g i' d.val) : ℝ) : EReal) := by
  have hlt : (i 1).val < 4 := (i 1).isLt
  obtain h | h | h | h : (i 1).val = 0 ∨ (i 1).val = 1 ∨ (i 1).val = 2 ∨ (i 1).val = 3 := by omega
  · rw [bwdV_0 h, h, over_v0]
    rw [h] at hq ho hl hg
    by_cases hb : b.val < 512
    · rw [dif_pos hb]
      exact bwd_dv0 rfl _ _ _ (fun a d => (ld_q _ _ _).trans (hq a d)) (fun b d => (ld_k0 _ _ _).trans (hk _ d)) (fun a => (ld_l _ _).trans (hl a)) _ (fun a d => (ld_o _ _ _).trans (hg a d)) _ T (fun b d => (ldf_v0 _ _ _).trans (hX _ d)) ⟨b.val, hb⟩ d
    · rw [dif_neg hb, hX, tileSum_dv_zero scale q k g d.val (by omega), add_zero]
  · rw [bwdV_1 h, h, over_v1]
    rw [h] at hq ho hl hg
    by_cases hb : b.val < 1024
    · rw [dif_pos hb]
      exact bwd_dv1 rfl _ _ _ (fun a d => (ld_q _ _ _).trans (hq a d)) (fun b d => (ld_k1 _ _ _).trans (hk _ d)) (fun a => (ld_l _ _).trans (hl a)) _ (fun a d => (ld_o _ _ _).trans (hg a d)) _ T (fun b d => (ldf_v1 _ _ _).trans (hX _ d)) ⟨b.val, hb⟩ d
    · rw [dif_neg hb, hX, tileSum_dv_zero scale q k g d.val (by omega), add_zero]
  · rw [bwdV_2 h, h, over_v2]
    rw [h] at hq ho hl hg
    by_cases hb : b.val < 1536
    · rw [dif_pos hb]
      exact bwd_dv2 rfl _ _ _ (fun a d => (ld_q _ _ _).trans (hq a d)) (fun b d => (ld_k2 _ _ _).trans (hk _ d)) (fun a => (ld_l _ _).trans (hl a)) _ (fun a d => (ld_o _ _ _).trans (hg a d)) _ T (fun b d => (ldf_v2 _ _ _).trans (hX _ d)) ⟨b.val, hb⟩ d
    · rw [dif_neg hb, hX, tileSum_dv_zero scale q k g d.val (by omega), add_zero]
  · rw [bwdV_3 h, h, over_v3]
    rw [h] at hq ho hl hg
    by_cases hb : b.val < 2048
    · rw [dif_pos hb]
      exact bwd_dv3 rfl _ _ _ (fun a d => (ld_q _ _ _).trans (hq a d)) (fun b d => (ld_k3 _ _ _).trans (hk _ d)) (fun a => (ld_l _ _).trans (hl a)) _ (fun a d => (ld_o _ _ _).trans (hg a d)) _ T (fun b d => (ldf_v3 _ _ _).trans (hX _ d)) ⟨b.val, hb⟩ d
    · rw [dif_neg hb, hX, tileSum_dv_zero scale q k g d.val (by omega), add_zero]

end

/-! # The accumulators -/

/-- The zeroed accumulator. -/
theorem zeroK (b : Fin 2048) (d : Fin 256) : k1_pay27 (F := Ideal) (ix2 b d) = ((0 : ℝ) : EReal) := by
  pointwise [k1_pay27]
  exact EReal.coe_zero.symm
/-- The zeroed accumulator. -/
theorem zeroV (b : Fin 2048) (d : Fin 128) : k1_pay28 (F := Ideal) (ix2 b d) = ((0 : ℝ) : EReal) := by
  pointwise [k1_pay28]
  exact EReal.coe_zero.symm

/-- The key gradients accumulated up to a grid point: the head's tiles so far. -/
def partK (A0 A1 A2 A3 : ℕ → ℕ → ℝ) (n : ℕ) (b d : ℕ) : ℝ := ∑ s ∈ Finset.range (n % 4 + 1), tileSum s (fun i => dscore scale (hd 256 A0 (n / 4)) (hd 256 A1 (n / 4)) (hd 128 A2 (n / 4)) (hd 128 A3 (n / 4)) i b * hd 256 A0 (n / 4) i d)

/-- The accumulator, as sums over the tiles so far. -/
theorem accK_val (H : Found V c A0 A1 A2 A3) : ∀ (n : ℕ) (hn : n < cfg1.N) (b : Fin 2048) (d : Fin 256),
    accK V c n hn (ix2 b d) = ((partK A0 A1 A2 A3 n b.val d.val : ℝ) : EReal) := by
  intro n
  induction n with
  | zero =>
    intro hn b d
    have e := g1_tile ⟨0, hn⟩
    rw [accK_first V c ⟨0, hn⟩ rfl]
    refine (bwdK_val (q := hd 256 A0 (0 / 4)) (k := hd 256 A1 (0 / 4)) (v := hd 128 A2 (0 / 4)) (g := hd 128 A3 (0 / 4)) (by rw [e]; exact blk1_q V c H ⟨0, hn⟩) (blk1_k V c H ⟨0, hn⟩) (blk1_v V c H ⟨0, hn⟩) (by rw [e]; exact blk1_o V c H ⟨0, hn⟩)
      (by rw [e]; exact blk1_l V c H ⟨0, hn⟩) (by rw [e]; exact blk1_g V c H ⟨0, hn⟩) (T := fun _ _ => 0) zeroK b d).trans ?_
    rw [e]
    simp only [partK, Nat.zero_mod, zero_add, Finset.sum_range_one]
  | succ n ih =>
    intro hn b d
    have e := g1_tile ⟨n + 1, hn⟩
    by_cases h4 : (n + 1) % 4 = 0
    · rw [accK_first V c ⟨n + 1, hn⟩ h4]
      refine (bwdK_val (q := hd 256 A0 ((n + 1) / 4)) (k := hd 256 A1 ((n + 1) / 4)) (v := hd 128 A2 ((n + 1) / 4)) (g := hd 128 A3 ((n + 1) / 4)) (by rw [e]; exact blk1_q V c H ⟨n + 1, hn⟩) (blk1_k V c H ⟨n + 1, hn⟩) (blk1_v V c H ⟨n + 1, hn⟩) (by rw [e]; exact blk1_o V c H ⟨n + 1, hn⟩)
        (by rw [e]; exact blk1_l V c H ⟨n + 1, hn⟩) (by rw [e]; exact blk1_g V c H ⟨n + 1, hn⟩) (T := fun _ _ => 0) zeroK b d).trans ?_
      rw [e]
      simp only [partK, h4, zero_add, Finset.sum_range_one]
    · rw [accK_next V c ⟨n + 1, hn⟩ h4]
      refine (bwdK_val (q := hd 256 A0 ((n + 1) / 4)) (k := hd 256 A1 ((n + 1) / 4)) (v := hd 128 A2 ((n + 1) / 4)) (g := hd 128 A3 ((n + 1) / 4)) (by rw [e]; exact blk1_q V c H ⟨n + 1, hn⟩) (blk1_k V c H ⟨n + 1, hn⟩) (blk1_v V c H ⟨n + 1, hn⟩) (by rw [e]; exact blk1_o V c H ⟨n + 1, hn⟩)
        (by rw [e]; exact blk1_l V c H ⟨n + 1, hn⟩) (by rw [e]; exact blk1_g V c H ⟨n + 1, hn⟩) (T := partK A0 A1 A2 A3 n) (ih _) b d).trans ?_
      rw [e]
      have e1 : (n + 1) / 4 = n / 4 := by omega
      have e2 : (n + 1) % 4 = n % 4 + 1 := by omega
      simp only [partK, e1, e2]
      rw [Finset.sum_range_succ _ (n % 4 + 1)]

/-- The value gradients accumulated up to a grid point: the head's tiles so far. -/
def partV (A0 A1 A2 A3 : ℕ → ℕ → ℝ) (n : ℕ) (b d : ℕ) : ℝ := ∑ s ∈ Finset.range (n % 4 + 1), tileSum s (fun i => prob scale (hd 256 A0 (n / 4)) (hd 256 A1 (n / 4)) i b * hd 128 A3 (n / 4) i d)

/-- The accumulator, as sums over the tiles so far. -/
theorem accV_val (H : Found V c A0 A1 A2 A3) : ∀ (n : ℕ) (hn : n < cfg1.N) (b : Fin 2048) (d : Fin 128),
    accV V c n hn (ix2 b d) = ((partV A0 A1 A2 A3 n b.val d.val : ℝ) : EReal) := by
  intro n
  induction n with
  | zero =>
    intro hn b d
    have e := g1_tile ⟨0, hn⟩
    rw [accV_first V c ⟨0, hn⟩ rfl]
    refine (bwdV_val (q := hd 256 A0 (0 / 4)) (k := hd 256 A1 (0 / 4)) (v := hd 128 A2 (0 / 4)) (g := hd 128 A3 (0 / 4)) (by rw [e]; exact blk1_q V c H ⟨0, hn⟩) (blk1_k V c H ⟨0, hn⟩) (blk1_v V c H ⟨0, hn⟩) (by rw [e]; exact blk1_o V c H ⟨0, hn⟩)
      (by rw [e]; exact blk1_l V c H ⟨0, hn⟩) (by rw [e]; exact blk1_g V c H ⟨0, hn⟩) (T := fun _ _ => 0) zeroV b d).trans ?_
    rw [e]
    simp only [partV, Nat.zero_mod, zero_add, Finset.sum_range_one]
  | succ n ih =>
    intro hn b d
    have e := g1_tile ⟨n + 1, hn⟩
    by_cases h4 : (n + 1) % 4 = 0
    · rw [accV_first V c ⟨n + 1, hn⟩ h4]
      refine (bwdV_val (q := hd 256 A0 ((n + 1) / 4)) (k := hd 256 A1 ((n + 1) / 4)) (v := hd 128 A2 ((n + 1) / 4)) (g := hd 128 A3 ((n + 1) / 4)) (by rw [e]; exact blk1_q V c H ⟨n + 1, hn⟩) (blk1_k V c H ⟨n + 1, hn⟩) (blk1_v V c H ⟨n + 1, hn⟩) (by rw [e]; exact blk1_o V c H ⟨n + 1, hn⟩)
        (by rw [e]; exact blk1_l V c H ⟨n + 1, hn⟩) (by rw [e]; exact blk1_g V c H ⟨n + 1, hn⟩) (T := fun _ _ => 0) zeroV b d).trans ?_
      rw [e]
      simp only [partV, h4, zero_add, Finset.sum_range_one]
    · rw [accV_next V c ⟨n + 1, hn⟩ h4]
      refine (bwdV_val (q := hd 256 A0 ((n + 1) / 4)) (k := hd 256 A1 ((n + 1) / 4)) (v := hd 128 A2 ((n + 1) / 4)) (g := hd 128 A3 ((n + 1) / 4)) (by rw [e]; exact blk1_q V c H ⟨n + 1, hn⟩) (blk1_k V c H ⟨n + 1, hn⟩) (blk1_v V c H ⟨n + 1, hn⟩) (by rw [e]; exact blk1_o V c H ⟨n + 1, hn⟩)
        (by rw [e]; exact blk1_l V c H ⟨n + 1, hn⟩) (by rw [e]; exact blk1_g V c H ⟨n + 1, hn⟩) (T := partV A0 A1 A2 A3 n) (ih _) b d).trans ?_
      rw [e]
      have e1 : (n + 1) / 4 = n / 4 := by omega
      have e2 : (n + 1) % 4 = n % 4 + 1 := by omega
      simp only [partV, e1, e2]
      rw [Finset.sum_range_succ _ (n % 4 + 1)]

/-! # The three arrays after the pipeline -/

/-- The queries' gradient. -/
theorem final1_6 (H : Found V c A0 A1 A2 A3) :
    (dat1 V c).arrAt 6 cfg1.N = fun y : S2048x1024.Idx => ((dq scale (hd 256 A0 ((y 1).val / 256)) (hd 256 A1 ((y 1).val / 256))
      (hd 128 A2 ((y 1).val / 256)) (hd 128 A3 ((y 1).val / 256)) (y 0).val ((y 1).val % 256) : ℝ) : EReal) := by
  refine (dat1 V c).arrAt_eq_of_covers 6 _ (by decide +kernel) fun t hf y => ?_
  have ht := lt1 t
  have y0 : (y 0).val < 512 := (y 0).isLt
  have y1 : (y 1).val < 256 := (y 1).isLt
  have e := g1_tile t
  blk_simp [idx1 t]
  rw [after1_6]
  refine (congrArg _ (eq_ix2 y)).trans ?_
  refine (bwdQ_val (q := hd 256 A0 (t.val / 4)) (k := hd 256 A1 (t.val / 4)) (v := hd 128 A2 (t.val / 4)) (g := hd 128 A3 (t.val / 4)) (by rw [e]; exact blk1_q V c H t) (blk1_k V c H t) (blk1_v V c H t) (by rw [e]; exact blk1_o V c H t)
    (by rw [e]; exact blk1_l V c H t) (by rw [e]; exact blk1_g V c H t) (y 0) (y 1)).trans ?_
  have e1 : (t.val / 4 * 256 + (y 1).val) / 256 = t.val / 4 := by omega
  have e2 : (t.val / 4 * 256 + (y 1).val) % 256 = (y 1).val := by omega
  have e3 : row (t.val % 4) (y 0).val = t.val % 4 * 512 + (y 0).val := by unfold row; omega
  rw [e, e1, e2, e3]

/-- The keys' gradient. -/
theorem final1_7 (H : Found V c A0 A1 A2 A3) :
    (dat1 V c).arrAt 7 cfg1.N = fun y : S2048x1024.Idx => ((dk scale (hd 256 A0 ((y 1).val / 256)) (hd 256 A1 ((y 1).val / 256)) (hd 128 A2 ((y 1).val / 256)) (hd 128 A3 ((y 1).val / 256)) (y 0).val ((y 1).val % 256) : ℝ) : EReal) := by
  refine (dat1 V c).arrAt_eq_of_covers 7 _ (by decide +kernel) fun t hf y => ?_
  have ht := lt1 t
  have hm := (flush1_7 t).mp hf
  have y0 : (y 0).val < 2048 := (y 0).isLt
  have y1 : (y 1).val < 256 := (y 1).isLt
  blk_simp [idx1 t]
  rw [after1_7]
  refine (congrArg _ (eq_ix2 y)).trans ?_
  refine (accK_val V c H t.val t.isLt (y 0) (y 1)).trans ?_
  have e1 : (t.val / 4 * 256 + (y 1).val) / 256 = t.val / 4 := by omega
  have e2 : (t.val / 4 * 256 + (y 1).val) % 256 = (y 1).val := by omega
  rw [e1, e2]
  simp only [partK, hm, dk]
  rw [← tileSum_all]
  simp only [Finset.sum_range_succ, Finset.sum_range_zero, zero_add]

/-- The values' gradient. -/
theorem final1_8 (H : Found V c A0 A1 A2 A3) :
    (dat1 V c).arrAt 8 cfg1.N = fun y : S2048x512.Idx => ((dv scale (hd 256 A0 ((y 1).val / 128)) (hd 256 A1 ((y 1).val / 128)) (hd 128 A3 ((y 1).val / 128)) (y 0).val ((y 1).val % 128) : ℝ) : EReal) := by
  refine (dat1 V c).arrAt_eq_of_covers 8 _ (by decide +kernel) fun t hf y => ?_
  have ht := lt1 t
  have hm := (flush1_8 t).mp hf
  have y0 : (y 0).val < 2048 := (y 0).isLt
  have y1 : (y 1).val < 128 := (y 1).isLt
  blk_simp [idx1 t]
  rw [after1_8]
  refine (congrArg _ (eq_ix2 y)).trans ?_
  refine (accV_val V c H t.val t.isLt (y 0) (y 1)).trans ?_
  have e1 : (t.val / 4 * 128 + (y 1).val) / 128 = t.val / 4 := by omega
  have e2 : (t.val / 4 * 128 + (y 1).val) % 128 = (y 1).val := by omega
  rw [e1, e2]
  simp only [partV, hm, dv]
  rw [← tileSum_all]
  simp only [Finset.sum_range_succ, Finset.sum_range_zero, zero_add]

end Cert.KernelIdeal.Attn

end
-- ==== Proof.RefSteps.lean ====
module

public import proofs.«01_k».proof.Proof.Gen.ReferenceIdeal.Run
public import Idealize.ShloMosaic.Lib.Pipeline.ValueKit
public import Idealize.ShloMosaic.Lib.Pointwise

@[expose] public section

noncomputable section

namespace Cert.ReferenceIdeal.Attn

open Idealize.ShloMosaic Idealize.ShloMosaic.TcCoe Idealize.ShloMosaic.Tactic
open Cert.ReferenceIdeal Cert.ReferenceIdeal.Gen

/-! # The reference's steps, each over the arrays before it -/

/-- An array over the extended reals. -/
abbrev Arr (s : Shape) : Type := FVec Ideal s .f32

/-- Heads first, width 256. -/
def heads (x : Arr S2048x1024) : Arr S4x2048x256 :=
  transpose S4x2048x256 [1, 0, 2] (shapeCast S2048x4x256 x shapeCasts_S2048x1024_S2048x4x256) transposes_S2048x4x256_S4x2048x256_1_0_2
/-- Heads first, width 128. -/
def headsV (x : Arr S2048x512) : Arr S4x2048x128 :=
  transpose S4x2048x128 [1, 0, 2] (shapeCast S2048x4x128 x shapeCasts_S2048x512_S2048x4x128) transposes_S2048x4x128_S4x2048x128_1_0_2
/-- The output's cotangent, heads first. -/
def headsG (x : Arr S2048x1024) : Arr S4x2048x128 := headsV (extractStridedSlice S2048x512 ![0, 512] x slices_S2048x1024_S2048x512_0_512)
/-- The scaled scores. -/
def scores (q k : Arr S4x2048x256) : Arr S4x2048x2048 :=
  mulf (Host.dotGeneral dot_S4x2048x256_S4x2048x256_S4x2048x2048_2_2_1_1_0_0 none q k)
    (broadcastInDim S4x2048x2048 ![] bcast_S_S4x2048x2048 (constant S_ .f32 0x3D93CD3A#32))
/-- Where a key is seen. -/
def seen : IVec S4x2048x2048 1 :=
  broadcastInDim S4x2048x2048 ![1, 2] bcast_S2048x2048_S4x2048x2048_1_2 (cmpi .sge
    (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0))))
/-- The masked scores. -/
def masked (s : Arr S4x2048x2048) : Arr S4x2048x2048 :=
  select seen s (broadcastInDim S4x2048x2048 ![] bcast_S_S4x2048x2048 (id (constant S_ .f32 0xFF800000#32)))
/-- The rows' maxima. -/
def maxes (s : Arr S4x2048x2048) : Arr S4x2048 :=
  maximumf (broadcastInDim S4x2048 ![] bcast_S_S4x2048 (constant S_ .f32 0xFF800000#32))
    (Host.reduce FloatOps.maximumf s (constant S_ .f32 0xFF800000#32) reducesTo_S4x2048x2048_S4x2048_d2 h_S_)
/-- A row's number at each of its entries. -/
def spread (x : Arr S4x2048x1) : Arr S4x2048x2048 := broadcastInDim S4x2048x2048 ![0, 1, 2] bcast_S4x2048x1_S4x2048x2048_0_1_2 x
/-- A row's number as a column. -/
def column (x : Arr S4x2048) : Arr S4x2048x1 := broadcastInDim S4x2048x1 ![0, 1] bcast_S4x2048_S4x2048x1_0_1 x
/-- The exponentials. -/
def exps (s : Arr S4x2048x2048) : Arr S4x2048x2048 := Host.exp (subf s (spread (column (maxes s))))
/-- The sums of the rows. -/
def sums (x : Arr S4x2048x2048) : Arr S4x2048 :=
  Host.reduceAdd x (constant S_ .f32 0x00000000#32) reducesTo_S4x2048x2048_S4x2048_d2 h_S_
/-- The weights. -/
def probs (e : Arr S4x2048x2048) : Arr S4x2048x2048 := Host.divf e (spread (column (sums e)))
/-- The values' gradient. -/
def dvals (e : Arr S4x2048x2048) (g : Arr S4x2048x128) : Arr S4x128x2048 :=
  Host.dotGeneral dot_S4x2048x128_S4x2048x2048_S4x128x2048_1_1_2_2_0_0 none g (probs e)
/-- The weights' cotangents. -/
def dprobs (g v : Arr S4x2048x128) : Arr S4x2048x2048 := Host.dotGeneral dot_S4x2048x128_S4x2048x128_S4x2048x2048_2_2_1_1_0_0 none g v
/-- One over the square of the normalizer. -/
def invsq (z : Arr S4x2048x1) : Arr S4x2048x1 :=
  Host.divf (broadcastInDim S4x2048x1 ![] bcast_S_S4x2048x1 (constant S_ .f32 0x3F800000#32)) (mulf z z)
/-- The cotangent of the normalizer. -/
def dnorms (e p : Arr S4x2048x2048) : Arr S4x2048 :=
  Host.reduceAdd (Host.negf (shapeCast S4x2048x1 (sums (mulf (mulf p (spread (invsq (column (sums e))))) e)) shapeCasts_S4x2048_S4x2048x1))
    (constant S_ .f32 0x00000000#32) reducesTo_S4x2048x1_S4x2048_d2 h_S_
/-- The cotangents of the scores. -/
def dscores (e p : Arr S4x2048x2048) : Arr S4x2048x2048 :=
  mulf (select seen (mulf (addf (Host.divf p (spread (column (sums e))))
      (broadcastInDim S4x2048x2048 ![0, 1] bcast_S4x2048_S4x2048x2048_0_1 (dnorms e p))) e)
      (broadcastInDim S4x2048x2048 ![] bcast_S_S4x2048x2048 (constant S_ .f32 0x00000000#32)))
    (broadcastInDim S4x2048x2048 ![] bcast_S_S4x2048x2048 (constant S_ .f32 0x3D93CD3A#32))
/-- The keys' gradient. -/
def dkeys (s : Arr S4x2048x2048) (q : Arr S4x2048x256) : Arr S4x2048x256 :=
  Host.dotGeneral dot_S4x2048x2048_S4x2048x256_S4x2048x256_1_1_2_2_0_0 none s q
/-- The queries' gradient. -/
def dqueries (s : Arr S4x2048x2048) (k : Arr S4x2048x256) : Arr S4x2048x256 :=
  Host.dotGeneral dot_S4x2048x2048_S4x2048x256_S4x2048x256_2_1_1_2_0_0 none s k
/-- Back to rows first, width 256. -/
def rows (x : Arr S4x2048x256) : Arr S2048x1024 :=
  shapeCast S2048x1024 (transpose S2048x4x256 [1, 0, 2] x transposes_S4x2048x256_S2048x4x256_1_0_2) shapeCasts_S2048x4x256_S2048x1024
/-- Back to rows first, width 128. -/
def rowsV (x : Arr S4x2048x128) : Arr S2048x512 :=
  shapeCast S2048x512 (transpose S2048x4x128 [1, 0, 2] x transposes_S4x2048x128_S2048x4x128_1_0_2) shapeCasts_S2048x4x128_S2048x512

/-- The exponentials and the scores' cotangents, from the arguments. -/
def expsOf (a0 a1 : Arr S2048x1024) : Arr S4x2048x2048 := exps (masked (scores (heads a0) (heads a1)))
/-- The scores' gradient. -/
def dscoresOf (a0 a1 : Arr S2048x1024) (a2 : Arr S2048x512) (a3 : Arr S2048x1024) : Arr S4x2048x2048 :=
  dscores (expsOf a0 a1) (dprobs (headsG a3) (headsV a2))

section
open Cert.ReferenceIdeal.Value
variable (m : (ℓ : Loc nD τ sig) → Buf (Elt Ideal) ℓ) (c : Dev nD)

/-- Result 0 of the reference, in these steps. -/
theorem out0_eq : res_out0 m c = rows (dqueries (dscoresOf (m ((c.tc : Thread nD τ).loc main_arg0)) (m ((c.tc : Thread nD τ).loc main_arg1))
    (m ((c.tc : Thread nD τ).loc main_arg2)) (m ((c.tc : Thread nD τ).loc main_arg3))) (heads (m ((c.tc : Thread nD τ).loc main_arg1)))) := by
  unfold res_out0 res_main_v75; rfl
/-- Result 1 of the reference, in these steps. -/
theorem out1_eq : res_out1 m c = rows (dkeys (dscoresOf (m ((c.tc : Thread nD τ).loc main_arg0)) (m ((c.tc : Thread nD τ).loc main_arg1))
    (m ((c.tc : Thread nD τ).loc main_arg2)) (m ((c.tc : Thread nD τ).loc main_arg3))) (heads (m ((c.tc : Thread nD τ).loc main_arg0)))) := by
  unfold res_out1 res_main_v73; rfl
/-- Result 2 of the reference, in these steps. -/
theorem out2_eq : res_out2 m c = rowsV (transpose S4x2048x128 [0, 2, 1] (dvals (expsOf (m ((c.tc : Thread nD τ).loc main_arg0))
    (m ((c.tc : Thread nD τ).loc main_arg1))) (headsG (m ((c.tc : Thread nD τ).loc main_arg3)))) transposes_S4x128x2048_S4x2048x128_0_2_1) := by
  unfold res_out2 res_main_v71; rfl
end

end Cert.ReferenceIdeal.Attn

end
-- ==== Proof.RefAttn.lean ====
module

public import proofs.«01_k».proof.Proof.AttnMath
public import proofs.«01_k».proof.Proof.RefSteps
public import proofs.«01_k».proof.Proof.Gen.ReferenceIdeal.Run
public import Idealize.ShloMosaic.Lib.Pipeline.ValueKit
public import Idealize.ShloMosaic.Lib.Pointwise

@[expose] public section

noncomputable section

namespace Cert.ReferenceIdeal.Attn

open Idealize.ShloMosaic Idealize.ShloMosaic.TcCoe Idealize.ShloMosaic.Tactic
open Cert.ReferenceIdeal Cert.ReferenceIdeal.Gen
open Cert.Reals

/-! # The steps as real numbers -/

/-- Its entries, from real arguments. -/
theorem heads_val {x : Arr S2048x1024} {A : ℕ → ℕ → ℝ} (h0 : ∀ (i : Fin 2048) (j : Fin 1024), x (ix2 i j) = ((A i.val j.val : ℝ) : EReal))
    (h : Fin 4) (i : Fin 2048) (d : Fin 256) : heads x (ix3 h i d) = ((hd 256 A h.val i.val d.val : ℝ) : EReal) := by
  refine Eq.trans (b := x (ix2 i ⟨h.val * 256 + d.val, by omega⟩)) ?_ ((h0 _ _).trans (by simp only [hd, Nat.mul_comm]))
  pointwise [heads]
/-- Its entries, from real arguments. -/
theorem headsV_val {x : Arr S2048x512} {A : ℕ → ℕ → ℝ} (h0 : ∀ (i : Fin 2048) (j : Fin 512), x (ix2 i j) = ((A i.val j.val : ℝ) : EReal))
    (h : Fin 4) (i : Fin 2048) (d : Fin 128) : headsV x (ix3 h i d) = ((hd 128 A h.val i.val d.val : ℝ) : EReal) := by
  refine Eq.trans (b := x (ix2 i ⟨h.val * 128 + d.val, by omega⟩)) ?_ ((h0 _ _).trans (by simp only [hd, Nat.mul_comm]))
  pointwise [headsV]
/-- Its entries, from real arguments. -/
theorem headsG_val {x : Arr S2048x1024} {A : ℕ → ℕ → ℝ} (h0 : ∀ (i : Fin 2048) (j : Fin 512), x (ix2 i ⟨512 + j.val, by omega⟩) = ((A i.val j.val : ℝ) : EReal))
    (h : Fin 4) (i : Fin 2048) (d : Fin 128) : headsG x (ix3 h i d) = ((hd 128 A h.val i.val d.val : ℝ) : EReal) := by
  refine headsV_val (fun i j => Eq.trans ?_ (h0 i j)) h i d
  pointwise

variable {q k v g : ℕ → ℕ → ℕ → ℝ} {Q K : Arr S4x2048x256} {V G : Arr S4x2048x128}

/-- Its entries. -/
theorem max_at (P Q : Arr S4x2048) (j : S4x2048.Idx) : maximumf P Q j = max (P j) (Q j) := rfl
/-- Its entries. -/
theorem low_at (j : S4x2048.Idx) : broadcastInDim S4x2048 ![] bcast_S_S4x2048 (constant (F := Ideal) S_ .f32 0xFF800000#32) j
    = Ideal.ofBits .f32 0xFF800000#32 := rfl
/-- The maximum over a row is a fold over its columns. -/
theorem red_at (X : Arr S4x2048x2048) (h : Fin 4) (i : Fin 2048) :
    Host.reduce FloatOps.maximumf X (constant S_ .f32 0xFF800000#32) reducesTo_S4x2048x2048_S4x2048_d2 h_S_ (ix2 h i)
      = Finset.fold max (Ideal.ofBits .f32 0xFF800000#32) (fun j : Fin 2048 => X (ix3 h i j)) Finset.univ :=
  (Host.reduce_eq_fold max X (constant (F := Ideal) S_ .f32 0xFF800000#32) reducesTo_S4x2048x2048_S4x2048_d2 h_S_ (ix2 h i)).trans
    (Shape.ReducesTo.fold_fiber_r3_a2 reducesTo_S4x2048x2048_S4x2048_d2 (ix2 h i) max (Ideal.ofBits .f32 0xFF800000#32) X)

/-- Its entries, from real arguments. -/
theorem seen_val (h : Fin 4) (i j : Fin 2048) (x y : EReal) :
    Scalar.select (seen (ix3 h i j)) (x : Ideal .f32) (y : Ideal .f32) = if j.val ≤ i.val then x else y := by
  pointwise [seen]
  simp (disch := omega) only [hlo_ix, ge_iff_le]

section
variable (hq : ∀ (h : Fin 4) (i : Fin 2048) (d : Fin 256), Q (ix3 h i d) = ((q h.val i.val d.val : ℝ) : EReal))
  (hk : ∀ (h : Fin 4) (i : Fin 2048) (d : Fin 256), K (ix3 h i d) = ((k h.val i.val d.val : ℝ) : EReal))
include hq hk

/-- Its entries, from real arguments. -/
theorem scores_val (h : Fin 4) (i j : Fin 2048) :
    scores Q K (ix3 h i j) = ((score scale (q h.val) (k h.val) i.val j.val : ℝ) : EReal) := by
  pointwise [scores]
  rw [← coe_scale]
  simp only [hq, hk, ← EReal.coe_mul]
  rw [coe_sum_range (fun d => q h.val i.val d * k h.val j.val d), ← EReal.coe_mul]
  rfl
/-- Its entries, from real arguments. -/
theorem masked_val (h : Fin 4) (i j : Fin 2048) : masked (scores Q K) (ix3 h i j)
    = if j.val ≤ i.val then ((score scale (q h.val) (k h.val) i.val j.val : ℝ) : EReal) else ⊥ := by
  refine Eq.trans (b := Scalar.select (seen (ix3 h i j)) (scores Q K (ix3 h i j)) (Ideal.ofBits .f32 0xFF800000#32)) ?_ ?_
  · pointwise [masked]
    rfl
  · rw [seen_val, scores_val hq hk, ofBits_neg_inf]
/-- Its entries, from real arguments. -/
theorem maxes_val (h : Fin 4) (i : Fin 2048) : maxes (masked (scores Q K)) (ix2 h i)
    = ((rowMax (score scale (q h.val) (k h.val) i.val) i.val : ℝ) : EReal) := by
  have e := masked_val hq hk
  generalize masked (scores Q K) = X at e ⊢
  rw [maxes, max_at, low_at, red_at]
  simp only [e, ofBits_neg_inf]
  rw [fold_max_masked (n := 2048) (score scale (q h.val) (k h.val) i.val) i.isLt]
  exact max_eq_right bot_le
/-- Its entries, from real arguments. -/
theorem exps_val (h : Fin 4) (i j : Fin 2048) : exps (masked (scores Q K)) (ix3 h i j)
    = ((wgt scale (q h.val) (k h.val) i.val j.val : ℝ) : EReal) := by
  have e := masked_val hq hk
  have e' := maxes_val hq hk
  generalize masked (scores Q K) = X at e e' ⊢
  pointwise [exps, spread, column]
  rw [e, e']
  exact exp_masked ..
end

section
variable {E P : Arr S4x2048x2048} {p : ℕ → ℕ → ℕ → ℝ}
  (he : ∀ (h : Fin 4) (i j : Fin 2048), E (ix3 h i j) = ((wgt scale (q h.val) (k h.val) i.val j.val : ℝ) : EReal))
include he

/-- Its entries, from real arguments. -/
theorem sums_val (h : Fin 4) (i : Fin 2048) : sums E (ix2 h i) = ((norm scale (q h.val) (k h.val) i.val : ℝ) : EReal) := by
  pointwise [sums]
  simp only [he]
  exact sum_masked (fun b => wgt scale (q h.val) (k h.val) i.val b) i.isLt fun j h => wgt_zero h
/-- Its entries, from real arguments. -/
theorem probs_val (h : Fin 4) (i j : Fin 2048) : probs E (ix3 h i j) = ((prob scale (q h.val) (k h.val) i.val j.val : ℝ) : EReal) := by
  pointwise [probs, spread, column]
  rw [he, sums_val he, div_coe _ (norm_ne _)]
  rfl
/-- Its entries, from real arguments. -/
theorem dvals_val (hg : ∀ (h : Fin 4) (i : Fin 2048) (d : Fin 128), G (ix3 h i d) = ((g h.val i.val d.val : ℝ) : EReal))
    (h : Fin 4) (d : Fin 128) (j : Fin 2048) : dvals E G (ix3 h d j) = ((dv scale (q h.val) (k h.val) (g h.val) j.val d.val : ℝ) : EReal) := by
  pointwise [dvals]
  simp only [hg, probs_val he, ← EReal.coe_mul]
  rw [coe_sum_range (fun i => g h.val i d.val * prob scale (q h.val) (k h.val) i j.val)]
  simp only [mul_comm (g _ _ _)]
  rfl
end

/-- Its entries, from real arguments. -/
theorem dprobs_val (hg : ∀ (h : Fin 4) (i : Fin 2048) (d : Fin 128), G (ix3 h i d) = ((g h.val i.val d.val : ℝ) : EReal))
    (hv : ∀ (h : Fin 4) (i : Fin 2048) (d : Fin 128), V (ix3 h i d) = ((v h.val i.val d.val : ℝ) : EReal)) (h : Fin 4) (i j : Fin 2048) :
    dprobs G V (ix3 h i j) = ((dprob (v h.val) (g h.val) i.val j.val : ℝ) : EReal) := by
  pointwise [dprobs]
  simp only [hg, hv, ← EReal.coe_mul]
  exact coe_sum_range (fun d => g h.val i.val d * v h.val j.val d)

section
variable {E P : Arr S4x2048x2048}
  (he : ∀ (h : Fin 4) (i j : Fin 2048), E (ix3 h i j) = ((wgt scale (q h.val) (k h.val) i.val j.val : ℝ) : EReal))
  (hp : ∀ (h : Fin 4) (i j : Fin 2048), P (ix3 h i j) = ((dprob (v h.val) (g h.val) i.val j.val : ℝ) : EReal))
include he

/-- Its entries, from real arguments. -/
theorem invsq_val (h : Fin 4) (i : Fin 2048) : invsq (column (sums E)) (ix3 h i 0)
    = ((1 / (norm scale (q h.val) (k h.val) i.val * norm scale (q h.val) (k h.val) i.val) : ℝ) : EReal) := by
  pointwise [invsq, column]
  rw [sums_val he, ← EReal.coe_mul]
  exact div_coe 1 (mul_ne_zero (norm_ne _) (norm_ne _))
include hp
/-- Its entries, from real arguments. -/
theorem prods_val (h : Fin 4) (i j : Fin 2048) : mulf (mulf P (spread (invsq (column (sums E))))) E (ix3 h i j)
    = ((dprob (v h.val) (g h.val) i.val j.val * (1 / (norm scale (q h.val) (k h.val) i.val * norm scale (q h.val) (k h.val) i.val))
      * wgt scale (q h.val) (k h.val) i.val j.val : ℝ) : EReal) := by
  refine Eq.trans (b := P (ix3 h i j) * invsq (column (sums E)) (ix3 h i 0) * E (ix3 h i j)) ?_ ?_
  · pointwise [spread]
  · rw [hp, invsq_val he, he, ← EReal.coe_mul, ← EReal.coe_mul]
/-- Its entries, from real arguments. -/
theorem dnorms_val (h : Fin 4) (i : Fin 2048) : dnorms E P (ix2 h i)
    = ((-∑ b ∈ Finset.range (i.val + 1), dprob (v h.val) (g h.val) i.val b * (1 / (norm scale (q h.val) (k h.val) i.val * norm scale (q h.val) (k h.val) i.val))
      * wgt scale (q h.val) (k h.val) i.val b : ℝ) : EReal) := by
  have e : sums (mulf (mulf P (spread (invsq (column (sums E))))) E) (ix2 h i)
    = ((∑ b ∈ Finset.range (i.val + 1), dprob (v h.val) (g h.val) i.val b * (1 / (norm scale (q h.val) (k h.val) i.val * norm scale (q h.val) (k h.val) i.val))
      * wgt scale (q h.val) (k h.val) i.val b : ℝ) : EReal) := by
    refine Eq.trans (b := ∑ b : Fin 2048, mulf (mulf P (spread (invsq (column (sums E))))) E (ix3 h i b)) ?_ ?_
    · generalize mulf (mulf P (spread (invsq (column (sums E))))) E = X
      pointwise [sums]
    · simp only [prods_val he hp]
      exact sum_masked (fun b => dprob (v h.val) (g h.val) i.val b * (1 / (norm scale (q h.val) (k h.val) i.val * norm scale (q h.val) (k h.val) i.val))
        * wgt scale (q h.val) (k h.val) i.val b) i.isLt fun j h => by rw [wgt_zero h, mul_zero]
  rw [dnorms]
  generalize sums (mulf (mulf P (spread (invsq (column (sums E))))) E) = X at e ⊢
  refine Eq.trans (b := -(X (ix2 h i))) ?_ (by rw [e, EReal.coe_neg])
  pointwise
  exact Fin.sum_univ_one _
/-- Its entries, from real arguments. -/
theorem dscores_val (h : Fin 4) (i j : Fin 2048) : dscores E P (ix3 h i j)
    = ((dscore scale (q h.val) (k h.val) (v h.val) (g h.val) i.val j.val : ℝ) : EReal) := by
  refine Eq.trans (b := Scalar.select (seen (ix3 h i j)) ((Ideal.div (P (ix3 h i j)) (sums E (ix2 h i)) + dnorms E P (ix2 h i)) * E (ix3 h i j))
    (Ideal.ofBits .f32 0x00000000#32) * Ideal.ofBits .f32 0x3D93CD3A#32) ?_ ?_
  · pointwise [dscores, spread, column]
  · rw [seen_val, hp, sums_val he, dnorms_val he hp, he, div_coe _ (norm_ne _), ← EReal.coe_add, ← EReal.coe_mul, ← coe_scale]
    by_cases hij : j.val ≤ i.val
    · rw [if_pos hij, ← EReal.coe_mul, dscore_quotient]
    · rw [if_neg hij, dscore_zero (by omega)]
      simp
/-- Its entries, from real arguments. -/
theorem dkeys_val (hq : ∀ (h : Fin 4) (i : Fin 2048) (d : Fin 256), Q (ix3 h i d) = ((q h.val i.val d.val : ℝ) : EReal))
    (h : Fin 4) (j : Fin 2048) (d : Fin 256) : dkeys (dscores E P) Q (ix3 h j d)
    = ((dk scale (q h.val) (k h.val) (v h.val) (g h.val) j.val d.val : ℝ) : EReal) := by
  pointwise [dkeys]
  simp only [dscores_val he hp, hq, ← EReal.coe_mul]
  exact coe_sum_range (fun i => dscore scale (q h.val) (k h.val) (v h.val) (g h.val) i j.val * q h.val i d.val)
/-- Its entries, from real arguments. -/
theorem dqueries_val (hk : ∀ (h : Fin 4) (i : Fin 2048) (d : Fin 256), K (ix3 h i d) = ((k h.val i.val d.val : ℝ) : EReal))
    (h : Fin 4) (i : Fin 2048) (d : Fin 256) : dqueries (dscores E P) K (ix3 h i d)
    = ((dq scale (q h.val) (k h.val) (v h.val) (g h.val) i.val d.val : ℝ) : EReal) := by
  pointwise [dqueries]
  simp only [dscores_val he hp, hk, ← EReal.coe_mul]
  exact sum_masked (fun j => dscore scale (q h.val) (k h.val) (v h.val) (g h.val) i.val j * k h.val j d.val) i.isLt
    fun j h => by rw [dscore_zero h, zero_mul]
end

/-! # The three results -/

/-- Its entries, from real arguments. -/
theorem rows_val {X : Arr S4x2048x256} {f : ℕ → ℕ → ℕ → ℝ} (hX : ∀ (h : Fin 4) (i : Fin 2048) (d : Fin 256), X (ix3 h i d) = ((f h.val i.val d.val : ℝ) : EReal)) :
    rows X = fun y : S2048x1024.Idx => ((f ((y 1).val / 256) (y 0).val ((y 1).val % 256) : ℝ) : EReal) := by
  funext y
  have y0 : (y 0).val < 2048 := (y 0).isLt
  have y1 : (y 1).val < 1024 := (y 1).isLt
  refine (congrArg _ (eq_ix2 y)).trans ?_
  refine Eq.trans (b := X (ix3 ⟨(y 1).val / 256, by omega⟩ (y 0) ⟨(y 1).val % 256, by omega⟩)) ?_ (hX _ _ _)
  pointwise [rows]
/-- Its entries, from real arguments. -/
theorem rowsV_val {X : Arr S4x128x2048} {f : ℕ → ℕ → ℕ → ℝ} (hX : ∀ (h : Fin 4) (d : Fin 128) (i : Fin 2048), X (ix3 h d i) = ((f h.val i.val d.val : ℝ) : EReal)) :
    rowsV (transpose S4x2048x128 [0, 2, 1] X transposes_S4x128x2048_S4x2048x128_0_2_1)
      = fun y : S2048x512.Idx => ((f ((y 1).val / 128) (y 0).val ((y 1).val % 128) : ℝ) : EReal) := by
  funext y
  have y0 : (y 0).val < 2048 := (y 0).isLt
  have y1 : (y 1).val < 512 := (y 1).isLt
  refine (congrArg _ (eq_ix2 y)).trans ?_
  refine Eq.trans (b := X (ix3 ⟨(y 1).val / 128, by omega⟩ ⟨(y 1).val % 128, by omega⟩ (y 0))) ?_ (hX _ _ _)
  pointwise [rowsV]

section
open Cert.ReferenceIdeal.Value
variable (m : (ℓ : Loc nD τ sig) → Buf (Elt Ideal) ℓ) (c : Dev nD) {A0 A1 A2 A3 : ℕ → ℕ → ℝ}
  (h0 : ∀ (i : Fin 2048) (j : Fin 1024), (m ((c.tc : Thread nD τ).loc main_arg0) : Arr S2048x1024) (ix2 i j) = ((A0 i.val j.val : ℝ) : EReal))
  (h1 : ∀ (i : Fin 2048) (j : Fin 1024), (m ((c.tc : Thread nD τ).loc main_arg1) : Arr S2048x1024) (ix2 i j) = ((A1 i.val j.val : ℝ) : EReal))
  (h2 : ∀ (i : Fin 2048) (j : Fin 512), (m ((c.tc : Thread nD τ).loc main_arg2) : Arr S2048x512) (ix2 i j) = ((A2 i.val j.val : ℝ) : EReal))
  (h3 : ∀ (i : Fin 2048) (j : Fin 512), (m ((c.tc : Thread nD τ).loc main_arg3) : Arr S2048x1024) (ix2 i ⟨512 + j.val, by omega⟩) = ((A3 i.val j.val : ℝ) : EReal))
include h0 h1 h2 h3

/-- The queries' gradient. -/
theorem out0_val : res_out0 m c = fun y : S2048x1024.Idx => ((dq scale (hd 256 A0 ((y 1).val / 256)) (hd 256 A1 ((y 1).val / 256))
      (hd 128 A2 ((y 1).val / 256)) (hd 128 A3 ((y 1).val / 256)) (y 0).val ((y 1).val % 256) : ℝ) : EReal) := by
  rw [out0_eq]
  exact rows_val (f := fun h => dq scale (hd 256 A0 h) (hd 256 A1 h) (hd 128 A2 h) (hd 128 A3 h))
    (dqueries_val (exps_val (heads_val h0) (heads_val h1)) (dprobs_val (headsG_val h3) (headsV_val h2)) (heads_val h1))
/-- The keys' gradient. -/
theorem out1_val : res_out1 m c = fun y : S2048x1024.Idx => ((dk scale (hd 256 A0 ((y 1).val / 256)) (hd 256 A1 ((y 1).val / 256))
      (hd 128 A2 ((y 1).val / 256)) (hd 128 A3 ((y 1).val / 256)) (y 0).val ((y 1).val % 256) : ℝ) : EReal) := by
  rw [out1_eq]
  exact rows_val (f := fun h => dk scale (hd 256 A0 h) (hd 256 A1 h) (hd 128 A2 h) (hd 128 A3 h))
    (dkeys_val (exps_val (heads_val h0) (heads_val h1)) (dprobs_val (headsG_val h3) (headsV_val h2)) (heads_val h0))
omit h2 in
/-- The values' gradient. -/
theorem out2_val : res_out2 m c = fun y : S2048x512.Idx => ((dv scale (hd 256 A0 ((y 1).val / 128)) (hd 256 A1 ((y 1).val / 128))
      (hd 128 A3 ((y 1).val / 128)) (y 0).val ((y 1).val % 128) : ℝ) : EReal) := by
  rw [out2_eq]
  exact rowsV_val (f := fun h => dv scale (hd 256 A0 h) (hd 256 A1 h) (hd 128 A3 h))
    (dvals_val (exps_val (heads_val h0) (heads_val h1)) (headsG_val h3))
end

end Cert.ReferenceIdeal.Attn

end
-- ==== Proof.Finite.lean ====
module

public import proofs.«01_k».proof.Defs
public import proofs.«01_k».proof.Proof.AttnMath
public import Idealize.ShloMosaic.Lib.Pointwise

@[expose] public section

noncomputable section

namespace Cert.Reals

open Idealize.ShloMosaic Idealize.ShloMosaic.Tactic

/-- The word for plus infinity. -/
theorem ofBits_pos_inf : Ideal.ofBits .f32 0x7F800000#32 = ⊤ := by simp [Ideal.ofBits, Ideal.ieee]

/-- Both comparisons true say that the number is finite. -/
theorem finite_of_cmp (x : EReal) (h : IntOp.andi (Ideal.cmp .ogt x (Ideal.ofBits .f32 0xFF800000#32)) (Ideal.cmp .olt x (Ideal.ofBits .f32 0x7F800000#32)) = 1#1) :
    ⊥ < x ∧ x < ⊤ := by
  rw [ofBits_neg_inf, ofBits_pos_inf] at h
  by_cases h1 : ⊥ < x <;> by_cases h2 : x < ⊤ <;> simp_all [Ideal.cmp, IntOp.andi]

/-- An array of which the comparisons hold everywhere is finite everywhere. -/
theorem finite_at {S S₀ : Shape} {d : Fin S₀.rank → Fin S.rank} (hb : S₀.BroadcastsInDim S d) (x : FVec Ideal S .f32)
    (h : andi (cmpf .ogt x (broadcastInDim S d hb (constant (F := Ideal) S₀ .f32 0xFF800000#32)))
      (cmpf .olt x (broadcastInDim S d hb (constant (F := Ideal) S₀ .f32 0x7F800000#32))) = fun _ => 1#1) (j : S.Idx) :
    ⊥ < x j ∧ x j < ⊤ :=
  finite_of_cmp (x j) (congrFun h j)

end Cert.Reals

end
-- ==== Proof.SameBodies.lean ====
module

public import proofs.«01_k».proof.Proof.Gen.Kernel
public import proofs.«01_k».proof.Proof.Gen.KernelIdeal

@[expose] public section

namespace Cert.Proof

open Idealize.ShloMosaic

variable {F : FTy → Type} [FloatOps F]

/-! # The kernel's two printings are one program -/

/-- The forward body. -/
theorem fwd_eq : @Cert.Kernel.cc0_attn_fwd F _ _ = @Cert.KernelIdeal.cc0_attn_fwd F _ _ := rfl
/-- The backward body. -/
theorem bwd_eq : @Cert.Kernel.cc1_attn_bwd F _ _ = @Cert.KernelIdeal.cc1_attn_bwd F _ _ := rfl

set_option maxHeartbeats 2000000 in
/-- The table of bodies. -/
theorem bodies_eq : @Cert.Kernel.defs₀ F _ _ = @Cert.KernelIdeal.defs₀ F _ _ := by
  unfold Cert.Kernel.defs₀ Cert.KernelIdeal.defs₀
  congr 1
  funext l x
  match l with
  | 0 =>
    obtain ⟨t, s⟩ := x
    exact congrFun (congrFun (congrFun (congrFun (congrFun (congrFun (congrFun (congrFun (congrFun (congrFun (congrFun fwd_eq _) _) _) _) _) _) _) _) _) _) _
  | 1 =>
    obtain ⟨t, s⟩ := x
    dsimp only
    rw [bwd_eq]
    rfl
  | ⟨n + 2, h⟩ => exact absurd h (Nat.not_lt.2 (Nat.le_add_left _ _))

/-- The table of bodies and pipelines. -/
theorem table_eq : @Cert.Kernel.defs F _ _ = @Cert.KernelIdeal.defs F _ _ :=
  congrArg (Pipeline.defs (KernelIdeal.pcfgs (F := F))) bodies_eq

end Cert.Proof
-- ==== Proof.AttnClaims.lean ====
module

public import proofs.«01_k».proof.Proof.AttnRun
public import proofs.«01_k».proof.Proof.BwdValue
public import proofs.«01_k».proof.Proof.RefAttn
public import proofs.«01_k».proof.Proof.Finite
public import proofs.«01_k».proof.Proof.SameBodies

@[expose] public section

noncomputable section

namespace Cert.KernelIdeal.Attn

open Idealize.ShloMosaic Idealize.ShloMosaic.TcCoe Idealize.ShloMosaic.Tactic Idealize.ShloMosaic.StableHlo Idealize.SL.Sem
open Cert.KernelIdeal Cert.KernelIdeal.Gen
open Cert.Reals

/-! # What the two pipelines leave, from finite arguments -/

variable (m : (ℓ : Loc nD τ sig) → Buf (Elt Ideal) ℓ) (ρ : Dev nD → PrngReg) (c : Dev nD)

/-- The host's narrowed copies of the queries, keys and values are the arguments. -/
theorem B1_q (j : S2048x1024.Idx) : (B1 m ρ c (Proc.devRef .tc main_v0) : FVec Ideal S2048x1024 .bf16) j
    = (m ((c : Thread nD τ).loc main_arg0) : FVec Ideal S2048x1024 .f32) j := by
  unfold B1
  after_results_simp <;> rfl
/-- The narrowed array is the argument. -/
theorem B1_k (j : S2048x1024.Idx) : (B1 m ρ c (Proc.devRef .tc main_v1) : FVec Ideal S2048x1024 .bf16) j
    = (m ((c : Thread nD τ).loc main_arg1) : FVec Ideal S2048x1024 .f32) j := by
  unfold B1
  after_results_simp <;> rfl
/-- The narrowed array is the argument. -/
theorem B1_v (j : S2048x512.Idx) : (B1 m ρ c (Proc.devRef .tc main_v2) : FVec Ideal S2048x512 .bf16) j
    = (m ((c : Thread nD τ).loc main_arg2) : FVec Ideal S2048x512 .f32) j := by
  unfold B1
  after_results_simp <;> rfl

section
variable {A0 A1 A2 A3 : ℕ → ℕ → ℝ}
  (h0 : ∀ (i : Fin 2048) (j : Fin 1024), (m ((c : Thread nD τ).loc main_arg0) : FVec Ideal S2048x1024 .f32) (ix2 i j) = ((A0 i.val j.val : ℝ) : EReal))
  (h1 : ∀ (i : Fin 2048) (j : Fin 1024), (m ((c : Thread nD τ).loc main_arg1) : FVec Ideal S2048x1024 .f32) (ix2 i j) = ((A1 i.val j.val : ℝ) : EReal))
  (h2 : ∀ (i : Fin 2048) (j : Fin 512), (m ((c : Thread nD τ).loc main_arg2) : FVec Ideal S2048x512 .f32) (ix2 i j) = ((A2 i.val j.val : ℝ) : EReal))
  (h3 : ∀ (i : Fin 2048) (j : Fin 512), (m ((c : Thread nD τ).loc main_arg3) : FVec Ideal S2048x1024 .f32) (ix2 i ⟨512 + j.val, by omega⟩) = ((A3 i.val j.val : ℝ) : EReal))
include h0 h1 h2 h3

/-- What the backward pipeline finds in its six input arrays. -/
theorem found : Found (U2 m ρ) c A0 A1 A2 A3 where
  hq i j := ((congrFun (B2_of m ρ c main_v0 (by decide +kernel)) (ix2 i j)).trans (B1_q m ρ c _)).trans (h0 i j)
  hk i j := ((congrFun (B2_of m ρ c main_v1 (by decide +kernel)) (ix2 i j)).trans (B1_k m ρ c _)).trans (h1 i j)
  hv i j := ((congrFun (B2_of m ρ c main_v2 (by decide +kernel)) (ix2 i j)).trans (B1_v m ρ c _)).trans (h2 i j)
  ho i j := (congrFun (B2_arr m ρ c 3) (ix2 i j)).trans (congrFun (final0_3 (U1 m ρ) c (fun i j => (B1_q m ρ c _).trans (h0 i j))
    (fun i j => (B1_k m ρ c _).trans (h1 i j)) (fun i j => (B1_v m ρ c _).trans (h2 i j))) (ix2 i j))
  hl h i := (congrFun (B2_arr m ρ c 4) (ix3 h i 0)).trans (congrFun (final0_4 (U1 m ρ) c (fun i j => (B1_q m ρ c _).trans (h0 i j))
    (fun i j => (B1_k m ρ c _).trans (h1 i j))) (ix3 h i 0))
  hg i j := (congrFun (B2_args m ρ c main_arg3 (by decide)) (ix2 i ⟨512 + j.val, by omega⟩)).trans (h3 i j)

/-- The gradient of q at the end, as real numbers. -/
theorem B3_dq : B3 m ρ c (Proc.devRef .tc main_v4_0) = fun y : S2048x1024.Idx => ((dq scale (hd 256 A0 ((y 1).val / 256)) (hd 256 A1 ((y 1).val / 256))
      (hd 128 A2 ((y 1).val / 256)) (hd 128 A3 ((y 1).val / 256)) (y 0).val ((y 1).val % 256) : ℝ) : EReal) :=
  (B3_arr m ρ c 6).trans (final1_6 _ c (found m ρ c h0 h1 h2 h3))
/-- The gradient of k at the end, as real numbers. -/
theorem B3_dk : B3 m ρ c (Proc.devRef .tc main_v4_1) = fun y : S2048x1024.Idx => ((dk scale (hd 256 A0 ((y 1).val / 256)) (hd 256 A1 ((y 1).val / 256))
      (hd 128 A2 ((y 1).val / 256)) (hd 128 A3 ((y 1).val / 256)) (y 0).val ((y 1).val % 256) : ℝ) : EReal) :=
  (B3_arr m ρ c 7).trans (final1_7 _ c (found m ρ c h0 h1 h2 h3))
/-- The gradient of v at the end, as real numbers. -/
theorem B3_dv : B3 m ρ c (Proc.devRef .tc main_v4_2) = fun y : S2048x512.Idx => ((dv scale (hd 256 A0 ((y 1).val / 128)) (hd 256 A1 ((y 1).val / 128))
      (hd 128 A3 ((y 1).val / 128)) (y 0).val ((y 1).val % 128) : ℝ) : EReal) :=
  (B3_arr m ρ c 8).trans (final1_8 _ c (found m ρ c h0 h1 h2 h3))
end

/-- The program terminates, leaves its arguments and every counter as they were. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1 c _ (mem_held _ (by decide))).trans (B3_args m ρ c _ (by decide)),
     (h.1 c _ (mem_held _ (by decide))).trans (B3_args m ρ c _ (by decide)),
     (h.1 c _ (mem_held _ (by decide))).trans (B3_args m ρ c _ (by decide)),
     (h.1 c _ (mem_held _ (by decide))).trans (B3_args m ρ c _ (by decide))⟩, h.2⟩)
    (run_main m ρ)

end Cert.KernelIdeal.Attn

namespace Cert.Proof

open Idealize.ShloMosaic Idealize.ShloMosaic.TcCoe Idealize.SL.Sem
open Cert.Reals

/-- The side conditions of the finiteness test. -/
theorem preFacts : Cert.Pre_finite.Facts := ⟨by decide, by decide⟩

/-! # The claims about attention's gradients -/

/-- The program terminates, leaves its arguments and every counter as they were: bits. -/
theorem frame_kernel : Cert.quiescent_Kernel := fun m ρ _ => by
  rw [table_eq]; exact KernelIdeal.Attn.run_frame (F := Bits) m ρ

/-- The same over the extended reals. -/
theorem frame_ideal : Cert.quiescent_KernelIdeal := fun m ρ _ => KernelIdeal.Attn.run_frame (F := Ideal) m ρ

/-- The reference terminates and leaves its arguments; it has no counters. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's gradients of the queries, keys and values are the reference's, from finite arguments. -/
theorem algebraic_attention : Cert.algebraic_KernelIdeal_ReferenceIdeal_pre_finite (hPre_finite := preFacts) := by
  intro m ρ m' ρ' hpre hagree
  let A0 (c : Dev KernelIdeal.nD) := at2 fun (i : Fin 2048) (j : Fin 1024) => (m ((c.tc : Thread KernelIdeal.nD KernelIdeal.τ).loc KernelIdeal.main_arg0) : FVec Ideal KernelIdeal.S2048x1024 .f32) (ix2 i j)
  let A1 (c : Dev KernelIdeal.nD) := at2 fun (i : Fin 2048) (j : Fin 1024) => (m ((c.tc : Thread KernelIdeal.nD KernelIdeal.τ).loc KernelIdeal.main_arg1) : FVec Ideal KernelIdeal.S2048x1024 .f32) (ix2 i j)
  let A2 (c : Dev KernelIdeal.nD) := at2 fun (i : Fin 2048) (j : Fin 512) => (m ((c.tc : Thread KernelIdeal.nD KernelIdeal.τ).loc KernelIdeal.main_arg2) : FVec Ideal KernelIdeal.S2048x512 .f32) (ix2 i j)
  let A3 (c : Dev KernelIdeal.nD) := at2 fun (i : Fin 2048) (j : Fin 512) => (m ((c.tc : Thread KernelIdeal.nD KernelIdeal.τ).loc KernelIdeal.main_arg3) : FVec Ideal KernelIdeal.S2048x1024 .f32) (ix2 i ⟨512 + j.val, by omega⟩)
  have f0 := fun c => at2_coe (fun (i : Fin 2048) (j : Fin 1024) => (m ((c.tc : Thread KernelIdeal.nD KernelIdeal.τ).loc KernelIdeal.main_arg0) : FVec Ideal KernelIdeal.S2048x1024 .f32) (ix2 i j)) fun i j => finite_at _ _ (hpre c).1 _
  have f1 := fun c => at2_coe (fun (i : Fin 2048) (j : Fin 1024) => (m ((c.tc : Thread KernelIdeal.nD KernelIdeal.τ).loc KernelIdeal.main_arg1) : FVec Ideal KernelIdeal.S2048x1024 .f32) (ix2 i j)) fun i j => finite_at _ _ (hpre c).2.1 _
  have f2 := fun c => at2_coe (fun (i : Fin 2048) (j : Fin 512) => (m ((c.tc : Thread KernelIdeal.nD KernelIdeal.τ).loc KernelIdeal.main_arg2) : FVec Ideal KernelIdeal.S2048x512 .f32) (ix2 i j)) fun i j => finite_at _ _ (hpre c).2.2.1 _
  have f3 := fun c => at2_coe (fun (i : Fin 2048) (j : Fin 512) => (m ((c.tc : Thread KernelIdeal.nD KernelIdeal.τ).loc KernelIdeal.main_arg3) : FVec Ideal KernelIdeal.S2048x1024 .f32) (ix2 i ⟨512 + j.val, by omega⟩)) fun i j => finite_at _ _ (hpre c).2.2.2 _
  refine ⟨fun c => KernelIdeal.Attn.B3 m ρ c (Proc.devRef .tc KernelIdeal.main_v4_0), fun c => KernelIdeal.Attn.B3 m ρ c (Proc.devRef .tc KernelIdeal.main_v4_1),
    fun c => KernelIdeal.Attn.B3 m ρ c (Proc.devRef .tc KernelIdeal.main_v4_2), ?_, ?_⟩
  · refine (θ_run Cert.KernelIdeal.defs _ _).mono (fun _ h c => ?_) (KernelIdeal.Attn.run_main (F := Ideal) m ρ)
    exact ⟨h.1 c _ (KernelIdeal.Attn.mem_held _ (by decide)), h.1 c _ (KernelIdeal.Attn.mem_held _ (by decide)), h.1 c _ (KernelIdeal.Attn.mem_held _ (by decide)),
      (h.1 c _ (KernelIdeal.Attn.mem_held _ (by decide))).trans (KernelIdeal.Attn.B3_args m ρ c _ (by decide)),
      (h.1 c _ (KernelIdeal.Attn.mem_held _ (by decide))).trans (KernelIdeal.Attn.B3_args m ρ c _ (by decide)),
      (h.1 c _ (KernelIdeal.Attn.mem_held _ (by decide))).trans (KernelIdeal.Attn.B3_args m ρ c _ (by decide)),
      (h.1 c _ (KernelIdeal.Attn.mem_held _ (by decide))).trans (KernelIdeal.Attn.B3_args m ρ c _ (by decide))⟩
  · refine (θ_run Cert.ReferenceIdeal.defs _ _).mono (fun _ h c => ?_) (Cert.ReferenceIdeal.Value.run (F := Ideal) m' ρ')
    have g0 := fun (i : Fin 2048) (j : Fin 1024) => (congrFun (hagree c).1 (ix2 i j)).trans (f0 c i j)
    have g1 := fun (i : Fin 2048) (j : Fin 1024) => (congrFun (hagree c).2.1 (ix2 i j)).trans (f1 c i j)
    have g2 := fun (i : Fin 2048) (j : Fin 512) => (congrFun (hagree c).2.2.1 (ix2 i j)).trans (f2 c i j)
    have g3 := fun (i : Fin 2048) (j : Fin 512) => (congrFun (hagree c).2.2.2 (ix2 i ⟨512 + j.val, by omega⟩)).trans (f3 c i j)
    obtain ⟨r0, r1, r2, ra⟩ := h c
    exact ⟨r0.trans ((ReferenceIdeal.Attn.out0_val m' c g0 g1 g2 g3).trans (KernelIdeal.Attn.B3_dq m ρ c (f0 c) (f1 c) (f2 c) (f3 c)).symm),
      r1.trans ((ReferenceIdeal.Attn.out1_val m' c g0 g1 g2 g3).trans (KernelIdeal.Attn.B3_dk m ρ c (f0 c) (f1 c) (f2 c) (f3 c)).symm),
      r2.trans ((ReferenceIdeal.Attn.out2_val m' c g0 g1 g3).trans (KernelIdeal.Attn.B3_dv m ρ c (f0 c) (f1 c) (f2 c) (f3 c)).symm), ra⟩

end Cert.Proof

end
-- ==== Proof.FfnBody.lean ====
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.FwdBody

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen
open Cert.KernelIdeal.Attn (read_one overlay_all load_fill)

variable {F : FTy → Type} [FloatOps F]

/-! # The three kernel bodies of the feed-forward chain, one grid point at a time

The first body normalizes the rows once, at the first grid point, and multiplies them with a tile of 256 columns of the
gate and up weights. The second walks the same tiles backward, to the cotangents of the gate and up products and to the
gradients of the three weight tiles. The third adds the two products that make the rows' gradient. -/

/-- The resources a core's triple speaks of. -/
abbrev Res (F : FTy → Type) : Type := MT nD τ sig Unit (Elt F) ℕ (UR sig nD τ) ℕ

/-! ## The whole-block rectangles the bodies load and store -/

/-- A whole block of 2048 rows and 1024 columns. -/
abbrev r2048_1024 : Rect S2048x1024 := Rect.unit (s := S2048x1024) ![0, 0] S2048x1024.size inb_S2048x1024_S2048x1024_0_0
/-- A whole block of 1 rows and 1024 columns. -/
abbrev r1_1024 : Rect S1x1024 := Rect.unit (s := S1x1024) ![0, 0] S1x1024.size inb_S1x1024_S1x1024_0_0
/-- A whole block of 256 rows and 1024 columns. -/
abbrev r256_1024 : Rect S256x1024 := Rect.unit (s := S256x1024) ![0, 0] S256x1024.size inb_S256x1024_S256x1024_0_0
/-- A whole block of 2048 rows and 256 columns. -/
abbrev r2048_256 : Rect S2048x256 := Rect.unit (s := S2048x256) ![0, 0] S2048x256.size inb_S2048x256_S2048x256_0_0
/-- A whole block of 1024 rows and 2816 columns. -/
abbrev r1024_2816 : Rect S1024x2816 := Rect.unit (s := S1024x2816) ![0, 0] S1024x2816.size inb_S1024x2816_S1024x2816_0_0
/-- A whole block of 2816 rows and 512 columns. -/
abbrev r2816_512 : Rect S2816x512 := Rect.unit (s := S2816x512) ![0, 0] S2816x512.size inb_S2816x512_S2816x512_0_0
/-- A whole block of 1024 rows and 512 columns. -/
abbrev r1024_512 : Rect S1024x512 := Rect.unit (s := S1024x512) ![0, 0] S1024x512.size inb_S1024x512_S1024x512_0_0

/-- The first body's condition holds at the first grid point alone. -/
theorem g0_when : ∀ t : Fin cfg0.N, k0_cond1 (grid0.coords t) = 1#1 ↔ t.val = 0 :=
  (by decide +kernel : ∀ t : Fin grid0.N, k0_cond1 (grid0.coords t) = 1#1 ↔ t.val = 0)

/-! ## What the bodies leave -/

/-- The normalized, scaled and shifted rows. -/
def upH (x0 : Vec F S2048x1024 .f32) (x1 x2 x3 : Vec F S1x1024 .f32) : Vec F S2048x1024 .bf16 :=
  k0_pay1 (View.ld x0 r2048_1024) (View.ld x1 r1_1024) (View.ld x3 r1_1024) (View.ld x2 r1_1024)
/-- A tile of the gate product. -/
def upA (h : Vec F S2048x1024 .bf16) (x4 : Vec F S256x1024 .bf16) : Vec F S2048x256 .bf16 := k0_pay5 (View.ld h r2048_1024) (View.ld x4 r256_1024)
/-- A tile of the up product. -/
def upB (h : Vec F S2048x1024 .bf16) (x5 : Vec F S256x1024 .bf16) : Vec F S2048x256 .bf16 := k0_pay6 (View.ld h r2048_1024) (View.ld x5 r256_1024)
/-- A tile of the gated product. -/
def upT (h : Vec F S2048x1024 .bf16) (x4 x5 : Vec F S256x1024 .bf16) : Vec F S2048x256 .bf16 := k0_pay7 (View.ld h r2048_1024) (View.ld x4 r256_1024) (View.ld x5 r256_1024)
/-- A tile of the gate product's cotangent. -/
def colDA (x0 : Vec F S2048x1024 .bf16) (x2 x3 : Vec F S2048x256 .bf16) (x5 : Vec F S256x1024 .bf16) : Vec F S2048x256 .bf16 :=
  k1_pay9 (View.ld x0 r2048_1024) (View.ld x5 r256_1024) (View.ld x2 r2048_256) (View.ld x3 r2048_256)
/-- A tile of the up product's cotangent. -/
def colDB (x0 : Vec F S2048x1024 .bf16) (x2 : Vec F S2048x256 .bf16) (x5 : Vec F S256x1024 .bf16) : Vec F S2048x256 .bf16 :=
  k1_pay8 (View.ld x0 r2048_1024) (View.ld x5 r256_1024) (View.ld x2 r2048_256)
/-- A tile of the down weights' gradient. -/
def colGD (x0 : Vec F S2048x1024 .bf16) (x4 : Vec F S2048x256 .bf16) : Vec F S256x1024 .bf16 := k1_pay10 (View.ld x0 r2048_1024) (View.ld x4 r2048_256)
/-- A tile of the gate weights' gradient. -/
def colGG (x0 x1 : Vec F S2048x1024 .bf16) (x2 x3 : Vec F S2048x256 .bf16) (x5 : Vec F S256x1024 .bf16) : Vec F S256x1024 .bf16 :=
  k1_pay1 (k1_pay4 (View.ld x1 r2048_1024)) (colDA x0 x2 x3 x5) (constant S256x1024 .f32 0x00000000#32)
/-- A tile of the up weights' gradient. -/
def colGU (x0 x1 : Vec F S2048x1024 .bf16) (x2 : Vec F S2048x256 .bf16) (x5 : Vec F S256x1024 .bf16) : Vec F S256x1024 .bf16 :=
  k1_pay2 (k1_pay4 (View.ld x1 r2048_1024)) (colDB x0 x2 x5)
/-- A block of the rows' gradient. -/
def rowD (x0 : Vec F S1024x2816 .bf16) (x1 : Vec F S2816x512 .bf16) (x2 : Vec F S1024x2816 .bf16) (x3 : Vec F S2816x512 .bf16) : Vec F S1024x512 .f32 :=
  k2_pay1 (View.ld x0 r1024_2816) (View.ld x1 r2816_512) (View.ld x2 r1024_2816) (View.ld x3 r2816_512)

set_option maxHeartbeats 1000000 in
/-- The first body at the first grid point: it also makes the rows. -/
theorem up_run_first (c : Dev nD) (i : grid0.Coords)
    (arg2 : Memref sig .tc .vmem S2048x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S2048x1024 .bf16) (harg8 : arg8.IsWhole)
    (arg9 : Memref sig .tc .vmem S2048x256 .bf16) (harg9 : arg9.IsWhole)
    (arg10 : Memref sig .tc .vmem S2048x256 .bf16) (harg10 : arg10.IsWhole)
    (arg11 : Memref sig .tc .vmem S2048x256 .bf16) (harg11 : arg11.IsWhole)
    (h1 : k0_cond1 i = 1#1)
    (x0 : Vec F S2048x1024 .f32) (x1 : Vec F S1x1024 .f32) (x2 : Vec F S1x1024 .f32) (x3 : Vec F S1x1024 .f32) (x4 : Vec F S256x1024 .bf16) (x5 : Vec F S256x1024 .bf16)
    (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (upH x0 x1 x2 x3) ∗ owns (c : Thread nD τ) arg9 fullShare (upA (upH x0 x1 x2 x3) x4) ∗ owns (c : Thread nD τ) arg10 fullShare (upB (upH x0 x1 x2 x3) x5) ∗ owns (c : Thread nD τ) arg11 fullShare (upT (upH x0 x1 x2 x3) x4 x5)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec (disch := sl_exact h1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact (read_one _ _ _ _).trans (overlay_all inb_S2048x1024_S2048x1024_0_0 (by decide) _ _)
  isplitl [H7]
  · iexists _; isplitr
    swap; · iexact H7
    ipureintro
    refine (read_one _ _ _ _).trans ((overlay_all inb_S2048x256_S2048x256_0_0 (by decide) _ _).trans ?_)
    unfold upA
    rw [← load_fill (Val := Elt F) arg8.view inb_S2048x1024_S2048x1024_0_0 (by decide) (upH (arg2.view.read (Elt F) f0) (arg3.view.read (Elt F) f1) (arg4.view.read (Elt F) f2) (arg5.view.read (Elt F) f3)) r2048_1024]; rfl
  isplitl [H8]
  · iexists _; isplitr
    swap; · iexact H8
    ipureintro
    refine (read_one _ _ _ _).trans ((overlay_all inb_S2048x256_S2048x256_0_0 (by decide) _ _).trans ?_)
    unfold upB
    rw [← load_fill (Val := Elt F) arg8.view inb_S2048x1024_S2048x1024_0_0 (by decide) (upH (arg2.view.read (Elt F) f0) (arg3.view.read (Elt F) f1) (arg4.view.read (Elt F) f2) (arg5.view.read (Elt F) f3)) r2048_1024]; rfl
  · iexists _; isplitr
    swap; · iexact H9
    ipureintro
    refine (read_one _ _ _ _).trans ((overlay_all inb_S2048x256_S2048x256_0_0 (by decide) _ _).trans ?_)
    unfold upT
    rw [← load_fill (Val := Elt F) arg8.view inb_S2048x1024_S2048x1024_0_0 (by decide) (upH (arg2.view.read (Elt F) f0) (arg3.view.read (Elt F) f1) (arg4.view.read (Elt F) f2) (arg5.view.read (Elt F) f3)) r2048_1024]; rfl

set_option maxHeartbeats 1000000 in
/-- The first body at a later grid point: it finds the rows already made. -/
theorem up_run_later (c : Dev nD) (i : grid0.Coords)
    (arg2 : Memref sig .tc .vmem S2048x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S2048x1024 .bf16) (harg8 : arg8.IsWhole)
    (arg9 : Memref sig .tc .vmem S2048x256 .bf16) (harg9 : arg9.IsWhole)
    (arg10 : Memref sig .tc .vmem S2048x256 .bf16) (harg10 : arg10.IsWhole)
    (arg11 : Memref sig .tc .vmem S2048x256 .bf16) (harg11 : arg11.IsWhole)
    (h1 : ¬ k0_cond1 i = 1#1)
    (x0 : Vec F S2048x1024 .f32) (x1 : Vec F S1x1024 .f32) (x2 : Vec F S1x1024 .f32) (x3 : Vec F S1x1024 .f32) (x4 : Vec F S256x1024 .bf16) (x5 : Vec F S256x1024 .bf16) (X6 : Vec F S2048x1024 .bf16)
    (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare X6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (X6) ∗ owns (c : Thread nD τ) arg9 fullShare (upA X6 x4) ∗ owns (c : Thread nD τ) arg10 fullShare (upB X6 x5) ∗ owns (c : Thread nD τ) arg11 fullShare (upT X6 x4 x5)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec (disch := sl_exact h1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    exact (read_one _ _ _ _).trans (overlay_all inb_S2048x256_S2048x256_0_0 (by decide) _ _)
  isplitl [H8]
  · iexists _; isplitr
    swap; · iexact H8
    ipureintro
    exact (read_one _ _ _ _).trans (overlay_all inb_S2048x256_S2048x256_0_0 (by decide) _ _)
  · iexists _; isplitr
    swap; · iexact H9
    ipureintro
    exact (read_one _ _ _ _).trans (overlay_all inb_S2048x256_S2048x256_0_0 (by decide) _ _)

set_option maxHeartbeats 1000000 in
/-- The second body: the inputs stay, the five output blocks hold their tiles. -/
theorem cols_run (c : Dev nD) (i : grid1.Coords)
    (arg1 : Memref sig .tc .vmem S2048x1024 .bf16) (harg1 : arg1.IsWhole)
    (arg2 : Memref sig .tc .vmem S2048x1024 .bf16) (harg2 : arg2.IsWhole)
    (arg3 : Memref sig .tc .vmem S2048x256 .bf16) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S256x1024 .bf16) (harg6 : arg6.IsWhole)
    (arg7 : Memref sig .tc .vmem S2048x256 .bf16) (harg7 : arg7.IsWhole)
    (arg8 : Memref sig .tc .vmem S2048x256 .bf16) (harg8 : arg8.IsWhole)
    (arg9 : Memref sig .tc .vmem S256x1024 .bf16) (harg9 : arg9.IsWhole)
    (arg10 : Memref sig .tc .vmem S256x1024 .bf16) (harg10 : arg10.IsWhole)
    (arg11 : Memref sig .tc .vmem S256x1024 .bf16) (harg11 : arg11.IsWhole)

    (x0 : Vec F S2048x1024 .bf16) (x1 : Vec F S2048x1024 .bf16) (x2 : Vec F S2048x256 .bf16) (x3 : Vec F S2048x256 .bf16) (x4 : Vec F S2048x256 .bf16) (x5 : Vec F S256x1024 .bf16)
    (E : Set ℕ) (K : PUnit → sProp (Res F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (colDA x0 x2 x3 x5) ∗ owns (c : Thread nD τ) arg8 fullShare (colDB x0 x2 x5) ∗ owns (c : Thread nD τ) arg9 fullShare (colGD x0 x4) ∗ owns (c : Thread nD τ) arg10 fullShare (colGG x0 x1 x2 x3 x5) ∗ owns (c : Thread nD τ) arg11 fullShare (colGU x0 x1 x2 x5)) -∗ K ⟨⟩))
      ⊢ wp frame (wpE (defs₀ (F := F)) Variants.none c none) E (cc1_ffn_bwd_cols i arg1 harg1 arg2 harg2 arg3 harg3 arg4 harg4 arg5 harg5 arg6 harg6 arg7 harg7 arg8 harg8 arg9 harg9 arg10 harg10 arg11 harg11) K := by
  simp only [cc1_ffn_bwd_cols_eq_skeleton]; unfold cc1_ffn_bwd_cols_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact (read_one _ _ _ _).trans (overlay_all inb_S2048x256_S2048x256_0_0 (by decide) _ _)
  isplitl [H7]
  · iexists _; isplitr
    swap; · iexact H7
    ipureintro
    exact (read_one _ _ _ _).trans (overlay_all inb_S2048x256_S2048x256_0_0 (by decide) _ _)
  isplitl [H8]
  · iexists _; isplitr
    swap; · iexact H8
    ipureintro
    exact (read_one _ _ _ _).trans (overlay_all inb_S256x1024_S256x1024_0_0 (by decide) _ _)
  isplitl [H9]
  · iexists _; isplitr
    swap; · iexact H9
    ipureintro
    exact (read_one _ _ _ _).trans (overlay_all inb_S256x1024_S256x1024_0_0 (by decide) _ _)
  · iexists _; isplitr
    swap; · iexact H10
    ipureintro
    exact (read_one _ _ _ _).trans (overlay_all inb_S256x1024_S256x1024_0_0 (by decide) _ _)

set_option maxHeartbeats 1000000 in
/-- The third body: the inputs stay, the output block holds the two products' sum. -/
theorem rows_run (c : Dev nD) (i : grid2.Coords)
    (arg2 : Memref sig .tc .vmem S1024x2816 .bf16) (harg2 : arg2.IsWhole)
    (arg3 : Memref sig .tc .vmem S2816x512 .bf16) (harg3 : arg3.IsWhole)
    (arg4 : Memref sig .tc .vmem S1024x2816 .bf16) (harg4 : arg4.IsWhole)
    (arg5 : Memref sig .tc .vmem S2816x512 .bf16) (harg5 : arg5.IsWhole)
    (arg6 : Memref sig .tc .vmem S1024x512 .f32) (harg6 : arg6.IsWhole)

    (x0 : Vec F S1024x2816 .bf16) (x1 : Vec F S2816x512 .bf16) (x2 : Vec F S1024x2816 .bf16) (x3 : Vec F S2816x512 .bf16)
    (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (rowD x0 x1 x2 x3)) -∗ K ⟨⟩))
      ⊢ wp frame (wpE (defs₀ (F := F)) Variants.none c none) E (cc2_ffn_bwd_dh i arg2 harg2 arg3 harg3 arg4 harg4 arg5 harg5 arg6 harg6) K := by
  simp only [cc2_ffn_bwd_dh_eq_skeleton]; unfold cc2_ffn_bwd_dh_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  · iexists _; isplitr
    swap; · iexact H4
    ipureintro
    exact (read_one _ _ _ _).trans (overlay_all inb_S1024x512_S1024x512_0_0 (by decide) _ _)

end Cert.Kernel2Ideal.Ffn

end
-- ==== Proof.UpRegion.lean ====
module

public import proofs.«01_k».proof.Proof.FfnBody

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

/-! # The first feed-forward pipeline: what its buffers hold at every grid point

`V` is what the core's buffers hold when the pipeline starts. -/

section Region0
variable (V : (c : Dev nD) → (b : Ref sig .tc) → Buf (Elt F) ((c : Thread nD τ).loc b))

/-- The block of window `w` at point `t`, read from its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev pt0 : Fin cfg0.N := ⟨0, by decide⟩

/-- The rows the first grid point makes, which stay in their buffer to the last. -/
def hBlk (c : Dev nD) : Vec F S2048x1024 .bf16 :=
  upH (blk0 V c 0 pt0) (blk0 V c 1 pt0) (blk0 V c 2 pt0) (blk0 V c 3 pt0)

/-- What the pipeline's buffers hold after the body at each point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => hBlk V c
    | ⟨7, _⟩ => upA (hBlk V c) (blk0 V c 4 t)
    | ⟨8, _⟩ => upB (hBlk V c) (blk0 V c 5 t)
    | ⟨9, _⟩ => upT (hBlk V c) (blk0 V c 4 t) (blk0 V c 5 t)
  Φ _ := Pipeline.ΦA spec0 c
  q _ := fullShare
  owed _ := 0

/-- The arrays are as the pipeline finds them. -/
theorem A_eq0 (c : Dev nD) (w : Fin cfg0.W) : (dat0 V c).A w = V c (Pipeline.arrRef spec0 w) := by
  dsimp only [dat0]
/-- What the body leaves in window 0 at a grid step. -/
theorem after0_0 (c : Dev nD) (t : Fin cfg0.N) : (dat0 V c).after 0 t = blk0 V c 0 t := by dsimp only [dat0]
/-- What the body leaves in window 1 at a grid step. -/
theorem after0_1 (c : Dev nD) (t : Fin cfg0.N) : (dat0 V c).after 1 t = blk0 V c 1 t := by dsimp only [dat0]
/-- What the body leaves in window 2 at a grid step. -/
theorem after0_2 (c : Dev nD) (t : Fin cfg0.N) : (dat0 V c).after 2 t = blk0 V c 2 t := by dsimp only [dat0]
/-- What the body leaves in window 3 at a grid step. -/
theorem after0_3 (c : Dev nD) (t : Fin cfg0.N) : (dat0 V c).after 3 t = blk0 V c 3 t := by dsimp only [dat0]
/-- What the body leaves in window 4 at a grid step. -/
theorem after0_4 (c : Dev nD) (t : Fin cfg0.N) : (dat0 V c).after 4 t = blk0 V c 4 t := by dsimp only [dat0]
/-- What the body leaves in window 5 at a grid step. -/
theorem after0_5 (c : Dev nD) (t : Fin cfg0.N) : (dat0 V c).after 5 t = blk0 V c 5 t := by dsimp only [dat0]
/-- What the body leaves in window 6 at a grid step. -/
theorem after0_6 (c : Dev nD) (t : Fin cfg0.N) : (dat0 V c).after 6 t = hBlk V c := by dsimp only [dat0]
/-- What the body leaves in window 7 at a grid step. -/
theorem after0_7 (c : Dev nD) (t : Fin cfg0.N) : (dat0 V c).after 7 t = upA (hBlk V c) (blk0 V c 4 t) := by dsimp only [dat0]
/-- What the body leaves in window 8 at a grid step. -/
theorem after0_8 (c : Dev nD) (t : Fin cfg0.N) : (dat0 V c).after 8 t = upB (hBlk V c) (blk0 V c 5 t) := by dsimp only [dat0]
/-- What the body leaves in window 9 at a grid step. -/
theorem after0_9 (c : Dev nD) (t : Fin cfg0.N) : (dat0 V c).after 9 t = upT (hBlk V c) (blk0 V c 4 t) (blk0 V c 5 t) := by dsimp only [dat0]
/-- What the body finds in window 0 at a grid step: the array's block. -/
theorem found0_0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
/-- What the body finds in window 1 at a grid step: the array's block. -/
theorem found0_1 (c : Dev nD) (t : Fin cfg0.N) (d) : (dat0 V c).before 1 t d = blk0 V c 1 t :=
  ((dat0 V c).before_in_eq_fetched 1 rfl (fun _ => rfl) (fun _ _ _ => rfl) (fun _ => rfl) t d).trans rfl
/-- What the body finds in window 2 at a grid step: the array's block. -/
theorem found0_2 (c : Dev nD) (t : Fin cfg0.N) (d) : (dat0 V c).before 2 t d = blk0 V c 2 t :=
  ((dat0 V c).before_in_eq_fetched 2 rfl (fun _ => rfl) (fun _ _ _ => rfl) (fun _ => rfl) t d).trans rfl
/-- What the body finds in window 3 at a grid step: the array's block. -/
theorem found0_3 (c : Dev nD) (t : Fin cfg0.N) (d) : (dat0 V c).before 3 t d = blk0 V c 3 t :=
  ((dat0 V c).before_in_eq_fetched 3 rfl (fun _ => rfl) (fun _ _ _ => rfl) (fun _ => rfl) t d).trans rfl
/-- What the body finds in window 4 at a grid step: the array's block. -/
theorem found0_4 (c : Dev nD) (t : Fin cfg0.N) (d) : (dat0 V c).before 4 t d = blk0 V c 4 t :=
  ((dat0 V c).before_in_eq_fetched 4 rfl (fun _ => rfl) (fun _ _ _ => rfl) (fun _ => rfl) t d).trans rfl
/-- What the body finds in window 5 at a grid step: the array's block. -/
theorem found0_5 (c : Dev nD) (t : Fin cfg0.N) (d) : (dat0 V c).before 5 t d = blk0 V c 5 t :=
  ((dat0 V c).before_in_eq_fetched 5 rfl (fun _ => rfl) (fun _ _ _ => rfl) (fun _ => rfl) t d).trans rfl

/-! Every output block but the rows is stored at every point; the rows at the first alone. -/
theorem live0_0 : ∀ t : Fin cfg0.N, cfg0.idle 0 (grid0.coords t) = false := fun _ => rfl
/-- The body touches window 1 at every grid step. -/
theorem live0_1 : ∀ t : Fin cfg0.N, cfg0.idle 1 (grid0.coords t) = false := fun _ => rfl
/-- The body touches window 2 at every grid step. -/
theorem live0_2 : ∀ t : Fin cfg0.N, cfg0.idle 2 (grid0.coords t) = false := fun _ => rfl
/-- The body touches window 3 at every grid step. -/
theorem live0_3 : ∀ t : Fin cfg0.N, cfg0.idle 3 (grid0.coords t) = false := fun _ => rfl
/-- The body touches window 4 at every grid step. -/
theorem live0_4 : ∀ t : Fin cfg0.N, cfg0.idle 4 (grid0.coords t) = false := fun _ => rfl
/-- The body touches window 5 at every grid step. -/
theorem live0_5 : ∀ t : Fin cfg0.N, cfg0.idle 5 (grid0.coords t) = false := fun _ => rfl
/-- The body touches window 6 at every grid step. -/
theorem live0_6 : ∀ t : Fin cfg0.N, t.val = 0 → cfg0.idle 6 (grid0.coords t) = false :=
  (by decide +kernel : ∀ t : Fin grid0.N, t.val = 0 → idle0 6 (grid0.coords t) = false)
/-- After the first grid step the body leaves window 6 alone. -/
theorem idle0_6 : ∀ t : Fin cfg0.N, t.val ≠ 0 → cfg0.idle 6 (grid0.coords t) = true :=
  (by decide +kernel : ∀ t : Fin grid0.N, t.val ≠ 0 → idle0 6 (grid0.coords t) = true)
/-- The body touches window 7 at every grid step. -/
theorem live0_7 : ∀ t : Fin cfg0.N, cfg0.idle 7 (grid0.coords t) = false :=
  (by decide +kernel : ∀ t : Fin grid0.N, idle0 7 (grid0.coords t) = false)
/-- The body touches window 8 at every grid step. -/
theorem live0_8 : ∀ t : Fin cfg0.N, cfg0.idle 8 (grid0.coords t) = false :=
  (by decide +kernel : ∀ t : Fin grid0.N, idle0 8 (grid0.coords t) = false)
/-- The body touches window 9 at every grid step. -/
theorem live0_9 : ∀ t : Fin cfg0.N, cfg0.idle 9 (grid0.coords t) = false :=
  (by decide +kernel : ∀ t : Fin grid0.N, idle0 9 (grid0.coords t) = false)

/-- The number of grid steps. -/
theorem lt0 (t : Fin cfg0.N) : t.val < 11 := t.isLt

/-- Past the first point the body finds the rows. -/
theorem found0_6 (c : Dev nD) (n : ℕ) (hn : n < cfg0.N) (h : n ≠ 0) (d) : (dat0 V c).before 6 ⟨n, hn⟩ d = hBlk V c := by
  induction n with
  | zero => exact absurd rfl h
  | succ n ih =>
    have hlt := lt0 ⟨n + 1, hn⟩
    rw [(dat0 V c).before_of_pos 6 ⟨n + 1, hn⟩ h rfl d, if_neg]
    · unfold Dat.left
      by_cases h0 : n = 0
      · rw [live0_6 _ (by show n + 1 - 1 = 0; omega)]
        exact after0_6 V c _
      · rw [idle0_6 _ (by show n + 1 - 1 ≠ 0; omega)]
        exact ih _ h0
    · intro hf
      have := (flush0_6 _).mp hf
      dsimp only at this hlt
      omega

/-- The rows in their buffer are what the body must leave there, at every point. -/
theorem leave0_6 (c : Dev nD) (t : Fin cfg0.N) :
    owns (c : Thread nD τ) (st0_6 t) fullShare (hBlk V c) ⊢ ((dat0 V c).leavesExact 6 t : sProp (Res F)) := by
  by_cases h0 : t.val = 0
  · rw [show (dat0 V c).leavesExact 6 t = owns (c : Thread nD τ) (st0_6 t) fullShare ((dat0 V c).after 6 t) from by
      unfold Dat.leavesExact; rw [live0_6 t h0], after0_6]
  · by_cases hf : (cfg0.win 6).flush t = true
    · rw [show (dat0 V c).leavesExact 6 t = owns (c : Thread nD τ) (st0_6 t) fullShare ((dat0 V c).after 6 t) from by
        unfold Dat.leavesExact; rw [idle0_6 t h0, hf], after0_6]
    · rw [(dat0 V c).leavesExact_idle 6 t (idle0_6 t h0) (by simpa using hf)]
      iintro H
      iexists (hBlk V c)
      rw [found0_6 V c t.val t.isLt h0]
      iexact H

/-- What the body is given at point `t`. -/
def pre0 (c : Dev nD) (t : Fin cfg0.N) : sProp (Res F) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))
/-- What the body gives back at point `t`. -/
def post0 (c : Dev nD) (t : Fin cfg0.N) : sProp (Res F) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

/-- The body takes what it is given to what it gives back, at every point. -/
theorem step0 (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2, found0_3, found0_4, found0_5]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  rw [show (dat0 V c).leavesExact 2 t = owns (c : Thread nD τ) (st0_2 t) fullShare ((dat0 V c).after 2 t) from by
      unfold Dat.leavesExact; rw [live0_2 t], after0_2]
  rw [show (dat0 V c).leavesExact 3 t = owns (c : Thread nD τ) (st0_3 t) fullShare ((dat0 V c).after 3 t) from by
      unfold Dat.leavesExact; rw [live0_3 t], after0_3]
  rw [show (dat0 V c).leavesExact 4 t = owns (c : Thread nD τ) (st0_4 t) fullShare ((dat0 V c).after 4 t) from by
      unfold Dat.leavesExact; rw [live0_4 t], after0_4]
  rw [show (dat0 V c).leavesExact 5 t = owns (c : Thread nD τ) (st0_5 t) fullShare ((dat0 V c).after 5 t) from by
      unfold Dat.leavesExact; rw [live0_5 t], after0_5]
  rw [show (dat0 V c).leavesExact 7 t = owns (c : Thread nD τ) (st0_7 t) fullShare ((dat0 V c).after 7 t) from by
      unfold Dat.leavesExact; rw [live0_7 t], after0_7]
  rw [show (dat0 V c).leavesExact 8 t = owns (c : Thread nD τ) (st0_8 t) fullShare ((dat0 V c).after 8 t) from by
      unfold Dat.leavesExact; rw [live0_8 t], after0_8]
  rw [show (dat0 V c).leavesExact 9 t = owns (c : Thread nD τ) (st0_9 t) fullShare ((dat0 V c).after 9 t) from by
      unfold Dat.leavesExact; rw [live0_9 t], after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val = 0
  · obtain rfl : t = pt0 := Fin.ext h0
    iapply (up_run_first c (grid0.coords pt0) _ _ _ _ _ _ _ _ _ _ _ _ _ _ _ _ _ _ _ _ ((g0_when pt0).mpr rfl) (blk0 V c 0 pt0) (blk0 V c 1 pt0) (blk0 V c 2 pt0) (blk0 V c 3 pt0) (blk0 V c 4 pt0) (blk0 V c 5 pt0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leave0_6 V c pt0); iexact H6
    isplitl [H7]; · iexact H7
    isplitl [H8]; · iexact H8
    iexact H9
  · simp only [found0_6 V c t.val t.isLt h0]
    iapply (up_run_later c (grid0.coords t) _ _ _ _ _ _ _ _ _ _ _ _ _ _ _ _ _ _ _ _ (fun h => h0 ((g0_when t).mp h)) (blk0 V c 0 t) (blk0 V c 1 t) (blk0 V c 2 t) (blk0 V c 3 t) (blk0 V c 4 t) (blk0 V c 5 t) (hBlk V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leave0_6 V c t); iexact H6
    isplitl [H7]; · iexact H7
    isplitl [H8]; · iexact H8
    iexact H9

/-- The pipeline's row of the body table is the body. -/
theorem row0 (t : Fin cfg0.N) :
    defs₀ (F := F) .tc cfg0.body (cfg0.bodyArgs t (cfg0.slots t)) = bodyAt0 t := by
  unfold defs₀; rw [Defs.onTc_tc]

/-- The body's obligation at every point. -/
theorem obligation0 (c : Dev nD) : BodyObligation (dat0 (F := F) V c) (defs₀ (F := F)) Variants.none () Set.univ := fun t => by
  rw [bigSep_W0, bigSep_W0, row0]
  exact triple_restated (step0 V c t) rfl .rfl fun _ => .rfl

end Region0

end Cert.Kernel2Ideal.Ffn

end
-- ==== Proof.ColsRegion.lean ====
module

public import proofs.«01_k».proof.Proof.FfnBody

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

/-! # The second feed-forward pipeline: what its buffers hold at every grid point

`V` is what the core's buffers hold when the pipeline starts. -/

section Region1
variable (V : (c : Dev nD) → (b : Ref sig .tc) → Buf (Elt F) ((c : Thread nD τ).loc b))

/-- The block of window `w` at point `t`, read from its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the pipeline's buffers hold after the body at each point. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => colDA (blk1 V c 0 t) (blk1 V c 2 t) (blk1 V c 3 t) (blk1 V c 5 t)
    | ⟨7, _⟩ => colDB (blk1 V c 0 t) (blk1 V c 2 t) (blk1 V c 5 t)
    | ⟨8, _⟩ => colGD (blk1 V c 0 t) (blk1 V c 4 t)
    | ⟨9, _⟩ => colGG (blk1 V c 0 t) (blk1 V c 1 t) (blk1 V c 2 t) (blk1 V c 3 t) (blk1 V c 5 t)
    | ⟨10, _⟩ => colGU (blk1 V c 0 t) (blk1 V c 1 t) (blk1 V c 2 t) (blk1 V c 5 t)
  Φ _ := Pipeline.ΦA spec1 c
  q _ := fullShare
  owed _ := 0

/-- The arrays are as the pipeline finds them. -/
theorem A_eq1 (c : Dev nD) (w : Fin cfg1.W) : (dat1 V c).A w = V c (Pipeline.arrRef spec1 w) := by
  dsimp only [dat1]
/-- What the body leaves in window 0 at a grid step. -/
theorem after1_0 (c : Dev nD) (t : Fin cfg1.N) : (dat1 V c).after 0 t = blk1 V c 0 t := by dsimp only [dat1]
/-- What the body leaves in window 1 at a grid step. -/
theorem after1_1 (c : Dev nD) (t : Fin cfg1.N) : (dat1 V c).after 1 t = blk1 V c 1 t := by dsimp only [dat1]
/-- What the body leaves in window 2 at a grid step. -/
theorem after1_2 (c : Dev nD) (t : Fin cfg1.N) : (dat1 V c).after 2 t = blk1 V c 2 t := by dsimp only [dat1]
/-- What the body leaves in window 3 at a grid step. -/
theorem after1_3 (c : Dev nD) (t : Fin cfg1.N) : (dat1 V c).after 3 t = blk1 V c 3 t := by dsimp only [dat1]
/-- What the body leaves in window 4 at a grid step. -/
theorem after1_4 (c : Dev nD) (t : Fin cfg1.N) : (dat1 V c).after 4 t = blk1 V c 4 t := by dsimp only [dat1]
/-- What the body leaves in window 5 at a grid step. -/
theorem after1_5 (c : Dev nD) (t : Fin cfg1.N) : (dat1 V c).after 5 t = blk1 V c 5 t := by dsimp only [dat1]
/-- What the body leaves in window 6 at a grid step. -/
theorem after1_6 (c : Dev nD) (t : Fin cfg1.N) : (dat1 V c).after 6 t = colDA (blk1 V c 0 t) (blk1 V c 2 t) (blk1 V c 3 t) (blk1 V c 5 t) := by dsimp only [dat1]
/-- What the body leaves in window 7 at a grid step. -/
theorem after1_7 (c : Dev nD) (t : Fin cfg1.N) : (dat1 V c).after 7 t = colDB (blk1 V c 0 t) (blk1 V c 2 t) (blk1 V c 5 t) := by dsimp only [dat1]
/-- What the body leaves in window 8 at a grid step. -/
theorem after1_8 (c : Dev nD) (t : Fin cfg1.N) : (dat1 V c).after 8 t = colGD (blk1 V c 0 t) (blk1 V c 4 t) := by dsimp only [dat1]
/-- What the body leaves in window 9 at a grid step. -/
theorem after1_9 (c : Dev nD) (t : Fin cfg1.N) : (dat1 V c).after 9 t = colGG (blk1 V c 0 t) (blk1 V c 1 t) (blk1 V c 2 t) (blk1 V c 3 t) (blk1 V c 5 t) := by dsimp only [dat1]
/-- What the body leaves in window 10 at a grid step. -/
theorem after1_10 (c : Dev nD) (t : Fin cfg1.N) : (dat1 V c).after 10 t = colGU (blk1 V c 0 t) (blk1 V c 1 t) (blk1 V c 2 t) (blk1 V c 5 t) := by dsimp only [dat1]
/-- What the body finds in window 0 at a grid step: the array's block. -/
theorem found1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
/-- What the body finds in window 1 at a grid step: the array's block. -/
theorem found1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
/-- What the body finds in window 2 at a grid step: the array's block. -/
theorem found1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl
/-- What the body finds in window 3 at a grid step: the array's block. -/
theorem found1_3 (c : Dev nD) (t : Fin cfg1.N) (d) : (dat1 V c).before 3 t d = blk1 V c 3 t :=
  ((dat1 V c).before_in_eq_fetched 3 rfl (fun _ => rfl) (fun _ _ _ => rfl) (fun _ => rfl) t d).trans rfl
/-- What the body finds in window 4 at a grid step: the array's block. -/
theorem found1_4 (c : Dev nD) (t : Fin cfg1.N) (d) : (dat1 V c).before 4 t d = blk1 V c 4 t :=
  ((dat1 V c).before_in_eq_fetched 4 rfl (fun _ => rfl) (fun _ _ _ => rfl) (fun _ => rfl) t d).trans rfl
/-- What the body finds in window 5 at a grid step: the array's block. -/
theorem found1_5 (c : Dev nD) (t : Fin cfg1.N) (d) : (dat1 V c).before 5 t d = blk1 V c 5 t :=
  ((dat1 V c).before_in_eq_fetched 5 rfl (fun _ => rfl) (fun _ _ _ => rfl) (fun _ => rfl) t d).trans rfl

/-! Every output block is stored at every point. -/
theorem live1_0 : ∀ t : Fin cfg1.N, cfg1.idle 0 (grid1.coords t) = false := fun _ => rfl
/-- The body touches window 1 at every grid step. -/
theorem live1_1 : ∀ t : Fin cfg1.N, cfg1.idle 1 (grid1.coords t) = false := fun _ => rfl
/-- The body touches window 2 at every grid step. -/
theorem live1_2 : ∀ t : Fin cfg1.N, cfg1.idle 2 (grid1.coords t) = false := fun _ => rfl
/-- The body touches window 3 at every grid step. -/
theorem live1_3 : ∀ t : Fin cfg1.N, cfg1.idle 3 (grid1.coords t) = false := fun _ => rfl
/-- The body touches window 4 at every grid step. -/
theorem live1_4 : ∀ t : Fin cfg1.N, cfg1.idle 4 (grid1.coords t) = false := fun _ => rfl
/-- The body touches window 5 at every grid step. -/
theorem live1_5 : ∀ t : Fin cfg1.N, cfg1.idle 5 (grid1.coords t) = false := fun _ => rfl
/-- The body touches window 6 at every grid step. -/
theorem live1_6 : ∀ t : Fin cfg1.N, cfg1.idle 6 (grid1.coords t) = false := fun _ => rfl
/-- The body touches window 7 at every grid step. -/
theorem live1_7 : ∀ t : Fin cfg1.N, cfg1.idle 7 (grid1.coords t) = false := fun _ => rfl
/-- The body touches window 8 at every grid step. -/
theorem live1_8 : ∀ t : Fin cfg1.N, cfg1.idle 8 (grid1.coords t) = false := fun _ => rfl
/-- The body touches window 9 at every grid step. -/
theorem live1_9 : ∀ t : Fin cfg1.N, cfg1.idle 9 (grid1.coords t) = false := fun _ => rfl
/-- The body touches window 10 at every grid step. -/
theorem live1_10 : ∀ t : Fin cfg1.N, cfg1.idle 10 (grid1.coords t) = false := fun _ => rfl

/-- What the body is given at point `t`. -/
def pre1 (c : Dev nD) (t : Fin cfg1.N) : sProp (Res F) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))
/-- What the body gives back at point `t`. -/
def post1 (c : Dev nD) (t : Fin cfg1.N) : sProp (Res F) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

/-- The body takes what it is given to what it gives back, at every point. -/
theorem step1 (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2, found1_3, found1_4, found1_5]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
      unfold Dat.leavesExact; rw [live1_0 t], after1_0]
  rw [show (dat1 V c).leavesExact 1 t = owns (c : Thread nD τ) (st1_1 t) fullShare ((dat1 V c).after 1 t) from by
      unfold Dat.leavesExact; rw [live1_1 t], after1_1]
  rw [show (dat1 V c).leavesExact 2 t = owns (c : Thread nD τ) (st1_2 t) fullShare ((dat1 V c).after 2 t) from by
      unfold Dat.leavesExact; rw [live1_2 t], after1_2]
  rw [show (dat1 V c).leavesExact 3 t = owns (c : Thread nD τ) (st1_3 t) fullShare ((dat1 V c).after 3 t) from by
      unfold Dat.leavesExact; rw [live1_3 t], after1_3]
  rw [show (dat1 V c).leavesExact 4 t = owns (c : Thread nD τ) (st1_4 t) fullShare ((dat1 V c).after 4 t) from by
      unfold Dat.leavesExact; rw [live1_4 t], after1_4]
  rw [show (dat1 V c).leavesExact 5 t = owns (c : Thread nD τ) (st1_5 t) fullShare ((dat1 V c).after 5 t) from by
      unfold Dat.leavesExact; rw [live1_5 t], after1_5]
  rw [show (dat1 V c).leavesExact 6 t = owns (c : Thread nD τ) (st1_6 t) fullShare ((dat1 V c).after 6 t) from by
      unfold Dat.leavesExact; rw [live1_6 t], after1_6]
  rw [show (dat1 V c).leavesExact 7 t = owns (c : Thread nD τ) (st1_7 t) fullShare ((dat1 V c).after 7 t) from by
      unfold Dat.leavesExact; rw [live1_7 t], after1_7]
  rw [show (dat1 V c).leavesExact 8 t = owns (c : Thread nD τ) (st1_8 t) fullShare ((dat1 V c).after 8 t) from by
      unfold Dat.leavesExact; rw [live1_8 t], after1_8]
  rw [show (dat1 V c).leavesExact 9 t = owns (c : Thread nD τ) (st1_9 t) fullShare ((dat1 V c).after 9 t) from by
      unfold Dat.leavesExact; rw [live1_9 t], after1_9]
  rw [show (dat1 V c).leavesExact 10 t = owns (c : Thread nD τ) (st1_10 t) fullShare ((dat1 V c).after 10 t) from by
      unfold Dat.leavesExact; rw [live1_10 t], after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (cols_run c (grid1.coords t) _ _ _ _ _ _ _ _ _ _ _ _ _ _ _ _ _ _ _ _ _ _  (blk1 V c 0 t) (blk1 V c 1 t) (blk1 V c 2 t) (blk1 V c 3 t) (blk1 V c 4 t) (blk1 V c 5 t)  Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's row of the body table is the body. -/
theorem row1 (t : Fin cfg1.N) :
    defs₀ (F := F) .tc cfg1.body (cfg1.bodyArgs t (cfg1.slots t)) = bodyAt1 t := by
  unfold defs₀; rw [Defs.onTc_tc]

/-- The body's obligation at every point. -/
theorem obligation1 (c : Dev nD) : BodyObligation (dat1 (F := F) V c) (defs₀ (F := F)) Variants.none () Set.univ := fun t => by
  rw [bigSep_W1, bigSep_W1, row1]
  exact triple_restated (step1 V c t) rfl .rfl fun _ => .rfl

end Region1

end Cert.Kernel2Ideal.Ffn

end
-- ==== Proof.RowsRegion.lean ====
module

public import proofs.«01_k».proof.Proof.FfnBody

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

/-! # The third feed-forward pipeline: what its buffers hold at every grid point

`V` is what the core's buffers hold when the pipeline starts. -/

section Region2
variable (V : (c : Dev nD) → (b : Ref sig .tc) → Buf (Elt F) ((c : Thread nD τ).loc b))

/-- The block of window `w` at point `t`, read from its array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the pipeline's buffers hold after the body at each point. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => rowD (blk2 V c 0 t) (blk2 V c 1 t) (blk2 V c 2 t) (blk2 V c 3 t)
  Φ _ := Pipeline.ΦA spec2 c
  q _ := fullShare
  owed _ := 0

/-- The arrays are as the pipeline finds them. -/
theorem A_eq2 (c : Dev nD) (w : Fin cfg2.W) : (dat2 V c).A w = V c (Pipeline.arrRef spec2 w) := by
  dsimp only [dat2]
/-- What the body leaves in window 0 at a grid step. -/
theorem after2_0 (c : Dev nD) (t : Fin cfg2.N) : (dat2 V c).after 0 t = blk2 V c 0 t := by dsimp only [dat2]
/-- What the body leaves in window 1 at a grid step. -/
theorem after2_1 (c : Dev nD) (t : Fin cfg2.N) : (dat2 V c).after 1 t = blk2 V c 1 t := by dsimp only [dat2]
/-- What the body leaves in window 2 at a grid step. -/
theorem after2_2 (c : Dev nD) (t : Fin cfg2.N) : (dat2 V c).after 2 t = blk2 V c 2 t := by dsimp only [dat2]
/-- What the body leaves in window 3 at a grid step. -/
theorem after2_3 (c : Dev nD) (t : Fin cfg2.N) : (dat2 V c).after 3 t = blk2 V c 3 t := by dsimp only [dat2]
/-- What the body leaves in window 4 at a grid step. -/
theorem after2_4 (c : Dev nD) (t : Fin cfg2.N) : (dat2 V c).after 4 t = rowD (blk2 V c 0 t) (blk2 V c 1 t) (blk2 V c 2 t) (blk2 V c 3 t) := by dsimp only [dat2]
/-- What the body finds in window 0 at a grid step: the array's block. -/
theorem found2_0 (c : Dev nD) (t : Fin cfg2.N) (d) : (dat2 V c).before 0 t d = blk2 V c 0 t :=
  ((dat2 V c).before_in_eq_fetched 0 rfl (fun _ => rfl) (fun _ _ _ => rfl) (fun _ => rfl) t d).trans rfl
/-- What the body finds in window 1 at a grid step: the array's block. -/
theorem found2_1 (c : Dev nD) (t : Fin cfg2.N) (d) : (dat2 V c).before 1 t d = blk2 V c 1 t :=
  ((dat2 V c).before_in_eq_fetched 1 rfl (fun _ => rfl) (fun _ _ _ => rfl) (fun _ => rfl) t d).trans rfl
/-- What the body finds in window 2 at a grid step: the array's block. -/
theorem found2_2 (c : Dev nD) (t : Fin cfg2.N) (d) : (dat2 V c).before 2 t d = blk2 V c 2 t :=
  ((dat2 V c).before_in_eq_fetched 2 rfl (fun _ => rfl) (fun _ _ _ => rfl) (fun _ => rfl) t d).trans rfl
/-- What the body finds in window 3 at a grid step: the array's block. -/
theorem found2_3 (c : Dev nD) (t : Fin cfg2.N) (d) : (dat2 V c).before 3 t d = blk2 V c 3 t :=
  ((dat2 V c).before_in_eq_fetched 3 rfl (fun _ => rfl) (fun _ _ _ => rfl) (fun _ => rfl) t d).trans rfl

/-! Every output block is stored at every point. -/
theorem live2_0 : ∀ t : Fin cfg2.N, cfg2.idle 0 (grid2.coords t) = false := fun _ => rfl
/-- The body touches window 1 at every grid step. -/
theorem live2_1 : ∀ t : Fin cfg2.N, cfg2.idle 1 (grid2.coords t) = false := fun _ => rfl
/-- The body touches window 2 at every grid step. -/
theorem live2_2 : ∀ t : Fin cfg2.N, cfg2.idle 2 (grid2.coords t) = false := fun _ => rfl
/-- The body touches window 3 at every grid step. -/
theorem live2_3 : ∀ t : Fin cfg2.N, cfg2.idle 3 (grid2.coords t) = false := fun _ => rfl
/-- The body touches window 4 at every grid step. -/
theorem live2_4 : ∀ t : Fin cfg2.N, cfg2.idle 4 (grid2.coords t) = false := fun _ => rfl

/-- What the body is given at point `t`. -/
def pre2 (c : Dev nD) (t : Fin cfg2.N) : sProp (Res F) :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))
/-- What the body gives back at point `t`. -/
def post2 (c : Dev nD) (t : Fin cfg2.N) : sProp (Res F) :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- The body takes what it is given to what it gives back, at every point. -/
theorem step2 (c : Dev nD) (t : Fin cfg2.N) :
    pre2 V c t ⊢ wp frame (wpE (defs₀ (F := F)) Variants.none c none) Set.univ (bodyAt2 t) (fun _ => post2 V c t) := by
  unfold pre2 post2 bodyAt2
  simp only [found2_0, found2_1, found2_2, found2_3]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (st2_0 t) fullShare ((dat2 V c).after 0 t) from by
      unfold Dat.leavesExact; rw [live2_0 t], after2_0]
  rw [show (dat2 V c).leavesExact 1 t = owns (c : Thread nD τ) (st2_1 t) fullShare ((dat2 V c).after 1 t) from by
      unfold Dat.leavesExact; rw [live2_1 t], after2_1]
  rw [show (dat2 V c).leavesExact 2 t = owns (c : Thread nD τ) (st2_2 t) fullShare ((dat2 V c).after 2 t) from by
      unfold Dat.leavesExact; rw [live2_2 t], after2_2]
  rw [show (dat2 V c).leavesExact 3 t = owns (c : Thread nD τ) (st2_3 t) fullShare ((dat2 V c).after 3 t) from by
      unfold Dat.leavesExact; rw [live2_3 t], after2_3]
  rw [show (dat2 V c).leavesExact 4 t = owns (c : Thread nD τ) (st2_4 t) fullShare ((dat2 V c).after 4 t) from by
      unfold Dat.leavesExact; rw [live2_4 t], after2_4]
  iintro ⟨HΦ, Ho, ⟨%d0, H0⟩, ⟨%d1, H1⟩, ⟨%d2, H2⟩, ⟨%d3, H3⟩, ⟨%d4, H4⟩⟩
  iapply (rows_run c (grid2.coords t) _ _ _ _ _ _ _ _ _ _  (blk2 V c 0 t) (blk2 V c 1 t) (blk2 V c 2 t) (blk2 V c 3 t)  Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's row of the body table is the body. -/
theorem row2 (t : Fin cfg2.N) :
    defs₀ (F := F) .tc cfg2.body (cfg2.bodyArgs t (cfg2.slots t)) = bodyAt2 t := by
  unfold defs₀; rw [Defs.onTc_tc]

/-- The body's obligation at every point. -/
theorem obligation2 (c : Dev nD) : BodyObligation (dat2 (F := F) V c) (defs₀ (F := F)) Variants.none () Set.univ := fun t => by
  rw [bigSep_W2, bigSep_W2, row2]
  exact triple_restated (step2 V c t) rfl .rfl fun _ => .rfl

end Region2

end Cert.Kernel2Ideal.Ffn

end
-- ==== Proof.FfnRun.lean ====
module

public import proofs.«01_k».proof.Proof.UpRegion
public import proofs.«01_k».proof.Proof.ColsRegion
public import proofs.«01_k».proof.Proof.RowsRegion
public import proofs.«01_k».proof.Proof.Gen.Kernel2Ideal.Regions

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

/-! # The run of the whole program: its host lines and pipelines in order

`B0` is what the buffers hold at launch and `B5` what they hold at the end; the run theorem says every unscoped buffer ends
at `B5`. -/

variable (m : (ℓ : Loc nD τ sig) → Buf (Elt F) ℓ) (ρ : Dev nD → PrngReg)

/-- The argument arrays. -/
abbrev theArgs : List (Ref sig .tc) := [main_arg0, main_arg1, main_arg2, main_arg3, main_arg4, main_arg5, main_arg6, main_arg7]

/-- The buffers at launch. -/
abbrev B0 : Dev nD → Valuation τ sig (Elt F) := fun c b => (s₀ m ρ).mem ((c : Dev nD), b)
/-- The arguments are unchanged there. -/
theorem B0_args (c : Dev nD) : ∀ a ∈ theArgs, B0 m ρ c (Proc.devRef .tc a) = m ((c : Thread nD τ).loc a) := fun _ _ => rfl
/-- The same, read at a core's references. -/
abbrev U0 : (c : Dev nD) → (b : Ref sig .tc) → Buf (Elt F) ((c : Thread nD τ).loc b) := fun c b => B0 m ρ c b

/-- The buffers after host stretch 0. -/
def B1 (c : Dev nD) : Valuation τ sig (Elt F) := StableHlo.after hostOps0 (B0 m ρ c)
/-- A buffer that the stretch does not write keeps its contents. -/
theorem B1_of (c : Dev nD) (r : Ref sig .tc) (h : r ∉ hostOps0_W) : B1 m ρ c (Proc.devRef .tc r) = B0 m ρ c (Proc.devRef .tc r) := by
  unfold B1; exact StableHlo.after_of_writes_sub hostOps0 _ hostOps0_writes h
/-- The stretch writes no argument. -/
theorem args_host0 : ∀ a ∈ theArgs, a ∉ hostOps0_W := by decide +kernel
/-- The arguments are unchanged there. -/
theorem B1_args (c : Dev nD) : ∀ a ∈ theArgs, B1 m ρ c (Proc.devRef .tc a) = m ((c : Thread nD τ).loc a) :=
  fun a ha => (B1_of m ρ c a (args_host0 a ha)).trans (B0_args m ρ c a ha)
/-- The same, read at a core's references. -/
abbrev U1 : (c : Dev nD) → (b : Ref sig .tc) → Buf (Elt F) ((c : Thread nD τ).loc b) := fun c b => B1 m ρ c b

/-- The buffers after pipeline 0: its arrays at what its write-backs leave, every other buffer as before. -/
def B2 (c : Dev nD) : Valuation τ sig (Elt F) :=
  Pipeline.withArrays spec0 c (B1 m ρ c) fun w => (dat0 (U1 m ρ) c).arrAt w cfg0.N
/-- The pipeline's arrays are what its write-backs leave. -/
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
/-- Every other buffer is as before. -/
theorem B2_other (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- A buffer that is no output of pipeline 0 keeps its contents across it. -/
theorem B2_of (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    exact (B2_arr m ρ c w).trans (((dat0 (U1 m ρ) c).arrAt_in w (h w rfl) _).trans (A_eq0 (U1 m ρ) c w))
  · exact B2_other m ρ c r fun w e => hw ⟨w, e⟩
/-- No argument is an output of the pipeline. -/
theorem args_region0 : ∀ a ∈ theArgs, ∀ w : Fin cfg0.W, Pipeline.arrRef spec0 w = a → (cfg0.win w).isOut = false :=
  ListAll.forall_mem_of_all_decide (by decide +kernel)
/-- The arguments are unchanged there. -/
theorem B2_args (c : Dev nD) : ∀ a ∈ theArgs, B2 m ρ c (Proc.devRef .tc a) = m ((c : Thread nD τ).loc a) :=
  fun a ha => (B2_of m ρ c a (args_region0 a ha)).trans (B1_args m ρ c a ha)
/-- The same, read at a core's references. -/
abbrev U2 : (c : Dev nD) → (b : Ref sig .tc) → Buf (Elt F) ((c : Thread nD τ).loc b) := fun c b => B2 m ρ c b
/-- What the pipeline leaves in its arrays. -/
theorem left_arr0 (c : Dev nD) (w : Fin cfg0.W) : (dat0 (U1 m ρ) c).arrAt w cfg0.N = U2 m ρ c (Pipeline.arrRef spec0 w) :=
  (B2_arr m ρ c w).symm
/-- What it leaves in the other buffers. -/
theorem left_rest0 (c : Dev nD) : ∀ b, b ∉ Finset.univ.image (Pipeline.arrRef spec0) → U2 m ρ c b = U1 m ρ c b :=
  fun b hb => B2_other m ρ c b fun w e => hb (Finset.mem_image.mpr ⟨w, Finset.mem_univ _, e⟩)

/-- The buffers after host stretch 1. -/
def B3 (c : Dev nD) : Valuation τ sig (Elt F) := StableHlo.after hostOps1 (B2 m ρ c)
/-- A buffer that the stretch does not write keeps its contents. -/
theorem B3_of (c : Dev nD) (r : Ref sig .tc) (h : r ∉ hostOps1_W) : B3 m ρ c (Proc.devRef .tc r) = B2 m ρ c (Proc.devRef .tc r) := by
  unfold B3; exact StableHlo.after_of_writes_sub hostOps1 _ hostOps1_writes h
/-- The stretch writes no argument. -/
theorem args_host1 : ∀ a ∈ theArgs, a ∉ hostOps1_W := by decide +kernel
/-- The arguments are unchanged there. -/
theorem B3_args (c : Dev nD) : ∀ a ∈ theArgs, B3 m ρ c (Proc.devRef .tc a) = m ((c : Thread nD τ).loc a) :=
  fun a ha => (B3_of m ρ c a (args_host1 a ha)).trans (B2_args m ρ c a ha)
/-- The same, read at a core's references. -/
abbrev U3 : (c : Dev nD) → (b : Ref sig .tc) → Buf (Elt F) ((c : Thread nD τ).loc b) := fun c b => B3 m ρ c b

/-- The buffers after pipeline 1: its arrays at what its write-backs leave, every other buffer as before. -/
def B4 (c : Dev nD) : Valuation τ sig (Elt F) :=
  Pipeline.withArrays spec1 c (B3 m ρ c) fun w => (dat1 (U3 m ρ) c).arrAt w cfg1.N
/-- The pipeline's arrays are what its write-backs leave. -/
theorem B4_arr (c : Dev nD) (w : Fin cfg1.W) :
    B4 m ρ c (Proc.devRef .tc (Pipeline.arrRef spec1 w)) = (dat1 (U3 m ρ) c).arrAt w cfg1.N := by
  unfold B4; exact Pipeline.withArrays_arr spec1 launch1.win.arr_inj c _ _ w
/-- Every other buffer is as before. -/
theorem B4_other (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- A buffer that is no output of pipeline 1 keeps its contents across it. -/
theorem B4_of (c : Dev nD) (r : Ref sig .tc) (h : ∀ w : Fin cfg1.W, Pipeline.arrRef spec1 w = r → (cfg1.win w).isOut = false) :
    B4 m ρ c (Proc.devRef .tc r) = B3 m ρ c (Proc.devRef .tc r) := by
  by_cases hw : ∃ w : Fin cfg1.W, Pipeline.arrRef spec1 w = r
  · obtain ⟨w, rfl⟩ := hw
    exact (B4_arr m ρ c w).trans (((dat1 (U3 m ρ) c).arrAt_in w (h w rfl) _).trans (A_eq1 (U3 m ρ) c w))
  · exact B4_other m ρ c r fun w e => hw ⟨w, e⟩
/-- No argument is an output of the pipeline. -/
theorem args_region1 : ∀ a ∈ theArgs, ∀ w : Fin cfg1.W, Pipeline.arrRef spec1 w = a → (cfg1.win w).isOut = false :=
  ListAll.forall_mem_of_all_decide (by decide +kernel)
/-- The arguments are unchanged there. -/
theorem B4_args (c : Dev nD) : ∀ a ∈ theArgs, B4 m ρ c (Proc.devRef .tc a) = m ((c : Thread nD τ).loc a) :=
  fun a ha => (B4_of m ρ c a (args_region1 a ha)).trans (B3_args m ρ c a ha)
/-- The same, read at a core's references. -/
abbrev U4 : (c : Dev nD) → (b : Ref sig .tc) → Buf (Elt F) ((c : Thread nD τ).loc b) := fun c b => B4 m ρ c b
/-- What the pipeline leaves in its arrays. -/
theorem left_arr1 (c : Dev nD) (w : Fin cfg1.W) : (dat1 (U3 m ρ) c).arrAt w cfg1.N = U4 m ρ c (Pipeline.arrRef spec1 w) :=
  (B4_arr m ρ c w).symm
/-- What it leaves in the other buffers. -/
theorem left_rest1 (c : Dev nD) : ∀ b, b ∉ Finset.univ.image (Pipeline.arrRef spec1) → U4 m ρ c b = U3 m ρ c b :=
  fun b hb => B4_other m ρ c b fun w e => hb (Finset.mem_image.mpr ⟨w, Finset.mem_univ _, e⟩)

/-- The buffers after pipeline 2: its arrays at what its write-backs leave, every other buffer as before. -/
def B5 (c : Dev nD) : Valuation τ sig (Elt F) :=
  Pipeline.withArrays spec2 c (B4 m ρ c) fun w => (dat2 (U4 m ρ) c).arrAt w cfg2.N
/-- The pipeline's arrays are what its write-backs leave. -/
theorem B5_arr (c : Dev nD) (w : Fin cfg2.W) :
    B5 m ρ c (Proc.devRef .tc (Pipeline.arrRef spec2 w)) = (dat2 (U4 m ρ) c).arrAt w cfg2.N := by
  unfold B5; exact Pipeline.withArrays_arr spec2 launch2.win.arr_inj c _ _ w
/-- Every other buffer is as before. -/
theorem B5_other (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
/-- A buffer that is no output of pipeline 2 keeps its contents across it. -/
theorem B5_of (c : Dev nD) (r : Ref sig .tc) (h : ∀ w : Fin cfg2.W, Pipeline.arrRef spec2 w = r → (cfg2.win w).isOut = false) :
    B5 m ρ c (Proc.devRef .tc r) = B4 m ρ c (Proc.devRef .tc r) := by
  by_cases hw : ∃ w : Fin cfg2.W, Pipeline.arrRef spec2 w = r
  · obtain ⟨w, rfl⟩ := hw
    exact (B5_arr m ρ c w).trans (((dat2 (U4 m ρ) c).arrAt_in w (h w rfl) _).trans (A_eq2 (U4 m ρ) c w))
  · exact B5_other m ρ c r fun w e => hw ⟨w, e⟩
/-- No argument is an output of the pipeline. -/
theorem args_region2 : ∀ a ∈ theArgs, ∀ w : Fin cfg2.W, Pipeline.arrRef spec2 w = a → (cfg2.win w).isOut = false :=
  ListAll.forall_mem_of_all_decide (by decide +kernel)
/-- The arguments are unchanged there. -/
theorem B5_args (c : Dev nD) : ∀ a ∈ theArgs, B5 m ρ c (Proc.devRef .tc a) = m ((c : Thread nD τ).loc a) :=
  fun a ha => (B5_of m ρ c a (args_region2 a ha)).trans (B4_args m ρ c a ha)
/-- The same, read at a core's references. -/
abbrev U5 : (c : Dev nD) → (b : Ref sig .tc) → Buf (Elt F) ((c : Thread nD τ).loc b) := fun c b => B5 m ρ c b
/-- What the pipeline leaves in its arrays. -/
theorem left_arr2 (c : Dev nD) (w : Fin cfg2.W) : (dat2 (U4 m ρ) c).arrAt w cfg2.N = U5 m ρ c (Pipeline.arrRef spec2 w) :=
  (B5_arr m ρ c w).symm
/-- What it leaves in the other buffers. -/
theorem left_rest2 (c : Dev nD) : ∀ b, b ∉ Finset.univ.image (Pipeline.arrRef spec2) → U5 m ρ c b = U4 m ρ c b :=
  fun b hb => B5_other m ρ c b fun w e => hb (Finset.mem_image.mpr ⟨w, Finset.mem_univ _, e⟩)

/-! ## The pipelines and host lines as segments -/

/-- No pipeline has a prefetched table. -/
abbrev adm : (p : Fin 3) → (pcfgs (F := F) p).Adm := fun p => (cfgs p).toPCfg_adm
/-- The proof data of every pipeline. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U4 m ρ) c
/-- No core owes another anything. -/
abbrev noL : GSem nD τ sig → Finset Unit := fun _ => ∅
/-- No counter is waited for between pipelines. -/
abbrev noLv : GSem nD τ sig → Unit → ℕ := fun _ _ => 0
/-- What rides along beside the buffers: the generator register, and nothing owed. -/
abbrev Rest (c : Dev nD) : sProp (Res F) := iprop((∃ r, prngReg c r) ∗ ∃ W, owes (c : Thread nD τ) (0 : CellTallies nD τ sig Unit) W)
/-- A host stretch as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- Every buffer that outlives the pipelines is among those held. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Final (c : Dev nD) : sProp (Res F) := iprop(StableHlo.held (c : Thread nD τ) (Pipeline.ucRefs τ sig) (B5 m ρ c) ∗ ∃ r, prngReg c r)

set_option backward.isDefEq.respectTransparency.types false in
/-- Pipeline 0 as a segment: from the buffers at `B1` to the buffers at `B2`. -/
def seg_region0 : Pipeline.RegionSeg (pcfgs (F := F)) adm (pdats m ρ) () defs₀ Variants.none noL noLv 0 where
  win := launch0.win.to₀
  block_pos := launch0.block_pos
  stage_whole := launch0.stage_whole
  K := PEmpty
  osem k := k.elim
  ho := Pipeline.OwnSemFacts.none _
  hbody c := (obligation0 (U1 m ρ) c).loose
  hwaits := Pipeline.hwaits_of_owed_zero _ _ _ _ noL noLv 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (left_arr0 m ρ c) (left_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment: from the buffers at `B3` to the buffers at `B4`. -/
def seg_region1 : Pipeline.RegionSeg (pcfgs (F := F)) adm (pdats m ρ) () defs₀ Variants.none noL noLv 1 where
  win := launch1.win.to₀
  block_pos := launch1.block_pos
  stage_whole := launch1.stage_whole
  K := PEmpty
  osem k := k.elim
  ho := Pipeline.OwnSemFacts.none _
  hbody c := (obligation1 (U3 m ρ) c).loose
  hwaits := Pipeline.hwaits_of_owed_zero _ _ _ _ noL noLv 1 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) (A_eq1 (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (left_arr1 m ρ c) (left_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 as a segment: from the buffers at `B4` to the buffers at `B5`. -/
def seg_region2 : Pipeline.RegionSeg (pcfgs (F := F)) adm (pdats m ρ) () defs₀ Variants.none noL noLv 2 where
  win := launch2.win.to₀
  block_pos := launch2.block_pos
  stage_whole := launch2.stage_whole
  K := PEmpty
  osem k := k.elim
  ho := Pipeline.OwnSemFacts.none _
  hbody c := (obligation2 (U4 m ρ) c).loose
  hwaits := Pipeline.hwaits_of_owed_zero _ _ _ _ noL noLv 2 fun _ _ => rfl
  pre c := iprop(StableHlo.held (c : Thread nD τ) (Pipeline.ucRefs τ sig) (B4 m ρ c) ∗ Rest c)
  post c := iprop(Final m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U4 m ρ c) (A_eq2 (U4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (left_arr2 m ρ c) (left_rest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ Variants.none noL noLv) :=
  [ .host (hostSeg hostOps0 hostOps0_sub hostOps0_fresh (B0 m ρ)),
    .region (seg_region0 m ρ),
    .host (hostSeg hostOps1 hostOps1_sub hostOps1_fresh (B2 m ρ)),
    .region (seg_region1 m ρ),
    .region (seg_region2 m ρ) ]
/-- The program is its stretches and pipelines in order. -/
theorem main_segs (c : Dev nD) : main (F := F) c = Pipeline.Seg.run (segs m ρ) := (main_chain c).trans (by chain_rfl)
/-- Every counter belongs to a pipeline. -/
theorem all_scoped : ∀ sm : SemLoc sig, sm.isScoped .tc = true := by decide

set_option backward.isDefEq.respectTransparency.types false in
/-- From any memory the program ends without a fault, every counter at zero and every unscoped buffer at `B5`. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = B5 m ρ c b) ∧ r.2.sem = fun _ => 0) :=
  Pipeline.θ_run_regions_kit_sems (pcfgs (F := F)) adm (pdats m ρ) () cellOf_inj emb₁ defs₀ Variants.none noL noLv m ρ main (segs m ρ)
    (fun c Q => by rw [main_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (B0 m ρ c) ∗ Rest c)) (Tₙ := Final m ρ)
    (hch := ⟨fun _ => .rfl, fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h hz => ⟨h, funext fun g => hz g (.inr (all_scoped g.2))⟩)

end Cert.Kernel2Ideal.Ffn

end
-- ==== Proof.FfnMath.lean ====
module

public import proofs.«01_k».proof.Proof.AttnMath

@[expose] public section

noncomputable section

namespace Cert.Reals

open Idealize.ShloMosaic
open Finset (range)

/-! # The feed-forward block and its gradients over the real numbers -/

/-- The constant added under the root, as a real. -/
def eps : ℝ := (Ideal.ofBits .f32 0x358637BD#32).toReal
/-- The added constant is a real number. -/
theorem coe_eps : ((eps : ℝ) : EReal) = Ideal.ofBits .f32 0x358637BD#32 := by
  unfold eps
  apply coe_toReal_of <;> · simp [Ideal.ofBits, Ideal.ieee, ← EReal.coe_mul]
/-- It is positive. -/
theorem eps_pos : 0 < eps := by
  have h : (0 : EReal) < ((eps : ℝ) : EReal) := by
    rw [coe_eps]
    simp [Ideal.ofBits, Ideal.ieee, ← EReal.coe_mul]
  exact_mod_cast h

/-- The pattern of the rows' length. -/
theorem ofBits_width : Ideal.ofBits .f32 0x44800000#32 = ((1024 : ℝ) : EReal) := by
  simp [Ideal.ofBits, Ideal.ieee, ← EReal.coe_mul]
  norm_num

/-- The product of `A` and `B` over `n` inner indices. -/
def mm (n : ℕ) (A B : ℕ → ℕ → ℝ) (i j : ℕ) : ℝ := ∑ k ∈ range n, A i k * B k j
/-- Rows and columns exchanged. -/
def tr (A : ℕ → ℕ → ℝ) (i j : ℕ) : ℝ := A j i

/-- One over the root of a row's mean square. -/
def rms (X : ℕ → ℕ → ℝ) (i : ℕ) : ℝ := (Real.sqrt ((∑ d ∈ range 1024, X i d * X i d) / 1024 + eps))⁻¹
/-- The normalized rows, scaled and shifted. -/
def hid (X g sh sc : ℕ → ℕ → ℝ) (i d : ℕ) : ℝ := X i d * rms X i * g 0 d * (1 + sc 0 d) + sh 0 d
/-- The logistic function. -/
def sg (x : ℝ) : ℝ := (1 + Real.exp (-x))⁻¹
/-- The gated product of two numbers. -/
def gated (a b : ℝ) : ℝ := a * sg a * b
/-- Its derivative along the first, times `t`. -/
def dgate (t a b : ℝ) : ℝ := t * b * (sg a * (1 + a * (1 - sg a)))
/-- Its derivative along the second, times `t`. -/
def dup (t a : ℝ) : ℝ := t * (a * sg a)

/-- The root of a mean square is taken of a positive number. -/
theorem rsqrt_rms (X : ℕ → ℕ → ℝ) (i : ℕ) :
    Ideal.rsqrt (((∑ d ∈ range 1024, X i d * X i d) / 1024 + eps : ℝ) : EReal) = ((rms X i : ℝ) : EReal) := by
  have h : 0 < (∑ d ∈ range 1024, X i d * X i d) / 1024 + eps :=
    add_pos_of_nonneg_of_pos (div_nonneg (Finset.sum_nonneg fun d _ => mul_self_nonneg _) (by norm_num)) eps_pos
  rw [Ideal.rsqrt_coe, if_neg (not_lt.mpr h.le), if_neg h.ne']
  rfl

section
variable (X g sh sc WG WU WD DY : ℕ → ℕ → ℝ)
/-- The gate and up products, and the gated product. -/
def ffA : ℕ → ℕ → ℝ := mm 1024 (hid X g sh sc) WG
/-- The up product. -/
def ffB : ℕ → ℕ → ℝ := mm 1024 (hid X g sh sc) WU
/-- The gated product. -/
def ffT (i f : ℕ) : ℝ := gated (ffA X g sh sc WG i f) (ffB X g sh sc WU i f)
/-- The cotangents of the gated, gate and up products. -/
def ffDT : ℕ → ℕ → ℝ := mm 1024 DY (tr WD)
/-- The gate product's cotangent. -/
def ffDA (i f : ℕ) : ℝ := dgate (ffDT WD DY i f) (ffA X g sh sc WG i f) (ffB X g sh sc WU i f)
/-- The up product's cotangent. -/
def ffDB (i f : ℕ) : ℝ := dup (ffDT WD DY i f) (ffA X g sh sc WG i f)
/-- The gradients of the down, gate and up weights (transposed), and of the rows. -/
def ffGD : ℕ → ℕ → ℝ := mm 2048 (tr (ffT X g sh sc WG WU)) DY
/-- The gate weights' gradient. -/
def ffGG : ℕ → ℕ → ℝ := mm 2048 (tr (ffDA X g sh sc WG WU WD DY)) (hid X g sh sc)
/-- The up weights' gradient. -/
def ffGU : ℕ → ℕ → ℝ := mm 2048 (tr (ffDB X g sh sc WG WD DY)) (hid X g sh sc)
/-- The normalized rows' gradient. -/
def ffDH (i d : ℕ) : ℝ := mm 2816 (ffDA X g sh sc WG WU WD DY) (tr WG) i d + mm 2816 (ffDB X g sh sc WG WD DY) (tr WU) i d
end

end Cert.Reals

end
-- ==== Proof.FfnPay.lean ====
module

public import proofs.«01_k».proof.Proof.FfnMath
public import proofs.«01_k».proof.Proof.FfnBody
public import Idealize.ShloMosaic.Lib.Pipeline.ValueKit
public import Idealize.ShloMosaic.Lib.Pointwise

@[expose] public section

noncomputable section

namespace Cert.Kernel2Ideal.Ffn

open Idealize.ShloMosaic Idealize.ShloMosaic.Tactic
open Cert.Kernel2Ideal Cert.Kernel2Ideal.Gen
open Cert.Reals

/-! # What the feed-forward bodies compute on a tile, as real numbers -/

/-- A whole-block load reads the block. -/
theorem ld_rows (x : Vec Ideal S2048x1024 .f32) (a : Fin 2048) (d : Fin 1024) : View.ld x r2048_1024 (ix2 a d) = x (ix2 a d) := by
  pointwise
  blk_ext
/-- Reading a whole block. -/
theorem ld_hid (x : Vec Ideal S2048x1024 .bf16) (a : Fin 2048) (d : Fin 1024) : View.ld x r2048_1024 (ix2 a d) = x (ix2 a d) := by
  pointwise
  blk_ext
/-- Reading a whole block. -/
theorem ld_vec (x : Vec Ideal S1x1024 .f32) (a : Fin 1) (d : Fin 1024) : View.ld x r1_1024 (ix2 a d) = x (ix2 a d) := by
  pointwise
  blk_ext
/-- Reading a whole block. -/
theorem ld_wt (x : Vec Ideal S256x1024 .bf16) (a : Fin 256) (d : Fin 1024) : View.ld x r256_1024 (ix2 a d) = x (ix2 a d) := by
  pointwise
  blk_ext
/-- Reading a whole block. -/
theorem ld_col (x : Vec Ideal S2048x256 .bf16) (a : Fin 2048) (d : Fin 256) : View.ld x r2048_256 (ix2 a d) = x (ix2 a d) := by
  pointwise
  blk_ext
/-- Reading a whole block. -/
theorem ld_wide (x : Vec Ideal S1024x2816 .bf16) (a : Fin 1024) (d : Fin 2816) : View.ld x r1024_2816 (ix2 a d) = x (ix2 a d) := by
  pointwise
  blk_ext
/-- Reading a whole block. -/
theorem ld_tall (x : Vec Ideal S2816x512 .bf16) (a : Fin 2816) (d : Fin 512) : View.ld x r2816_512 (ix2 a d) = x (ix2 a d) := by
  pointwise
  blk_ext

section
variable {X g sh sc : ℕ → ℕ → ℝ}

/-- The rows. -/
theorem upH_val {x0 : Vec Ideal S2048x1024 .f32} {x1 x2 x3 : Vec Ideal S1x1024 .f32}
    (h0 : ∀ (a : Fin 2048) (d : Fin 1024), x0 (ix2 a d) = ((X a.val d.val : ℝ) : EReal))
    (h1 : ∀ (a : Fin 1) (d : Fin 1024), x1 (ix2 a d) = ((g 0 d.val : ℝ) : EReal))
    (h2 : ∀ (a : Fin 1) (d : Fin 1024), x2 (ix2 a d) = ((sh 0 d.val : ℝ) : EReal))
    (h3 : ∀ (a : Fin 1) (d : Fin 1024), x3 (ix2 a d) = ((sc 0 d.val : ℝ) : EReal)) (a : Fin 2048) (d : Fin 1024) :
    upH (F := Ideal) x0 x1 x2 x3 (ix2 a d) = ((hid X g sh sc a.val d.val : ℝ) : EReal) := by
  have e0 := fun a d => (ld_rows x0 a d).trans (h0 a d)
  have e1 := fun a d => (ld_vec x1 a d).trans (h1 a d)
  have e2 := fun a d => (ld_vec x2 a d).trans (h2 a d)
  have e3 := fun a d => (ld_vec x3 a d).trans (h3 a d)
  unfold upH
  generalize View.ld x0 r2048_1024 = y0 at e0 ⊢
  generalize View.ld x1 r1_1024 = y1 at e1 ⊢
  generalize View.ld x2 r1_1024 = y2 at e2 ⊢
  generalize View.ld x3 r1_1024 = y3 at e3 ⊢
  pointwise [k0_pay1]
  simp only [e0, e1, e2, e3, ← EReal.coe_mul]
  rw [coe_sum_range (fun d => X a.val d * X a.val d), ← EReal.coe_one, ofBits_width, ← coe_eps, div_coe _ (by norm_num), ← EReal.coe_add,
    rsqrt_rms, ← EReal.coe_mul, ← EReal.coe_mul, ← EReal.coe_add, ← EReal.coe_mul, ← EReal.coe_add]
  rfl
end

section
variable {h w u : ℕ → ℕ → ℝ} {H : Vec Ideal S2048x1024 .bf16} {x4 x5 : Vec Ideal S256x1024 .bf16}
  (hh : ∀ (a : Fin 2048) (d : Fin 1024), H (ix2 a d) = ((h a.val d.val : ℝ) : EReal))
  (h4 : ∀ (b : Fin 256) (d : Fin 1024), x4 (ix2 b d) = ((w d.val b.val : ℝ) : EReal))
include hh h4

/-- A row times a row of the transposed weights. -/
theorem pay3_val (a : Fin 2048) (b : Fin 256) :
    k0_pay3 (F := Ideal) (View.ld H r2048_1024) (View.ld x4 r256_1024) (ix2 a b) = ((mm 1024 h w a.val b.val : ℝ) : EReal) := by
  have e0 := fun a d => (ld_hid H a d).trans (hh a d)
  have e1 := fun a d => (ld_wt x4 a d).trans (h4 a d)
  generalize View.ld H r2048_1024 = y0 at e0 ⊢
  generalize View.ld x4 r256_1024 = y1 at e1 ⊢
  pointwise [k0_pay3, k0_pay2]
  simp only [e0, e1, ← EReal.coe_mul]
  rw [coe_sum_range (fun d => h a.val d * w d b.val)]
  rfl
/-- The stored sum, entry by entry. -/
theorem pay4_val (a : Fin 2048) (b : Fin 256) :
    k0_pay4 (F := Ideal) (View.ld H r2048_1024) (View.ld x4 r256_1024) (ix2 a b) = ((mm 1024 h w a.val b.val : ℝ) : EReal) :=
  pay3_val hh h4 a b
/-- The gate tile. -/
theorem upA_val (a : Fin 2048) (b : Fin 256) : upA (F := Ideal) H x4 (ix2 a b) = ((mm 1024 h w a.val b.val : ℝ) : EReal) :=
  pay3_val hh h4 a b
/-- The up tile. -/
theorem upB_val (a : Fin 2048) (b : Fin 256) : upB (F := Ideal) H x4 (ix2 a b) = ((mm 1024 h w a.val b.val : ℝ) : EReal) :=
  pay3_val hh h4 a b
variable (h5 : ∀ (b : Fin 256) (d : Fin 1024), x5 (ix2 b d) = ((u d.val b.val : ℝ) : EReal))
include h5
/-- The gated tile. -/
theorem upT_val (a : Fin 2048) (b : Fin 256) : upT (F := Ideal) H x4 x5 (ix2 a b)
    = ((gated (mm 1024 h w a.val b.val) (mm 1024 h u a.val b.val) : ℝ) : EReal) := by
  have e0 := pay3_val hh h4 a b
  have e1 := pay4_val hh h5 a b
  unfold upT
  generalize View.ld H r2048_1024 = y0 at e0 e1 ⊢
  generalize View.ld x4 r256_1024 = y1 at e0 e1 ⊢
  generalize View.ld x5 r256_1024 = y2 at e0 e1 ⊢
  pointwise [k0_pay7]
  rw [e0, e1, Ideal.logistic_coe, ← EReal.coe_mul, ← EReal.coe_mul]
  rfl
end

section
variable {dy h a b t w : ℕ → ℕ → ℝ} {x0 x1 : Vec Ideal S2048x1024 .bf16} {x2 x3 x4 : Vec Ideal S2048x256 .bf16} {x5 : Vec Ideal S256x1024 .bf16}

/-- A row of the output's cotangent times a row of the down weights. -/
theorem pay5_val (h0 : ∀ (i : Fin 2048) (d : Fin 1024), x0 (ix2 i d) = ((dy i.val d.val : ℝ) : EReal))
    (h5 : ∀ (f : Fin 256) (d : Fin 1024), x5 (ix2 f d) = ((w d.val f.val : ℝ) : EReal)) (i : Fin 2048) (f : Fin 256) :
    k1_pay5 (F := Ideal) (View.ld x0 r2048_1024) (View.ld x5 r256_1024) (ix2 i f) = ((mm 1024 dy w i.val f.val : ℝ) : EReal) :=
  pay3_val h0 h5 i f
/-- The loaded gate tile. -/
theorem pay6_val (h2 : ∀ (i : Fin 2048) (f : Fin 256), x2 (ix2 i f) = ((a i.val f.val : ℝ) : EReal)) (i : Fin 2048) (f : Fin 256) :
    k1_pay6 (F := Ideal) (View.ld x2 r2048_256) (ix2 i f) = ((a i.val f.val : ℝ) : EReal) := by
  refine Eq.trans ?_ ((ld_col x2 i f).trans (h2 i f))
  generalize View.ld x2 r2048_256 = y
  pointwise [k1_pay6]
/-- The up product's cotangent. -/
theorem colDB_val (h0 : ∀ (i : Fin 2048) (d : Fin 1024), x0 (ix2 i d) = ((dy i.val d.val : ℝ) : EReal))
    (h2 : ∀ (i : Fin 2048) (f : Fin 256), x2 (ix2 i f) = ((a i.val f.val : ℝ) : EReal))
    (h5 : ∀ (f : Fin 256) (d : Fin 1024), x5 (ix2 f d) = ((w d.val f.val : ℝ) : EReal)) (i : Fin 2048) (f : Fin 256) :
    colDB (F := Ideal) x0 x2 x5 (ix2 i f) = ((dup (mm 1024 dy w i.val f.val) (a i.val f.val) : ℝ) : EReal) := by
  have e0 := pay5_val h0 h5 i f
  have e1 := pay6_val h2 i f
  unfold colDB
  generalize View.ld x0 r2048_1024 = y0 at e0 ⊢
  generalize View.ld x5 r256_1024 = y1 at e0 ⊢
  generalize View.ld x2 r2048_256 = y2 at e1 ⊢
  pointwise [k1_pay8, k1_pay7]
  rw [e0, e1, Ideal.logistic_coe, ← EReal.coe_mul, ← EReal.coe_mul]
  rfl
/-- The gate product's cotangent. -/
theorem colDA_val (h0 : ∀ (i : Fin 2048) (d : Fin 1024), x0 (ix2 i d) = ((dy i.val d.val : ℝ) : EReal))
    (h2 : ∀ (i : Fin 2048) (f : Fin 256), x2 (ix2 i f) = ((a i.val f.val : ℝ) : EReal))
    (h3 : ∀ (i : Fin 2048) (f : Fin 256), x3 (ix2 i f) = ((b i.val f.val : ℝ) : EReal))
    (h5 : ∀ (f : Fin 256) (d : Fin 1024), x5 (ix2 f d) = ((w d.val f.val : ℝ) : EReal)) (i : Fin 2048) (f : Fin 256) :
    colDA (F := Ideal) x0 x2 x3 x5 (ix2 i f) = ((dgate (mm 1024 dy w i.val f.val) (a i.val f.val) (b i.val f.val) : ℝ) : EReal) := by
  have e0 := pay5_val h0 h5 i f
  have e1 := pay6_val h2 i f
  have e2 := (ld_col x3 i f).trans (h3 i f)
  unfold colDA
  generalize View.ld x0 r2048_1024 = y0 at e0 ⊢
  generalize View.ld x5 r256_1024 = y1 at e0 ⊢
  generalize View.ld x2 r2048_256 = y2 at e1 ⊢
  generalize View.ld x3 r2048_256 = y3 at e2 ⊢
  pointwise [k1_pay9, k1_pay7]
  rw [e0, e1, e2, ← EReal.coe_one, Ideal.logistic_coe, ← EReal.coe_sub, ← EReal.coe_mul, ← EReal.coe_mul, ← EReal.coe_add, ← EReal.coe_mul, ← EReal.coe_mul]
  rfl

/-- A weight gradient's tile: columns of cotangents times rows. -/
theorem grad_val {Y : Vec Ideal S2048x256 .bf16} {Z : Vec Ideal S2048x1024 .bf16} {y z : ℕ → ℕ → ℝ}
    (hy : ∀ (i : Fin 2048) (f : Fin 256), Y (ix2 i f) = ((y i.val f.val : ℝ) : EReal))
    (hz : ∀ (i : Fin 2048) (d : Fin 1024), Z (ix2 i d) = ((z i.val d.val : ℝ) : EReal)) (f : Fin 256) (d : Fin 1024) :
    k1_pay2 (F := Ideal) Z Y (ix2 f d) = ((mm 2048 (tr y) z f.val d.val : ℝ) : EReal) := by
  pointwise [k1_pay2]
  simp only [hy, hz, ← EReal.coe_mul]
  rw [coe_sum_range (fun i => y i f.val * z i d.val)]
  rfl
/-- The loaded rows. -/
theorem pay4c_val (h1 : ∀ (i : Fin 2048) (d : Fin 1024), x1 (ix2 i d) = ((h i.val d.val : ℝ) : EReal)) (i : Fin 2048) (d : Fin 1024) :
    k1_pay4 (F := Ideal) (View.ld x1 r2048_1024) (ix2 i d) = ((h i.val d.val : ℝ) : EReal) := by
  refine Eq.trans ?_ ((ld_hid x1 i d).trans (h1 i d))
  generalize View.ld x1 r2048_1024 = y
  pointwise [k1_pay4]
/-- The down weights' gradient. -/
theorem colGD_val (h0 : ∀ (i : Fin 2048) (d : Fin 1024), x0 (ix2 i d) = ((dy i.val d.val : ℝ) : EReal))
    (h4 : ∀ (i : Fin 2048) (f : Fin 256), x4 (ix2 i f) = ((t i.val f.val : ℝ) : EReal)) (f : Fin 256) (d : Fin 1024) :
    colGD (F := Ideal) x0 x4 (ix2 f d) = ((mm 2048 (tr t) dy f.val d.val : ℝ) : EReal) := by
  refine Eq.trans ?_ (grad_val (fun i f => (ld_col x4 i f).trans (h4 i f)) (pay4c_val h0) f d)
  unfold colGD
  generalize View.ld x0 r2048_1024 = y0
  generalize View.ld x4 r2048_256 = y4
  pointwise [k1_pay10, k1_pay2, k1_pay3, k1_pay4]
/-- The up weights' gradient. -/
theorem colGU_val (h0 : ∀ (i : Fin 2048) (d : Fin 1024), x0 (ix2 i d) = ((dy i.val d.val : ℝ) : EReal))
    (h1 : ∀ (i : Fin 2048) (d : Fin 1024), x1 (ix2 i d) = ((h i.val d.val : ℝ) : EReal))
    (h2 : ∀ (i : Fin 2048) (f : Fin 256), x2 (ix2 i f) = ((a i.val f.val : ℝ) : EReal))
    (h5 : ∀ (f : Fin 256) (d : Fin 1024), x5 (ix2 f d) = ((w d.val f.val : ℝ) : EReal)) (f : Fin 256) (d : Fin 1024) :
    colGU (F := Ideal) x0 x1 x2 x5 (ix2 f d)
      = ((mm 2048 (tr fun i f => dup (mm 1024 dy w i f) (a i f)) h f.val d.val : ℝ) : EReal) :=
  grad_val (y := fun i f => dup (mm 1024 dy w i f) (a i f)) (colDB_val h0 h2 h5) (pay4c_val h1) f d
/-- The gate weights' gradient. -/
theorem colGG_val (h0 : ∀ (i : Fin 2048) (d : Fin 1024), x0 (ix2 i d) = ((dy i.val d.val : ℝ) : EReal))
    (h1 : ∀ (i : Fin 2048) (d : Fin 1024), x1 (ix2 i d) = ((h i.val d.val : ℝ) : EReal))
    (h2 : ∀ (i : Fin 2048) (f : Fin 256), x2 (ix2 i f) = ((a i.val f.val : ℝ) : EReal))
    (h3 : ∀ (i : Fin 2048) (f : Fin 256), x3 (ix2 i f) = ((b i.val f.val : ℝ) : EReal))
    (h5 : ∀ (f : Fin 256) (d : Fin 1024), x5 (ix2 f d) = ((w d.val f.val : ℝ) : EReal)) (f : Fin 256) (d : Fin 1024) :
    colGG (F := Ideal) x0 x1 x2 x3 x5 (ix2 f d)
      = ((mm 2048 (tr fun i f => dgate (mm 1024 dy w i f) (a i f) (b i f)) h f.val d.val : ℝ) : EReal) :=
  grad_val (y := fun i f => dgate (mm 1024 dy w i f) (a i f) (b i f)) (colDA_val h0 h2 h3 h5) (pay4c_val h1) f d
end

/-- A block of the rows' gradient. -/
theorem rowD_val {a b w u : ℕ → ℕ → ℝ} {x0 x2 : Vec Ideal S1024x2816 .bf16} {x1 x3 : Vec Ideal S2816x512 .bf16}
    (h0 : ∀ (i : Fin 1024) (f : Fin 2816), x0 (ix2 i f) = ((a i.val f.val : ℝ) : EReal))
    (h1 : ∀ (f : Fin 2816) (d : Fin 512), x1 (ix2 f d) = ((w f.val d.val : ℝ) : EReal))
    (h2 : ∀ (i : Fin 1024) (f : Fin 2816), x2 (ix2 i f) = ((b i.val f.val : ℝ) : EReal))
    (h3 : ∀ (f : Fin 2816) (d : Fin 512), x3 (ix2 f d) = ((u f.val d.val : ℝ) : EReal)) (i : Fin 1024) (d : Fin 512) :
    rowD (F := Ideal) x0 x1 x2 x3 (ix2 i d) = ((mm 2816 a w i.val d.val + mm 2816 b u i.val d.val : ℝ) : EReal) := by
  have e0 := fun a d => (ld_wide x0 a d).trans (h0 a d)
  have e1 := fun a d => (ld_tall x1 a d).trans (h1 a d)
  have e2 := fun a d => (ld_wide x2 a d).trans (h2 a d)
  have e3 := fun a d => (ld_tall x3 a d).trans (h3 a d)
  unfold rowD
  generalize View.ld x0 r1024_2816 = y0 at e0 ⊢
  generalize View.ld x1 r2816_512 = y1 at e1 ⊢
  generalize View.ld x2 r1024_2816 = y2 at e2 ⊢
  generalize View.ld x3 r2816_512 = y3 at e3 ⊢
  pointwise [k2_pay1]
  simp only [e0, e1, e2, e3, ← EReal.coe_mul]
  rw [coe_sum_range (fun f => a i.val f * w f d.val), coe_sum_range (fun f => b i.val f * u f d.val), ← EReal.coe_add]
  rfl

end Cert.Kernel2Ideal.Ffn

end
-- ==== Proof.FfnValue.lean ====
module

public import proofs.«01_k».proof.Proof.UpRegion
public import proofs.«01_k».proof.Proof.ColsRegion
public import proofs.«01_k».proof.Proof.RowsRegion
public import proofs.«01_k».proof.Proof.FfnPay

@[expose] public section

noncomputable section

namespace Cert.Kernel2Ideal.Ffn

open Idealize.ShloMosaic Idealize.ShloMosaic.TcCoe Idealize.ShloMosaic.Tactic
open Idealize.ShloMosaic.Pipeline (Dat Cfg Window)
open Cert.Kernel2Ideal Cert.Kernel2Ideal.Gen
open Cert.Reals

/-! # What the three feed-forward pipelines leave in their arrays, as real numbers -/

/-- The first pipeline's blocks: tile `t` of the transposed weights and of the three wide arrays. -/
theorem idx0 : ∀ t : Fin cfg0.N, win0_0.index t = ![0, 0] ∧ win0_1.index t = ![0, 0] ∧ win0_2.index t = ![0, 0] ∧ win0_3.index t = ![0, 0]
    ∧ win0_4.index t = ![t.val, 0] ∧ win0_5.index t = ![t.val, 0] ∧ win0_6.index t = ![0, 0] ∧ win0_7.index t = ![0, t.val]
    ∧ win0_8.index t = ![0, t.val] ∧ win0_9.index t = ![0, t.val] :=
  (by decide +kernel : ∀ t : Fin grid0.N, _)
/-- The second pipeline's blocks: tile `t` of the down weights, of the wide arrays and of the gradients. -/
theorem idx1 : ∀ t : Fin cfg1.N, win1_0.index t = ![0, 0] ∧ win1_1.index t = ![0, 0] ∧ win1_2.index t = ![0, t.val] ∧ win1_3.index t = ![0, t.val]
    ∧ win1_4.index t = ![0, t.val] ∧ win1_5.index t = ![t.val, 0] ∧ win1_6.index t = ![0, t.val] ∧ win1_7.index t = ![0, t.val]
    ∧ win1_8.index t = ![t.val, 0] ∧ win1_9.index t = ![t.val, 0] ∧ win1_10.index t = ![t.val, 0] :=
  (by decide +kernel : ∀ t : Fin grid1.N, _)
/-- The third pipeline's blocks: half `t / 2` of the rows and half `t % 2` of the columns. -/
theorem idx2 : ∀ t : Fin cfg2.N, win2_0.index t = ![t.val / 2, 0] ∧ win2_1.index t = ![0, t.val % 2] ∧ win2_2.index t = ![t.val / 2, 0]
    ∧ win2_3.index t = ![0, t.val % 2] ∧ win2_4.index t = ![t.val / 2, t.val % 2] :=
  (by decide +kernel : ∀ t : Fin grid2.N, _)

/-- The number of grid steps. -/
theorem lt1 (t : Fin cfg1.N) : t.val < 11 := t.isLt
/-- The number of grid steps. -/
theorem lt2 (t : Fin cfg2.N) : t.val < 4 := t.isLt

variable (V : (c : Dev nD) → (b : Ref sig .tc) → Buf (Elt Ideal) ((c : Thread nD τ).loc b)) (c : Dev nD)
variable {X g sh sc WG WU WD DY h a b t' : ℕ → ℕ → ℝ}

/-! ## The first pipeline -/

/-- What the first pipeline finds: rows, gain, shift, scale, and the transposed gate and up weights. -/
structure Found0 (X g sh sc WG WU : ℕ → ℕ → ℝ) : Prop where
  hx : ∀ (i : Fin 2048) (d : Fin 1024), V c main_arg0 (ix2 i d) = ((X i.val d.val : ℝ) : EReal)
  hg : ∀ (i : Fin 1) (d : Fin 1024), V c main_arg1 (ix2 i d) = ((g 0 d.val : ℝ) : EReal)
  hs : ∀ (i : Fin 1) (d : Fin 1024), V c main_arg2 (ix2 i d) = ((sh 0 d.val : ℝ) : EReal)
  hc : ∀ (i : Fin 1) (d : Fin 1024), V c main_arg3 (ix2 i d) = ((sc 0 d.val : ℝ) : EReal)
  hwg : ∀ (f : Fin 2816) (d : Fin 1024), V c main_v1 (ix2 f d) = ((WG d.val f.val : ℝ) : EReal)
  hwu : ∀ (f : Fin 2816) (d : Fin 1024), V c main_v3 (ix2 f d) = ((WU d.val f.val : ℝ) : EReal)

section
variable (f0 : Found0 V c X g sh sc WG WU) (t : Fin cfg0.N)
include f0

/-- An entry of the block, as a real number. -/
theorem blk0_x (i : Fin 2048) (d : Fin 1024) : blk0 V c 0 t (ix2 i d) = ((X i.val d.val : ℝ) : EReal) := by
  have ht := lt0 t
  refine Eq.trans (b := V c main_arg0 (ix2 i d)) ?_ (f0.hx _ _)
  blk_ext [blk0, idx0 t]
/-- An entry of the block, as a real number. -/
theorem blk0_g (i : Fin 1) (d : Fin 1024) : blk0 V c 1 t (ix2 i d) = ((g 0 d.val : ℝ) : EReal) := by
  have ht := lt0 t
  refine Eq.trans (b := V c main_arg1 (ix2 i d)) ?_ (f0.hg _ _)
  blk_ext [blk0, idx0 t]
/-- An entry of the block, as a real number. -/
theorem blk0_s (i : Fin 1) (d : Fin 1024) : blk0 V c 2 t (ix2 i d) = ((sh 0 d.val : ℝ) : EReal) := by
  have ht := lt0 t
  refine Eq.trans (b := V c main_arg2 (ix2 i d)) ?_ (f0.hs _ _)
  blk_ext [blk0, idx0 t]
/-- An entry of the block, as a real number. -/
theorem blk0_c (i : Fin 1) (d : Fin 1024) : blk0 V c 3 t (ix2 i d) = ((sc 0 d.val : ℝ) : EReal) := by
  have ht := lt0 t
  refine Eq.trans (b := V c main_arg3 (ix2 i d)) ?_ (f0.hc _ _)
  blk_ext [blk0, idx0 t]
/-- An entry of the block, as a real number. -/
theorem blk0_wg (f : Fin 256) (d : Fin 1024) : blk0 V c 4 t (ix2 f d) = ((WG d.val (256 * t.val + f.val) : ℝ) : EReal) := by
  have ht := lt0 t
  refine Eq.trans (b := V c main_v1 (ix2 ⟨256 * t.val + f.val, by omega⟩ d)) ?_ (f0.hwg _ _)
  blk_ext [blk0, idx0 t]
/-- An entry of the block, as a real number. -/
theorem blk0_wu (f : Fin 256) (d : Fin 1024) : blk0 V c 5 t (ix2 f d) = ((WU d.val (256 * t.val + f.val) : ℝ) : EReal) := by
  have ht := lt0 t
  refine Eq.trans (b := V c main_v3 (ix2 ⟨256 * t.val + f.val, by omega⟩ d)) ?_ (f0.hwu _ _)
  blk_ext [blk0, idx0 t]
/-- The normalized rows, as real numbers. -/
theorem hBlk_val (i : Fin 2048) (d : Fin 1024) : hBlk V c (ix2 i d) = ((hid X g sh sc i.val d.val : ℝ) : EReal) :=
  upH_val (blk0_x V c f0 pt0) (blk0_g V c f0 pt0) (blk0_s V c f0 pt0) (blk0_c V c f0 pt0) i d

omit t
/-- The rows' array. -/
theorem final0_6 : (dat0 V c).arrAt 6 cfg0.N = fun y : S2048x1024.Idx => ((hid X g sh sc (y 0).val (y 1).val : ℝ) : EReal) := by
  refine (dat0 V c).arrAt_eq_of_covers 6 _ (by decide +kernel) fun t hf y => ?_
  have ht := lt0 t
  have y0 : (y 0).val < 2048 := (y 0).isLt
  have y1 : (y 1).val < 1024 := (y 1).isLt
  blk_simp [idx0 t]
  rw [after0_6]
  refine (congrArg _ (eq_ix2 y)).trans ?_
  exact hBlk_val V c f0 (y 0) (y 1)
/-- The gate product's array. -/
theorem final0_7 : (dat0 V c).arrAt 7 cfg0.N = fun y : S2048x2816.Idx => ((ffA X g sh sc WG (y 0).val (y 1).val : ℝ) : EReal) := by
  refine (dat0 V c).arrAt_eq_of_covers 7 _ (by decide +kernel) fun t hf y => ?_
  have ht := lt0 t
  have y0 : (y 0).val < 2048 := (y 0).isLt
  have y1 : (y 1).val < 256 := (y 1).isLt
  blk_simp [idx0 t]
  rw [after0_7]
  refine (congrArg _ (eq_ix2 y)).trans ?_
  refine (upA_val (w := fun d f => WG d (256 * t.val + f)) (hBlk_val V c f0) (blk0_wg V c f0 t) (y 0) (y 1)).trans ?_
  rw [Nat.mul_comm t.val]
  rfl
/-- The up product's array. -/
theorem final0_8 : (dat0 V c).arrAt 8 cfg0.N = fun y : S2048x2816.Idx => ((ffB X g sh sc WU (y 0).val (y 1).val : ℝ) : EReal) := by
  refine (dat0 V c).arrAt_eq_of_covers 8 _ (by decide +kernel) fun t hf y => ?_
  have ht := lt0 t
  have y0 : (y 0).val < 2048 := (y 0).isLt
  have y1 : (y 1).val < 256 := (y 1).isLt
  blk_simp [idx0 t]
  rw [after0_8]
  refine (congrArg _ (eq_ix2 y)).trans ?_
  refine (upB_val (w := fun d f => WU d (256 * t.val + f)) (hBlk_val V c f0) (blk0_wu V c f0 t) (y 0) (y 1)).trans ?_
  rw [Nat.mul_comm t.val]
  rfl
/-- The gated product's array. -/
theorem final0_9 : (dat0 V c).arrAt 9 cfg0.N = fun y : S2048x2816.Idx => ((ffT X g sh sc WG WU (y 0).val (y 1).val : ℝ) : EReal) := by
  refine (dat0 V c).arrAt_eq_of_covers 9 _ (by decide +kernel) fun t hf y => ?_
  have ht := lt0 t
  have y0 : (y 0).val < 2048 := (y 0).isLt
  have y1 : (y 1).val < 256 := (y 1).isLt
  blk_simp [idx0 t]
  rw [after0_9]
  refine (congrArg _ (eq_ix2 y)).trans ?_
  refine (upT_val (w := fun d f => WG d (256 * t.val + f)) (u := fun d f => WU d (256 * t.val + f)) (hBlk_val V c f0) (blk0_wg V c f0 t)
    (blk0_wu V c f0 t) (y 0) (y 1)).trans ?_
  rw [Nat.mul_comm t.val]
  rfl
end

/-! ## The second pipeline -/

/-- What the second pipeline finds: the output's cotangent, the rows, the three wide arrays, and the down weights. -/
structure Found1 (DY h a b t' WD : ℕ → ℕ → ℝ) : Prop where
  hy : ∀ (i : Fin 2048) (d : Fin 1024), V c main_v6 (ix2 i d) = ((DY i.val d.val : ℝ) : EReal)
  hh : ∀ (i : Fin 2048) (d : Fin 1024), V c main_v5_0 (ix2 i d) = ((h i.val d.val : ℝ) : EReal)
  ha : ∀ (i : Fin 2048) (f : Fin 2816), V c main_v5_1 (ix2 i f) = ((a i.val f.val : ℝ) : EReal)
  hb : ∀ (i : Fin 2048) (f : Fin 2816), V c main_v5_2 (ix2 i f) = ((b i.val f.val : ℝ) : EReal)
  ht : ∀ (i : Fin 2048) (f : Fin 2816), V c main_v5_3 (ix2 i f) = ((t' i.val f.val : ℝ) : EReal)
  hw : ∀ (f : Fin 2816) (d : Fin 1024), V c main_v4 (ix2 f d) = ((WD f.val d.val : ℝ) : EReal)

section
variable (f1 : Found1 V c DY h a b t' WD) (t : Fin cfg1.N)
include f1

/-- An entry of the block, as a real number. -/
theorem blk1_y (i : Fin 2048) (d : Fin 1024) : blk1 V c 0 t (ix2 i d) = ((DY i.val d.val : ℝ) : EReal) := by
  have ht := lt1 t
  refine Eq.trans (b := V c main_v6 (ix2 i d)) ?_ (f1.hy _ _)
  blk_ext [blk1, idx1 t]
/-- An entry of the block, as a real number. -/
theorem blk1_h (i : Fin 2048) (d : Fin 1024) : blk1 V c 1 t (ix2 i d) = ((h i.val d.val : ℝ) : EReal) := by
  have ht := lt1 t
  refine Eq.trans (b := V c main_v5_0 (ix2 i d)) ?_ (f1.hh _ _)
  blk_ext [blk1, idx1 t]
/-- An entry of the block, as a real number. -/
theorem blk1_a (i : Fin 2048) (f : Fin 256) : blk1 V c 2 t (ix2 i f) = ((a i.val (256 * t.val + f.val) : ℝ) : EReal) := by
  have ht := lt1 t
  refine Eq.trans (b := V c main_v5_1 (ix2 i ⟨256 * t.val + f.val, by omega⟩)) ?_ (f1.ha _ _)
  blk_ext [blk1, idx1 t]
/-- An entry of the block, as a real number. -/
theorem blk1_b (i : Fin 2048) (f : Fin 256) : blk1 V c 3 t (ix2 i f) = ((b i.val (256 * t.val + f.val) : ℝ) : EReal) := by
  have ht := lt1 t
  refine Eq.trans (b := V c main_v5_2 (ix2 i ⟨256 * t.val + f.val, by omega⟩)) ?_ (f1.hb _ _)
  blk_ext [blk1, idx1 t]
/-- An entry of the block, as a real number. -/
theorem blk1_t (i : Fin 2048) (f : Fin 256) : blk1 V c 4 t (ix2 i f) = ((t' i.val (256 * t.val + f.val) : ℝ) : EReal) := by
  have ht := lt1 t
  refine Eq.trans (b := V c main_v5_3 (ix2 i ⟨256 * t.val + f.val, by omega⟩)) ?_ (f1.ht _ _)
  blk_ext [blk1, idx1 t]
/-- An entry of the block, as a real number. -/
theorem blk1_w (f : Fin 256) (d : Fin 1024) : blk1 V c 5 t (ix2 f d) = ((tr WD d.val (256 * t.val + f.val) : ℝ) : EReal) := by
  have ht := lt1 t
  refine Eq.trans (b := V c main_v4 (ix2 ⟨256 * t.val + f.val, by omega⟩ d)) ?_ (f1.hw _ _)
  blk_ext [blk1, idx1 t]

omit t
/-- The gate cotangents' array. -/
theorem final1_6 : (dat1 V c).arrAt 6 cfg1.N = fun y : S2048x2816.Idx =>
    ((dgate (mm 1024 DY (tr WD) (y 0).val (y 1).val) (a (y 0).val (y 1).val) (b (y 0).val (y 1).val) : ℝ) : EReal) := by
  refine (dat1 V c).arrAt_eq_of_covers 6 _ (by decide +kernel) fun t hf y => ?_
  have ht := lt1 t
  have y0 : (y 0).val < 2048 := (y 0).isLt
  have y1 : (y 1).val < 256 := (y 1).isLt
  blk_simp [idx1 t]
  rw [after1_6]
  refine (congrArg _ (eq_ix2 y)).trans ?_
  refine (colDA_val (a := fun i f => a i (256 * t.val + f)) (b := fun i f => b i (256 * t.val + f)) (w := fun d f => tr WD d (256 * t.val + f))
    (blk1_y V c f1 t) (blk1_a V c f1 t) (blk1_b V c f1 t) (blk1_w V c f1 t) (y 0) (y 1)).trans ?_
  rw [Nat.mul_comm t.val]
  rfl
/-- The up cotangents' array. -/
theorem final1_7 : (dat1 V c).arrAt 7 cfg1.N = fun y : S2048x2816.Idx =>
    ((dup (mm 1024 DY (tr WD) (y 0).val (y 1).val) (a (y 0).val (y 1).val) : ℝ) : EReal) := by
  refine (dat1 V c).arrAt_eq_of_covers 7 _ (by decide +kernel) fun t hf y => ?_
  have ht := lt1 t
  have y0 : (y 0).val < 2048 := (y 0).isLt
  have y1 : (y 1).val < 256 := (y 1).isLt
  blk_simp [idx1 t]
  rw [after1_7]
  refine (congrArg _ (eq_ix2 y)).trans ?_
  refine (colDB_val (a := fun i f => a i (256 * t.val + f)) (w := fun d f => tr WD d (256 * t.val + f))
    (blk1_y V c f1 t) (blk1_a V c f1 t) (blk1_w V c f1 t) (y 0) (y 1)).trans ?_
  rw [Nat.mul_comm t.val]
  rfl
/-- The down weights' gradient. -/
theorem final1_8 : (dat1 V c).arrAt 8 cfg1.N = fun y : S2816x1024.Idx => ((mm 2048 (tr t') DY (y 0).val (y 1).val : ℝ) : EReal) := by
  refine (dat1 V c).arrAt_eq_of_covers 8 _ (by decide +kernel) fun t hf y => ?_
  have ht := lt1 t
  have y0 : (y 0).val < 256 := (y 0).isLt
  have y1 : (y 1).val < 1024 := (y 1).isLt
  blk_simp [idx1 t]
  rw [after1_8]
  refine (congrArg _ (eq_ix2 y)).trans ?_
  refine (colGD_val (t := fun i f => t' i (256 * t.val + f)) (blk1_y V c f1 t) (blk1_t V c f1 t) (y 0) (y 1)).trans ?_
  rw [Nat.mul_comm t.val]
  rfl
/-- The gate weights' gradient. -/
theorem final1_9 : (dat1 V c).arrAt 9 cfg1.N = fun y : S2816x1024.Idx =>
    ((mm 2048 (tr fun i f => dgate (mm 1024 DY (tr WD) i f) (a i f) (b i f)) h (y 0).val (y 1).val : ℝ) : EReal) := by
  refine (dat1 V c).arrAt_eq_of_covers 9 _ (by decide +kernel) fun t hf y => ?_
  have ht := lt1 t
  have y0 : (y 0).val < 256 := (y 0).isLt
  have y1 : (y 1).val < 1024 := (y 1).isLt
  blk_simp [idx1 t]
  rw [after1_9]
  refine (congrArg _ (eq_ix2 y)).trans ?_
  refine (colGG_val (a := fun i f => a i (256 * t.val + f)) (b := fun i f => b i (256 * t.val + f)) (w := fun d f => tr WD d (256 * t.val + f))
    (blk1_y V c f1 t) (blk1_h V c f1 t) (blk1_a V c f1 t) (blk1_b V c f1 t) (blk1_w V c f1 t) (y 0) (y 1)).trans ?_
  rw [Nat.mul_comm t.val]
  rfl
/-- The up weights' gradient. -/
theorem final1_10 : (dat1 V c).arrAt 10 cfg1.N = fun y : S2816x1024.Idx =>
    ((mm 2048 (tr fun i f => dup (mm 1024 DY (tr WD) i f) (a i f)) h (y 0).val (y 1).val : ℝ) : EReal) := by
  refine (dat1 V c).arrAt_eq_of_covers 10 _ (by decide +kernel) fun t hf y => ?_
  have ht := lt1 t
  have y0 : (y 0).val < 256 := (y 0).isLt
  have y1 : (y 1).val < 1024 := (y 1).isLt
  blk_simp [idx1 t]
  rw [after1_10]
  refine (congrArg _ (eq_ix2 y)).trans ?_
  refine (colGU_val (a := fun i f => a i (256 * t.val + f)) (w := fun d f => tr WD d (256 * t.val + f))
    (blk1_y V c f1 t) (blk1_h V c f1 t) (blk1_a V c f1 t) (blk1_w V c f1 t) (y 0) (y 1)).trans ?_
  rw [Nat.mul_comm t.val]
  rfl
end

/-! ## The third pipeline -/

/-- What the third pipeline finds: the two cotangents' arrays and the transposed gate and up weights. -/
structure Found2 (a b WG WU : ℕ → ℕ → ℝ) : Prop where
  ha : ∀ (i : Fin 2048) (f : Fin 2816), V c main_v7_0 (ix2 i f) = ((a i.val f.val : ℝ) : EReal)
  hb : ∀ (i : Fin 2048) (f : Fin 2816), V c main_v7_1 (ix2 i f) = ((b i.val f.val : ℝ) : EReal)
  hwg : ∀ (f : Fin 2816) (d : Fin 1024), V c main_v1 (ix2 f d) = ((WG d.val f.val : ℝ) : EReal)
  hwu : ∀ (f : Fin 2816) (d : Fin 1024), V c main_v3 (ix2 f d) = ((WU d.val f.val : ℝ) : EReal)

section
variable (f2 : Found2 V c a b WG WU) (t : Fin cfg2.N)
include f2

/-- An entry of the block, as a real number. -/
theorem blk2_a (i : Fin 1024) (f : Fin 2816) : blk2 V c 0 t (ix2 i f) = ((a (1024 * (t.val / 2) + i.val) f.val : ℝ) : EReal) := by
  have ht := lt2 t
  refine Eq.trans (b := V c main_v7_0 (ix2 ⟨1024 * (t.val / 2) + i.val, by omega⟩ f)) ?_ (f2.ha _ _)
  blk_ext [blk2, idx2 t]
/-- An entry of the block, as a real number. -/
theorem blk2_wg (f : Fin 2816) (d : Fin 512) : blk2 V c 1 t (ix2 f d) = ((tr WG f.val (512 * (t.val % 2) + d.val) : ℝ) : EReal) := by
  have ht := lt2 t
  refine Eq.trans (b := V c main_v1 (ix2 f ⟨512 * (t.val % 2) + d.val, by omega⟩)) ?_ (f2.hwg _ _)
  blk_ext [blk2, idx2 t]
/-- An entry of the block, as a real number. -/
theorem blk2_b (i : Fin 1024) (f : Fin 2816) : blk2 V c 2 t (ix2 i f) = ((b (1024 * (t.val / 2) + i.val) f.val : ℝ) : EReal) := by
  have ht := lt2 t
  refine Eq.trans (b := V c main_v7_1 (ix2 ⟨1024 * (t.val / 2) + i.val, by omega⟩ f)) ?_ (f2.hb _ _)
  blk_ext [blk2, idx2 t]
/-- An entry of the block, as a real number. -/
theorem blk2_wu (f : Fin 2816) (d : Fin 512) : blk2 V c 3 t (ix2 f d) = ((tr WU f.val (512 * (t.val % 2) + d.val) : ℝ) : EReal) := by
  have ht := lt2 t
  refine Eq.trans (b := V c main_v3 (ix2 f ⟨512 * (t.val % 2) + d.val, by omega⟩)) ?_ (f2.hwu _ _)
  blk_ext [blk2, idx2 t]

omit t
/-- The rows' gradient. -/
theorem final2_4 : (dat2 V c).arrAt 4 cfg2.N = fun y : S2048x1024.Idx =>
    ((mm 2816 a (tr WG) (y 0).val (y 1).val + mm 2816 b (tr WU) (y 0).val (y 1).val : ℝ) : EReal) := by
  refine (dat2 V c).arrAt_eq_of_covers 4 _ (by decide +kernel) fun t hf y => ?_
  have ht := lt2 t
  have y0 : (y 0).val < 1024 := (y 0).isLt
  have y1 : (y 1).val < 512 := (y 1).isLt
  blk_simp [idx2 t]
  rw [after2_4]
  refine (congrArg _ (eq_ix2 y)).trans ?_
  refine (rowD_val (a := fun i f => a (1024 * (t.val / 2) + i) f) (w := fun f d => tr WG f (512 * (t.val % 2) + d))
    (b := fun i f => b (1024 * (t.val / 2) + i) f) (u := fun f d => tr WU f (512 * (t.val % 2) + d))
    (blk2_a V c f2 t) (blk2_wg V c f2 t) (blk2_b V c f2 t) (blk2_wu V c f2 t) (y 0) (y 1)).trans ?_
  rw [Nat.mul_comm (t.val / 2), Nat.mul_comm (t.val % 2)]
  rfl
end

end Cert.Kernel2Ideal.Ffn

end
-- ==== Proof.FfnRef.lean ====
module

public import proofs.«01_k».proof.Proof.FfnMath
public import proofs.«01_k».proof.Proof.Gen.Reference2Ideal.Run
public import Idealize.ShloMosaic.Lib.Pipeline.ValueKit
public import Idealize.ShloMosaic.Lib.Pointwise

@[expose] public section

noncomputable section

namespace Cert.Reference2Ideal.Ffn

open Idealize.ShloMosaic Idealize.ShloMosaic.TcCoe Idealize.ShloMosaic.Tactic
open Cert.Reference2Ideal Cert.Reference2Ideal.Gen
open Cert.Reals

/-! # The feed-forward reference's steps, each over the arrays before it -/

/-- An array over the extended reals. -/
abbrev Arr (s : Shape) : Type := FVec Ideal s .f32

/-- A row of numbers at each row. -/
def down (x : Arr S1x1024) : Arr S2048x1024 := broadcastInDim S2048x1024 ![0, 1] bcast_S1x1024_S2048x1024_0_1 x
/-- One over the root of each row's mean square. -/
def roots (x : Arr S2048x1024) : Arr S2048x1 :=
  Host.rsqrt (addf (Host.divf (broadcastInDim S2048x1 ![0] bcast_S2048_S2048x1_0 (Host.reduceAdd (mulf x x) (constant S_ .f32 0x00000000#32)
      reducesTo_S2048x1024_S2048_d1 h_S_)) (broadcastInDim S2048x1 ![] bcast_S_S2048x1 (constant S_ .f32 0x44800000#32)))
    (broadcastInDim S2048x1 ![] bcast_S_S2048x1 (constant S_ .f32 0x358637BD#32)))
/-- The normalized rows, scaled and shifted. -/
def rows (x : Arr S2048x1024) (g sh sc : Arr S1x1024) : Arr S2048x1024 :=
  addf (mulf (mulf (mulf x (broadcastInDim S2048x1024 ![0, 1] bcast_S2048x1_S2048x1024_0_1 (roots x))) (down g))
    (down (addf (broadcastInDim S1x1024 ![] bcast_S_S1x1024 (constant S_ .f32 0x3F800000#32)) sc))) (down sh)
/-- The rows times weights. -/
def wide (h : Arr S2048x1024) (w : Arr S1024x2816) : Arr S2048x2816 :=
  Host.dotGeneral dot_S2048x1024_S1024x2816_S2048x2816_1_0_0_1_n_n none h w
/-- One everywhere. -/
def ones : Arr S2048x2816 := broadcastInDim S2048x2816 ![] bcast_S_S2048x2816 (constant S_ .f32 0x3F800000#32)
/-- The logistic function. -/
def logist (a : Arr S2048x2816) : Arr S2048x2816 := Host.divf ones (addf ones (Host.exp (Host.negf a)))
/-- The gated product. -/
def gate (a b : Arr S2048x2816) : Arr S2048x2816 := mulf (mulf a (logist a)) b
/-- The gated product's cotangent. -/
def dwide (y : Arr S2048x1024) (w : Arr S2816x1024) : Arr S2048x2816 :=
  Host.dotGeneral dot_S2048x1024_S2816x1024_S2048x2816_1_1_0_0_n_n none y w
/-- The up product's cotangent. -/
def dups (a t : Arr S2048x2816) : Arr S2048x2816 := mulf (mulf a (logist a)) t
/-- The gate product's cotangent. -/
def dgates (a b t : Arr S2048x2816) : Arr S2048x2816 :=
  addf (mulf (mulf t b) (logist a)) (mulf (mulf a (mulf t b)) (mulf (logist a) (subf ones (logist a))))
/-- The down weights' gradient. -/
def gradD (y : Arr S2048x1024) (t : Arr S2048x2816) : FVec Ideal S2816x1024 .bf16 :=
  truncf .bf16 (transpose S2816x1024 [1, 0] (Host.dotGeneral dot_S2048x1024_S2048x2816_S1024x2816_0_0_1_1_n_n none y t)
    transposes_S1024x2816_S2816x1024_1_0) bitsLt_bf16_f32
/-- The gate or up weights' gradient, transposed. -/
def gradW (d : Arr S2048x2816) (h : Arr S2048x1024) : FVec Ideal S2816x1024 .bf16 :=
  truncf .bf16 (transpose S2816x1024 [1, 0] (transpose S1024x2816 [1, 0] (Host.dotGeneral dot_S2048x2816_S2048x1024_S2816x1024_0_0_1_1_n_n none d h)
    transposes_S2816x1024_S1024x2816_1_0) transposes_S1024x2816_S2816x1024_1_0) bitsLt_bf16_f32
/-- The rows' gradient. -/
def gradH (db da : Arr S2048x2816) (wu wg : Arr S1024x2816) : Arr S2048x1024 :=
  addf (Host.dotGeneral dot_S2048x2816_S1024x2816_S2048x1024_1_1_0_0_n_n none db wu)
    (Host.dotGeneral dot_S2048x2816_S1024x2816_S2048x1024_1_1_0_0_n_n none da wg)

/-! # The steps as real numbers -/

variable {X g sh sc WG WU WD DY h a b t : ℕ → ℕ → ℝ}

/-- Its entries, as real numbers. -/
theorem roots_val {x : Arr S2048x1024} (hx : ∀ (i : Fin 2048) (d : Fin 1024), x (ix2 i d) = ((X i.val d.val : ℝ) : EReal)) (i : Fin 2048) :
    roots x (ix2 i 0) = ((rms X i.val : ℝ) : EReal) := by
  pointwise [roots]
  simp only [hx, ← EReal.coe_mul]
  rw [coe_sum_range (fun d => X i.val d * X i.val d), ofBits_width, ← coe_eps, div_coe _ (by norm_num), ← EReal.coe_add, rsqrt_rms]
/-- Its entries, as real numbers. -/
theorem rows_val {x : Arr S2048x1024} {x1 x2 x3 : Arr S1x1024}
    (hx : ∀ (i : Fin 2048) (d : Fin 1024), x (ix2 i d) = ((X i.val d.val : ℝ) : EReal))
    (h1 : ∀ (i : Fin 1) (d : Fin 1024), x1 (ix2 i d) = ((g 0 d.val : ℝ) : EReal))
    (h2 : ∀ (i : Fin 1) (d : Fin 1024), x2 (ix2 i d) = ((sh 0 d.val : ℝ) : EReal))
    (h3 : ∀ (i : Fin 1) (d : Fin 1024), x3 (ix2 i d) = ((sc 0 d.val : ℝ) : EReal)) (i : Fin 2048) (d : Fin 1024) :
    rows x x1 x2 x3 (ix2 i d) = ((hid X g sh sc i.val d.val : ℝ) : EReal) := by
  have e := roots_val hx
  unfold rows
  generalize roots x = r at e ⊢
  pointwise [down]
  rw [e, hx, h1, h2, h3, ← EReal.coe_one, ← EReal.coe_mul, ← EReal.coe_mul, ← EReal.coe_add, ← EReal.coe_mul, ← EReal.coe_add]
  rfl
/-- Its entries, as real numbers. -/
theorem wide_val {H : Arr S2048x1024} {w : Arr S1024x2816} (hh : ∀ (i : Fin 2048) (d : Fin 1024), H (ix2 i d) = ((h i.val d.val : ℝ) : EReal))
    (hw : ∀ (d : Fin 1024) (f : Fin 2816), w (ix2 d f) = ((WG d.val f.val : ℝ) : EReal)) (i : Fin 2048) (f : Fin 2816) :
    wide H w (ix2 i f) = ((mm 1024 h WG i.val f.val : ℝ) : EReal) := by
  pointwise [wide]
  simp only [hh, hw, ← EReal.coe_mul]
  rw [coe_sum_range (fun d => h i.val d * WG d f.val)]
  rfl
/-- Its entries, as real numbers. -/
theorem dwide_val {Y : Arr S2048x1024} {w : Arr S2816x1024} (hy : ∀ (i : Fin 2048) (d : Fin 1024), Y (ix2 i d) = ((DY i.val d.val : ℝ) : EReal))
    (hw : ∀ (f : Fin 2816) (d : Fin 1024), w (ix2 f d) = ((WD f.val d.val : ℝ) : EReal)) (i : Fin 2048) (f : Fin 2816) :
    dwide Y w (ix2 i f) = ((mm 1024 DY (tr WD) i.val f.val : ℝ) : EReal) := by
  pointwise [dwide]
  simp only [hy, hw, ← EReal.coe_mul]
  rw [coe_sum_range (fun d => DY i.val d * WD f.val d)]
  rfl

section
variable {A B T : Arr S2048x2816} (ha : ∀ (i : Fin 2048) (f : Fin 2816), A (ix2 i f) = ((a i.val f.val : ℝ) : EReal))
include ha
/-- Its entries, as real numbers. -/
theorem logist_val (i : Fin 2048) (f : Fin 2816) : logist A (ix2 i f) = ((sg (a i.val f.val) : ℝ) : EReal) := by
  refine Eq.trans (b := Ideal.div 1 (1 + Ideal.exp (-(A (ix2 i f))))) ?_ ?_
  · pointwise [logist, ones]
  · rw [ha]
    exact Ideal.logistic_coe _
/-- Its entries, as real numbers. -/
theorem dups_val (ht : ∀ (i : Fin 2048) (f : Fin 2816), T (ix2 i f) = ((t i.val f.val : ℝ) : EReal)) (i : Fin 2048) (f : Fin 2816) :
    dups A T (ix2 i f) = ((dup (t i.val f.val) (a i.val f.val) : ℝ) : EReal) := by
  have e := logist_val ha
  unfold dups
  generalize logist A = L at e ⊢
  pointwise
  rw [ha, e, ht, ← EReal.coe_mul, ← EReal.coe_mul, mul_comm (a i.val f.val * _)]
  rfl
variable (hb : ∀ (i : Fin 2048) (f : Fin 2816), B (ix2 i f) = ((b i.val f.val : ℝ) : EReal))
include hb
/-- Its entries, as real numbers. -/
theorem gate_val (i : Fin 2048) (f : Fin 2816) : gate A B (ix2 i f) = ((gated (a i.val f.val) (b i.val f.val) : ℝ) : EReal) := by
  have e := logist_val ha
  unfold gate
  generalize logist A = L at e ⊢
  pointwise
  rw [ha, e, hb, ← EReal.coe_mul, ← EReal.coe_mul]
  rfl
/-- Its entries, as real numbers. -/
theorem dgates_val (ht : ∀ (i : Fin 2048) (f : Fin 2816), T (ix2 i f) = ((t i.val f.val : ℝ) : EReal)) (i : Fin 2048) (f : Fin 2816) :
    dgates A B T (ix2 i f) = ((dgate (t i.val f.val) (a i.val f.val) (b i.val f.val) : ℝ) : EReal) := by
  have e := logist_val ha
  unfold dgates
  generalize logist A = L at e ⊢
  pointwise [ones]
  rw [ha, e, hb, ht, ← EReal.coe_one]
  simp only [← EReal.coe_mul, ← EReal.coe_sub, ← EReal.coe_add]
  refine congrArg _ ?_
  unfold dgate
  ring
end

/-- Its entries. -/
theorem gradD_at {Y : Arr S2048x1024} {T : Arr S2048x2816} (hy : ∀ (i : Fin 2048) (d : Fin 1024), Y (ix2 i d) = ((DY i.val d.val : ℝ) : EReal))
    (ht : ∀ (i : Fin 2048) (f : Fin 2816), T (ix2 i f) = ((t i.val f.val : ℝ) : EReal)) (f : Fin 2816) (d : Fin 1024) :
    gradD Y T (ix2 f d) = ((mm 2048 (tr t) DY f.val d.val : ℝ) : EReal) := by
  refine Eq.trans (b := ∑ i : Fin 2048, Y (ix2 i d) * T (ix2 i f)) ?_ ?_
  · pointwise [gradD]
  · simp only [hy, ht, ← EReal.coe_mul]
    refine (coe_sum_range (fun i => DY i d.val * t i f.val)).trans ?_
    simp only [mul_comm (DY _ _)]
    rfl
/-- Its entries, as real numbers. -/
theorem gradD_val {Y : Arr S2048x1024} {T : Arr S2048x2816} (hy : ∀ (i : Fin 2048) (d : Fin 1024), Y (ix2 i d) = ((DY i.val d.val : ℝ) : EReal))
    (ht : ∀ (i : Fin 2048) (f : Fin 2816), T (ix2 i f) = ((t i.val f.val : ℝ) : EReal)) :
    gradD Y T = fun y : S2816x1024.Idx => ((mm 2048 (tr t) DY (y 0).val (y 1).val : ℝ) : EReal) :=
  funext fun y => (congrArg _ (eq_ix2 y)).trans (gradD_at hy ht (y 0) (y 1))
/-- Its entries. -/
theorem gradW_at {D : Arr S2048x2816} {H : Arr S2048x1024} (hd : ∀ (i : Fin 2048) (f : Fin 2816), D (ix2 i f) = ((t i.val f.val : ℝ) : EReal))
    (hh : ∀ (i : Fin 2048) (d : Fin 1024), H (ix2 i d) = ((h i.val d.val : ℝ) : EReal)) (f : Fin 2816) (d : Fin 1024) :
    gradW D H (ix2 f d) = ((mm 2048 (tr t) h f.val d.val : ℝ) : EReal) := by
  refine Eq.trans (b := ∑ i : Fin 2048, D (ix2 i f) * H (ix2 i d)) ?_ ?_
  · pointwise [gradW]
  · simp only [hd, hh, ← EReal.coe_mul]
    exact coe_sum_range (fun i => t i f.val * h i d.val)
/-- Its entries, as real numbers. -/
theorem gradW_val {D : Arr S2048x2816} {H : Arr S2048x1024} (hd : ∀ (i : Fin 2048) (f : Fin 2816), D (ix2 i f) = ((t i.val f.val : ℝ) : EReal))
    (hh : ∀ (i : Fin 2048) (d : Fin 1024), H (ix2 i d) = ((h i.val d.val : ℝ) : EReal)) :
    gradW D H = fun y : S2816x1024.Idx => ((mm 2048 (tr t) h (y 0).val (y 1).val : ℝ) : EReal) :=
  funext fun y => (congrArg _ (eq_ix2 y)).trans (gradW_at hd hh (y 0) (y 1))
/-- Its entries. -/
theorem gradH_at {Da Db : Arr S2048x2816} {wg wu : Arr S1024x2816} (ha : ∀ (i : Fin 2048) (f : Fin 2816), Da (ix2 i f) = ((a i.val f.val : ℝ) : EReal))
    (hb : ∀ (i : Fin 2048) (f : Fin 2816), Db (ix2 i f) = ((b i.val f.val : ℝ) : EReal))
    (hwg : ∀ (d : Fin 1024) (f : Fin 2816), wg (ix2 d f) = ((WG d.val f.val : ℝ) : EReal))
    (hwu : ∀ (d : Fin 1024) (f : Fin 2816), wu (ix2 d f) = ((WU d.val f.val : ℝ) : EReal)) (i : Fin 2048) (d : Fin 1024) :
    gradH Db Da wu wg (ix2 i d) = ((mm 2816 a (tr WG) i.val d.val + mm 2816 b (tr WU) i.val d.val : ℝ) : EReal) := by
  refine Eq.trans (b := (∑ f : Fin 2816, Db (ix2 i f) * wu (ix2 d f)) + ∑ f : Fin 2816, Da (ix2 i f) * wg (ix2 d f)) ?_ ?_
  · pointwise [gradH]
  · simp only [ha, hb, hwg, hwu, ← EReal.coe_mul]
    refine (congrArg₂ (fun x y : EReal => x + y) (coe_sum_range (fun f => b i.val f * WU d.val f)) (coe_sum_range (fun f => a i.val f * WG d.val f))).trans ?_
    show ((_ : ℝ) : EReal) + ((_ : ℝ) : EReal) = _
    rw [← EReal.coe_add, add_comm]
    rfl
/-- Its entries, as real numbers. -/
theorem gradH_val {Da Db : Arr S2048x2816} {wg wu : Arr S1024x2816} (ha : ∀ (i : Fin 2048) (f : Fin 2816), Da (ix2 i f) = ((a i.val f.val : ℝ) : EReal))
    (hb : ∀ (i : Fin 2048) (f : Fin 2816), Db (ix2 i f) = ((b i.val f.val : ℝ) : EReal))
    (hwg : ∀ (d : Fin 1024) (f : Fin 2816), wg (ix2 d f) = ((WG d.val f.val : ℝ) : EReal))
    (hwu : ∀ (d : Fin 1024) (f : Fin 2816), wu (ix2 d f) = ((WU d.val f.val : ℝ) : EReal)) :
    gradH Db Da wu wg = fun y : S2048x1024.Idx => ((mm 2816 a (tr WG) (y 0).val (y 1).val + mm 2816 b (tr WU) (y 0).val (y 1).val : ℝ) : EReal) :=
  funext fun y => (congrArg _ (eq_ix2 y)).trans (gradH_at ha hb hwg hwu (y 0) (y 1))

/-! # The four results -/

section
open Cert.Reference2Ideal.Value
variable (m : (ℓ : Loc nD τ sig) → Buf (Elt Ideal) ℓ) (c : Dev nD)

/-- The rows, the gate and up products, and the cotangents, of the arguments. -/
abbrev H0 : Arr S2048x1024 := rows (m ((c.tc : Thread nD τ).loc main_arg0)) (m ((c.tc : Thread nD τ).loc main_arg1))
  (m ((c.tc : Thread nD τ).loc main_arg2)) (m ((c.tc : Thread nD τ).loc main_arg3))
/-- The gate product. -/
abbrev A0 : Arr S2048x2816 := wide (H0 m c) (m ((c.tc : Thread nD τ).loc main_arg4))
/-- The up product. -/
abbrev B0 : Arr S2048x2816 := wide (H0 m c) (m ((c.tc : Thread nD τ).loc main_arg5))
/-- The gated product. -/
abbrev T0 : Arr S2048x2816 := dwide (m ((c.tc : Thread nD τ).loc main_arg7)) (m ((c.tc : Thread nD τ).loc main_arg6))

/-- Result 0 of the reference. -/
theorem out0_eq : res_out0 m c = gradH (dups (A0 m c) (T0 m c)) (dgates (A0 m c) (B0 m c) (T0 m c)) (m ((c.tc : Thread nD τ).loc main_arg5))
    (m ((c.tc : Thread nD τ).loc main_arg4)) := by
  unfold res_out0 res_main_v35; rfl
/-- Result 2 of the reference. -/
theorem out2_eq : res_out2 m c = gradW (dgates (A0 m c) (B0 m c) (T0 m c)) (H0 m c) := by
  unfold res_out2 res_main_v38; rfl

/-- The arguments as real numbers. -/
structure Args (X g sh sc WG WU WD DY : ℕ → ℕ → ℝ) : Prop where
  h0 : ∀ (i : Fin 2048) (d : Fin 1024), (m ((c.tc : Thread nD τ).loc main_arg0) : Arr S2048x1024) (ix2 i d) = ((X i.val d.val : ℝ) : EReal)
  h1 : ∀ (i : Fin 1) (d : Fin 1024), (m ((c.tc : Thread nD τ).loc main_arg1) : Arr S1x1024) (ix2 i d) = ((g 0 d.val : ℝ) : EReal)
  h2 : ∀ (i : Fin 1) (d : Fin 1024), (m ((c.tc : Thread nD τ).loc main_arg2) : Arr S1x1024) (ix2 i d) = ((sh 0 d.val : ℝ) : EReal)
  h3 : ∀ (i : Fin 1) (d : Fin 1024), (m ((c.tc : Thread nD τ).loc main_arg3) : Arr S1x1024) (ix2 i d) = ((sc 0 d.val : ℝ) : EReal)
  h4 : ∀ (d : Fin 1024) (f : Fin 2816), (m ((c.tc : Thread nD τ).loc main_arg4) : Arr S1024x2816) (ix2 d f) = ((WG d.val f.val : ℝ) : EReal)
  h5 : ∀ (d : Fin 1024) (f : Fin 2816), (m ((c.tc : Thread nD τ).loc main_arg5) : Arr S1024x2816) (ix2 d f) = ((WU d.val f.val : ℝ) : EReal)
  h6 : ∀ (f : Fin 2816) (d : Fin 1024), (m ((c.tc : Thread nD τ).loc main_arg6) : Arr S2816x1024) (ix2 f d) = ((WD f.val d.val : ℝ) : EReal)
  h7 : ∀ (i : Fin 2048) (d : Fin 1024), (m ((c.tc : Thread nD τ).loc main_arg7) : Arr S2048x1024) (ix2 i d) = ((DY i.val d.val : ℝ) : EReal)

variable (z : Args m c X g sh sc WG WU WD DY)
include z
/-- Its entries, as real numbers. -/
theorem H0_val (i : Fin 2048) (d : Fin 1024) : H0 m c (ix2 i d) = ((hid X g sh sc i.val d.val : ℝ) : EReal) :=
  rows_val z.h0 z.h1 z.h2 z.h3 i d
/-- Its entries, as real numbers. -/
theorem A0_val (i : Fin 2048) (f : Fin 2816) : A0 m c (ix2 i f) = ((ffA X g sh sc WG i.val f.val : ℝ) : EReal) :=
  wide_val (H0_val m c z) z.h4 i f
/-- Its entries, as real numbers. -/
theorem B0_val (i : Fin 2048) (f : Fin 2816) : B0 m c (ix2 i f) = ((ffB X g sh sc WU i.val f.val : ℝ) : EReal) :=
  wide_val (H0_val m c z) z.h5 i f
/-- Its entries, as real numbers. -/
theorem T0_val (i : Fin 2048) (f : Fin 2816) : T0 m c (ix2 i f) = ((ffDT WD DY i.val f.val : ℝ) : EReal) :=
  dwide_val z.h7 z.h6 i f
/-- The up and gate cotangents. -/
theorem DB_val (i : Fin 2048) (f : Fin 2816) : dups (A0 m c) (T0 m c) (ix2 i f) = ((ffDB X g sh sc WG WD DY i.val f.val : ℝ) : EReal) :=
  dups_val (A0_val m c z) (T0_val m c z) i f
/-- Its entries, as real numbers. -/
theorem DA_val (i : Fin 2048) (f : Fin 2816) : dgates (A0 m c) (B0 m c) (T0 m c) (ix2 i f) = ((ffDA X g sh sc WG WU WD DY i.val f.val : ℝ) : EReal) :=
  dgates_val (A0_val m c z) (B0_val m c z) (T0_val m c z) i f

/-- The rows' gradient. -/
theorem out0_val : res_out0 m c = fun y : S2048x1024.Idx => ((ffDH X g sh sc WG WU WD DY (y 0).val (y 1).val : ℝ) : EReal) :=
  (out0_eq m c).trans (gradH_val (DA_val m c z) (DB_val m c z) z.h4 z.h5)
/-- The down weights' gradient. -/
theorem out1_val : gradD (m ((c.tc : Thread nD τ).loc main_arg7)) (gate (A0 m c) (B0 m c))
    = fun y : S2816x1024.Idx => ((ffGD X g sh sc WG WU DY (y 0).val (y 1).val : ℝ) : EReal) :=
  gradD_val (t := ffT X g sh sc WG WU) z.h7 (gate_val (A0_val m c z) (B0_val m c z))
/-- The gate weights' gradient. -/
theorem out2_val : res_out2 m c = fun y : S2816x1024.Idx => ((ffGG X g sh sc WG WU WD DY (y 0).val (y 1).val : ℝ) : EReal) :=
  (out2_eq m c).trans (gradW_val (DA_val m c z) (H0_val m c z))
/-- The up weights' gradient. -/
theorem out3_val : gradW (dups (A0 m c) (T0 m c)) (H0 m c)
    = fun y : S2816x1024.Idx => ((ffGU X g sh sc WG WD DY (y 0).val (y 1).val : ℝ) : EReal) :=
  gradW_val (DB_val m c z) (H0_val m c z)
end

end Cert.Reference2Ideal.Ffn

end
-- ==== Proof.SameBodies2.lean ====
module

public import proofs.«01_k».proof.Proof.Gen.Kernel2
public import proofs.«01_k».proof.Proof.Gen.Kernel2Ideal

@[expose] public section

namespace Cert.Proof

open Idealize.ShloMosaic

variable {F : FTy → Type} [FloatOps F]

/-! # The feed-forward kernel's two printings are one program -/

set_option maxHeartbeats 0 in
/-- The forward body. -/
theorem up_eq : @Cert.Kernel2.cc0_ffn_up F _ _ = @Cert.Kernel2Ideal.cc0_ffn_up F _ _ := (rfl)
set_option maxHeartbeats 0 in
/-- The body of the cotangents and the weights' gradients. -/
theorem cols_eq : @Cert.Kernel2.cc1_ffn_bwd_cols F _ _ = @Cert.Kernel2Ideal.cc1_ffn_bwd_cols F _ _ := (rfl)
set_option maxHeartbeats 0 in
/-- The body of the rows' gradient. -/
theorem dh_eq : @Cert.Kernel2.cc2_ffn_bwd_dh F _ _ = @Cert.Kernel2Ideal.cc2_ffn_bwd_dh F _ _ := (rfl)

set_option maxHeartbeats 0 in
/-- The table of bodies. -/
theorem bodies2_eq : @Cert.Kernel2.defs₀ F _ _ = @Cert.Kernel2Ideal.defs₀ F _ _ := by
  unfold Cert.Kernel2.defs₀ Cert.Kernel2Ideal.defs₀
  congr 1
  funext l x
  match l with
  | 0 =>
    obtain ⟨t, s⟩ := x
    dsimp only
    rw [up_eq]
    rfl
  | 1 =>
    obtain ⟨t, s⟩ := x
    dsimp only
    rw [cols_eq]
    rfl
  | 2 =>
    obtain ⟨t, s⟩ := x
    dsimp only
    rw [dh_eq]
    rfl
  | ⟨n + 3, h⟩ => exact absurd h (Nat.not_lt.2 (Nat.le_add_left _ _))

set_option maxHeartbeats 0 in
/-- The table of bodies and pipelines. -/
theorem table2_eq : @Cert.Kernel2.defs F _ _ = @Cert.Kernel2Ideal.defs F _ _ :=
  congrArg (Pipeline.defs (Kernel2Ideal.pcfgs (F := F))) bodies2_eq

end Cert.Proof
-- ==== Proof.FfnClaims.lean ====
module

public import proofs.«01_k».proof.Proof.FfnRun
public import proofs.«01_k».proof.Proof.FfnValue
public import proofs.«01_k».proof.Proof.FfnRef
public import proofs.«01_k».proof.Proof.Finite
public import proofs.«01_k».proof.Proof.SameBodies2

@[expose] public section

noncomputable section

namespace Cert.Kernel2Ideal.Ffn

open Idealize.ShloMosaic Idealize.ShloMosaic.TcCoe Idealize.ShloMosaic.Tactic Idealize.ShloMosaic.StableHlo Idealize.SL.Sem
open Cert.Kernel2Ideal Cert.Kernel2Ideal.Gen
open Cert.Reals

/-! # What the three pipelines leave, from finite arguments -/

section
variable (m : (ℓ : Loc nD τ sig) → Buf (Elt Ideal) ℓ) (ρ : Dev nD → PrngReg) (c : Dev nD)

/-- The host's narrowed, transposed gate weights are the argument's. -/
theorem B1_wg (f : Fin 2816) (d : Fin 1024) : (B1 m ρ c (Proc.devRef .tc main_v1) : FVec Ideal S2816x1024 .bf16) (ix2 f d)
    = (m ((c : Thread nD τ).loc main_arg4) : FVec Ideal S1024x2816 .f32) (ix2 d f) := by
  have e : (B1 m ρ c (Proc.devRef .tc main_v1) : FVec Ideal S2816x1024 .bf16)
      = (transpose S2816x1024 [1, 0] (truncf (F := Ideal) .bf16 (m ((c : Thread nD τ).loc main_arg4) : FVec Ideal S1024x2816 .f32) bitsLt_bf16_f32)
        transposes_S1024x2816_S2816x1024_1_0 : FVec Ideal S2816x1024 .bf16) := by
    unfold B1
    after_results_simp <;> rfl
  rw [e]
  pointwise
/-- The up weights', too. -/
theorem B1_wu (f : Fin 2816) (d : Fin 1024) : (B1 m ρ c (Proc.devRef .tc main_v3) : FVec Ideal S2816x1024 .bf16) (ix2 f d)
    = (m ((c : Thread nD τ).loc main_arg5) : FVec Ideal S1024x2816 .f32) (ix2 d f) := by
  have e : (B1 m ρ c (Proc.devRef .tc main_v3) : FVec Ideal S2816x1024 .bf16)
      = (transpose S2816x1024 [1, 0] (truncf (F := Ideal) .bf16 (m ((c : Thread nD τ).loc main_arg5) : FVec Ideal S1024x2816 .f32) bitsLt_bf16_f32)
        transposes_S1024x2816_S2816x1024_1_0 : FVec Ideal S2816x1024 .bf16) := by
    unfold B1
    after_results_simp <;> rfl
  rw [e]
  pointwise
/-- The narrowed down weights are the argument. -/
theorem B1_wd (j : S2816x1024.Idx) : (B1 m ρ c (Proc.devRef .tc main_v4) : FVec Ideal S2816x1024 .bf16) j
    = (m ((c : Thread nD τ).loc main_arg6) : FVec Ideal S2816x1024 .f32) j := by
  unfold B1
  after_results_simp <;> rfl
/-- The narrowed cotangent is the argument. -/
theorem B3_dy (j : S2048x1024.Idx) : (B3 m ρ c (Proc.devRef .tc main_v6) : FVec Ideal S2048x1024 .bf16) j
    = (m ((c : Thread nD τ).loc main_arg7) : FVec Ideal S2048x1024 .f32) j := by
  refine Eq.trans (b := (B2 m ρ c (Proc.devRef .tc main_arg7) : FVec Ideal S2048x1024 .f32) j) ?_ (congrFun (B2_args m ρ c main_arg7 (by decide)) j)
  unfold B3
  after_results_simp <;> rfl

/-- The arguments as real numbers. -/
structure Args (X g sh sc WG WU WD DY : ℕ → ℕ → ℝ) : Prop where
  h0 : ∀ (i : Fin 2048) (d : Fin 1024), (m ((c : Thread nD τ).loc main_arg0) : FVec Ideal S2048x1024 .f32) (ix2 i d) = ((X i.val d.val : ℝ) : EReal)
  h1 : ∀ (i : Fin 1) (d : Fin 1024), (m ((c : Thread nD τ).loc main_arg1) : FVec Ideal S1x1024 .f32) (ix2 i d) = ((g 0 d.val : ℝ) : EReal)
  h2 : ∀ (i : Fin 1) (d : Fin 1024), (m ((c : Thread nD τ).loc main_arg2) : FVec Ideal S1x1024 .f32) (ix2 i d) = ((sh 0 d.val : ℝ) : EReal)
  h3 : ∀ (i : Fin 1) (d : Fin 1024), (m ((c : Thread nD τ).loc main_arg3) : FVec Ideal S1x1024 .f32) (ix2 i d) = ((sc 0 d.val : ℝ) : EReal)
  h4 : ∀ (d : Fin 1024) (f : Fin 2816), (m ((c : Thread nD τ).loc main_arg4) : FVec Ideal S1024x2816 .f32) (ix2 d f) = ((WG d.val f.val : ℝ) : EReal)
  h5 : ∀ (d : Fin 1024) (f : Fin 2816), (m ((c : Thread nD τ).loc main_arg5) : FVec Ideal S1024x2816 .f32) (ix2 d f) = ((WU d.val f.val : ℝ) : EReal)
  h6 : ∀ (f : Fin 2816) (d : Fin 1024), (m ((c : Thread nD τ).loc main_arg6) : FVec Ideal S2816x1024 .f32) (ix2 f d) = ((WD f.val d.val : ℝ) : EReal)
  h7 : ∀ (i : Fin 2048) (d : Fin 1024), (m ((c : Thread nD τ).loc main_arg7) : FVec Ideal S2048x1024 .f32) (ix2 i d) = ((DY i.val d.val : ℝ) : EReal)

variable {X g sh sc WG WU WD DY : ℕ → ℕ → ℝ} (z : Args m c X g sh sc WG WU WD DY)
include z

/-- What the first pipeline finds. -/
theorem found0 : Found0 (U1 m ρ) c X g sh sc WG WU where
  hx i d := (congrFun (B1_args m ρ c main_arg0 (by decide)) (ix2 i d)).trans (z.h0 i d)
  hg i d := (congrFun (B1_args m ρ c main_arg1 (by decide)) (ix2 i d)).trans (z.h1 i d)
  hs i d := (congrFun (B1_args m ρ c main_arg2 (by decide)) (ix2 i d)).trans (z.h2 i d)
  hc i d := (congrFun (B1_args m ρ c main_arg3 (by decide)) (ix2 i d)).trans (z.h3 i d)
  hwg f d := (B1_wg m ρ c f d).trans (z.h4 d f)
  hwu f d := (B1_wu m ρ c f d).trans (z.h5 d f)

/-- What the second pipeline finds. -/
theorem found1 : Found1 (U3 m ρ) c DY (hid X g sh sc) (ffA X g sh sc WG) (ffB X g sh sc WU) (ffT X g sh sc WG WU) WD where
  hy i d := (B3_dy m ρ c _).trans (z.h7 i d)
  hh i d := (congrFun ((B3_of m ρ c main_v5_0 (by decide +kernel)).trans (B2_arr m ρ c 6)) (ix2 i d)).trans (congrFun (final0_6 _ c (found0 m ρ c z)) (ix2 i d))
  ha i d := (congrFun ((B3_of m ρ c main_v5_1 (by decide +kernel)).trans (B2_arr m ρ c 7)) (ix2 i d)).trans (congrFun (final0_7 _ c (found0 m ρ c z)) (ix2 i d))
  hb i d := (congrFun ((B3_of m ρ c main_v5_2 (by decide +kernel)).trans (B2_arr m ρ c 8)) (ix2 i d)).trans (congrFun (final0_8 _ c (found0 m ρ c z)) (ix2 i d))
  ht i d := (congrFun ((B3_of m ρ c main_v5_3 (by decide +kernel)).trans (B2_arr m ρ c 9)) (ix2 i d)).trans (congrFun (final0_9 _ c (found0 m ρ c z)) (ix2 i d))
  hw f d := (congrFun ((B3_of m ρ c main_v4 (by decide +kernel)).trans (B2_of m ρ c main_v4 (by decide +kernel))) (ix2 f d)).trans ((B1_wd m ρ c _).trans (z.h6 f d))

/-- What the third pipeline finds. -/
theorem found2 : Found2 (U4 m ρ) c (ffDA X g sh sc WG WU WD DY) (ffDB X g sh sc WG WD DY) WG WU where
  ha i f := (congrFun (B4_arr m ρ c 6) (ix2 i f)).trans (congrFun (final1_6 _ c (found1 m ρ c z)) (ix2 i f))
  hb i f := (congrFun (B4_arr m ρ c 7) (ix2 i f)).trans (congrFun (final1_7 _ c (found1 m ρ c z)) (ix2 i f))
  hwg f d := (congrFun ((B4_of m ρ c main_v1 (by decide +kernel)).trans ((B3_of m ρ c main_v1 (by decide +kernel)).trans
    (B2_of m ρ c main_v1 (by decide +kernel)))) (ix2 f d)).trans ((B1_wg m ρ c f d).trans (z.h4 d f))
  hwu f d := (congrFun ((B4_of m ρ c main_v3 (by decide +kernel)).trans ((B3_of m ρ c main_v3 (by decide +kernel)).trans
    (B2_of m ρ c main_v3 (by decide +kernel)))) (ix2 f d)).trans ((B1_wu m ρ c f d).trans (z.h5 d f))

/-- The rows' gradient. -/
theorem B5_dh : B5 m ρ c (Proc.devRef .tc main_v8) = fun y : S2048x1024.Idx => ((ffDH X g sh sc WG WU WD DY (y 0).val (y 1).val : ℝ) : EReal) :=
  (B5_arr m ρ c 4).trans (final2_4 _ c (found2 m ρ c z))
/-- The down weights' gradient. -/
theorem B5_gd : B5 m ρ c (Proc.devRef .tc main_v7_2) = fun y : S2816x1024.Idx => ((ffGD X g sh sc WG WU DY (y 0).val (y 1).val : ℝ) : EReal) :=
  ((B5_of m ρ c main_v7_2 (by decide +kernel)).trans (B4_arr m ρ c 8)).trans (final1_8 _ c (found1 m ρ c z))
/-- The gate weights' gradient. -/
theorem B5_gg : B5 m ρ c (Proc.devRef .tc main_v7_3) = fun y : S2816x1024.Idx => ((ffGG X g sh sc WG WU WD DY (y 0).val (y 1).val : ℝ) : EReal) :=
  ((B5_of m ρ c main_v7_3 (by decide +kernel)).trans (B4_arr m ρ c 9)).trans (final1_9 _ c (found1 m ρ c z))
/-- The up weights' gradient. -/
theorem B5_gu : B5 m ρ c (Proc.devRef .tc main_v7_4) = fun y : S2816x1024.Idx => ((ffGU X g sh sc WG WD DY (y 0).val (y 1).val : ℝ) : EReal) :=
  ((B5_of m ρ c main_v7_4 (by decide +kernel)).trans (B4_arr m ρ c 10)).trans (final1_10 _ c (found1 m ρ c z))
end

/-- The program terminates, leaves its arguments and every counter as they were. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c =>
    ⟨(h.1 c _ (mem_held _ (by decide))).trans (B5_args m ρ c _ (by decide)),
     (h.1 c _ (mem_held _ (by decide))).trans (B5_args m ρ c _ (by decide)),
     (h.1 c _ (mem_held _ (by decide))).trans (B5_args m ρ c _ (by decide)),
     (h.1 c _ (mem_held _ (by decide))).trans (B5_args m ρ c _ (by decide)),
     (h.1 c _ (mem_held _ (by decide))).trans (B5_args m ρ c _ (by decide)),
     (h.1 c _ (mem_held _ (by decide))).trans (B5_args m ρ c _ (by decide)),
     (h.1 c _ (mem_held _ (by decide))).trans (B5_args m ρ c _ (by decide)),
     (h.1 c _ (mem_held _ (by decide))).trans (B5_args m ρ c _ (by decide))⟩, h.2⟩)
    (run_main m ρ)

end Cert.Kernel2Ideal.Ffn

namespace Cert.Proof

open Idealize.ShloMosaic Idealize.ShloMosaic.TcCoe Idealize.ShloMosaic.Tactic Idealize.SL.Sem
open Cert.Reals

/-- The side conditions of the feed-forward finiteness test. -/
theorem preFacts2 : Cert.Pre_finite2.Facts := ⟨by decide, by decide, by decide, by decide⟩

/-! # The claims about the feed-forward gradients -/

set_option maxHeartbeats 0 in
/-- The program terminates, leaves its arguments and every counter as they were: bits. -/
theorem frame_kernel2 : Cert.quiescent_Kernel2 := fun m ρ _ => by
  rw [table2_eq]; exact Kernel2Ideal.Ffn.run_frame (F := Bits) m ρ

/-- The same over the extended reals. -/
theorem frame_ideal2 : Cert.quiescent_Kernel2Ideal := fun m ρ _ => Kernel2Ideal.Ffn.run_frame (F := Ideal) m ρ

/-- The reference terminates and leaves its arguments; it has no counters. -/
theorem frame_reference2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- A finite array's entries as real numbers. -/
theorem reals_of {a b : ℕ} (x : Fin a → Fin b → EReal) (h : ∀ i j, ⊥ < x i j ∧ x i j < ⊤) :
    ∃ A : ℕ → ℕ → ℝ, ∀ i j, x i j = ((A i.val j.val : ℝ) : EReal) := ⟨at2 x, at2_coe x h⟩
/-- The same for one row. -/
theorem reals_row {b : ℕ} (x : Fin 1 → Fin b → EReal) (h : ∀ i j, ⊥ < x i j ∧ x i j < ⊤) :
    ∃ A : ℕ → ℕ → ℝ, ∀ i j, x i j = ((A 0 j.val : ℝ) : EReal) :=
  ⟨at2 x, fun i j => by obtain rfl : i = 0 := Subsingleton.elim _ _; exact at2_coe x h 0 j⟩

/-- Finite arguments are real numbers. -/
theorem args2 (m : (ℓ : Loc Kernel2Ideal.nD Kernel2Ideal.τ Kernel2Ideal.sig) → Buf (Elt Ideal) ℓ)
    (hpre : Cert.Pre_Kernel2Ideal_finite2 (hPre_finite2 := preFacts2) m) (c : Dev Kernel2Ideal.nD) :
    ∃ X g sh sc WG WU WD DY : ℕ → ℕ → ℝ, Kernel2Ideal.Ffn.Args m c X g sh sc WG WU WD DY := by
  obtain ⟨p0, p1, p2, p3, p4, p5, p6, p7⟩ := hpre c
  obtain ⟨X, h0⟩ := reals_of (fun (i : Fin 2048) (j : Fin 1024) => (m ((c.tc : Thread Kernel2Ideal.nD Kernel2Ideal.τ).loc Kernel2Ideal.main_arg0) : FVec Ideal Kernel2Ideal.S2048x1024 .f32) (ix2 i j)) fun i j => finite_at _ _ p0 _
  obtain ⟨g, h1⟩ := reals_row (fun (i : Fin 1) (j : Fin 1024) => (m ((c.tc : Thread Kernel2Ideal.nD Kernel2Ideal.τ).loc Kernel2Ideal.main_arg1) : FVec Ideal Kernel2Ideal.S1x1024 .f32) (ix2 i j)) fun i j => finite_at _ _ p1 _
  obtain ⟨sh, h2⟩ := reals_row (fun (i : Fin 1) (j : Fin 1024) => (m ((c.tc : Thread Kernel2Ideal.nD Kernel2Ideal.τ).loc Kernel2Ideal.main_arg2) : FVec Ideal Kernel2Ideal.S1x1024 .f32) (ix2 i j)) fun i j => finite_at _ _ p2 _
  obtain ⟨sc, h3⟩ := reals_row (fun (i : Fin 1) (j : Fin 1024) => (m ((c.tc : Thread Kernel2Ideal.nD Kernel2Ideal.τ).loc Kernel2Ideal.main_arg3) : FVec Ideal Kernel2Ideal.S1x1024 .f32) (ix2 i j)) fun i j => finite_at _ _ p3 _
  obtain ⟨WG, h4⟩ := reals_of (fun (i : Fin 1024) (j : Fin 2816) => (m ((c.tc : Thread Kernel2Ideal.nD Kernel2Ideal.τ).loc Kernel2Ideal.main_arg4) : FVec Ideal Kernel2Ideal.S1024x2816 .f32) (ix2 i j)) fun i j => finite_at _ _ p4 _
  obtain ⟨WU, h5⟩ := reals_of (fun (i : Fin 1024) (j : Fin 2816) => (m ((c.tc : Thread Kernel2Ideal.nD Kernel2Ideal.τ).loc Kernel2Ideal.main_arg5) : FVec Ideal Kernel2Ideal.S1024x2816 .f32) (ix2 i j)) fun i j => finite_at _ _ p5 _
  obtain ⟨WD, h6⟩ := reals_of (fun (i : Fin 2816) (j : Fin 1024) => (m ((c.tc : Thread Kernel2Ideal.nD Kernel2Ideal.τ).loc Kernel2Ideal.main_arg6) : FVec Ideal Kernel2Ideal.S2816x1024 .f32) (ix2 i j)) fun i j => finite_at _ _ p6 _
  obtain ⟨DY, h7⟩ := reals_of (fun (i : Fin 2048) (j : Fin 1024) => (m ((c.tc : Thread Kernel2Ideal.nD Kernel2Ideal.τ).loc Kernel2Ideal.main_arg7) : FVec Ideal Kernel2Ideal.S2048x1024 .f32) (ix2 i j)) fun i j => finite_at _ _ p7 _
  exact ⟨X, g, sh, sc, WG, WU, WD, DY, ⟨h0, h1, h2, h3, h4, h5, h6, h7⟩⟩

/-- The kernel's gradients of the rows and of the three weights are the reference's, from finite arguments. -/
theorem algebraic_ffn : Cert.algebraic_Kernel2Ideal_Reference2Ideal_pre_finite2 (hPre_finite2 := preFacts2) := by
  intro m ρ m' ρ' hpre hagree
  have hz := args2 m hpre
  refine ⟨fun c => Kernel2Ideal.Ffn.B5 m ρ c (Proc.devRef .tc Kernel2Ideal.main_v8), fun c => Kernel2Ideal.Ffn.B5 m ρ c (Proc.devRef .tc Kernel2Ideal.main_v7_2),
    fun c => Kernel2Ideal.Ffn.B5 m ρ c (Proc.devRef .tc Kernel2Ideal.main_v7_3), fun c => Kernel2Ideal.Ffn.B5 m ρ c (Proc.devRef .tc Kernel2Ideal.main_v7_4), ?_, ?_⟩
  · refine (θ_run Cert.Kernel2Ideal.defs _ _).mono (fun _ h c => ?_) (Kernel2Ideal.Ffn.run_main (F := Ideal) m ρ)
    have k := fun (a : Ref Kernel2Ideal.sig .tc) (ha : a ∈ Kernel2Ideal.Ffn.theArgs) (hs : ¬ (Proc.devRef .tc a : DevRef Kernel2Ideal.τ Kernel2Ideal.sig).isScoped) =>
      (h.1 c _ (Kernel2Ideal.Ffn.mem_held a hs)).trans (Kernel2Ideal.Ffn.B5_args m ρ c a ha)
    exact ⟨h.1 c _ (Kernel2Ideal.Ffn.mem_held _ (by decide)), h.1 c _ (Kernel2Ideal.Ffn.mem_held _ (by decide)),
      h.1 c _ (Kernel2Ideal.Ffn.mem_held _ (by decide)), h.1 c _ (Kernel2Ideal.Ffn.mem_held _ (by decide)),
      k _ (by decide) (by decide), k _ (by decide) (by decide), k _ (by decide) (by decide), k _ (by decide) (by decide),
      k _ (by decide) (by decide), k _ (by decide) (by decide), k _ (by decide) (by decide), k _ (by decide) (by decide)⟩
  · refine (θ_run Cert.Reference2Ideal.defs _ _).mono (fun _ h c => ?_) (Cert.Reference2Ideal.Value.run (F := Ideal) m' ρ')
    obtain ⟨X, g, sh, sc, WG, WU, WD, DY, z⟩ := hz c
    obtain ⟨a0, a1, a2, a3, a4, a5, a6, a7⟩ := hagree c
    have z' : Reference2Ideal.Ffn.Args m' c X g sh sc WG WU WD DY :=
      ⟨fun i j => (congrFun a0 (ix2 i j)).trans (z.h0 i j), fun i j => (congrFun a1 (ix2 i j)).trans (z.h1 i j),
       fun i j => (congrFun a2 (ix2 i j)).trans (z.h2 i j), fun i j => (congrFun a3 (ix2 i j)).trans (z.h3 i j),
       fun i j => (congrFun a4 (ix2 i j)).trans (z.h4 i j), fun i j => (congrFun a5 (ix2 i j)).trans (z.h5 i j),
       fun i j => (congrFun a6 (ix2 i j)).trans (z.h6 i j), fun i j => (congrFun a7 (ix2 i j)).trans (z.h7 i j)⟩
    obtain ⟨r0, r1, r2, r3, ra⟩ := h c
    exact ⟨r0.trans ((Reference2Ideal.Ffn.out0_val m' c z').trans (Kernel2Ideal.Ffn.B5_dh m ρ c z).symm),
      r1.trans ((Reference2Ideal.Ffn.out1_val m' c z').trans (Kernel2Ideal.Ffn.B5_gd m ρ c z).symm),
      r2.trans ((Reference2Ideal.Ffn.out2_val m' c z').trans (Kernel2Ideal.Ffn.B5_gg m ρ c z).symm),
      r3.trans ((Reference2Ideal.Ffn.out3_val m' c z').trans (Kernel2Ideal.Ffn.B5_gu m ρ c z).symm), ra⟩

end Cert.Proof

end
-- ==== Proof.ProdBody.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.FwdBody

@[expose] public section

set_option maxRecDepth 16384

noncomputable section

namespace Cert.Kernel3Ideal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen
open Cert.KernelIdeal.Attn (read_one overlay_all load_fill)

variable {F : FTy → Type} [FloatOps F]

/-! # The six bodies of the plain products, one grid point at a time

Each body multiplies two blocks. The first two also add the product, scaled, to a block of the residual; of the others two
contract over the rows of both blocks, which makes a weight's gradient, and two contract over columns, which makes the
gradient of the rows. -/

/-- The resources a core's triple speaks of. -/
abbrev Res (F : FTy → Type) : Type := MT nD τ sig Unit (Elt F) ℕ (UR sig nD τ) ℕ

/-! ## The whole-block rectangles the bodies load and store -/

/-- A whole block of 512 rows and 2816 columns. -/
abbrev r512_2816 : Rect S512x2816 := Rect.unit (s := S512x2816) ![0, 0] S512x2816.size inb_S512x2816_S512x2816_0_0
/-- A whole block of 2816 rows and 1024 columns. -/
abbrev r2816_1024 : Rect S2816x1024 := Rect.unit (s := S2816x1024) ![0, 0] S2816x1024.size inb_S2816x1024_S2816x1024_0_0
/-- A whole block of 512 rows and 1024 columns. -/
abbrev r512_1024 : Rect S512x1024 := Rect.unit (s := S512x1024) ![0, 0] S512x1024.size inb_S512x1024_S512x1024_0_0
/-- A whole block of 1024 rows and 1024 columns. -/
abbrev r1024_1024 : Rect S1024x1024 := Rect.unit (s := S1024x1024) ![0, 0] S1024x1024.size inb_S1024x1024_S1024x1024_0_0
/-- A whole block of 2048 rows and 512 columns. -/
abbrev r2048_512 : Rect S2048x512 := Rect.unit (s := S2048x512) ![0, 0] S2048x512.size inb_S2048x512_S2048x512_0_0
/-- A whole block of 2048 rows and 1024 columns. -/
abbrev r2048_1024 : Rect S2048x1024 := Rect.unit (s := S2048x1024) ![0, 0] S2048x1024.size inb_S2048x1024_S2048x1024_0_0
/-- A whole block of 2048 rows and 256 columns. -/
abbrev r2048_256 : Rect S2048x256 := Rect.unit (s := S2048x256) ![0, 0] S2048x256.size inb_S2048x256_S2048x256_0_0
/-- A whole block of 256 rows and 1024 columns. -/
abbrev r256_1024 : Rect S256x1024 := Rect.unit (s := S256x1024) ![0, 0] S256x1024.size inb_S256x1024_S256x1024_0_0
/-- A whole block of 1024 rows and 1280 columns. -/
abbrev r1024_1280 : Rect S1024x1280 := Rect.unit (s := S1024x1280) ![0, 0] S1024x1280.size inb_S1024x1280_S1024x1280_0_0
/-- A whole block of 1280 rows and 1024 columns. -/
abbrev r1280_1024 : Rect S1280x1024 := Rect.unit (s := S1280x1024) ![0, 0] S1280x1024.size inb_S1280x1024_S1280x1024_0_0
/-- A whole block of 1 rows and 1024 columns. -/
abbrev r1_1024 : Rect S1x1024 := Rect.unit (s := S1x1024) ![0, 0] S1x1024.size inb_S1x1024_S1x1024_0_0

/-! ## What the bodies leave -/

/-- A block of the down product. -/
def downY (x0 : Vec F S512x2816 .bf16) (x1 : Vec F S2816x1024 .bf16) : Vec F S512x1024 .bf16 :=
  k0_pay2 (View.ld x0 r512_2816) (View.ld x1 r2816_1024)

/-- A block of the residual with the down product added. -/
def downR (x0 : Vec F S512x2816 .bf16) (x1 : Vec F S2816x1024 .bf16) (x2 : Vec F S512x1024 .f32) (x3 : Vec F S1x1024 .f32) : Vec F S512x1024 .f32 :=
  k0_pay3 (View.ld x0 r512_2816) (View.ld x1 r2816_1024) (View.ld x2 r512_1024) (View.ld x3 r1_1024)

/-- A block of the output projection. -/
def outY (x0 : Vec F S512x1024 .bf16) (x1 : Vec F S1024x1024 .bf16) : Vec F S512x1024 .bf16 :=
  k1_pay2 (View.ld x0 r512_1024) (View.ld x1 r1024_1024)

/-- A block of the residual with the output projection added. -/
def outR (x0 : Vec F S512x1024 .bf16) (x1 : Vec F S1024x1024 .bf16) (x2 : Vec F S512x1024 .f32) (x3 : Vec F S1x1024 .f32) : Vec F S512x1024 .f32 :=
  k1_pay3 (View.ld x0 r512_1024) (View.ld x1 r1024_1024) (View.ld x2 r512_1024) (View.ld x3 r1_1024)

/-- A block of the output projection's weight gradient. -/
def outWY (x0 : Vec F S2048x512 .bf16) (x1 : Vec F S2048x1024 .bf16) : Vec F S512x1024 .bf16 :=
  k2_pay1 (View.ld x0 r2048_512) (View.ld x1 r2048_1024)

/-- A block of the output projection's input gradient. -/
def outXY (x0 : Vec F S1024x1024 .bf16) (x1 : Vec F S1024x1024 .bf16) : Vec F S1024x1024 .f32 :=
  k3_pay1 (View.ld x0 r1024_1024) (View.ld x1 r1024_1024)

/-- A block of the input projection's weight gradient. -/
def inWY (x0 : Vec F S2048x256 .bf16) (x1 : Vec F S2048x1024 .bf16) : Vec F S256x1024 .bf16 :=
  k4_pay1 (View.ld x0 r2048_256) (View.ld x1 r2048_1024)

/-- A block of the input projection's input gradient. -/
def inXY (x0 : Vec F S1024x1280 .bf16) (x1 : Vec F S1280x1024 .bf16) : Vec F S1024x1024 .f32 :=
  k5_pay1 (View.ld x0 r1024_1280) (View.ld x1 r1280_1024)

/-! ## The triples -/

set_option maxHeartbeats 1000000 in
/-- The body of the down product: the inputs stay, the output blocks hold the product and the sum. -/
theorem down_run (c : Dev nD) (i : grid0.Coords)
    (arg2 : Memref sig .tc .vmem S512x2816 .bf16) (harg2 : arg2.IsWhole)
    (arg3 : Memref sig .tc .vmem S2816x1024 .bf16) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S512x1024 .bf16) (harg6 : arg6.IsWhole)
    (arg7 : Memref sig .tc .vmem S512x1024 .f32) (harg7 : arg7.IsWhole)

    (x0 : Vec F S512x2816 .bf16) (x1 : Vec F S2816x1024 .bf16) (x2 : Vec F S512x1024 .f32) (x3 : Vec F S1x1024 .f32)
    (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (downY x0 x1) ∗ owns (c : Thread nD τ) arg7 fullShare (downR x0 x1 x2 x3)) -∗ K ⟨⟩))
      ⊢ wp frame (wpE (defs₀ (F := F)) Variants.none c none) E (cc0_ffn_down i arg2 harg2 arg3 harg3 arg4 harg4 arg5 harg5 arg6 harg6 arg7 harg7) K := by
  simp only [cc0_ffn_down_eq_skeleton]; unfold cc0_ffn_down_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact (read_one _ _ _ _).trans (overlay_all inb_S512x1024_S512x1024_0_0 (by decide) _ _)
  · iexists _; isplitr
    swap; · iexact H5
    ipureintro
    exact (read_one _ _ _ _).trans (overlay_all inb_S512x1024_S512x1024_0_0 (by decide) _ _)

set_option maxHeartbeats 1000000 in
/-- The body of the output projection: the inputs stay, the output blocks hold the product and the sum. -/
theorem out_run (c : Dev nD) (i : grid1.Coords)
    (arg2 : Memref sig .tc .vmem S512x1024 .bf16) (harg2 : arg2.IsWhole)
    (arg3 : Memref sig .tc .vmem S1024x1024 .bf16) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S512x1024 .bf16) (harg6 : arg6.IsWhole)
    (arg7 : Memref sig .tc .vmem S512x1024 .f32) (harg7 : arg7.IsWhole)

    (x0 : Vec F S512x1024 .bf16) (x1 : Vec F S1024x1024 .bf16) (x2 : Vec F S512x1024 .f32) (x3 : Vec F S1x1024 .f32)
    (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outY x0 x1) ∗ owns (c : Thread nD τ) arg7 fullShare (outR x0 x1 x2 x3)) -∗ K ⟨⟩))
      ⊢ wp frame (wpE (defs₀ (F := F)) Variants.none c none) E (cc1_mix_out i arg2 harg2 arg3 harg3 arg4 harg4 arg5 harg5 arg6 harg6 arg7 harg7) K := by
  simp only [cc1_mix_out_eq_skeleton]; unfold cc1_mix_out_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact (read_one _ _ _ _).trans (overlay_all inb_S512x1024_S512x1024_0_0 (by decide) _ _)
  · iexists _; isplitr
    swap; · iexact H5
    ipureintro
    exact (read_one _ _ _ _).trans (overlay_all inb_S512x1024_S512x1024_0_0 (by decide) _ _)

set_option maxHeartbeats 1000000 in
/-- The body of the output projection's weight gradient: the inputs stay, the output block holds the product. -/
theorem outW_run (c : Dev nD) (i : grid2.Coords)
    (arg2 : Memref sig .tc .vmem S2048x512 .bf16) (harg2 : arg2.IsWhole)
    (arg3 : Memref sig .tc .vmem S2048x1024 .bf16) (harg3 : arg3.IsWhole)
    (arg4 : Memref sig .tc .vmem S512x1024 .bf16) (harg4 : arg4.IsWhole)

    (x0 : Vec F S2048x512 .bf16) (x1 : Vec F S2048x1024 .bf16)
    (E : Set ℕ) (K : PUnit → sProp (Res F)) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outWY x0 x1)) -∗ K ⟨⟩))
      ⊢ wp frame (wpE (defs₀ (F := F)) Variants.none c none) E (cc2_mix_out_dw i arg2 harg2 arg3 harg3 arg4 harg4) K := by
  simp only [cc2_mix_out_dw_eq_skeleton]; unfold cc2_mix_out_dw_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  · iexists _; isplitr
    swap; · iexact H2
    ipureintro
    exact (read_one _ _ _ _).trans (overlay_all inb_S512x1024_S512x1024_0_0 (by decide) _ _)

set_option maxHeartbeats 1000000 in
/-- The body of the output projection's input gradient: the inputs stay, the output block holds the product. -/
theorem outX_run (c : Dev nD) (i : grid3.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)

    (x0 : Vec F S1024x1024 .bf16) (x1 : Vec F S1024x1024 .bf16)
    (E : Set ℕ) (K : PUnit → sProp (Res F)) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outXY x0 x1)) -∗ K ⟨⟩))
      ⊢ wp frame (wpE (defs₀ (F := F)) Variants.none c none) E (cc3_mix_out_dx i arg2 harg2 arg3 harg3 arg4 harg4) K := by
  simp only [cc3_mix_out_dx_eq_skeleton]; unfold cc3_mix_out_dx_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  · iexists _; isplitr
    swap; · iexact H2
    ipureintro
    exact (read_one _ _ _ _).trans (overlay_all inb_S1024x1024_S1024x1024_0_0 (by decide) _ _)

set_option maxHeartbeats 1000000 in
/-- The body of the input projection's weight gradient: the inputs stay, the output block holds the product. -/
theorem inW_run (c : Dev nD) (i : grid4.Coords)
    (arg2 : Memref sig .tc .vmem S2048x256 .bf16) (harg2 : arg2.IsWhole)
    (arg3 : Memref sig .tc .vmem S2048x1024 .bf16) (harg3 : arg3.IsWhole)
    (arg4 : Memref sig .tc .vmem S256x1024 .bf16) (harg4 : arg4.IsWhole)

    (x0 : Vec F S2048x256 .bf16) (x1 : Vec F S2048x1024 .bf16)
    (E : Set ℕ) (K : PUnit → sProp (Res F)) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (inWY x0 x1)) -∗ K ⟨⟩))
      ⊢ wp frame (wpE (defs₀ (F := F)) Variants.none c none) E (cc4_mix_in_dw i arg2 harg2 arg3 harg3 arg4 harg4) K := by
  simp only [cc4_mix_in_dw_eq_skeleton]; unfold cc4_mix_in_dw_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  · iexists _; isplitr
    swap; · iexact H2
    ipureintro
    exact (read_one _ _ _ _).trans (overlay_all inb_S256x1024_S256x1024_0_0 (by decide) _ _)

set_option maxHeartbeats 1000000 in
/-- The body of the input projection's input gradient: the inputs stay, the output block holds the product. -/
theorem inX_run (c : Dev nD) (i : grid5.Coords)
    (arg2 : Memref sig .tc .vmem S1024x1280 .bf16) (harg2 : arg2.IsWhole)
    (arg3 : Memref sig .tc .vmem S1280x1024 .bf16) (harg3 : arg3.IsWhole)
    (arg4 : Memref sig .tc .vmem S1024x1024 .f32) (harg4 : arg4.IsWhole)

    (x0 : Vec F S1024x1280 .bf16) (x1 : Vec F S1280x1024 .bf16)
    (E : Set ℕ) (K : PUnit → sProp (Res F)) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (inXY x0 x1)) -∗ K ⟨⟩))
      ⊢ wp frame (wpE (defs₀ (F := F)) Variants.none c none) E (cc5_mix_in_dx i arg2 harg2 arg3 harg3 arg4 harg4) K := by
  simp only [cc5_mix_in_dx_eq_skeleton]; unfold cc5_mix_in_dx_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  · iexists _; isplitr
    swap; · iexact H2
    ipureintro
    exact (read_one _ _ _ _).trans (overlay_all inb_S1024x1024_S1024x1024_0_0 (by decide) _ _)

end Cert.Kernel3Ideal.Prod

end
-- ==== Proof.DownRegion.lean ====
module

public import proofs.«01_k».proof.Proof.ProdBody

@[expose] public section

set_option maxRecDepth 16384

noncomputable section

namespace Cert.Kernel3Ideal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

/-! # The down product pipeline: what its buffers hold at every grid point

`V` is what the core's buffers hold when the pipeline starts. -/

section Region0
variable (V : (c : Dev nD) → (b : Ref sig .tc) → Buf (Elt F) ((c : Thread nD τ).loc b))

/-- The block of window `w` at point `t`, read from its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the pipeline's buffers hold after the body at each point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => downY (blk0 V c 0 t) (blk0 V c 1 t)
    | ⟨5, _⟩ => downR (blk0 V c 0 t) (blk0 V c 1 t) (blk0 V c 2 t) (blk0 V c 3 t)
  Φ _ := Pipeline.ΦA spec0 c
  q _ := fullShare
  owed _ := 0

/-- The arrays are as the pipeline finds them. -/
theorem A_eq0 (c : Dev nD) (w : Fin cfg0.W) : (dat0 V c).A w = V c (Pipeline.arrRef spec0 w) := by
  dsimp only [dat0]
/-- What the body leaves in window 0 at a grid step. -/
theorem after0_0 (c : Dev nD) (t : Fin cfg0.N) : (dat0 V c).after 0 t = blk0 V c 0 t := by dsimp only [dat0]
/-- What the body leaves in window 1 at a grid step. -/
theorem after0_1 (c : Dev nD) (t : Fin cfg0.N) : (dat0 V c).after 1 t = blk0 V c 1 t := by dsimp only [dat0]
/-- What the body leaves in window 2 at a grid step. -/
theorem after0_2 (c : Dev nD) (t : Fin cfg0.N) : (dat0 V c).after 2 t = blk0 V c 2 t := by dsimp only [dat0]
/-- What the body leaves in window 3 at a grid step. -/
theorem after0_3 (c : Dev nD) (t : Fin cfg0.N) : (dat0 V c).after 3 t = blk0 V c 3 t := by dsimp only [dat0]
/-- What the body leaves in window 4 at a grid step. -/
theorem after0_4 (c : Dev nD) (t : Fin cfg0.N) : (dat0 V c).after 4 t = downY (blk0 V c 0 t) (blk0 V c 1 t) := by dsimp only [dat0]
/-- What the body leaves in window 5 at a grid step. -/
theorem after0_5 (c : Dev nD) (t : Fin cfg0.N) : (dat0 V c).after 5 t = downR (blk0 V c 0 t) (blk0 V c 1 t) (blk0 V c 2 t) (blk0 V c 3 t) := by dsimp only [dat0]
/-- What the body finds in window 0 at a grid step: the array's block. -/
theorem found0_0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
/-- What the body finds in window 1 at a grid step: the array's block. -/
theorem found0_1 (c : Dev nD) (t : Fin cfg0.N) (d) : (dat0 V c).before 1 t d = blk0 V c 1 t :=
  ((dat0 V c).before_in_eq_fetched 1 rfl (fun _ => rfl) (fun _ _ _ => rfl) (fun _ => rfl) t d).trans rfl
/-- What the body finds in window 2 at a grid step: the array's block. -/
theorem found0_2 (c : Dev nD) (t : Fin cfg0.N) (d) : (dat0 V c).before 2 t d = blk0 V c 2 t :=
  ((dat0 V c).before_in_eq_fetched 2 rfl (fun _ => rfl) (fun _ _ _ => rfl) (fun _ => rfl) t d).trans rfl
/-- What the body finds in window 3 at a grid step: the array's block. -/
theorem found0_3 (c : Dev nD) (t : Fin cfg0.N) (d) : (dat0 V c).before 3 t d = blk0 V c 3 t :=
  ((dat0 V c).before_in_eq_fetched 3 rfl (fun _ => rfl) (fun _ _ _ => rfl) (fun _ => rfl) t d).trans rfl

/-! Every output block is stored at every point. -/
theorem live0_0 : ∀ t : Fin cfg0.N, cfg0.idle 0 (grid0.coords t) = false := fun _ => rfl
/-- The body touches window 1 at every grid step. -/
theorem live0_1 : ∀ t : Fin cfg0.N, cfg0.idle 1 (grid0.coords t) = false := fun _ => rfl
/-- The body touches window 2 at every grid step. -/
theorem live0_2 : ∀ t : Fin cfg0.N, cfg0.idle 2 (grid0.coords t) = false := fun _ => rfl
/-- The body touches window 3 at every grid step. -/
theorem live0_3 : ∀ t : Fin cfg0.N, cfg0.idle 3 (grid0.coords t) = false := fun _ => rfl
/-- The body touches window 4 at every grid step. -/
theorem live0_4 : ∀ t : Fin cfg0.N, cfg0.idle 4 (grid0.coords t) = false := fun _ => rfl
/-- The body touches window 5 at every grid step. -/
theorem live0_5 : ∀ t : Fin cfg0.N, cfg0.idle 5 (grid0.coords t) = false := fun _ => rfl

/-- What the body is given at point `t`. -/
def pre0 (c : Dev nD) (t : Fin cfg0.N) : sProp (Res F) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))
/-- What the body gives back at point `t`. -/
def post0 (c : Dev nD) (t : Fin cfg0.N) : sProp (Res F) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

/-- The body takes what it is given to what it gives back, at every point. -/
theorem step0 (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2, found0_3]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  rw [show (dat0 V c).leavesExact 2 t = owns (c : Thread nD τ) (st0_2 t) fullShare ((dat0 V c).after 2 t) from by
      unfold Dat.leavesExact; rw [live0_2 t], after0_2]
  rw [show (dat0 V c).leavesExact 3 t = owns (c : Thread nD τ) (st0_3 t) fullShare ((dat0 V c).after 3 t) from by
      unfold Dat.leavesExact; rw [live0_3 t], after0_3]
  rw [show (dat0 V c).leavesExact 4 t = owns (c : Thread nD τ) (st0_4 t) fullShare ((dat0 V c).after 4 t) from by
      unfold Dat.leavesExact; rw [live0_4 t], after0_4]
  rw [show (dat0 V c).leavesExact 5 t = owns (c : Thread nD τ) (st0_5 t) fullShare ((dat0 V c).after 5 t) from by
      unfold Dat.leavesExact; rw [live0_5 t], after0_5]
  iintro ⟨HΦ, Ho, ⟨%d0, H0⟩, ⟨%d1, H1⟩, ⟨%d2, H2⟩, ⟨%d3, H3⟩, ⟨%d4, H4⟩, ⟨%d5, H5⟩⟩
  iapply (down_run c (grid0.coords t) _ _ _ _ _ _ _ _ _ _ _ _  (blk0 V c 0 t) (blk0 V c 1 t) (blk0 V c 2 t) (blk0 V c 3 t)  Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's row of the body table is the body. -/
theorem row0 (t : Fin cfg0.N) :
    defs₀ (F := F) .tc cfg0.body (cfg0.bodyArgs t (cfg0.slots t)) = bodyAt0 t := by
  unfold defs₀; rw [Defs.onTc_tc]

/-- The body's obligation at every point. -/
theorem obligation0 (c : Dev nD) : BodyObligation (dat0 (F := F) V c) (defs₀ (F := F)) Variants.none () Set.univ := fun t => by
  rw [bigSep_W0, bigSep_W0, row0]
  exact triple_restated (step0 V c t) rfl .rfl fun _ => .rfl

end Region0

end Cert.Kernel3Ideal.Prod

end
-- ==== Proof.OutRegion.lean ====
module

public import proofs.«01_k».proof.Proof.ProdBody

@[expose] public section

set_option maxRecDepth 16384

noncomputable section

namespace Cert.Kernel3Ideal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

/-! # The output projection pipeline: what its buffers hold at every grid point

`V` is what the core's buffers hold when the pipeline starts. -/

section Region1
variable (V : (c : Dev nD) → (b : Ref sig .tc) → Buf (Elt F) ((c : Thread nD τ).loc b))

/-- The block of window `w` at point `t`, read from its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the pipeline's buffers hold after the body at each point. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outY (blk1 V c 0 t) (blk1 V c 1 t)
    | ⟨5, _⟩ => outR (blk1 V c 0 t) (blk1 V c 1 t) (blk1 V c 2 t) (blk1 V c 3 t)
  Φ _ := Pipeline.ΦA spec1 c
  q _ := fullShare
  owed _ := 0

/-- The arrays are as the pipeline finds them. -/
theorem A_eq1 (c : Dev nD) (w : Fin cfg1.W) : (dat1 V c).A w = V c (Pipeline.arrRef spec1 w) := by
  dsimp only [dat1]
/-- What the body leaves in window 0 at a grid step. -/
theorem after1_0 (c : Dev nD) (t : Fin cfg1.N) : (dat1 V c).after 0 t = blk1 V c 0 t := by dsimp only [dat1]
/-- What the body leaves in window 1 at a grid step. -/
theorem after1_1 (c : Dev nD) (t : Fin cfg1.N) : (dat1 V c).after 1 t = blk1 V c 1 t := by dsimp only [dat1]
/-- What the body leaves in window 2 at a grid step. -/
theorem after1_2 (c : Dev nD) (t : Fin cfg1.N) : (dat1 V c).after 2 t = blk1 V c 2 t := by dsimp only [dat1]
/-- What the body leaves in window 3 at a grid step. -/
theorem after1_3 (c : Dev nD) (t : Fin cfg1.N) : (dat1 V c).after 3 t = blk1 V c 3 t := by dsimp only [dat1]
/-- What the body leaves in window 4 at a grid step. -/
theorem after1_4 (c : Dev nD) (t : Fin cfg1.N) : (dat1 V c).after 4 t = outY (blk1 V c 0 t) (blk1 V c 1 t) := by dsimp only [dat1]
/-- What the body leaves in window 5 at a grid step. -/
theorem after1_5 (c : Dev nD) (t : Fin cfg1.N) : (dat1 V c).after 5 t = outR (blk1 V c 0 t) (blk1 V c 1 t) (blk1 V c 2 t) (blk1 V c 3 t) := by dsimp only [dat1]
/-- What the body finds in window 0 at a grid step: the array's block. -/
theorem found1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
/-- What the body finds in window 1 at a grid step: the array's block. -/
theorem found1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
/-- What the body finds in window 2 at a grid step: the array's block. -/
theorem found1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl
/-- What the body finds in window 3 at a grid step: the array's block. -/
theorem found1_3 (c : Dev nD) (t : Fin cfg1.N) (d) : (dat1 V c).before 3 t d = blk1 V c 3 t :=
  ((dat1 V c).before_in_eq_fetched 3 rfl (fun _ => rfl) (fun _ _ _ => rfl) (fun _ => rfl) t d).trans rfl

/-! Every output block is stored at every point. -/
theorem live1_0 : ∀ t : Fin cfg1.N, cfg1.idle 0 (grid1.coords t) = false := fun _ => rfl
/-- The body touches window 1 at every grid step. -/
theorem live1_1 : ∀ t : Fin cfg1.N, cfg1.idle 1 (grid1.coords t) = false := fun _ => rfl
/-- The body touches window 2 at every grid step. -/
theorem live1_2 : ∀ t : Fin cfg1.N, cfg1.idle 2 (grid1.coords t) = false := fun _ => rfl
/-- The body touches window 3 at every grid step. -/
theorem live1_3 : ∀ t : Fin cfg1.N, cfg1.idle 3 (grid1.coords t) = false := fun _ => rfl
/-- The body touches window 4 at every grid step. -/
theorem live1_4 : ∀ t : Fin cfg1.N, cfg1.idle 4 (grid1.coords t) = false := fun _ => rfl
/-- The body touches window 5 at every grid step. -/
theorem live1_5 : ∀ t : Fin cfg1.N, cfg1.idle 5 (grid1.coords t) = false := fun _ => rfl

/-- What the body is given at point `t`. -/
def pre1 (c : Dev nD) (t : Fin cfg1.N) : sProp (Res F) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))
/-- What the body gives back at point `t`. -/
def post1 (c : Dev nD) (t : Fin cfg1.N) : sProp (Res F) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- The body takes what it is given to what it gives back, at every point. -/
theorem step1 (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2, found1_3]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
      unfold Dat.leavesExact; rw [live1_0 t], after1_0]
  rw [show (dat1 V c).leavesExact 1 t = owns (c : Thread nD τ) (st1_1 t) fullShare ((dat1 V c).after 1 t) from by
      unfold Dat.leavesExact; rw [live1_1 t], after1_1]
  rw [show (dat1 V c).leavesExact 2 t = owns (c : Thread nD τ) (st1_2 t) fullShare ((dat1 V c).after 2 t) from by
      unfold Dat.leavesExact; rw [live1_2 t], after1_2]
  rw [show (dat1 V c).leavesExact 3 t = owns (c : Thread nD τ) (st1_3 t) fullShare ((dat1 V c).after 3 t) from by
      unfold Dat.leavesExact; rw [live1_3 t], after1_3]
  rw [show (dat1 V c).leavesExact 4 t = owns (c : Thread nD τ) (st1_4 t) fullShare ((dat1 V c).after 4 t) from by
      unfold Dat.leavesExact; rw [live1_4 t], after1_4]
  rw [show (dat1 V c).leavesExact 5 t = owns (c : Thread nD τ) (st1_5 t) fullShare ((dat1 V c).after 5 t) from by
      unfold Dat.leavesExact; rw [live1_5 t], after1_5]
  iintro ⟨HΦ, Ho, ⟨%d0, H0⟩, ⟨%d1, H1⟩, ⟨%d2, H2⟩, ⟨%d3, H3⟩, ⟨%d4, H4⟩, ⟨%d5, H5⟩⟩
  iapply (out_run c (grid1.coords t) _ _ _ _ _ _ _ _ _ _ _ _  (blk1 V c 0 t) (blk1 V c 1 t) (blk1 V c 2 t) (blk1 V c 3 t)  Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's row of the body table is the body. -/
theorem row1 (t : Fin cfg1.N) :
    defs₀ (F := F) .tc cfg1.body (cfg1.bodyArgs t (cfg1.slots t)) = bodyAt1 t := by
  unfold defs₀; rw [Defs.onTc_tc]

/-- The body's obligation at every point. -/
theorem obligation1 (c : Dev nD) : BodyObligation (dat1 (F := F) V c) (defs₀ (F := F)) Variants.none () Set.univ := fun t => by
  rw [bigSep_W1, bigSep_W1, row1]
  exact triple_restated (step1 V c t) rfl .rfl fun _ => .rfl

end Region1

end Cert.Kernel3Ideal.Prod

end
-- ==== Proof.OutWRegion.lean ====
module

public import proofs.«01_k».proof.Proof.ProdBody

@[expose] public section

set_option maxRecDepth 16384

noncomputable section

namespace Cert.Kernel3Ideal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

/-! # The output projection weight gradient pipeline: what its buffers hold at every grid point

`V` is what the core's buffers hold when the pipeline starts. -/

section Region2
variable (V : (c : Dev nD) → (b : Ref sig .tc) → Buf (Elt F) ((c : Thread nD τ).loc b))

/-- The block of window `w` at point `t`, read from its array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the pipeline's buffers hold after the body at each point. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => outWY (blk2 V c 0 t) (blk2 V c 1 t)
  Φ _ := Pipeline.ΦA spec2 c
  q _ := fullShare
  owed _ := 0

/-- The arrays are as the pipeline finds them. -/
theorem A_eq2 (c : Dev nD) (w : Fin cfg2.W) : (dat2 V c).A w = V c (Pipeline.arrRef spec2 w) := by
  dsimp only [dat2]
/-- What the body leaves in window 0 at a grid step. -/
theorem after2_0 (c : Dev nD) (t : Fin cfg2.N) : (dat2 V c).after 0 t = blk2 V c 0 t := by dsimp only [dat2]
/-- What the body leaves in window 1 at a grid step. -/
theorem after2_1 (c : Dev nD) (t : Fin cfg2.N) : (dat2 V c).after 1 t = blk2 V c 1 t := by dsimp only [dat2]
/-- What the body leaves in window 2 at a grid step. -/
theorem after2_2 (c : Dev nD) (t : Fin cfg2.N) : (dat2 V c).after 2 t = outWY (blk2 V c 0 t) (blk2 V c 1 t) := by dsimp only [dat2]
/-- What the body finds in window 0 at a grid step: the array's block. -/
theorem found2_0 (c : Dev nD) (t : Fin cfg2.N) (d) : (dat2 V c).before 0 t d = blk2 V c 0 t :=
  ((dat2 V c).before_in_eq_fetched 0 rfl (fun _ => rfl) (fun _ _ _ => rfl) (fun _ => rfl) t d).trans rfl
/-- What the body finds in window 1 at a grid step: the array's block. -/
theorem found2_1 (c : Dev nD) (t : Fin cfg2.N) (d) : (dat2 V c).before 1 t d = blk2 V c 1 t :=
  ((dat2 V c).before_in_eq_fetched 1 rfl (fun _ => rfl) (fun _ _ _ => rfl) (fun _ => rfl) t d).trans rfl

/-! Every output block is stored at every point. -/
theorem live2_0 : ∀ t : Fin cfg2.N, cfg2.idle 0 (grid2.coords t) = false := fun _ => rfl
/-- The body touches window 1 at every grid step. -/
theorem live2_1 : ∀ t : Fin cfg2.N, cfg2.idle 1 (grid2.coords t) = false := fun _ => rfl
/-- The body touches window 2 at every grid step. -/
theorem live2_2 : ∀ t : Fin cfg2.N, cfg2.idle 2 (grid2.coords t) = false := fun _ => rfl

/-- What the body is given at point `t`. -/
def pre2 (c : Dev nD) (t : Fin cfg2.N) : sProp (Res F) :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))
/-- What the body gives back at point `t`. -/
def post2 (c : Dev nD) (t : Fin cfg2.N) : sProp (Res F) :=
  iprop((dat2 V c).Φ t.succ ∗ (dat2 V c).owesAt () t.succ
    ∗ (dat2 V c).leavesExact 0 t
    ∗ (dat2 V c).leavesExact 1 t
    ∗ (dat2 V c).leavesExact 2 t)

/-- The body takes what it is given to what it gives back, at every point. -/
theorem step2 (c : Dev nD) (t : Fin cfg2.N) :
    pre2 V c t ⊢ wp frame (wpE (defs₀ (F := F)) Variants.none c none) Set.univ (bodyAt2 t) (fun _ => post2 V c t) := by
  unfold pre2 post2 bodyAt2
  simp only [found2_0, found2_1]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (st2_0 t) fullShare ((dat2 V c).after 0 t) from by
      unfold Dat.leavesExact; rw [live2_0 t], after2_0]
  rw [show (dat2 V c).leavesExact 1 t = owns (c : Thread nD τ) (st2_1 t) fullShare ((dat2 V c).after 1 t) from by
      unfold Dat.leavesExact; rw [live2_1 t], after2_1]
  rw [show (dat2 V c).leavesExact 2 t = owns (c : Thread nD τ) (st2_2 t) fullShare ((dat2 V c).after 2 t) from by
      unfold Dat.leavesExact; rw [live2_2 t], after2_2]
  iintro ⟨HΦ, Ho, ⟨%d0, H0⟩, ⟨%d1, H1⟩, ⟨%d2, H2⟩⟩
  iapply (outW_run c (grid2.coords t) _ _ _ _ _ _  (blk2 V c 0 t) (blk2 V c 1 t)  Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's row of the body table is the body. -/
theorem row2 (t : Fin cfg2.N) :
    defs₀ (F := F) .tc cfg2.body (cfg2.bodyArgs t (cfg2.slots t)) = bodyAt2 t := by
  unfold defs₀; rw [Defs.onTc_tc]

/-- The body's obligation at every point. -/
theorem obligation2 (c : Dev nD) : BodyObligation (dat2 (F := F) V c) (defs₀ (F := F)) Variants.none () Set.univ := fun t => by
  rw [bigSep_W2, bigSep_W2, row2]
  exact triple_restated (step2 V c t) rfl .rfl fun _ => .rfl

end Region2

end Cert.Kernel3Ideal.Prod

end
-- ==== Proof.OutXRegion.lean ====
module

public import proofs.«01_k».proof.Proof.ProdBody

@[expose] public section

set_option maxRecDepth 16384

noncomputable section

namespace Cert.Kernel3Ideal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

/-! # The output projection input gradient pipeline: what its buffers hold at every grid point

`V` is what the core's buffers hold when the pipeline starts. -/

section Region3
variable (V : (c : Dev nD) → (b : Ref sig .tc) → Buf (Elt F) ((c : Thread nD τ).loc b))

/-- The block of window `w` at point `t`, read from its array. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the pipeline's buffers hold after the body at each point. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => outXY (blk3 V c 0 t) (blk3 V c 1 t)
  Φ _ := Pipeline.ΦA spec3 c
  q _ := fullShare
  owed _ := 0

/-- The arrays are as the pipeline finds them. -/
theorem A_eq3 (c : Dev nD) (w : Fin cfg3.W) : (dat3 V c).A w = V c (Pipeline.arrRef spec3 w) := by
  dsimp only [dat3]
/-- What the body leaves in window 0 at a grid step. -/
theorem after3_0 (c : Dev nD) (t : Fin cfg3.N) : (dat3 V c).after 0 t = blk3 V c 0 t := by dsimp only [dat3]
/-- What the body leaves in window 1 at a grid step. -/
theorem after3_1 (c : Dev nD) (t : Fin cfg3.N) : (dat3 V c).after 1 t = blk3 V c 1 t := by dsimp only [dat3]
/-- What the body leaves in window 2 at a grid step. -/
theorem after3_2 (c : Dev nD) (t : Fin cfg3.N) : (dat3 V c).after 2 t = outXY (blk3 V c 0 t) (blk3 V c 1 t) := by dsimp only [dat3]
/-- What the body finds in window 0 at a grid step: the array's block. -/
theorem found3_0 (c : Dev nD) (t : Fin cfg3.N) (d) : (dat3 V c).before 0 t d = blk3 V c 0 t :=
  ((dat3 V c).before_in_eq_fetched 0 rfl (fun _ => rfl) (fun _ _ _ => rfl) (fun _ => rfl) t d).trans rfl
/-- What the body finds in window 1 at a grid step: the array's block. -/
theorem found3_1 (c : Dev nD) (t : Fin cfg3.N) (d) : (dat3 V c).before 1 t d = blk3 V c 1 t :=
  ((dat3 V c).before_in_eq_fetched 1 rfl (fun _ => rfl) (fun _ _ _ => rfl) (fun _ => rfl) t d).trans rfl

/-! Every output block is stored at every point. -/
theorem live3_0 : ∀ t : Fin cfg3.N, cfg3.idle 0 (grid3.coords t) = false := fun _ => rfl
/-- The body touches window 1 at every grid step. -/
theorem live3_1 : ∀ t : Fin cfg3.N, cfg3.idle 1 (grid3.coords t) = false := fun _ => rfl
/-- The body touches window 2 at every grid step. -/
theorem live3_2 : ∀ t : Fin cfg3.N, cfg3.idle 2 (grid3.coords t) = false := fun _ => rfl

/-- What the body is given at point `t`. -/
def pre3 (c : Dev nD) (t : Fin cfg3.N) : sProp (Res F) :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))
/-- What the body gives back at point `t`. -/
def post3 (c : Dev nD) (t : Fin cfg3.N) : sProp (Res F) :=
  iprop((dat3 V c).Φ t.succ ∗ (dat3 V c).owesAt () t.succ
    ∗ (dat3 V c).leavesExact 0 t
    ∗ (dat3 V c).leavesExact 1 t
    ∗ (dat3 V c).leavesExact 2 t)

/-- The body takes what it is given to what it gives back, at every point. -/
theorem step3 (c : Dev nD) (t : Fin cfg3.N) :
    pre3 V c t ⊢ wp frame (wpE (defs₀ (F := F)) Variants.none c none) Set.univ (bodyAt3 t) (fun _ => post3 V c t) := by
  unfold pre3 post3 bodyAt3
  simp only [found3_0, found3_1]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (st3_0 t) fullShare ((dat3 V c).after 0 t) from by
      unfold Dat.leavesExact; rw [live3_0 t], after3_0]
  rw [show (dat3 V c).leavesExact 1 t = owns (c : Thread nD τ) (st3_1 t) fullShare ((dat3 V c).after 1 t) from by
      unfold Dat.leavesExact; rw [live3_1 t], after3_1]
  rw [show (dat3 V c).leavesExact 2 t = owns (c : Thread nD τ) (st3_2 t) fullShare ((dat3 V c).after 2 t) from by
      unfold Dat.leavesExact; rw [live3_2 t], after3_2]
  iintro ⟨HΦ, Ho, ⟨%d0, H0⟩, ⟨%d1, H1⟩, ⟨%d2, H2⟩⟩
  iapply (outX_run c (grid3.coords t) _ _ _ _ _ _  (blk3 V c 0 t) (blk3 V c 1 t)  Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's row of the body table is the body. -/
theorem row3 (t : Fin cfg3.N) :
    defs₀ (F := F) .tc cfg3.body (cfg3.bodyArgs t (cfg3.slots t)) = bodyAt3 t := by
  unfold defs₀; rw [Defs.onTc_tc]

/-- The body's obligation at every point. -/
theorem obligation3 (c : Dev nD) : BodyObligation (dat3 (F := F) V c) (defs₀ (F := F)) Variants.none () Set.univ := fun t => by
  rw [bigSep_W3, bigSep_W3, row3]
  exact triple_restated (step3 V c t) rfl .rfl fun _ => .rfl

end Region3

end Cert.Kernel3Ideal.Prod

end
-- ==== Proof.InWRegion.lean ====
module

public import proofs.«01_k».proof.Proof.ProdBody

@[expose] public section

set_option maxRecDepth 16384

noncomputable section

namespace Cert.Kernel3Ideal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

/-! # The input projection weight gradient pipeline: what its buffers hold at every grid point

`V` is what the core's buffers hold when the pipeline starts. -/

section Region4
variable (V : (c : Dev nD) → (b : Ref sig .tc) → Buf (Elt F) ((c : Thread nD τ).loc b))

/-- The block of window `w` at point `t`, read from its array. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the pipeline's buffers hold after the body at each point. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => inWY (blk4 V c 0 t) (blk4 V c 1 t)
  Φ _ := Pipeline.ΦA spec4 c
  q _ := fullShare
  owed _ := 0

/-- The arrays are as the pipeline finds them. -/
theorem A_eq4 (c : Dev nD) (w : Fin cfg4.W) : (dat4 V c).A w = V c (Pipeline.arrRef spec4 w) := by
  dsimp only [dat4]
/-- What the body leaves in window 0 at a grid step. -/
theorem after4_0 (c : Dev nD) (t : Fin cfg4.N) : (dat4 V c).after 0 t = blk4 V c 0 t := by dsimp only [dat4]
/-- What the body leaves in window 1 at a grid step. -/
theorem after4_1 (c : Dev nD) (t : Fin cfg4.N) : (dat4 V c).after 1 t = blk4 V c 1 t := by dsimp only [dat4]
/-- What the body leaves in window 2 at a grid step. -/
theorem after4_2 (c : Dev nD) (t : Fin cfg4.N) : (dat4 V c).after 2 t = inWY (blk4 V c 0 t) (blk4 V c 1 t) := by dsimp only [dat4]
/-- What the body finds in window 0 at a grid step: the array's block. -/
theorem found4_0 (c : Dev nD) (t : Fin cfg4.N) (d) : (dat4 V c).before 0 t d = blk4 V c 0 t :=
  ((dat4 V c).before_in_eq_fetched 0 rfl (fun _ => rfl) (fun _ _ _ => rfl) (fun _ => rfl) t d).trans rfl
/-- What the body finds in window 1 at a grid step: the array's block. -/
theorem found4_1 (c : Dev nD) (t : Fin cfg4.N) (d) : (dat4 V c).before 1 t d = blk4 V c 1 t :=
  ((dat4 V c).before_in_eq_fetched 1 rfl (fun _ => rfl) (fun _ _ _ => rfl) (fun _ => rfl) t d).trans rfl

/-! Every output block is stored at every point. -/
theorem live4_0 : ∀ t : Fin cfg4.N, cfg4.idle 0 (grid4.coords t) = false := fun _ => rfl
/-- The body touches window 1 at every grid step. -/
theorem live4_1 : ∀ t : Fin cfg4.N, cfg4.idle 1 (grid4.coords t) = false := fun _ => rfl
/-- The body touches window 2 at every grid step. -/
theorem live4_2 : ∀ t : Fin cfg4.N, cfg4.idle 2 (grid4.coords t) = false := fun _ => rfl

/-- What the body is given at point `t`. -/
def pre4 (c : Dev nD) (t : Fin cfg4.N) : sProp (Res F) :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))
/-- What the body gives back at point `t`. -/
def post4 (c : Dev nD) (t : Fin cfg4.N) : sProp (Res F) :=
  iprop((dat4 V c).Φ t.succ ∗ (dat4 V c).owesAt () t.succ
    ∗ (dat4 V c).leavesExact 0 t
    ∗ (dat4 V c).leavesExact 1 t
    ∗ (dat4 V c).leavesExact 2 t)

/-- The body takes what it is given to what it gives back, at every point. -/
theorem step4 (c : Dev nD) (t : Fin cfg4.N) :
    pre4 V c t ⊢ wp frame (wpE (defs₀ (F := F)) Variants.none c none) Set.univ (bodyAt4 t) (fun _ => post4 V c t) := by
  unfold pre4 post4 bodyAt4
  simp only [found4_0, found4_1]
  rw [show (dat4 V c).Φ t.succ = (dat4 V c).Φ t.castSucc from rfl,
    show (dat4 V c).owesAt () t.succ = (dat4 V c).owesAt () t.castSucc from rfl]
  rw [show (dat4 V c).leavesExact 0 t = owns (c : Thread nD τ) (st4_0 t) fullShare ((dat4 V c).after 0 t) from by
      unfold Dat.leavesExact; rw [live4_0 t], after4_0]
  rw [show (dat4 V c).leavesExact 1 t = owns (c : Thread nD τ) (st4_1 t) fullShare ((dat4 V c).after 1 t) from by
      unfold Dat.leavesExact; rw [live4_1 t], after4_1]
  rw [show (dat4 V c).leavesExact 2 t = owns (c : Thread nD τ) (st4_2 t) fullShare ((dat4 V c).after 2 t) from by
      unfold Dat.leavesExact; rw [live4_2 t], after4_2]
  iintro ⟨HΦ, Ho, ⟨%d0, H0⟩, ⟨%d1, H1⟩, ⟨%d2, H2⟩⟩
  iapply (inW_run c (grid4.coords t) _ _ _ _ _ _  (blk4 V c 0 t) (blk4 V c 1 t)  Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's row of the body table is the body. -/
theorem row4 (t : Fin cfg4.N) :
    defs₀ (F := F) .tc cfg4.body (cfg4.bodyArgs t (cfg4.slots t)) = bodyAt4 t := by
  unfold defs₀; rw [Defs.onTc_tc]

/-- The body's obligation at every point. -/
theorem obligation4 (c : Dev nD) : BodyObligation (dat4 (F := F) V c) (defs₀ (F := F)) Variants.none () Set.univ := fun t => by
  rw [bigSep_W4, bigSep_W4, row4]
  exact triple_restated (step4 V c t) rfl .rfl fun _ => .rfl

end Region4

end Cert.Kernel3Ideal.Prod

end
-- ==== Proof.InXRegion.lean ====
module

public import proofs.«01_k».proof.Proof.ProdBody

@[expose] public section

set_option maxRecDepth 16384

noncomputable section

namespace Cert.Kernel3Ideal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

/-! # The input projection input gradient pipeline: what its buffers hold at every grid point

`V` is what the core's buffers hold when the pipeline starts. -/

section Region5
variable (V : (c : Dev nD) → (b : Ref sig .tc) → Buf (Elt F) ((c : Thread nD τ).loc b))

/-- The block of window `w` at point `t`, read from its array. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the pipeline's buffers hold after the body at each point. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => inXY (blk5 V c 0 t) (blk5 V c 1 t)
  Φ _ := Pipeline.ΦA spec5 c
  q _ := fullShare
  owed _ := 0

/-- The arrays are as the pipeline finds them. -/
theorem A_eq5 (c : Dev nD) (w : Fin cfg5.W) : (dat5 V c).A w = V c (Pipeline.arrRef spec5 w) := by
  dsimp only [dat5]
/-- What the body leaves in window 0 at a grid step. -/
theorem after5_0 (c : Dev nD) (t : Fin cfg5.N) : (dat5 V c).after 0 t = blk5 V c 0 t := by dsimp only [dat5]
/-- What the body leaves in window 1 at a grid step. -/
theorem after5_1 (c : Dev nD) (t : Fin cfg5.N) : (dat5 V c).after 1 t = blk5 V c 1 t := by dsimp only [dat5]
/-- What the body leaves in window 2 at a grid step. -/
theorem after5_2 (c : Dev nD) (t : Fin cfg5.N) : (dat5 V c).after 2 t = inXY (blk5 V c 0 t) (blk5 V c 1 t) := by dsimp only [dat5]
/-- What the body finds in window 0 at a grid step: the array's block. -/
theorem found5_0 (c : Dev nD) (t : Fin cfg5.N) (d) : (dat5 V c).before 0 t d = blk5 V c 0 t :=
  ((dat5 V c).before_in_eq_fetched 0 rfl (fun _ => rfl) (fun _ _ _ => rfl) (fun _ => rfl) t d).trans rfl
/-- What the body finds in window 1 at a grid step: the array's block. -/
theorem found5_1 (c : Dev nD) (t : Fin cfg5.N) (d) : (dat5 V c).before 1 t d = blk5 V c 1 t :=
  ((dat5 V c).before_in_eq_fetched 1 rfl (fun _ => rfl) (fun _ _ _ => rfl) (fun _ => rfl) t d).trans rfl

/-! Every output block is stored at every point. -/
theorem live5_0 : ∀ t : Fin cfg5.N, cfg5.idle 0 (grid5.coords t) = false := fun _ => rfl
/-- The body touches window 1 at every grid step. -/
theorem live5_1 : ∀ t : Fin cfg5.N, cfg5.idle 1 (grid5.coords t) = false := fun _ => rfl
/-- The body touches window 2 at every grid step. -/
theorem live5_2 : ∀ t : Fin cfg5.N, cfg5.idle 2 (grid5.coords t) = false := fun _ => rfl

/-- What the body is given at point `t`. -/
def pre5 (c : Dev nD) (t : Fin cfg5.N) : sProp (Res F) :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))
/-- What the body gives back at point `t`. -/
def post5 (c : Dev nD) (t : Fin cfg5.N) : sProp (Res F) :=
  iprop((dat5 V c).Φ t.succ ∗ (dat5 V c).owesAt () t.succ
    ∗ (dat5 V c).leavesExact 0 t
    ∗ (dat5 V c).leavesExact 1 t
    ∗ (dat5 V c).leavesExact 2 t)

/-- The body takes what it is given to what it gives back, at every point. -/
theorem step5 (c : Dev nD) (t : Fin cfg5.N) :
    pre5 V c t ⊢ wp frame (wpE (defs₀ (F := F)) Variants.none c none) Set.univ (bodyAt5 t) (fun _ => post5 V c t) := by
  unfold pre5 post5 bodyAt5
  simp only [found5_0, found5_1]
  rw [show (dat5 V c).Φ t.succ = (dat5 V c).Φ t.castSucc from rfl,
    show (dat5 V c).owesAt () t.succ = (dat5 V c).owesAt () t.castSucc from rfl]
  rw [show (dat5 V c).leavesExact 0 t = owns (c : Thread nD τ) (st5_0 t) fullShare ((dat5 V c).after 0 t) from by
      unfold Dat.leavesExact; rw [live5_0 t], after5_0]
  rw [show (dat5 V c).leavesExact 1 t = owns (c : Thread nD τ) (st5_1 t) fullShare ((dat5 V c).after 1 t) from by
      unfold Dat.leavesExact; rw [live5_1 t], after5_1]
  rw [show (dat5 V c).leavesExact 2 t = owns (c : Thread nD τ) (st5_2 t) fullShare ((dat5 V c).after 2 t) from by
      unfold Dat.leavesExact; rw [live5_2 t], after5_2]
  iintro ⟨HΦ, Ho, ⟨%d0, H0⟩, ⟨%d1, H1⟩, ⟨%d2, H2⟩⟩
  iapply (inX_run c (grid5.coords t) _ _ _ _ _ _  (blk5 V c 0 t) (blk5 V c 1 t)  Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's row of the body table is the body. -/
theorem row5 (t : Fin cfg5.N) :
    defs₀ (F := F) .tc cfg5.body (cfg5.bodyArgs t (cfg5.slots t)) = bodyAt5 t := by
  unfold defs₀; rw [Defs.onTc_tc]

/-- The body's obligation at every point. -/
theorem obligation5 (c : Dev nD) : BodyObligation (dat5 (F := F) V c) (defs₀ (F := F)) Variants.none () Set.univ := fun t => by
  rw [bigSep_W5, bigSep_W5, row5]
  exact triple_restated (step5 V c t) rfl .rfl fun _ => .rfl

end Region5

end Cert.Kernel3Ideal.Prod

end
-- ==== Proof.ProdRun.lean ====
module

public import proofs.«01_k».proof.Proof.DownRegion
public import proofs.«01_k».proof.Proof.OutRegion
public import proofs.«01_k».proof.Proof.OutWRegion
public import proofs.«01_k».proof.Proof.OutXRegion
public import proofs.«01_k».proof.Proof.InWRegion
public import proofs.«01_k».proof.Proof.InXRegion
public import proofs.«01_k».proof.Proof.Gen.Kernel3Ideal.Regions

@[expose] public section

set_option maxRecDepth 16384

noncomputable section

namespace Cert.Kernel3Ideal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

/-! # The run of the whole program: its host lines and pipelines in order

`B0` is what the buffers hold at launch and `B10` what they hold at the end; the run theorem says every unscoped buffer ends
at `B10`. -/

variable (m : (ℓ : Loc nD τ sig) → Buf (Elt F) ℓ) (ρ : Dev nD → PrngReg)

/-- The argument arrays. -/
abbrev theArgs : List (Ref sig .tc) := [main_arg0, main_arg1, main_arg2, main_arg3, main_arg4, main_arg5, main_arg6, main_arg7, main_arg8, main_arg9, main_arg10, main_arg11]

/-- The buffers at launch. -/
abbrev B0 : Dev nD → Valuation τ sig (Elt F) := fun c b => (s₀ m ρ).mem ((c : Dev nD), b)
/-- The arguments are unchanged there. -/
theorem B0_args (c : Dev nD) : ∀ a ∈ theArgs, B0 m ρ c (Proc.devRef .tc a) = m ((c : Thread nD τ).loc a) := fun _ _ => rfl
/-- The same, read at a core's references. -/
abbrev U0 : (c : Dev nD) → (b : Ref sig .tc) → Buf (Elt F) ((c : Thread nD τ).loc b) := fun c b => B0 m ρ c b

/-- The buffers after host stretch 0. -/
def B1 (c : Dev nD) : Valuation τ sig (Elt F) := StableHlo.after hostOps0 (B0 m ρ c)
/-- A buffer that the stretch does not write keeps its contents. -/
theorem B1_of (c : Dev nD) (r : Ref sig .tc) (h : r ∉ hostOps0_W) : B1 m ρ c (Proc.devRef .tc r) = B0 m ρ c (Proc.devRef .tc r) := by
  unfold B1; exact StableHlo.after_of_writes_sub hostOps0 _ hostOps0_writes h
/-- The stretch writes no argument. -/
theorem args_host0 : ∀ a ∈ theArgs, a ∉ hostOps0_W := by decide +kernel
/-- The arguments are unchanged there. -/
theorem B1_args (c : Dev nD) : ∀ a ∈ theArgs, B1 m ρ c (Proc.devRef .tc a) = m ((c : Thread nD τ).loc a) :=
  fun a ha => (B1_of m ρ c a (args_host0 a ha)).trans (B0_args m ρ c a ha)
/-- The same, read at a core's references. -/
abbrev U1 : (c : Dev nD) → (b : Ref sig .tc) → Buf (Elt F) ((c : Thread nD τ).loc b) := fun c b => B1 m ρ c b

/-- The buffers after host stretch 0_1. -/
def B2 (c : Dev nD) : Valuation τ sig (Elt F) := StableHlo.after hostOps0_1 (B1 m ρ c)
/-- A buffer that the stretch does not write keeps its contents. -/
theorem B2_of (c : Dev nD) (r : Ref sig .tc) (h : r ∉ hostOps0_1_W) : B2 m ρ c (Proc.devRef .tc r) = B1 m ρ c (Proc.devRef .tc r) := by
  unfold B2; exact StableHlo.after_of_writes_sub hostOps0_1 _ hostOps0_1_writes h
/-- The stretch writes no argument. -/
theorem args_host0_1 : ∀ a ∈ theArgs, a ∉ hostOps0_1_W := by decide +kernel
/-- The arguments are unchanged there. -/
theorem B2_args (c : Dev nD) : ∀ a ∈ theArgs, B2 m ρ c (Proc.devRef .tc a) = m ((c : Thread nD τ).loc a) :=
  fun a ha => (B2_of m ρ c a (args_host0_1 a ha)).trans (B1_args m ρ c a ha)
/-- The same, read at a core's references. -/
abbrev U2 : (c : Dev nD) → (b : Ref sig .tc) → Buf (Elt F) ((c : Thread nD τ).loc b) := fun c b => B2 m ρ c b

/-- The buffers after host stretch 0_2. -/
def B3 (c : Dev nD) : Valuation τ sig (Elt F) := StableHlo.after hostOps0_2 (B2 m ρ c)
/-- A buffer that the stretch does not write keeps its contents. -/
theorem B3_of (c : Dev nD) (r : Ref sig .tc) (h : r ∉ hostOps0_2_W) : B3 m ρ c (Proc.devRef .tc r) = B2 m ρ c (Proc.devRef .tc r) := by
  unfold B3; exact StableHlo.after_of_writes_sub hostOps0_2 _ hostOps0_2_writes h
/-- The stretch writes no argument. -/
theorem args_host0_2 : ∀ a ∈ theArgs, a ∉ hostOps0_2_W := by decide +kernel
/-- The arguments are unchanged there. -/
theorem B3_args (c : Dev nD) : ∀ a ∈ theArgs, B3 m ρ c (Proc.devRef .tc a) = m ((c : Thread nD τ).loc a) :=
  fun a ha => (B3_of m ρ c a (args_host0_2 a ha)).trans (B2_args m ρ c a ha)
/-- The same, read at a core's references. -/
abbrev U3 : (c : Dev nD) → (b : Ref sig .tc) → Buf (Elt F) ((c : Thread nD τ).loc b) := fun c b => B3 m ρ c b

/-- The buffers after pipeline 0: its arrays at what its write-backs leave, every other buffer as before. -/
def B4 (c : Dev nD) : Valuation τ sig (Elt F) :=
  Pipeline.withArrays spec0 c (B3 m ρ c) fun w => (dat0 (U3 m ρ) c).arrAt w cfg0.N
/-- The pipeline's arrays are what its write-backs leave. -/
theorem B4_arr (c : Dev nD) (w : Fin cfg0.W) :
    B4 m ρ c (Proc.devRef .tc (Pipeline.arrRef spec0 w)) = (dat0 (U3 m ρ) c).arrAt w cfg0.N := by
  unfold B4; exact Pipeline.withArrays_arr spec0 launch0.win.arr_inj c _ _ w
/-- Every other buffer is as before. -/
theorem B4_other (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- A buffer that is no output of pipeline 0 keeps its contents across it. -/
theorem B4_of (c : Dev nD) (r : Ref sig .tc) (h : ∀ w : Fin cfg0.W, Pipeline.arrRef spec0 w = r → (cfg0.win w).isOut = false) :
    B4 m ρ c (Proc.devRef .tc r) = B3 m ρ c (Proc.devRef .tc r) := by
  by_cases hw : ∃ w : Fin cfg0.W, Pipeline.arrRef spec0 w = r
  · obtain ⟨w, rfl⟩ := hw
    exact (B4_arr m ρ c w).trans (((dat0 (U3 m ρ) c).arrAt_in w (h w rfl) _).trans (A_eq0 (U3 m ρ) c w))
  · exact B4_other m ρ c r fun w e => hw ⟨w, e⟩
/-- No argument is an output of the pipeline. -/
theorem args_region0 : ∀ a ∈ theArgs, ∀ w : Fin cfg0.W, Pipeline.arrRef spec0 w = a → (cfg0.win w).isOut = false :=
  ListAll.forall_mem_of_all_decide (by decide +kernel)
/-- The arguments are unchanged there. -/
theorem B4_args (c : Dev nD) : ∀ a ∈ theArgs, B4 m ρ c (Proc.devRef .tc a) = m ((c : Thread nD τ).loc a) :=
  fun a ha => (B4_of m ρ c a (args_region0 a ha)).trans (B3_args m ρ c a ha)
/-- The same, read at a core's references. -/
abbrev U4 : (c : Dev nD) → (b : Ref sig .tc) → Buf (Elt F) ((c : Thread nD τ).loc b) := fun c b => B4 m ρ c b
/-- What the pipeline leaves in its arrays. -/
theorem left_arr0 (c : Dev nD) (w : Fin cfg0.W) : (dat0 (U3 m ρ) c).arrAt w cfg0.N = U4 m ρ c (Pipeline.arrRef spec0 w) :=
  (B4_arr m ρ c w).symm
/-- What it leaves in the other buffers. -/
theorem left_rest0 (c : Dev nD) : ∀ b, b ∉ Finset.univ.image (Pipeline.arrRef spec0) → U4 m ρ c b = U3 m ρ c b :=
  fun b hb => B4_other m ρ c b fun w e => hb (Finset.mem_image.mpr ⟨w, Finset.mem_univ _, e⟩)

/-- The buffers after pipeline 1: its arrays at what its write-backs leave, every other buffer as before. -/
def B5 (c : Dev nD) : Valuation τ sig (Elt F) :=
  Pipeline.withArrays spec1 c (B4 m ρ c) fun w => (dat1 (U4 m ρ) c).arrAt w cfg1.N
/-- The pipeline's arrays are what its write-backs leave. -/
theorem B5_arr (c : Dev nD) (w : Fin cfg1.W) :
    B5 m ρ c (Proc.devRef .tc (Pipeline.arrRef spec1 w)) = (dat1 (U4 m ρ) c).arrAt w cfg1.N := by
  unfold B5; exact Pipeline.withArrays_arr spec1 launch1.win.arr_inj c _ _ w
/-- Every other buffer is as before. -/
theorem B5_other (c : Dev nD) (b : Ref sig .tc) (hb : ∀ w, Pipeline.arrRef spec1 w ≠ b) :
    B5 m ρ c (Proc.devRef .tc b) = B4 m ρ c (Proc.devRef .tc b) := by
  unfold B5; exact Pipeline.withArrays_of_ne spec1 c _ _ b hb
/-- A buffer that is no output of pipeline 1 keeps its contents across it. -/
theorem B5_of (c : Dev nD) (r : Ref sig .tc) (h : ∀ w : Fin cfg1.W, Pipeline.arrRef spec1 w = r → (cfg1.win w).isOut = false) :
    B5 m ρ c (Proc.devRef .tc r) = B4 m ρ c (Proc.devRef .tc r) := by
  by_cases hw : ∃ w : Fin cfg1.W, Pipeline.arrRef spec1 w = r
  · obtain ⟨w, rfl⟩ := hw
    exact (B5_arr m ρ c w).trans (((dat1 (U4 m ρ) c).arrAt_in w (h w rfl) _).trans (A_eq1 (U4 m ρ) c w))
  · exact B5_other m ρ c r fun w e => hw ⟨w, e⟩
/-- No argument is an output of the pipeline. -/
theorem args_region1 : ∀ a ∈ theArgs, ∀ w : Fin cfg1.W, Pipeline.arrRef spec1 w = a → (cfg1.win w).isOut = false :=
  ListAll.forall_mem_of_all_decide (by decide +kernel)
/-- The arguments are unchanged there. -/
theorem B5_args (c : Dev nD) : ∀ a ∈ theArgs, B5 m ρ c (Proc.devRef .tc a) = m ((c : Thread nD τ).loc a) :=
  fun a ha => (B5_of m ρ c a (args_region1 a ha)).trans (B4_args m ρ c a ha)
/-- The same, read at a core's references. -/
abbrev U5 : (c : Dev nD) → (b : Ref sig .tc) → Buf (Elt F) ((c : Thread nD τ).loc b) := fun c b => B5 m ρ c b
/-- What the pipeline leaves in its arrays. -/
theorem left_arr1 (c : Dev nD) (w : Fin cfg1.W) : (dat1 (U4 m ρ) c).arrAt w cfg1.N = U5 m ρ c (Pipeline.arrRef spec1 w) :=
  (B5_arr m ρ c w).symm
/-- What it leaves in the other buffers. -/
theorem left_rest1 (c : Dev nD) : ∀ b, b ∉ Finset.univ.image (Pipeline.arrRef spec1) → U5 m ρ c b = U4 m ρ c b :=
  fun b hb => B5_other m ρ c b fun w e => hb (Finset.mem_image.mpr ⟨w, Finset.mem_univ _, e⟩)

/-- The buffers after pipeline 2: its arrays at what its write-backs leave, every other buffer as before. -/
def B6 (c : Dev nD) : Valuation τ sig (Elt F) :=
  Pipeline.withArrays spec2 c (B5 m ρ c) fun w => (dat2 (U5 m ρ) c).arrAt w cfg2.N
/-- The pipeline's arrays are what its write-backs leave. -/
theorem B6_arr (c : Dev nD) (w : Fin cfg2.W) :
    B6 m ρ c (Proc.devRef .tc (Pipeline.arrRef spec2 w)) = (dat2 (U5 m ρ) c).arrAt w cfg2.N := by
  unfold B6; exact Pipeline.withArrays_arr spec2 launch2.win.arr_inj c _ _ w
/-- Every other buffer is as before. -/
theorem B6_other (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- A buffer that is no output of pipeline 2 keeps its contents across it. -/
theorem B6_of (c : Dev nD) (r : Ref sig .tc) (h : ∀ w : Fin cfg2.W, Pipeline.arrRef spec2 w = r → (cfg2.win w).isOut = false) :
    B6 m ρ c (Proc.devRef .tc r) = B5 m ρ c (Proc.devRef .tc r) := by
  by_cases hw : ∃ w : Fin cfg2.W, Pipeline.arrRef spec2 w = r
  · obtain ⟨w, rfl⟩ := hw
    exact (B6_arr m ρ c w).trans (((dat2 (U5 m ρ) c).arrAt_in w (h w rfl) _).trans (A_eq2 (U5 m ρ) c w))
  · exact B6_other m ρ c r fun w e => hw ⟨w, e⟩
/-- No argument is an output of the pipeline. -/
theorem args_region2 : ∀ a ∈ theArgs, ∀ w : Fin cfg2.W, Pipeline.arrRef spec2 w = a → (cfg2.win w).isOut = false :=
  ListAll.forall_mem_of_all_decide (by decide +kernel)
/-- The arguments are unchanged there. -/
theorem B6_args (c : Dev nD) : ∀ a ∈ theArgs, B6 m ρ c (Proc.devRef .tc a) = m ((c : Thread nD τ).loc a) :=
  fun a ha => (B6_of m ρ c a (args_region2 a ha)).trans (B5_args m ρ c a ha)
/-- The same, read at a core's references. -/
abbrev U6 : (c : Dev nD) → (b : Ref sig .tc) → Buf (Elt F) ((c : Thread nD τ).loc b) := fun c b => B6 m ρ c b
/-- What the pipeline leaves in its arrays. -/
theorem left_arr2 (c : Dev nD) (w : Fin cfg2.W) : (dat2 (U5 m ρ) c).arrAt w cfg2.N = U6 m ρ c (Pipeline.arrRef spec2 w) :=
  (B6_arr m ρ c w).symm
/-- What it leaves in the other buffers. -/
theorem left_rest2 (c : Dev nD) : ∀ b, b ∉ Finset.univ.image (Pipeline.arrRef spec2) → U6 m ρ c b = U5 m ρ c b :=
  fun b hb => B6_other m ρ c b fun w e => hb (Finset.mem_image.mpr ⟨w, Finset.mem_univ _, e⟩)

/-- The buffers after pipeline 3: its arrays at what its write-backs leave, every other buffer as before. -/
def B7 (c : Dev nD) : Valuation τ sig (Elt F) :=
  Pipeline.withArrays spec3 c (B6 m ρ c) fun w => (dat3 (U6 m ρ) c).arrAt w cfg3.N
/-- The pipeline's arrays are what its write-backs leave. -/
theorem B7_arr (c : Dev nD) (w : Fin cfg3.W) :
    B7 m ρ c (Proc.devRef .tc (Pipeline.arrRef spec3 w)) = (dat3 (U6 m ρ) c).arrAt w cfg3.N := by
  unfold B7; exact Pipeline.withArrays_arr spec3 launch3.win.arr_inj c _ _ w
/-- Every other buffer is as before. -/
theorem B7_other (c : Dev nD) (b : Ref sig .tc) (hb : ∀ w, Pipeline.arrRef spec3 w ≠ b) :
    B7 m ρ c (Proc.devRef .tc b) = B6 m ρ c (Proc.devRef .tc b) := by
  unfold B7; exact Pipeline.withArrays_of_ne spec3 c _ _ b hb
/-- A buffer that is no output of pipeline 3 keeps its contents across it. -/
theorem B7_of (c : Dev nD) (r : Ref sig .tc) (h : ∀ w : Fin cfg3.W, Pipeline.arrRef spec3 w = r → (cfg3.win w).isOut = false) :
    B7 m ρ c (Proc.devRef .tc r) = B6 m ρ c (Proc.devRef .tc r) := by
  by_cases hw : ∃ w : Fin cfg3.W, Pipeline.arrRef spec3 w = r
  · obtain ⟨w, rfl⟩ := hw
    exact (B7_arr m ρ c w).trans (((dat3 (U6 m ρ) c).arrAt_in w (h w rfl) _).trans (A_eq3 (U6 m ρ) c w))
  · exact B7_other m ρ c r fun w e => hw ⟨w, e⟩
/-- No argument is an output of the pipeline. -/
theorem args_region3 : ∀ a ∈ theArgs, ∀ w : Fin cfg3.W, Pipeline.arrRef spec3 w = a → (cfg3.win w).isOut = false :=
  ListAll.forall_mem_of_all_decide (by decide +kernel)
/-- The arguments are unchanged there. -/
theorem B7_args (c : Dev nD) : ∀ a ∈ theArgs, B7 m ρ c (Proc.devRef .tc a) = m ((c : Thread nD τ).loc a) :=
  fun a ha => (B7_of m ρ c a (args_region3 a ha)).trans (B6_args m ρ c a ha)
/-- The same, read at a core's references. -/
abbrev U7 : (c : Dev nD) → (b : Ref sig .tc) → Buf (Elt F) ((c : Thread nD τ).loc b) := fun c b => B7 m ρ c b
/-- What the pipeline leaves in its arrays. -/
theorem left_arr3 (c : Dev nD) (w : Fin cfg3.W) : (dat3 (U6 m ρ) c).arrAt w cfg3.N = U7 m ρ c (Pipeline.arrRef spec3 w) :=
  (B7_arr m ρ c w).symm
/-- What it leaves in the other buffers. -/
theorem left_rest3 (c : Dev nD) : ∀ b, b ∉ Finset.univ.image (Pipeline.arrRef spec3) → U7 m ρ c b = U6 m ρ c b :=
  fun b hb => B7_other m ρ c b fun w e => hb (Finset.mem_image.mpr ⟨w, Finset.mem_univ _, e⟩)

/-- The buffers after pipeline 4: its arrays at what its write-backs leave, every other buffer as before. -/
def B8 (c : Dev nD) : Valuation τ sig (Elt F) :=
  Pipeline.withArrays spec4 c (B7 m ρ c) fun w => (dat4 (U7 m ρ) c).arrAt w cfg4.N
/-- The pipeline's arrays are what its write-backs leave. -/
theorem B8_arr (c : Dev nD) (w : Fin cfg4.W) :
    B8 m ρ c (Proc.devRef .tc (Pipeline.arrRef spec4 w)) = (dat4 (U7 m ρ) c).arrAt w cfg4.N := by
  unfold B8; exact Pipeline.withArrays_arr spec4 launch4.win.arr_inj c _ _ w
/-- Every other buffer is as before. -/
theorem B8_other (c : Dev nD) (b : Ref sig .tc) (hb : ∀ w, Pipeline.arrRef spec4 w ≠ b) :
    B8 m ρ c (Proc.devRef .tc b) = B7 m ρ c (Proc.devRef .tc b) := by
  unfold B8; exact Pipeline.withArrays_of_ne spec4 c _ _ b hb
/-- A buffer that is no output of pipeline 4 keeps its contents across it. -/
theorem B8_of (c : Dev nD) (r : Ref sig .tc) (h : ∀ w : Fin cfg4.W, Pipeline.arrRef spec4 w = r → (cfg4.win w).isOut = false) :
    B8 m ρ c (Proc.devRef .tc r) = B7 m ρ c (Proc.devRef .tc r) := by
  by_cases hw : ∃ w : Fin cfg4.W, Pipeline.arrRef spec4 w = r
  · obtain ⟨w, rfl⟩ := hw
    exact (B8_arr m ρ c w).trans (((dat4 (U7 m ρ) c).arrAt_in w (h w rfl) _).trans (A_eq4 (U7 m ρ) c w))
  · exact B8_other m ρ c r fun w e => hw ⟨w, e⟩
/-- No argument is an output of the pipeline. -/
theorem args_region4 : ∀ a ∈ theArgs, ∀ w : Fin cfg4.W, Pipeline.arrRef spec4 w = a → (cfg4.win w).isOut = false :=
  ListAll.forall_mem_of_all_decide (by decide +kernel)
/-- The arguments are unchanged there. -/
theorem B8_args (c : Dev nD) : ∀ a ∈ theArgs, B8 m ρ c (Proc.devRef .tc a) = m ((c : Thread nD τ).loc a) :=
  fun a ha => (B8_of m ρ c a (args_region4 a ha)).trans (B7_args m ρ c a ha)
/-- The same, read at a core's references. -/
abbrev U8 : (c : Dev nD) → (b : Ref sig .tc) → Buf (Elt F) ((c : Thread nD τ).loc b) := fun c b => B8 m ρ c b
/-- What the pipeline leaves in its arrays. -/
theorem left_arr4 (c : Dev nD) (w : Fin cfg4.W) : (dat4 (U7 m ρ) c).arrAt w cfg4.N = U8 m ρ c (Pipeline.arrRef spec4 w) :=
  (B8_arr m ρ c w).symm
/-- What it leaves in the other buffers. -/
theorem left_rest4 (c : Dev nD) : ∀ b, b ∉ Finset.univ.image (Pipeline.arrRef spec4) → U8 m ρ c b = U7 m ρ c b :=
  fun b hb => B8_other m ρ c b fun w e => hb (Finset.mem_image.mpr ⟨w, Finset.mem_univ _, e⟩)

/-- The buffers after pipeline 5: its arrays at what its write-backs leave, every other buffer as before. -/
def B9 (c : Dev nD) : Valuation τ sig (Elt F) :=
  Pipeline.withArrays spec5 c (B8 m ρ c) fun w => (dat5 (U8 m ρ) c).arrAt w cfg5.N
/-- The pipeline's arrays are what its write-backs leave. -/
theorem B9_arr (c : Dev nD) (w : Fin cfg5.W) :
    B9 m ρ c (Proc.devRef .tc (Pipeline.arrRef spec5 w)) = (dat5 (U8 m ρ) c).arrAt w cfg5.N := by
  unfold B9; exact Pipeline.withArrays_arr spec5 launch5.win.arr_inj c _ _ w
/-- Every other buffer is as before. -/
theorem B9_other (c : Dev nD) (b : Ref sig .tc) (hb : ∀ w, Pipeline.arrRef spec5 w ≠ b) :
    B9 m ρ c (Proc.devRef .tc b) = B8 m ρ c (Proc.devRef .tc b) := by
  unfold B9; exact Pipeline.withArrays_of_ne spec5 c _ _ b hb
/-- A buffer that is no output of pipeline 5 keeps its contents across it. -/
theorem B9_of (c : Dev nD) (r : Ref sig .tc) (h : ∀ w : Fin cfg5.W, Pipeline.arrRef spec5 w = r → (cfg5.win w).isOut = false) :
    B9 m ρ c (Proc.devRef .tc r) = B8 m ρ c (Proc.devRef .tc r) := by
  by_cases hw : ∃ w : Fin cfg5.W, Pipeline.arrRef spec5 w = r
  · obtain ⟨w, rfl⟩ := hw
    exact (B9_arr m ρ c w).trans (((dat5 (U8 m ρ) c).arrAt_in w (h w rfl) _).trans (A_eq5 (U8 m ρ) c w))
  · exact B9_other m ρ c r fun w e => hw ⟨w, e⟩
/-- No argument is an output of the pipeline. -/
theorem args_region5 : ∀ a ∈ theArgs, ∀ w : Fin cfg5.W, Pipeline.arrRef spec5 w = a → (cfg5.win w).isOut = false :=
  ListAll.forall_mem_of_all_decide (by decide +kernel)
/-- The arguments are unchanged there. -/
theorem B9_args (c : Dev nD) : ∀ a ∈ theArgs, B9 m ρ c (Proc.devRef .tc a) = m ((c : Thread nD τ).loc a) :=
  fun a ha => (B9_of m ρ c a (args_region5 a ha)).trans (B8_args m ρ c a ha)
/-- The same, read at a core's references. -/
abbrev U9 : (c : Dev nD) → (b : Ref sig .tc) → Buf (Elt F) ((c : Thread nD τ).loc b) := fun c b => B9 m ρ c b
/-- What the pipeline leaves in its arrays. -/
theorem left_arr5 (c : Dev nD) (w : Fin cfg5.W) : (dat5 (U8 m ρ) c).arrAt w cfg5.N = U9 m ρ c (Pipeline.arrRef spec5 w) :=
  (B9_arr m ρ c w).symm
/-- What it leaves in the other buffers. -/
theorem left_rest5 (c : Dev nD) : ∀ b, b ∉ Finset.univ.image (Pipeline.arrRef spec5) → U9 m ρ c b = U8 m ρ c b :=
  fun b hb => B9_other m ρ c b fun w e => hb (Finset.mem_image.mpr ⟨w, Finset.mem_univ _, e⟩)

/-- The buffers after host stretch 6. -/
def B10 (c : Dev nD) : Valuation τ sig (Elt F) := StableHlo.after hostOps6 (B9 m ρ c)
/-- A buffer that the stretch does not write keeps its contents. -/
theorem B10_of (c : Dev nD) (r : Ref sig .tc) (h : r ∉ hostOps6_W) : B10 m ρ c (Proc.devRef .tc r) = B9 m ρ c (Proc.devRef .tc r) := by
  unfold B10; exact StableHlo.after_of_writes_sub hostOps6 _ hostOps6_writes h
/-- The stretch writes no argument. -/
theorem args_host6 : ∀ a ∈ theArgs, a ∉ hostOps6_W := by decide +kernel
/-- The arguments are unchanged there. -/
theorem B10_args (c : Dev nD) : ∀ a ∈ theArgs, B10 m ρ c (Proc.devRef .tc a) = m ((c : Thread nD τ).loc a) :=
  fun a ha => (B10_of m ρ c a (args_host6 a ha)).trans (B9_args m ρ c a ha)
/-- The same, read at a core's references. -/
abbrev U10 : (c : Dev nD) → (b : Ref sig .tc) → Buf (Elt F) ((c : Thread nD τ).loc b) := fun c b => B10 m ρ c b

/-! ## The pipelines and host lines as segments -/

/-- No pipeline has a prefetched table. -/
abbrev adm : (p : Fin 6) → (pcfgs (F := F) p).Adm := fun p => (cfgs p).toPCfg_adm
/-- The proof data of every pipeline. -/
def pdats : (p : Fin 6) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U4 m ρ) c
  | ⟨2, _⟩ => fun c => dat2 (U5 m ρ) c
  | ⟨3, _⟩ => fun c => dat3 (U6 m ρ) c
  | ⟨4, _⟩ => fun c => dat4 (U7 m ρ) c
  | ⟨5, _⟩ => fun c => dat5 (U8 m ρ) c
/-- No core owes another anything. -/
abbrev noL : GSem nD τ sig → Finset Unit := fun _ => ∅
/-- No counter is waited for between pipelines. -/
abbrev noLv : GSem nD τ sig → Unit → ℕ := fun _ _ => 0
/-- What rides along beside the buffers: the generator register, and nothing owed. -/
abbrev Rest (c : Dev nD) : sProp (Res F) := iprop((∃ r, prngReg c r) ∗ ∃ W, owes (c : Thread nD τ) (0 : CellTallies nD τ sig Unit) W)
/-- A host stretch as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- Every buffer that outlives the pipelines is among those held. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Final (c : Dev nD) : sProp (Res F) := iprop(StableHlo.held (c : Thread nD τ) (Pipeline.ucRefs τ sig) (B10 m ρ c) ∗ ∃ r, prngReg c r)

set_option backward.isDefEq.respectTransparency.types false in
/-- Pipeline 0 as a segment: from the buffers at `B3` to the buffers at `B4`. -/
def seg_region0 : Pipeline.RegionSeg (pcfgs (F := F)) adm (pdats m ρ) () defs₀ Variants.none noL noLv 0 where
  win := launch0.win.to₀
  block_pos := launch0.block_pos
  stage_whole := launch0.stage_whole
  K := PEmpty
  osem k := k.elim
  ho := Pipeline.OwnSemFacts.none _
  hbody c := (obligation0 (U3 m ρ) c).loose
  hwaits := Pipeline.hwaits_of_owed_zero _ _ _ _ noL noLv 0 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U3 m ρ c) (A_eq0 (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U3 m ρ c) (U4 m ρ c) ((pdats m ρ 0 c).arrAt · cfg0.N) (left_arr0 m ρ c) (left_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment: from the buffers at `B4` to the buffers at `B5`. -/
def seg_region1 : Pipeline.RegionSeg (pcfgs (F := F)) adm (pdats m ρ) () defs₀ Variants.none noL noLv 1 where
  win := launch1.win.to₀
  block_pos := launch1.block_pos
  stage_whole := launch1.stage_whole
  K := PEmpty
  osem k := k.elim
  ho := Pipeline.OwnSemFacts.none _
  hbody c := (obligation1 (U4 m ρ) c).loose
  hwaits := Pipeline.hwaits_of_owed_zero _ _ _ _ noL noLv 1 fun _ _ => rfl
  pre c := iprop(StableHlo.held (c : Thread nD τ) (Pipeline.ucRefs τ sig) (B4 m ρ c) ∗ Rest c)
  post c := iprop(StableHlo.held (c : Thread nD τ) (Pipeline.ucRefs τ sig) (B5 m ρ c) ∗ Rest c)
  X c := iprop(∃ r, prngReg c r)
  Y c := iprop(∃ r, prngReg c r)
  Z c := Pipeline.unscopedRest (Ix := Unit) (Name := ℕ) (U := UR sig nD τ) (Lvl := ℕ) spec1 c (U4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U4 m ρ c) (A_eq1 (U4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U4 m ρ c) (U5 m ρ c) ((pdats m ρ 1 c).arrAt · cfg1.N) (left_arr1 m ρ c) (left_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 as a segment: from the buffers at `B5` to the buffers at `B6`. -/
def seg_region2 : Pipeline.RegionSeg (pcfgs (F := F)) adm (pdats m ρ) () defs₀ Variants.none noL noLv 2 where
  win := launch2.win.to₀
  block_pos := launch2.block_pos
  stage_whole := launch2.stage_whole
  K := PEmpty
  osem k := k.elim
  ho := Pipeline.OwnSemFacts.none _
  hbody c := (obligation2 (U5 m ρ) c).loose
  hwaits := Pipeline.hwaits_of_owed_zero _ _ _ _ noL noLv 2 fun _ _ => rfl
  pre c := iprop(StableHlo.held (c : Thread nD τ) (Pipeline.ucRefs τ sig) (B5 m ρ c) ∗ Rest c)
  post c := iprop(StableHlo.held (c : Thread nD τ) (Pipeline.ucRefs τ sig) (B6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) (A_eq2 (U5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (left_arr2 m ρ c) (left_rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 as a segment: from the buffers at `B6` to the buffers at `B7`. -/
def seg_region3 : Pipeline.RegionSeg (pcfgs (F := F)) adm (pdats m ρ) () defs₀ Variants.none noL noLv 3 where
  win := launch3.win.to₀
  block_pos := launch3.block_pos
  stage_whole := launch3.stage_whole
  K := PEmpty
  osem k := k.elim
  ho := Pipeline.OwnSemFacts.none _
  hbody c := (obligation3 (U6 m ρ) c).loose
  hwaits := Pipeline.hwaits_of_owed_zero _ _ _ _ noL noLv 3 fun _ _ => rfl
  pre c := iprop(StableHlo.held (c : Thread nD τ) (Pipeline.ucRefs τ sig) (B6 m ρ c) ∗ Rest c)
  post c := iprop(StableHlo.held (c : Thread nD τ) (Pipeline.ucRefs τ sig) (B7 m ρ c) ∗ Rest c)
  X c := iprop(∃ r, prngReg c r)
  Y c := iprop(∃ r, prngReg c r)
  Z c := Pipeline.unscopedRest (Ix := Unit) (Name := ℕ) (U := UR sig nD τ) (Lvl := ℕ) spec3 c (U6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U6 m ρ c) (A_eq3 (U6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U6 m ρ c) (U7 m ρ c) ((pdats m ρ 3 c).arrAt · cfg3.N) (left_arr3 m ρ c) (left_rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 as a segment: from the buffers at `B7` to the buffers at `B8`. -/
def seg_region4 : Pipeline.RegionSeg (pcfgs (F := F)) adm (pdats m ρ) () defs₀ Variants.none noL noLv 4 where
  win := launch4.win.to₀
  block_pos := launch4.block_pos
  stage_whole := launch4.stage_whole
  K := PEmpty
  osem k := k.elim
  ho := Pipeline.OwnSemFacts.none _
  hbody c := (obligation4 (U7 m ρ) c).loose
  hwaits := Pipeline.hwaits_of_owed_zero _ _ _ _ noL noLv 4 fun _ _ => rfl
  pre c := iprop(StableHlo.held (c : Thread nD τ) (Pipeline.ucRefs τ sig) (B7 m ρ c) ∗ Rest c)
  post c := iprop(StableHlo.held (c : Thread nD τ) (Pipeline.ucRefs τ sig) (B8 m ρ c) ∗ Rest c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U7 m ρ c) (A_eq4 (U7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U7 m ρ c) (U8 m ρ c) ((pdats m ρ 4 c).arrAt · cfg4.N) (left_arr4 m ρ c) (left_rest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 5 as a segment: from the buffers at `B8` to the buffers at `B9`. -/
def seg_region5 : Pipeline.RegionSeg (pcfgs (F := F)) adm (pdats m ρ) () defs₀ Variants.none noL noLv 5 where
  win := launch5.win.to₀
  block_pos := launch5.block_pos
  stage_whole := launch5.stage_whole
  K := PEmpty
  osem k := k.elim
  ho := Pipeline.OwnSemFacts.none _
  hbody c := (obligation5 (U8 m ρ) c).loose
  hwaits := Pipeline.hwaits_of_owed_zero _ _ _ _ noL noLv 5 fun _ _ => rfl
  pre c := iprop(StableHlo.held (c : Thread nD τ) (Pipeline.ucRefs τ sig) (B8 m ρ c) ∗ Rest c)
  post c := iprop(StableHlo.held (c : Thread nD τ) (Pipeline.ucRefs τ sig) (B9 m ρ c) ∗ Rest c)
  X c := iprop(∃ r, prngReg c r)
  Y c := iprop(∃ r, prngReg c r)
  Z c := Pipeline.unscopedRest (Ix := Unit) (Name := ℕ) (U := UR sig nD τ) (Lvl := ℕ) spec5 c (U8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U8 m ρ c) (A_eq5 (U8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U8 m ρ c) (U9 m ρ c) ((pdats m ρ 5 c).arrAt · cfg5.N) (left_arr5 m ρ c) (left_rest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the last host stretch leaves is what is held at the end, beside a core's empty debt. -/
theorem ends (c : Dev nD) :
    iprop(StableHlo.held (c : Thread nD τ) (Pipeline.ucRefs τ sig) (B10 m ρ c) ∗ Rest c)
      ⊢ iprop(Final m ρ c ∗ ∃ W, owes (c : Thread nD τ) (0 : CellTallies nD τ sig Unit) W) := by
  iintro ⟨Hh, Hp, Ho⟩
  isplitl [Hh Hp]
  · isplitl [Hh] <;> iassumption
  iexact Ho

/-- The program's segments in order. -/
abbrev segs : List (Pipeline.Seg (pcfgs (F := F)) adm (pdats m ρ) () defs₀ Variants.none noL noLv) :=
  [ .host (hostSeg hostOps0 hostOps0_sub hostOps0_fresh (B0 m ρ)),
    .host (hostSeg hostOps0_1 hostOps0_1_sub hostOps0_1_fresh (B1 m ρ)),
    .host (hostSeg hostOps0_2 hostOps0_2_sub hostOps0_2_fresh (B2 m ρ)),
    .region (seg_region0 m ρ),
    .region (seg_region1 m ρ),
    .region (seg_region2 m ρ),
    .region (seg_region3 m ρ),
    .region (seg_region4 m ρ),
    .region (seg_region5 m ρ),
    .host (hostSeg hostOps6 hostOps6_sub hostOps6_fresh (B9 m ρ)) ]
/-- The program is its stretches and pipelines in order. -/
theorem main_segs (c : Dev nD) : main (F := F) c = Pipeline.Seg.run (segs m ρ) := (main_chain c).trans (by chain_rfl)
/-- Every counter belongs to a pipeline. -/
theorem all_scoped : ∀ sm : SemLoc sig, sm.isScoped .tc = true := by decide

set_option backward.isDefEq.respectTransparency.types false in
/-- From any memory the program ends without a fault, every counter at zero and every unscoped buffer at `B10`. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = B10 m ρ c b) ∧ r.2.sem = fun _ => 0) :=
  Pipeline.θ_run_regions_kit_sems (pcfgs (F := F)) adm (pdats m ρ) () cellOf_inj emb₁ defs₀ Variants.none noL noLv m ρ main (segs m ρ)
    (fun c Q => by rw [main_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (B0 m ρ c) ∗ Rest c)) (Tₙ := Final m ρ)
    (hch := ⟨fun _ => .rfl, fun _ => .rfl, fun _ => .rfl, fun _ => .rfl, fun _ => .rfl, fun _ => .rfl, fun _ => .rfl, fun _ => .rfl, fun _ => .rfl, fun _ => .rfl, ends m ρ⟩)
    (hinit := by
      refine Pipeline.initEach noL noLv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m ρ c b)
    (hfin := fun c s' => by
      iintro ⟨⟨Hh, -⟩, HSI⟩
      unfold StableHlo.held
      imodintro
      iapply (pointsTo_read_all (Pipeline.ucRefs τ sig) (fun b => (((c : Thread nD τ)).1, b)) (B10 m ρ c) s')
      isplitl [Hh] <;> iassumption)
    (hQ := fun s h hz => ⟨h, funext fun g => hz g (.inr (all_scoped g.2))⟩)

end Cert.Kernel3Ideal.Prod

end
-- ==== Proof.ProdValue.lean ====
module

public import proofs.«01_k».proof.Proof.DownRegion
public import proofs.«01_k».proof.Proof.OutRegion
public import proofs.«01_k».proof.Proof.OutWRegion
public import proofs.«01_k».proof.Proof.OutXRegion
public import proofs.«01_k».proof.Proof.InWRegion
public import proofs.«01_k».proof.Proof.InXRegion
public import Idealize.ShloMosaic.Lib.Pipeline.ValueKit
public import Idealize.ShloMosaic.Lib.Pointwise

@[expose] public section

noncomputable section

namespace Cert.Kernel3Ideal.Prod

open Idealize.ShloMosaic Idealize.ShloMosaic.TcCoe Idealize.ShloMosaic.Tactic
open Idealize.ShloMosaic.Pipeline (Dat Cfg Window)
open Cert.Kernel3Ideal Cert.Kernel3Ideal.Gen

/-! # What the six pipelines of products leave in their arrays

Every entry is a sum of products of two entries of the arrays the pipeline found; nothing need be finite. -/

/-- The entries of an array, whatever its type. -/
abbrev Tab (s : Shape) : Type := s.Idx → EReal
/-- One entry of an array. -/
abbrev ent {s : Shape} (x : Tab s) (i : s.Idx) : EReal := x i

/-! ## One block -/

/-- Reading a whole block of 512 rows and 2816 columns. -/
theorem ld_512x2816_bf16 (x : Vec Ideal S512x2816 .bf16) (a : Fin 512) (d : Fin 2816) : View.ld x r512_2816 (ix2 a d) = x (ix2 a d) := by
  pointwise
  blk_ext
/-- Reading a whole block of 2816 rows and 1024 columns. -/
theorem ld_2816x1024_bf16 (x : Vec Ideal S2816x1024 .bf16) (a : Fin 2816) (d : Fin 1024) : View.ld x r2816_1024 (ix2 a d) = x (ix2 a d) := by
  pointwise
  blk_ext
/-- Reading a whole block of 512 rows and 1024 columns. -/
theorem ld_512x1024_bf16 (x : Vec Ideal S512x1024 .bf16) (a : Fin 512) (d : Fin 1024) : View.ld x r512_1024 (ix2 a d) = x (ix2 a d) := by
  pointwise
  blk_ext
/-- Reading a whole block of 1024 rows and 1024 columns. -/
theorem ld_1024x1024_bf16 (x : Vec Ideal S1024x1024 .bf16) (a : Fin 1024) (d : Fin 1024) : View.ld x r1024_1024 (ix2 a d) = x (ix2 a d) := by
  pointwise
  blk_ext
/-- Reading a whole block of 2048 rows and 512 columns. -/
theorem ld_2048x512_bf16 (x : Vec Ideal S2048x512 .bf16) (a : Fin 2048) (d : Fin 512) : View.ld x r2048_512 (ix2 a d) = x (ix2 a d) := by
  pointwise
  blk_ext
/-- Reading a whole block of 2048 rows and 1024 columns. -/
theorem ld_2048x1024_bf16 (x : Vec Ideal S2048x1024 .bf16) (a : Fin 2048) (d : Fin 1024) : View.ld x r2048_1024 (ix2 a d) = x (ix2 a d) := by
  pointwise
  blk_ext
/-- Reading a whole block of 2048 rows and 256 columns. -/
theorem ld_2048x256_bf16 (x : Vec Ideal S2048x256 .bf16) (a : Fin 2048) (d : Fin 256) : View.ld x r2048_256 (ix2 a d) = x (ix2 a d) := by
  pointwise
  blk_ext
/-- Reading a whole block of 1024 rows and 1280 columns. -/
theorem ld_1024x1280_bf16 (x : Vec Ideal S1024x1280 .bf16) (a : Fin 1024) (d : Fin 1280) : View.ld x r1024_1280 (ix2 a d) = x (ix2 a d) := by
  pointwise
  blk_ext
/-- Reading a whole block of 1280 rows and 1024 columns. -/
theorem ld_1280x1024_bf16 (x : Vec Ideal S1280x1024 .bf16) (a : Fin 1280) (d : Fin 1024) : View.ld x r1280_1024 (ix2 a d) = x (ix2 a d) := by
  pointwise
  blk_ext
/-- Reading a whole block of 512 rows and 1024 columns. -/
theorem ld_512x1024_f32 (x : Vec Ideal S512x1024 .f32) (a : Fin 512) (d : Fin 1024) : View.ld x r512_1024 (ix2 a d) = x (ix2 a d) := by
  pointwise
  blk_ext
/-- Reading a whole block of 1 rows and 1024 columns. -/
theorem ld_1x1024_f32 (x : Vec Ideal S1x1024 .f32) (a : Fin 1) (d : Fin 1024) : View.ld x r1_1024 (ix2 a d) = x (ix2 a d) := by
  pointwise
  blk_ext

/-- A block of the down product. -/
theorem downY_val (x0 : Vec Ideal S512x2816 .bf16) (x1 : Vec Ideal S2816x1024 .bf16) (a : Fin 512) (b : Fin 1024) :
    downY (F := Ideal) x0 x1 (ix2 a b) = ∑ k : Fin 2816, x0 (ix2 a k) * x1 (ix2 k b) := by
  have e0 := ld_512x2816_bf16 x0
  have e1 := ld_2816x1024_bf16 x1
  unfold downY
  generalize View.ld x0 r512_2816 = y0 at e0 ⊢
  generalize View.ld x1 r2816_1024 = y1 at e1 ⊢
  pointwise [k0_pay2, k0_pay1]
  simp only [e0, e1]
/-- A block of the residual with the down product added. -/
theorem downR_val (x0 : Vec Ideal S512x2816 .bf16) (x1 : Vec Ideal S2816x1024 .bf16) (x2 : Vec Ideal S512x1024 .f32) (x3 : Vec Ideal S1x1024 .f32)
    (a : Fin 512) (b : Fin 1024) :
    downR (F := Ideal) x0 x1 x2 x3 (ix2 a b) = x2 (ix2 a b) + Ideal.ofBits .f32 0x3F000000#32 * x3 (ix2 0 b) * ∑ k : Fin 2816, x0 (ix2 a k) * x1 (ix2 k b) := by
  have e0 := ld_512x2816_bf16 x0
  have e1 := ld_2816x1024_bf16 x1
  have e2 := ld_512x1024_f32 x2
  have e3 := ld_1x1024_f32 x3
  unfold downR
  generalize View.ld x0 r512_2816 = y0 at e0 ⊢
  generalize View.ld x1 r2816_1024 = y1 at e1 ⊢
  generalize View.ld x2 r512_1024 = y2 at e2 ⊢
  generalize View.ld x3 r1_1024 = y3 at e3 ⊢
  pointwise [k0_pay3, k0_pay1]
  simp only [e0, e1, e2, e3]

/-- A block of the output projection. -/
theorem outY_val (x0 : Vec Ideal S512x1024 .bf16) (x1 : Vec Ideal S1024x1024 .bf16) (a : Fin 512) (b : Fin 1024) :
    outY (F := Ideal) x0 x1 (ix2 a b) = ∑ k : Fin 1024, x0 (ix2 a k) * x1 (ix2 k b) := by
  have e0 := ld_512x1024_bf16 x0
  have e1 := ld_1024x1024_bf16 x1
  unfold outY
  generalize View.ld x0 r512_1024 = y0 at e0 ⊢
  generalize View.ld x1 r1024_1024 = y1 at e1 ⊢
  pointwise [k1_pay2, k1_pay1]
  simp only [e0, e1]
/-- A block of the residual with the output projection added. -/
theorem outR_val (x0 : Vec Ideal S512x1024 .bf16) (x1 : Vec Ideal S1024x1024 .bf16) (x2 : Vec Ideal S512x1024 .f32) (x3 : Vec Ideal S1x1024 .f32)
    (a : Fin 512) (b : Fin 1024) :
    outR (F := Ideal) x0 x1 x2 x3 (ix2 a b) = x2 (ix2 a b) + x3 (ix2 0 b) * ∑ k : Fin 1024, x0 (ix2 a k) * x1 (ix2 k b) := by
  have e0 := ld_512x1024_bf16 x0
  have e1 := ld_1024x1024_bf16 x1
  have e2 := ld_512x1024_f32 x2
  have e3 := ld_1x1024_f32 x3
  unfold outR
  generalize View.ld x0 r512_1024 = y0 at e0 ⊢
  generalize View.ld x1 r1024_1024 = y1 at e1 ⊢
  generalize View.ld x2 r512_1024 = y2 at e2 ⊢
  generalize View.ld x3 r1_1024 = y3 at e3 ⊢
  pointwise [k1_pay3, k1_pay1]
  simp only [e0, e1, e2, e3, one_mul]

/-- A block of the output projection's weight gradient. -/
theorem outWY_val (x0 : Vec Ideal S2048x512 .bf16) (x1 : Vec Ideal S2048x1024 .bf16) (a : Fin 512) (b : Fin 1024) :
    outWY (F := Ideal) x0 x1 (ix2 a b) = ∑ k : Fin 2048, x0 (ix2 k a) * x1 (ix2 k b) := by
  have e0 := ld_2048x512_bf16 x0
  have e1 := ld_2048x1024_bf16 x1
  unfold outWY
  generalize View.ld x0 r2048_512 = y0 at e0 ⊢
  generalize View.ld x1 r2048_1024 = y1 at e1 ⊢
  pointwise [k2_pay1]
  simp only [e0, e1]

/-- A block of the output projection's input gradient. -/
theorem outXY_val (x0 : Vec Ideal S1024x1024 .bf16) (x1 : Vec Ideal S1024x1024 .bf16) (a : Fin 1024) (b : Fin 1024) :
    outXY (F := Ideal) x0 x1 (ix2 a b) = ∑ k : Fin 1024, x0 (ix2 a k) * x1 (ix2 b k) := by
  have e0 := ld_1024x1024_bf16 x0
  have e1 := ld_1024x1024_bf16 x1
  unfold outXY
  generalize View.ld x0 r1024_1024 = y0 at e0 ⊢
  generalize View.ld x1 r1024_1024 = y1 at e1 ⊢
  pointwise [k3_pay1]
  simp only [e0, e1]

/-- A block of the input projection's weight gradient. -/
theorem inWY_val (x0 : Vec Ideal S2048x256 .bf16) (x1 : Vec Ideal S2048x1024 .bf16) (a : Fin 256) (b : Fin 1024) :
    inWY (F := Ideal) x0 x1 (ix2 a b) = ∑ k : Fin 2048, x0 (ix2 k a) * x1 (ix2 k b) := by
  have e0 := ld_2048x256_bf16 x0
  have e1 := ld_2048x1024_bf16 x1
  unfold inWY
  generalize View.ld x0 r2048_256 = y0 at e0 ⊢
  generalize View.ld x1 r2048_1024 = y1 at e1 ⊢
  pointwise [k4_pay1]
  simp only [e0, e1]

/-- A block of the input projection's input gradient. -/
theorem inXY_val (x0 : Vec Ideal S1024x1280 .bf16) (x1 : Vec Ideal S1280x1024 .bf16) (a : Fin 1024) (b : Fin 1024) :
    inXY (F := Ideal) x0 x1 (ix2 a b) = ∑ k : Fin 1280, x0 (ix2 a k) * x1 (ix2 k b) := by
  have e0 := ld_1024x1280_bf16 x0
  have e1 := ld_1280x1024_bf16 x1
  unfold inXY
  generalize View.ld x0 r1024_1280 = y0 at e0 ⊢
  generalize View.ld x1 r1280_1024 = y1 at e1 ⊢
  pointwise [k5_pay1]
  simp only [e0, e1]

/-! ## The blocks of each pipeline -/

/-- Which blocks a grid step of pipeline 0 has. -/
theorem idx0 : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)
/-- The number of grid steps. -/
theorem lt0 (t : Fin cfg0.N) : t.val < 4 := t.isLt
/-- Which blocks a grid step of pipeline 1 has. -/
theorem idx1 : ∀ t : Fin cfg1.N, win1_0.index t = ![t.val, 0] ∧ win1_1.index t = ![0, 0] ∧ win1_2.index t = ![t.val, 0] ∧ win1_3.index t = ![0, 0] ∧ win1_4.index t = ![t.val, 0] ∧ win1_5.index t = ![t.val, 0] :=
  (by decide +kernel : ∀ t : Fin grid1.N, _)
/-- The number of grid steps. -/
theorem lt1 (t : Fin cfg1.N) : t.val < 4 := t.isLt
/-- Which blocks a grid step of pipeline 2 has. -/
theorem idx2 : ∀ t : Fin cfg2.N, win2_0.index t = ![0, t.val] ∧ win2_1.index t = ![0, 0] ∧ win2_2.index t = ![t.val, 0] :=
  (by decide +kernel : ∀ t : Fin grid2.N, _)
/-- The number of grid steps. -/
theorem lt2 (t : Fin cfg2.N) : t.val < 2 := t.isLt
/-- Which blocks a grid step of pipeline 3 has. -/
theorem idx3 : ∀ t : Fin cfg3.N, win3_0.index t = ![t.val, 0] ∧ win3_1.index t = ![0, 0] ∧ win3_2.index t = ![t.val, 0] :=
  (by decide +kernel : ∀ t : Fin grid3.N, _)
/-- The number of grid steps. -/
theorem lt3 (t : Fin cfg3.N) : t.val < 2 := t.isLt
/-- Which blocks a grid step of pipeline 4 has. -/
theorem idx4 : ∀ t : Fin cfg4.N, win4_0.index t = ![0, t.val] ∧ win4_1.index t = ![0, 0] ∧ win4_2.index t = ![t.val, 0] :=
  (by decide +kernel : ∀ t : Fin grid4.N, _)
/-- The number of grid steps. -/
theorem lt4 (t : Fin cfg4.N) : t.val < 5 := t.isLt
/-- Which blocks a grid step of pipeline 5 has. -/
theorem idx5 : ∀ t : Fin cfg5.N, win5_0.index t = ![t.val, 0] ∧ win5_1.index t = ![0, 0] ∧ win5_2.index t = ![t.val, 0] :=
  (by decide +kernel : ∀ t : Fin grid5.N, _)
/-- The number of grid steps. -/
theorem lt5 (t : Fin cfg5.N) : t.val < 2 := t.isLt

variable (V : (c : Dev nD) → (b : Ref sig .tc) → Buf (Elt Ideal) ((c : Thread nD τ).loc b)) (c : Dev nD)

/-! ## The down product -/

/-- An entry of the block of array 0, in the array. -/
theorem blk0_0 (t : Fin cfg0.N) (a : Fin 512) (d : Fin 2816) :
    blk0 V c 0 t (ix2 a d) = ent (s := S2048x2816) (V c main_v5) (ix2 ⟨t.val * 512 + a.val, by have := lt0 t; omega⟩ d) := by
  have ht := lt0 t
  blk_ext [blk0, idx0 t]
/-- An entry of the block of array 1, in the array. -/
theorem blk0_1 (t : Fin cfg0.N) (a : Fin 2816) (d : Fin 1024) :
    blk0 V c 1 t (ix2 a d) = ent (s := S2816x1024) (V c main_v0) (ix2 a d) := by
  have ht := lt0 t
  blk_ext [blk0, idx0 t]
/-- An entry of the block of array 2, in the array. -/
theorem blk0_2 (t : Fin cfg0.N) (a : Fin 512) (d : Fin 1024) :
    blk0 V c 2 t (ix2 a d) = ent (s := S2048x1024) (V c main_arg2) (ix2 ⟨t.val * 512 + a.val, by have := lt0 t; omega⟩ d) := by
  have ht := lt0 t
  blk_ext [blk0, idx0 t]
/-- An entry of the block of array 3, in the array. -/
theorem blk0_3 (t : Fin cfg0.N) (a : Fin 1) (d : Fin 1024) :
    blk0 V c 3 t (ix2 a d) = ent (s := S1x1024) (V c main_arg3) (ix2 a d) := by
  have ht := lt0 t
  blk_ext [blk0, idx0 t]
/-- What the pipeline leaves of the down product. -/
def left0_4 : Tab S2048x1024 := fun y => ∑ k : Fin 2816, ent (s := S2048x2816) (V c main_v5) (ix2 (y 0) k) * ent (s := S2816x1024) (V c main_v0) (ix2 k (y 1))
/-- Where an entry of the output block lies in the array. -/
theorem emb0_4 (t : Fin cfg0.N) (y : ((cfg0.win 4).xblock (cfg0.grid.coords t)).Idx) :
    (((cfg0.win 4).blk t).view.emb y : S2048x1024.Idx) = ix2 ⟨t.val * 512 + (y 0).val, by have := lt0 t; have : (y 0).val < 512 := (y 0).isLt; omega⟩ (y 1 : Fin 1024) := by
  have ht := lt0 t
  have y0 : (y 0).val < 512 := (y 0).isLt
  have y1 : (y 1).val < 1024 := (y 1).isLt
  blk_ext [idx0 t]
/-- An entry of the output block, from the arrays' entries. -/
theorem tile0_4 (t : Fin cfg0.N) (a : Fin 512) (b : Fin 1024) :
    downY (blk0 V c 0 t) (blk0 V c 1 t) (ix2 a b) = left0_4 V c (ix2 ⟨t.val * 512 + a.val, by have := lt0 t; omega⟩ b) :=
  (downY_val _ _ a b).trans (Finset.sum_congr rfl fun k _ => congrArg₂ (fun x y : EReal => x * y) (blk0_0 V c t a k) (blk0_1 V c t k b))
/-- What pipeline 0 leaves in array 4, whole. -/
theorem final0_4 : (dat0 V c).arrAt 4 cfg0.N = left0_4 V c := by
  refine (dat0 V c).arrAt_eq_of_covers 4 _ (by decide +kernel) fun t hf y => ?_
  refine Eq.trans ?_ (congrArg (left0_4 V c) (emb0_4 t y)).symm
  blk_simp [idx0 t]
  rw [after0_4]
  refine (congrArg _ (eq_ix2 y)).trans ?_
  exact tile0_4 V c t (y 0) (y 1)
/-- The residual with the down product added. -/
def left0_5 : Tab S2048x1024 := fun y => ent (s := S2048x1024) (V c main_arg2) (ix2 (y 0) (y 1)) + Ideal.ofBits .f32 0x3F000000#32 * ent (s := S1x1024) (V c main_arg3) (ix2 0 (y 1))
    * ∑ k : Fin 2816, ent (s := S2048x2816) (V c main_v5) (ix2 (y 0) k) * ent (s := S2816x1024) (V c main_v0) (ix2 k (y 1))
/-- Where an entry of the output block lies in the array. -/
theorem emb0_5 (t : Fin cfg0.N) (y : ((cfg0.win 5).xblock (cfg0.grid.coords t)).Idx) :
    (((cfg0.win 5).blk t).view.emb y : S2048x1024.Idx) = ix2 ⟨t.val * 512 + (y 0).val, by have := lt0 t; have : (y 0).val < 512 := (y 0).isLt; omega⟩ (y 1 : Fin 1024) := by
  have ht := lt0 t
  have y0 : (y 0).val < 512 := (y 0).isLt
  have y1 : (y 1).val < 1024 := (y 1).isLt
  blk_ext [idx0 t]
/-- An entry of the output block, from the arrays' entries. -/
theorem tile0_5 (t : Fin cfg0.N) (a : Fin 512) (b : Fin 1024) :
    downR (blk0 V c 0 t) (blk0 V c 1 t) (blk0 V c 2 t) (blk0 V c 3 t) (ix2 a b) = left0_5 V c (ix2 ⟨t.val * 512 + a.val, by have := lt0 t; omega⟩ b) :=
  (downR_val _ _ _ _ a b).trans (congrArg₂ (fun x y : EReal => x + y) (blk0_2 V c t a b)
    (congrArg₂ (fun x y : EReal => x * y) (congrArg (fun x : EReal => Ideal.ofBits .f32 0x3F000000#32 * x) (blk0_3 V c t 0 b)) (Finset.sum_congr rfl fun k _ => congrArg₂ (fun x y : EReal => x * y) (blk0_0 V c t a k) (blk0_1 V c t k b))))
/-- What pipeline 0 leaves in array 5, whole. -/
theorem final0_5 : (dat0 V c).arrAt 5 cfg0.N = left0_5 V c := by
  refine (dat0 V c).arrAt_eq_of_covers 5 _ (by decide +kernel) fun t hf y => ?_
  refine Eq.trans ?_ (congrArg (left0_5 V c) (emb0_5 t y)).symm
  blk_simp [idx0 t]
  rw [after0_5]
  refine (congrArg _ (eq_ix2 y)).trans ?_
  exact tile0_5 V c t (y 0) (y 1)

/-! ## The output projection -/

/-- An entry of the block of array 0, in the array. -/
theorem blk1_0 (t : Fin cfg1.N) (a : Fin 512) (d : Fin 1024) :
    blk1 V c 0 t (ix2 a d) = ent (s := S2048x1024) (V c main_v6) (ix2 ⟨t.val * 512 + a.val, by have := lt1 t; omega⟩ d) := by
  have ht := lt1 t
  blk_ext [blk1, idx1 t]
/-- An entry of the block of array 1, in the array. -/
theorem blk1_1 (t : Fin cfg1.N) (a : Fin 1024) (d : Fin 1024) :
    blk1 V c 1 t (ix2 a d) = ent (s := S1024x1024) (V c main_v1) (ix2 a d) := by
  have ht := lt1 t
  blk_ext [blk1, idx1 t]
/-- An entry of the block of array 2, in the array. -/
theorem blk1_2 (t : Fin cfg1.N) (a : Fin 512) (d : Fin 1024) :
    blk1 V c 2 t (ix2 a d) = ent (s := S2048x1024) (V c main_arg6) (ix2 ⟨t.val * 512 + a.val, by have := lt1 t; omega⟩ d) := by
  have ht := lt1 t
  blk_ext [blk1, idx1 t]
/-- An entry of the block of array 3, in the array. -/
theorem blk1_3 (t : Fin cfg1.N) (a : Fin 1) (d : Fin 1024) :
    blk1 V c 3 t (ix2 a d) = ent (s := S1x1024) (V c main_arg7) (ix2 a d) := by
  have ht := lt1 t
  blk_ext [blk1, idx1 t]
/-- What the pipeline leaves of the output projection. -/
def left1_4 : Tab S2048x1024 := fun y => ∑ k : Fin 1024, ent (s := S2048x1024) (V c main_v6) (ix2 (y 0) k) * ent (s := S1024x1024) (V c main_v1) (ix2 k (y 1))
/-- Where an entry of the output block lies in the array. -/
theorem emb1_4 (t : Fin cfg1.N) (y : ((cfg1.win 4).xblock (cfg1.grid.coords t)).Idx) :
    (((cfg1.win 4).blk t).view.emb y : S2048x1024.Idx) = ix2 ⟨t.val * 512 + (y 0).val, by have := lt1 t; have : (y 0).val < 512 := (y 0).isLt; omega⟩ (y 1 : Fin 1024) := by
  have ht := lt1 t
  have y0 : (y 0).val < 512 := (y 0).isLt
  have y1 : (y 1).val < 1024 := (y 1).isLt
  blk_ext [idx1 t]
/-- An entry of the output block, from the arrays' entries. -/
theorem tile1_4 (t : Fin cfg1.N) (a : Fin 512) (b : Fin 1024) :
    outY (blk1 V c 0 t) (blk1 V c 1 t) (ix2 a b) = left1_4 V c (ix2 ⟨t.val * 512 + a.val, by have := lt1 t; omega⟩ b) :=
  (outY_val _ _ a b).trans (Finset.sum_congr rfl fun k _ => congrArg₂ (fun x y : EReal => x * y) (blk1_0 V c t a k) (blk1_1 V c t k b))
/-- What pipeline 1 leaves in array 4, whole. -/
theorem final1_4 : (dat1 V c).arrAt 4 cfg1.N = left1_4 V c := by
  refine (dat1 V c).arrAt_eq_of_covers 4 _ (by decide +kernel) fun t hf y => ?_
  refine Eq.trans ?_ (congrArg (left1_4 V c) (emb1_4 t y)).symm
  blk_simp [idx1 t]
  rw [after1_4]
  refine (congrArg _ (eq_ix2 y)).trans ?_
  exact tile1_4 V c t (y 0) (y 1)
/-- The residual with the output projection added. -/
def left1_5 : Tab S2048x1024 := fun y => ent (s := S2048x1024) (V c main_arg6) (ix2 (y 0) (y 1)) + ent (s := S1x1024) (V c main_arg7) (ix2 0 (y 1))
    * ∑ k : Fin 1024, ent (s := S2048x1024) (V c main_v6) (ix2 (y 0) k) * ent (s := S1024x1024) (V c main_v1) (ix2 k (y 1))
/-- Where an entry of the output block lies in the array. -/
theorem emb1_5 (t : Fin cfg1.N) (y : ((cfg1.win 5).xblock (cfg1.grid.coords t)).Idx) :
    (((cfg1.win 5).blk t).view.emb y : S2048x1024.Idx) = ix2 ⟨t.val * 512 + (y 0).val, by have := lt1 t; have : (y 0).val < 512 := (y 0).isLt; omega⟩ (y 1 : Fin 1024) := by
  have ht := lt1 t
  have y0 : (y 0).val < 512 := (y 0).isLt
  have y1 : (y 1).val < 1024 := (y 1).isLt
  blk_ext [idx1 t]
/-- An entry of the output block, from the arrays' entries. -/
theorem tile1_5 (t : Fin cfg1.N) (a : Fin 512) (b : Fin 1024) :
    outR (blk1 V c 0 t) (blk1 V c 1 t) (blk1 V c 2 t) (blk1 V c 3 t) (ix2 a b) = left1_5 V c (ix2 ⟨t.val * 512 + a.val, by have := lt1 t; omega⟩ b) :=
  (outR_val _ _ _ _ a b).trans (congrArg₂ (fun x y : EReal => x + y) (blk1_2 V c t a b)
    (congrArg₂ (fun x y : EReal => x * y) (blk1_3 V c t 0 b) (Finset.sum_congr rfl fun k _ => congrArg₂ (fun x y : EReal => x * y) (blk1_0 V c t a k) (blk1_1 V c t k b))))
/-- What pipeline 1 leaves in array 5, whole. -/
theorem final1_5 : (dat1 V c).arrAt 5 cfg1.N = left1_5 V c := by
  refine (dat1 V c).arrAt_eq_of_covers 5 _ (by decide +kernel) fun t hf y => ?_
  refine Eq.trans ?_ (congrArg (left1_5 V c) (emb1_5 t y)).symm
  blk_simp [idx1 t]
  rw [after1_5]
  refine (congrArg _ (eq_ix2 y)).trans ?_
  exact tile1_5 V c t (y 0) (y 1)

/-! ## The output projection's weight gradient -/

/-- An entry of the block of array 0, in the array. -/
theorem blk2_0 (t : Fin cfg2.N) (a : Fin 2048) (d : Fin 512) :
    blk2 V c 0 t (ix2 a d) = ent (s := S2048x1024) (V c main_v6) (ix2 a ⟨t.val * 512 + d.val, by have := lt2 t; omega⟩) := by
  have ht := lt2 t
  blk_ext [blk2, idx2 t]
/-- An entry of the block of array 1, in the array. -/
theorem blk2_1 (t : Fin cfg2.N) (a : Fin 2048) (d : Fin 1024) :
    blk2 V c 1 t (ix2 a d) = ent (s := S2048x1024) (V c main_v7) (ix2 a d) := by
  have ht := lt2 t
  blk_ext [blk2, idx2 t]
/-- What the pipeline leaves of the output projection's weight gradient. -/
def left2_2 : Tab S1024x1024 := fun y => ∑ k : Fin 2048, ent (s := S2048x1024) (V c main_v6) (ix2 k (y 0)) * ent (s := S2048x1024) (V c main_v7) (ix2 k (y 1))
/-- Where an entry of the output block lies in the array. -/
theorem emb2_2 (t : Fin cfg2.N) (y : ((cfg2.win 2).xblock (cfg2.grid.coords t)).Idx) :
    (((cfg2.win 2).blk t).view.emb y : S1024x1024.Idx) = ix2 ⟨t.val * 512 + (y 0).val, by have := lt2 t; have : (y 0).val < 512 := (y 0).isLt; omega⟩ (y 1 : Fin 1024) := by
  have ht := lt2 t
  have y0 : (y 0).val < 512 := (y 0).isLt
  have y1 : (y 1).val < 1024 := (y 1).isLt
  blk_ext [idx2 t]
/-- An entry of the output block, from the arrays' entries. -/
theorem tile2_2 (t : Fin cfg2.N) (a : Fin 512) (b : Fin 1024) :
    outWY (blk2 V c 0 t) (blk2 V c 1 t) (ix2 a b) = left2_2 V c (ix2 ⟨t.val * 512 + a.val, by have := lt2 t; omega⟩ b) :=
  (outWY_val _ _ a b).trans (Finset.sum_congr rfl fun k _ => congrArg₂ (fun x y : EReal => x * y) (blk2_0 V c t k a) (blk2_1 V c t k b))
/-- What pipeline 2 leaves in array 2, whole. -/
theorem final2_2 : (dat2 V c).arrAt 2 cfg2.N = left2_2 V c := by
  refine (dat2 V c).arrAt_eq_of_covers 2 _ (by decide +kernel) fun t hf y => ?_
  refine Eq.trans ?_ (congrArg (left2_2 V c) (emb2_2 t y)).symm
  blk_simp [idx2 t]
  rw [after2_2]
  refine (congrArg _ (eq_ix2 y)).trans ?_
  exact tile2_2 V c t (y 0) (y 1)

/-! ## The output projection's input gradient -/

/-- An entry of the block of array 0, in the array. -/
theorem blk3_0 (t : Fin cfg3.N) (a : Fin 1024) (d : Fin 1024) :
    blk3 V c 0 t (ix2 a d) = ent (s := S2048x1024) (V c main_v7) (ix2 ⟨t.val * 1024 + a.val, by have := lt3 t; omega⟩ d) := by
  have ht := lt3 t
  blk_ext [blk3, idx3 t]
/-- An entry of the block of array 1, in the array. -/
theorem blk3_1 (t : Fin cfg3.N) (a : Fin 1024) (d : Fin 1024) :
    blk3 V c 1 t (ix2 a d) = ent (s := S1024x1024) (V c main_v1) (ix2 a d) := by
  have ht := lt3 t
  blk_ext [blk3, idx3 t]
/-- What the pipeline leaves of the output projection's input gradient. -/
def left3_2 : Tab S2048x1024 := fun y => ∑ k : Fin 1024, ent (s := S2048x1024) (V c main_v7) (ix2 (y 0) k) * ent (s := S1024x1024) (V c main_v1) (ix2 (y 1) k)
/-- Where an entry of the output block lies in the array. -/
theorem emb3_2 (t : Fin cfg3.N) (y : ((cfg3.win 2).xblock (cfg3.grid.coords t)).Idx) :
    (((cfg3.win 2).blk t).view.emb y : S2048x1024.Idx) = ix2 ⟨t.val * 1024 + (y 0).val, by have := lt3 t; have : (y 0).val < 1024 := (y 0).isLt; omega⟩ (y 1 : Fin 1024) := by
  have ht := lt3 t
  have y0 : (y 0).val < 1024 := (y 0).isLt
  have y1 : (y 1).val < 1024 := (y 1).isLt
  blk_ext [idx3 t]
/-- An entry of the output block, from the arrays' entries. -/
theorem tile3_2 (t : Fin cfg3.N) (a : Fin 1024) (b : Fin 1024) :
    outXY (blk3 V c 0 t) (blk3 V c 1 t) (ix2 a b) = left3_2 V c (ix2 ⟨t.val * 1024 + a.val, by have := lt3 t; omega⟩ b) :=
  (outXY_val _ _ a b).trans (Finset.sum_congr rfl fun k _ => congrArg₂ (fun x y : EReal => x * y) (blk3_0 V c t a k) (blk3_1 V c t b k))
/-- What pipeline 3 leaves in array 2, whole. -/
theorem final3_2 : (dat3 V c).arrAt 2 cfg3.N = left3_2 V c := by
  refine (dat3 V c).arrAt_eq_of_covers 2 _ (by decide +kernel) fun t hf y => ?_
  refine Eq.trans ?_ (congrArg (left3_2 V c) (emb3_2 t y)).symm
  blk_simp [idx3 t]
  rw [after3_2]
  refine (congrArg _ (eq_ix2 y)).trans ?_
  exact tile3_2 V c t (y 0) (y 1)

/-! ## The input projection's weight gradient -/

/-- An entry of the block of array 0, in the array. -/
theorem blk4_0 (t : Fin cfg4.N) (a : Fin 2048) (d : Fin 256) :
    blk4 V c 0 t (ix2 a d) = ent (s := S2048x1280) (V c main_v9) (ix2 a ⟨t.val * 256 + d.val, by have := lt4 t; omega⟩) := by
  have ht := lt4 t
  blk_ext [blk4, idx4 t]
/-- An entry of the block of array 1, in the array. -/
theorem blk4_1 (t : Fin cfg4.N) (a : Fin 2048) (d : Fin 1024) :
    blk4 V c 1 t (ix2 a d) = ent (s := S2048x1024) (V c main_v8) (ix2 a d) := by
  have ht := lt4 t
  blk_ext [blk4, idx4 t]
/-- What the pipeline leaves of the input projection's weight gradient. -/
def left4_2 : Tab S1280x1024 := fun y => ∑ k : Fin 2048, ent (s := S2048x1280) (V c main_v9) (ix2 k (y 0)) * ent (s := S2048x1024) (V c main_v8) (ix2 k (y 1))
/-- Where an entry of the output block lies in the array. -/
theorem emb4_2 (t : Fin cfg4.N) (y : ((cfg4.win 2).xblock (cfg4.grid.coords t)).Idx) :
    (((cfg4.win 2).blk t).view.emb y : S1280x1024.Idx) = ix2 ⟨t.val * 256 + (y 0).val, by have := lt4 t; have : (y 0).val < 256 := (y 0).isLt; omega⟩ (y 1 : Fin 1024) := by
  have ht := lt4 t
  have y0 : (y 0).val < 256 := (y 0).isLt
  have y1 : (y 1).val < 1024 := (y 1).isLt
  blk_ext [idx4 t]
/-- An entry of the output block, from the arrays' entries. -/
theorem tile4_2 (t : Fin cfg4.N) (a : Fin 256) (b : Fin 1024) :
    inWY (blk4 V c 0 t) (blk4 V c 1 t) (ix2 a b) = left4_2 V c (ix2 ⟨t.val * 256 + a.val, by have := lt4 t; omega⟩ b) :=
  (inWY_val _ _ a b).trans (Finset.sum_congr rfl fun k _ => congrArg₂ (fun x y : EReal => x * y) (blk4_0 V c t k a) (blk4_1 V c t k b))
/-- What pipeline 4 leaves in array 2, whole. -/
theorem final4_2 : (dat4 V c).arrAt 2 cfg4.N = left4_2 V c := by
  refine (dat4 V c).arrAt_eq_of_covers 2 _ (by decide +kernel) fun t hf y => ?_
  refine Eq.trans ?_ (congrArg (left4_2 V c) (emb4_2 t y)).symm
  blk_simp [idx4 t]
  rw [after4_2]
  refine (congrArg _ (eq_ix2 y)).trans ?_
  exact tile4_2 V c t (y 0) (y 1)

/-! ## The input projection's input gradient -/

/-- An entry of the block of array 0, in the array. -/
theorem blk5_0 (t : Fin cfg5.N) (a : Fin 1024) (d : Fin 1280) :
    blk5 V c 0 t (ix2 a d) = ent (s := S2048x1280) (V c main_v9) (ix2 ⟨t.val * 1024 + a.val, by have := lt5 t; omega⟩ d) := by
  have ht := lt5 t
  blk_ext [blk5, idx5 t]
/-- An entry of the block of array 1, in the array. -/
theorem blk5_1 (t : Fin cfg5.N) (a : Fin 1280) (d : Fin 1024) :
    blk5 V c 1 t (ix2 a d) = ent (s := S1280x1024) (V c main_v4) (ix2 a d) := by
  have ht := lt5 t
  blk_ext [blk5, idx5 t]
/-- What the pipeline leaves of the input projection's input gradient. -/
def left5_2 : Tab S2048x1024 := fun y => ∑ k : Fin 1280, ent (s := S2048x1280) (V c main_v9) (ix2 (y 0) k) * ent (s := S1280x1024) (V c main_v4) (ix2 k (y 1))
/-- Where an entry of the output block lies in the array. -/
theorem emb5_2 (t : Fin cfg5.N) (y : ((cfg5.win 2).xblock (cfg5.grid.coords t)).Idx) :
    (((cfg5.win 2).blk t).view.emb y : S2048x1024.Idx) = ix2 ⟨t.val * 1024 + (y 0).val, by have := lt5 t; have : (y 0).val < 1024 := (y 0).isLt; omega⟩ (y 1 : Fin 1024) := by
  have ht := lt5 t
  have y0 : (y 0).val < 1024 := (y 0).isLt
  have y1 : (y 1).val < 1024 := (y 1).isLt
  blk_ext [idx5 t]
/-- An entry of the output block, from the arrays' entries. -/
theorem tile5_2 (t : Fin cfg5.N) (a : Fin 1024) (b : Fin 1024) :
    inXY (blk5 V c 0 t) (blk5 V c 1 t) (ix2 a b) = left5_2 V c (ix2 ⟨t.val * 1024 + a.val, by have := lt5 t; omega⟩ b) :=
  (inXY_val _ _ a b).trans (Finset.sum_congr rfl fun k _ => congrArg₂ (fun x y : EReal => x * y) (blk5_0 V c t a k) (blk5_1 V c t k b))
/-- What pipeline 5 leaves in array 2, whole. -/
theorem final5_2 : (dat5 V c).arrAt 2 cfg5.N = left5_2 V c := by
  refine (dat5 V c).arrAt_eq_of_covers 2 _ (by decide +kernel) fun t hf y => ?_
  refine Eq.trans ?_ (congrArg (left5_2 V c) (emb5_2 t y)).symm
  blk_simp [idx5 t]
  rw [after5_2]
  refine (congrArg _ (eq_ix2 y)).trans ?_
  exact tile5_2 V c t (y 0) (y 1)

end Cert.Kernel3Ideal.Prod

end
-- ==== Proof.ProdFinal.lean ====
module

public import proofs.«01_k».proof.Proof.ProdRun
public import proofs.«01_k».proof.Proof.ProdValue
public import Idealize.ShloMosaic.Lib.KernelVsHost

@[expose] public section

noncomputable section

namespace Cert.Kernel3Ideal.Prod

open Idealize.ShloMosaic Idealize.ShloMosaic.TcCoe Idealize.ShloMosaic.Tactic Idealize.ShloMosaic.StableHlo Idealize.SL.Sem
open Cert.Kernel3Ideal Cert.Kernel3Ideal.Gen

/-! # What the program leaves, in terms of its arguments -/

section
variable (m : (ℓ : Loc nD τ sig) → Buf (Elt Ideal) ℓ) (ρ : Dev nD → PrngReg) (c : Dev nD)

/-- The entries of the argument arrays. -/
abbrev A0 : Tab S2048x2816 := m ((c : Thread nD τ).loc main_arg0)
/-- The down weights. -/
abbrev A1 : Tab S2816x1024 := m ((c : Thread nD τ).loc main_arg1)
/-- The residual of the down product. -/
abbrev A2 : Tab S2048x1024 := m ((c : Thread nD τ).loc main_arg2)
/-- Its gate row. -/
abbrev A3 : Tab S1x1024 := m ((c : Thread nD τ).loc main_arg3)
/-- The mixer's two groups. -/
abbrev A4 : Tab S2048x1024 := m ((c : Thread nD τ).loc main_arg4)
/-- The output weights. -/
abbrev A5 : Tab S1024x1024 := m ((c : Thread nD τ).loc main_arg5)
/-- The mixer's residual. -/
abbrev A6 : Tab S2048x1024 := m ((c : Thread nD τ).loc main_arg6)
/-- Its gate row. -/
abbrev A7 : Tab S1x1024 := m ((c : Thread nD τ).loc main_arg7)
/-- The output product's cotangent. -/
abbrev A8 : Tab S2048x1024 := m ((c : Thread nD τ).loc main_arg8)
/-- The mixer's normalized rows. -/
abbrev A9 : Tab S2048x1024 := m ((c : Thread nD τ).loc main_arg9)
/-- The input weights. -/
abbrev A10 : Tab S1024x1216 := m ((c : Thread nD τ).loc main_arg10)
/-- The input product's cotangent. -/
abbrev A11 : Tab S2048x1280 := m ((c : Thread nD τ).loc main_arg11)

/-! ## The host's narrowed arrays are the arguments -/

/-- After the host lines: the down weights. -/
theorem B3_v0 : (B3 m ρ c (Proc.devRef .tc main_v0) : Tab S2816x1024) = A1 m c := by
  refine ((B3_of m ρ c main_v0 (by decide +kernel)).trans (B2_of m ρ c main_v0 (by decide +kernel))).trans ?_
  unfold B1
  after_results_simp <;> rfl
/-- After the host lines: the output weights. -/
theorem B3_v1 : (B3 m ρ c (Proc.devRef .tc main_v1) : Tab S1024x1024) = A5 m c := by
  refine ((B3_of m ρ c main_v1 (by decide +kernel)).trans (B2_of m ρ c main_v1 (by decide +kernel))).trans ?_
  unfold B1
  after_results_simp <;> rfl
/-- After the host lines: the gated product. -/
theorem B3_v5 : (B3 m ρ c (Proc.devRef .tc main_v5) : Tab S2048x2816) = A0 m c := by
  refine Eq.trans (b := (B2 m ρ c (Proc.devRef .tc main_arg0) : Tab S2048x2816)) ?_ (B2_args m ρ c main_arg0 (by decide))
  unfold B3
  after_results_simp <;> rfl
/-- After the host lines: the two groups. -/
theorem B3_v6 : (B3 m ρ c (Proc.devRef .tc main_v6) : Tab S2048x1024) = A4 m c := by
  refine Eq.trans (b := (B2 m ρ c (Proc.devRef .tc main_arg4) : Tab S2048x1024)) ?_ (B2_args m ρ c main_arg4 (by decide))
  unfold B3
  after_results_simp <;> rfl
/-- After the host lines: the output product's cotangent. -/
theorem B3_v7 : (B3 m ρ c (Proc.devRef .tc main_v7) : Tab S2048x1024) = A8 m c := by
  refine Eq.trans (b := (B2 m ρ c (Proc.devRef .tc main_arg8) : Tab S2048x1024)) ?_ (B2_args m ρ c main_arg8 (by decide))
  unfold B3
  after_results_simp <;> rfl
/-- After the host lines: the normalized rows. -/
theorem B3_v8 : (B3 m ρ c (Proc.devRef .tc main_v8) : Tab S2048x1024) = A9 m c := by
  refine Eq.trans (b := (B2 m ρ c (Proc.devRef .tc main_arg9) : Tab S2048x1024)) ?_ (B2_args m ρ c main_arg9 (by decide))
  unfold B3
  after_results_simp <;> rfl
/-- After the host lines: the input product's cotangent. -/
theorem B3_v9 : (B3 m ρ c (Proc.devRef .tc main_v9) : Tab S2048x1280) = A11 m c := by
  refine Eq.trans (b := (B2 m ρ c (Proc.devRef .tc main_arg11) : Tab S2048x1280)) ?_ (B2_args m ρ c main_arg11 (by decide))
  unfold B3
  after_results_simp <;> rfl

/-! ## The padded input weights: their transpose, and zero in the added rows -/

/-- The transposed, narrowed input weights. -/
abbrev wT : FVec Ideal S1216x1024 .bf16 :=
  transpose S1216x1024 [1, 0] (truncf (F := Ideal) .bf16 (m ((c : Thread nD τ).loc main_arg10) : FVec Ideal S1024x1216 .f32) bitsLt_bf16_f32)
    transposes_S1024x1216_S1216x1024_1_0
/-- Its entries. -/
theorem wT_at (k : Fin 1216) (b : Fin 1024) : wT m c (ix2 k b) = A10 m c (ix2 b k) := by
  pointwise [wT]
/-- After the first host lines: the transposed input weights. -/
theorem B1_v3 : (B1 m ρ c (Proc.devRef .tc main_v3) : FVec Ideal S1216x1024 .bf16) = wT m c := by
  unfold B1
  after_results_simp <;> rfl
/-- After the first host lines: the padding constant. -/
theorem B1_c : (B1 m ρ c (Proc.devRef .tc main_c) : IVec S_ 32) = constantI S_ 32 0#32 := by
  unfold B1
  after_results_simp <;> rfl
/-- After the host lines: the transposed weights, padded. -/
theorem B3_v4 : (B3 m ρ c (Proc.devRef .tc main_v4) : FVec Ideal S1280x1024 .bf16)
    = pad S1280x1024 ![0, 0] ![64, 0] ![0, 0] (wT m c) (sitofp (F := Ideal) .bf16 (constantI S_ 32 0#32))
      pads_S1216x1024_S1280x1024_0640_000 h_S_ := by
  refine (B3_of m ρ c main_v4 (by decide +kernel)).trans ?_
  rw [← B1_v3 m ρ c, ← B1_c m ρ c]
  unfold B2
  after_results_simp <;> rfl
/-- Its first 1216 rows are the weights, transposed. -/
theorem B3_v4_in (k : Fin 1216) (b : Fin 1024) :
    (B3 m ρ c (Proc.devRef .tc main_v4) : Tab S1280x1024) (ix2 (Fin.castAdd 64 k : Fin 1280) b) = A10 m c (ix2 b k) := by
  refine (congrFun (B3_v4 m ρ c) _).trans (Eq.trans ?_ (wT_at m c k b))
  refine pad_apply_of_inside _ _ _ _ _ _ _ _ (ix2 k b) fun a => ?_
  match a with
  | ⟨0, _⟩ => show k.val = 0 + k.val * 1; omega
  | ⟨1, _⟩ => show b.val = 0 + b.val * 1; omega
/-- Its last 64 rows are zero. -/
theorem B3_v4_out (k : Fin 64) (b : Fin 1024) :
    (B3 m ρ c (Proc.devRef .tc main_v4) : Tab S1280x1024) (ix2 (Fin.natAdd 1216 k : Fin 1280) b) = (0 : EReal) := by
  refine (congrFun (B3_v4 m ρ c) _).trans ?_
  refine (pad_apply_of_not_inside _ _ _ _ _ _ _ _ 0 fun h => ?_).trans ?_
  · have h' : (1216 + k.val - 0) / 1 < 1216 := h.2.2
    omega
  · show ((((0#32 : BitVec 32).toInt : ℝ)) : EReal) = 0
    simp

/-! ## The arrays at each later pipeline are those the host left -/

/-- The two groups, before pipeline 1. -/
theorem B4_v6 : B4 m ρ c (Proc.devRef .tc main_v6) = B3 m ρ c (Proc.devRef .tc main_v6) := (B4_of m ρ c main_v6 (by decide +kernel))
/-- The output weights, before pipeline 1. -/
theorem B4_v1 : B4 m ρ c (Proc.devRef .tc main_v1) = B3 m ρ c (Proc.devRef .tc main_v1) := (B4_of m ρ c main_v1 (by decide +kernel))
/-- The two groups, before pipeline 2. -/
theorem B5_v6 : B5 m ρ c (Proc.devRef .tc main_v6) = B3 m ρ c (Proc.devRef .tc main_v6) := ((B5_of m ρ c main_v6 (by decide +kernel)).trans (B4_of m ρ c main_v6 (by decide +kernel)))
/-- The output product's cotangent, before pipeline 2. -/
theorem B5_v7 : B5 m ρ c (Proc.devRef .tc main_v7) = B3 m ρ c (Proc.devRef .tc main_v7) := ((B5_of m ρ c main_v7 (by decide +kernel)).trans (B4_of m ρ c main_v7 (by decide +kernel)))
/-- The output product's cotangent, before pipeline 3. -/
theorem B6_v7 : B6 m ρ c (Proc.devRef .tc main_v7) = B3 m ρ c (Proc.devRef .tc main_v7) := (((B6_of m ρ c main_v7 (by decide +kernel)).trans (B5_of m ρ c main_v7 (by decide +kernel))).trans (B4_of m ρ c main_v7 (by decide +kernel)))
/-- The output weights, before pipeline 3. -/
theorem B6_v1 : B6 m ρ c (Proc.devRef .tc main_v1) = B3 m ρ c (Proc.devRef .tc main_v1) := (((B6_of m ρ c main_v1 (by decide +kernel)).trans (B5_of m ρ c main_v1 (by decide +kernel))).trans (B4_of m ρ c main_v1 (by decide +kernel)))
/-- The input product's cotangent, before pipeline 4. -/
theorem B7_v9 : B7 m ρ c (Proc.devRef .tc main_v9) = B3 m ρ c (Proc.devRef .tc main_v9) := ((((B7_of m ρ c main_v9 (by decide +kernel)).trans (B6_of m ρ c main_v9 (by decide +kernel))).trans (B5_of m ρ c main_v9 (by decide +kernel))).trans (B4_of m ρ c main_v9 (by decide +kernel)))
/-- The normalized rows, before pipeline 4. -/
theorem B7_v8 : B7 m ρ c (Proc.devRef .tc main_v8) = B3 m ρ c (Proc.devRef .tc main_v8) := ((((B7_of m ρ c main_v8 (by decide +kernel)).trans (B6_of m ρ c main_v8 (by decide +kernel))).trans (B5_of m ρ c main_v8 (by decide +kernel))).trans (B4_of m ρ c main_v8 (by decide +kernel)))
/-- The input product's cotangent, before pipeline 5. -/
theorem B8_v9 : B8 m ρ c (Proc.devRef .tc main_v9) = B3 m ρ c (Proc.devRef .tc main_v9) := (((((B8_of m ρ c main_v9 (by decide +kernel)).trans (B7_of m ρ c main_v9 (by decide +kernel))).trans (B6_of m ρ c main_v9 (by decide +kernel))).trans (B5_of m ρ c main_v9 (by decide +kernel))).trans (B4_of m ρ c main_v9 (by decide +kernel)))
/-- The padded input weights, before pipeline 5. -/
theorem B8_v4 : B8 m ρ c (Proc.devRef .tc main_v4) = B3 m ρ c (Proc.devRef .tc main_v4) := (((((B8_of m ρ c main_v4 (by decide +kernel)).trans (B7_of m ρ c main_v4 (by decide +kernel))).trans (B6_of m ρ c main_v4 (by decide +kernel))).trans (B5_of m ρ c main_v4 (by decide +kernel))).trans (B4_of m ρ c main_v4 (by decide +kernel)))

/-! ## The results -/

/-- At the end: the down product, as its pipeline left it. -/
theorem end_v10_0 : (B10 m ρ c (Proc.devRef .tc main_v10_0) : Tab S2048x1024) = left0_4 (U3 m ρ) c :=
  (B10_of m ρ c main_v10_0 (by decide +kernel)).trans ((B9_of m ρ c main_v10_0 (by decide +kernel)).trans ((B8_of m ρ c main_v10_0 (by decide +kernel)).trans ((B7_of m ρ c main_v10_0 (by decide +kernel)).trans ((B6_of m ρ c main_v10_0 (by decide +kernel)).trans ((B5_of m ρ c main_v10_0 (by decide +kernel)).trans ((B4_arr m ρ c 4).trans (final0_4 (U3 m ρ) c)))))))
/-- At the end: the down product, from the arguments. -/
theorem out_v10_0 (a : Fin 2048) (b : Fin 1024) : ent (s := S2048x1024) (B10 m ρ c (Proc.devRef .tc main_v10_0)) (ix2 a b)
    = (∑ k : Fin 2816, A0 m c (ix2 a k) * A1 m c (ix2 k b) : EReal) :=
  Eq.trans (α := EReal) (congrFun (end_v10_0 m ρ c) (ix2 a b)) (Finset.sum_congr rfl fun k _ => congrArg₂ (fun x y : EReal => x * y) (congrFun (B3_v5 m ρ c) (ix2 a k)) (congrFun (B3_v0 m ρ c) (ix2 k b)))
/-- At the end: the residual with half the gated down product, as its pipeline left it. -/
theorem end_v10_1 : (B10 m ρ c (Proc.devRef .tc main_v10_1) : Tab S2048x1024) = left0_5 (U3 m ρ) c :=
  (B10_of m ρ c main_v10_1 (by decide +kernel)).trans ((B9_of m ρ c main_v10_1 (by decide +kernel)).trans ((B8_of m ρ c main_v10_1 (by decide +kernel)).trans ((B7_of m ρ c main_v10_1 (by decide +kernel)).trans ((B6_of m ρ c main_v10_1 (by decide +kernel)).trans ((B5_of m ρ c main_v10_1 (by decide +kernel)).trans ((B4_arr m ρ c 5).trans (final0_5 (U3 m ρ) c)))))))
/-- At the end: the residual with half the gated down product, from the arguments. -/
theorem out_v10_1 (a : Fin 2048) (b : Fin 1024) : ent (s := S2048x1024) (B10 m ρ c (Proc.devRef .tc main_v10_1)) (ix2 a b)
    = (A2 m c (ix2 a b) + Ideal.ofBits .f32 0x3F000000#32 * A3 m c (ix2 0 b) * ∑ k : Fin 2816, A0 m c (ix2 a k) * A1 m c (ix2 k b) : EReal) :=
  Eq.trans (α := EReal) (congrFun (end_v10_1 m ρ c) (ix2 a b)) (congrArg₂ (fun x y : EReal => x + y) (congrFun (B3_args m ρ c main_arg2 (by decide)) (ix2 a b))
    (congrArg₂ (fun x y : EReal => x * y) (congrArg (fun x : EReal => Ideal.ofBits .f32 0x3F000000#32 * x) (congrFun (B3_args m ρ c main_arg3 (by decide)) (ix2 0 b))) (Finset.sum_congr rfl fun k _ => congrArg₂ (fun x y : EReal => x * y) (congrFun (B3_v5 m ρ c) (ix2 a k)) (congrFun (B3_v0 m ρ c) (ix2 k b)))))
/-- At the end: the output product, as its pipeline left it. -/
theorem end_v11_0 : (B10 m ρ c (Proc.devRef .tc main_v11_0) : Tab S2048x1024) = left1_4 (U4 m ρ) c :=
  (B10_of m ρ c main_v11_0 (by decide +kernel)).trans ((B9_of m ρ c main_v11_0 (by decide +kernel)).trans ((B8_of m ρ c main_v11_0 (by decide +kernel)).trans ((B7_of m ρ c main_v11_0 (by decide +kernel)).trans ((B6_of m ρ c main_v11_0 (by decide +kernel)).trans ((B5_arr m ρ c 4).trans (final1_4 (U4 m ρ) c))))))
/-- At the end: the output product, from the arguments. -/
theorem out_v11_0 (a : Fin 2048) (b : Fin 1024) : ent (s := S2048x1024) (B10 m ρ c (Proc.devRef .tc main_v11_0)) (ix2 a b)
    = (∑ k : Fin 1024, A4 m c (ix2 a k) * A5 m c (ix2 k b) : EReal) :=
  Eq.trans (α := EReal) (congrFun (end_v11_0 m ρ c) (ix2 a b)) (Finset.sum_congr rfl fun k _ => congrArg₂ (fun x y : EReal => x * y) (congrFun ((B4_v6 m ρ c).trans (B3_v6 m ρ c)) (ix2 a k)) (congrFun ((B4_v1 m ρ c).trans (B3_v1 m ρ c)) (ix2 k b)))
/-- At the end: the residual with the gated output product, as its pipeline left it. -/
theorem end_v11_1 : (B10 m ρ c (Proc.devRef .tc main_v11_1) : Tab S2048x1024) = left1_5 (U4 m ρ) c :=
  (B10_of m ρ c main_v11_1 (by decide +kernel)).trans ((B9_of m ρ c main_v11_1 (by decide +kernel)).trans ((B8_of m ρ c main_v11_1 (by decide +kernel)).trans ((B7_of m ρ c main_v11_1 (by decide +kernel)).trans ((B6_of m ρ c main_v11_1 (by decide +kernel)).trans ((B5_arr m ρ c 5).trans (final1_5 (U4 m ρ) c))))))
/-- At the end: the residual with the gated output product, from the arguments. -/
theorem out_v11_1 (a : Fin 2048) (b : Fin 1024) : ent (s := S2048x1024) (B10 m ρ c (Proc.devRef .tc main_v11_1)) (ix2 a b)
    = (A6 m c (ix2 a b) + A7 m c (ix2 0 b) * ∑ k : Fin 1024, A4 m c (ix2 a k) * A5 m c (ix2 k b) : EReal) :=
  Eq.trans (α := EReal) (congrFun (end_v11_1 m ρ c) (ix2 a b)) (congrArg₂ (fun x y : EReal => x + y) (congrFun (B4_args m ρ c main_arg6 (by decide)) (ix2 a b))
    (congrArg₂ (fun x y : EReal => x * y) (congrFun (B4_args m ρ c main_arg7 (by decide)) (ix2 0 b)) (Finset.sum_congr rfl fun k _ => congrArg₂ (fun x y : EReal => x * y) (congrFun ((B4_v6 m ρ c).trans (B3_v6 m ρ c)) (ix2 a k)) (congrFun ((B4_v1 m ρ c).trans (B3_v1 m ρ c)) (ix2 k b)))))
/-- At the end: the output weights' gradient, as its pipeline left it. -/
theorem end_v12 : (B10 m ρ c (Proc.devRef .tc main_v12) : Tab S1024x1024) = left2_2 (U5 m ρ) c :=
  (B10_of m ρ c main_v12 (by decide +kernel)).trans ((B9_of m ρ c main_v12 (by decide +kernel)).trans ((B8_of m ρ c main_v12 (by decide +kernel)).trans ((B7_of m ρ c main_v12 (by decide +kernel)).trans ((B6_arr m ρ c 2).trans (final2_2 (U5 m ρ) c)))))
/-- At the end: the output weights' gradient, from the arguments. -/
theorem out_v12 (a : Fin 1024) (b : Fin 1024) : ent (s := S1024x1024) (B10 m ρ c (Proc.devRef .tc main_v12)) (ix2 a b)
    = (∑ k : Fin 2048, A4 m c (ix2 k a) * A8 m c (ix2 k b) : EReal) :=
  Eq.trans (α := EReal) (congrFun (end_v12 m ρ c) (ix2 a b)) (Finset.sum_congr rfl fun k _ => congrArg₂ (fun x y : EReal => x * y) (congrFun ((B5_v6 m ρ c).trans (B3_v6 m ρ c)) (ix2 k a)) (congrFun ((B5_v7 m ρ c).trans (B3_v7 m ρ c)) (ix2 k b)))
/-- At the end: the output product's input gradient, as its pipeline left it. -/
theorem end_v13 : (B10 m ρ c (Proc.devRef .tc main_v13) : Tab S2048x1024) = left3_2 (U6 m ρ) c :=
  (B10_of m ρ c main_v13 (by decide +kernel)).trans ((B9_of m ρ c main_v13 (by decide +kernel)).trans ((B8_of m ρ c main_v13 (by decide +kernel)).trans ((B7_arr m ρ c 2).trans (final3_2 (U6 m ρ) c))))
/-- At the end: the output product's input gradient, from the arguments. -/
theorem out_v13 (a : Fin 2048) (b : Fin 1024) : ent (s := S2048x1024) (B10 m ρ c (Proc.devRef .tc main_v13)) (ix2 a b)
    = (∑ k : Fin 1024, A8 m c (ix2 a k) * A5 m c (ix2 b k) : EReal) :=
  Eq.trans (α := EReal) (congrFun (end_v13 m ρ c) (ix2 a b)) (Finset.sum_congr rfl fun k _ => congrArg₂ (fun x y : EReal => x * y) (congrFun ((B6_v7 m ρ c).trans (B3_v7 m ρ c)) (ix2 a k)) (congrFun ((B6_v1 m ρ c).trans (B3_v1 m ρ c)) (ix2 b k)))
/-- At the end: the padded input weights' gradient, as its pipeline left it. -/
theorem end_v14 : (B9 m ρ c (Proc.devRef .tc main_v14) : Tab S1280x1024) = left4_2 (U7 m ρ) c :=
  (B9_of m ρ c main_v14 (by decide +kernel)).trans ((B8_arr m ρ c 2).trans (final4_2 (U7 m ρ) c))
/-- At the end: the padded input weights' gradient, from the arguments. -/
theorem out_v14 (a : Fin 1280) (b : Fin 1024) : ent (s := S1280x1024) (B9 m ρ c (Proc.devRef .tc main_v14)) (ix2 a b)
    = (∑ k : Fin 2048, A11 m c (ix2 k a) * A9 m c (ix2 k b) : EReal) :=
  Eq.trans (α := EReal) (congrFun (end_v14 m ρ c) (ix2 a b)) (Finset.sum_congr rfl fun k _ => congrArg₂ (fun x y : EReal => x * y) (congrFun ((B7_v9 m ρ c).trans (B3_v9 m ρ c)) (ix2 k a)) (congrFun ((B7_v8 m ρ c).trans (B3_v8 m ρ c)) (ix2 k b)))
/-- At the end: the input product's input gradient, as its pipeline left it. -/
theorem end_v15 : (B10 m ρ c (Proc.devRef .tc main_v15) : Tab S2048x1024) = left5_2 (U8 m ρ) c :=
  (B10_of m ρ c main_v15 (by decide +kernel)).trans ((B9_arr m ρ c 2).trans (final5_2 (U8 m ρ) c))
/-- Over the padded rows the sum adds nothing. -/
theorem out_v15 (a : Fin 2048) (b : Fin 1024) : ent (s := S2048x1024) (B10 m ρ c (Proc.devRef .tc main_v15)) (ix2 a b)
    = (∑ k : Fin 1216, A11 m c (ix2 a ⟨k.val, by omega⟩) * A10 m c (ix2 b k) : EReal) := by
  refine (congrFun (end_v15 m ρ c) (ix2 a b)).trans ?_
  refine Eq.trans (b := ∑ k : Fin (1216 + 64), A11 m c (ix2 a (k : Fin 1280)) * ent (s := S1280x1024) (B3 m ρ c (Proc.devRef .tc main_v4)) (ix2 (k : Fin 1280) b))
    (Finset.sum_congr rfl fun k _ => congrArg₂ (fun x y : EReal => x * y) (congrFun ((B8_v9 m ρ c).trans (B3_v9 m ρ c)) (ix2 a k))
      (congrFun (B8_v4 m ρ c) (ix2 k b))) ?_
  rw [Fin.sum_univ_add]
  refine Eq.trans (b := (∑ k : Fin 1216, A11 m c (ix2 a ⟨k.val, by omega⟩) * A10 m c (ix2 b k) : EReal) + 0) (congrArg₂ (fun x y : EReal => x + y)
    (Finset.sum_congr rfl fun k _ => congrArg (fun x : EReal => A11 m c (ix2 a ⟨k.val, by omega⟩) * x) (B3_v4_in m ρ c k b))
    (Finset.sum_eq_zero fun k _ => ?_)) (add_zero _)
  exact (congrArg (fun x : EReal => A11 m c (ix2 a (Fin.natAdd 1216 k : Fin 1280)) * x) (B3_v4_out m ρ c k b)).trans (mul_zero _)
/-- The last host line drops the padded rows. -/
theorem out_v16 (a : Fin 1216) (b : Fin 1024) : ent (s := S1216x1024) (B10 m ρ c (Proc.devRef .tc main_v16)) (ix2 a b)
    = (∑ k : Fin 2048, A11 m c (ix2 k ⟨a.val, by omega⟩) * A9 m c (ix2 k b) : EReal) := by
  have e : (B10 m ρ c (Proc.devRef .tc main_v16) : FVec Ideal S1216x1024 .bf16)
      = extractStridedSlice S1216x1024 ![0, 0] (B9 m ρ c (Proc.devRef .tc main_v14) : FVec Ideal S1280x1024 .bf16) slices_S1280x1024_S1216x1024_0_0 := by
    unfold B10
    after_results_simp <;> rfl
  refine (congrFun e (ix2 a b)).trans (Eq.trans ?_ (out_v14 m ρ c ⟨a.val, by omega⟩ b))
  generalize B9 m ρ c (Proc.devRef .tc main_v14) = g
  pointwise
  blk_ext
end

end Cert.Kernel3Ideal.Prod

end
-- ==== Proof.ProdRef.lean ====
module

public import proofs.«01_k».proof.Proof.Gen.Reference3Ideal.Run
public import Idealize.ShloMosaic.Lib.Pipeline.ValueKit
public import Idealize.ShloMosaic.Lib.Pointwise

@[expose] public section

noncomputable section

namespace Cert.Reference3Ideal.Prod

open Idealize.ShloMosaic Idealize.ShloMosaic.TcCoe Idealize.ShloMosaic.Tactic
open Cert.Reference3Ideal Cert.Reference3Ideal.Gen

/-! # The reference's products, entry by entry -/

/-- An array over the extended reals. -/
abbrev Arr (s : Shape) : Type := FVec Ideal s .f32

/-- The down product. -/
def mulDown (t : Arr S2048x2816) (w : Arr S2816x1024) : Arr S2048x1024 :=
  Host.dotGeneral dot_S2048x2816_S2816x1024_S2048x1024_1_0_0_1_n_n none t w
/-- Its entries. -/
theorem mulDown_at (t : Arr S2048x2816) (w : Arr S2816x1024) (a : Fin 2048) (b : Fin 1024) :
    mulDown t w (ix2 a b) = ∑ k : Fin 2816, t (ix2 a k) * w (ix2 k b) := by
  pointwise [mulDown]
/-- The output projection. -/
def mulOut (t : Arr S2048x1024) (w : Arr S1024x1024) : Arr S2048x1024 :=
  Host.dotGeneral dot_S2048x1024_S1024x1024_S2048x1024_1_0_0_1_n_n none t w
/-- Its entries. -/
theorem mulOut_at (t : Arr S2048x1024) (w : Arr S1024x1024) (a : Fin 2048) (b : Fin 1024) :
    mulOut t w (ix2 a b) = ∑ k : Fin 1024, t (ix2 a k) * w (ix2 k b) := by
  pointwise [mulOut]

/-- The down product, narrowed. -/
def res0 (t : Arr S2048x2816) (w : Arr S2816x1024) : FVec Ideal S2048x1024 .bf16 := truncf .bf16 (mulDown t w) bitsLt_bf16_f32
/-- Its entries. -/
theorem res0_at (t : Arr S2048x2816) (w : Arr S2816x1024) (a : Fin 2048) (b : Fin 1024) :
    res0 t w (ix2 a b) = ∑ k : Fin 2816, t (ix2 a k) * w (ix2 k b) := by
  rw [← mulDown_at]
  pointwise [res0]
/-- The residual with half the gated down product added. -/
def res1 (x : Arr S2048x1024) (g : Arr S1x1024) (t : Arr S2048x2816) (w : Arr S2816x1024) : Arr S2048x1024 :=
  addf x (mulf (broadcastInDim S2048x1024 ![0, 1] bcast_S1x1024_S2048x1024_0_1
    (mulf (broadcastInDim S1x1024 ![] bcast_S_S1x1024 (constant S_ .f32 0x3F000000#32)) g)) (mulDown t w))
/-- Its entries. -/
theorem res1_at (x : Arr S2048x1024) (g : Arr S1x1024) (t : Arr S2048x2816) (w : Arr S2816x1024) (a : Fin 2048) (b : Fin 1024) :
    res1 x g t w (ix2 a b) = x (ix2 a b) + Ideal.ofBits .f32 0x3F000000#32 * g (ix2 0 b) * ∑ k : Fin 2816, t (ix2 a k) * w (ix2 k b) := by
  rw [← mulDown_at]
  unfold res1
  generalize mulDown t w = y
  pointwise
/-- The output projection, narrowed. -/
def res2 (t : Arr S2048x1024) (w : Arr S1024x1024) : FVec Ideal S2048x1024 .bf16 := truncf .bf16 (mulOut t w) bitsLt_bf16_f32
/-- Its entries. -/
theorem res2_at (t : Arr S2048x1024) (w : Arr S1024x1024) (a : Fin 2048) (b : Fin 1024) :
    res2 t w (ix2 a b) = ∑ k : Fin 1024, t (ix2 a k) * w (ix2 k b) := by
  rw [← mulOut_at]
  pointwise [res2]
/-- The residual with the gated output projection added. -/
def res3 (x : Arr S2048x1024) (g : Arr S1x1024) (t : Arr S2048x1024) (w : Arr S1024x1024) : Arr S2048x1024 :=
  addf x (mulf (broadcastInDim S2048x1024 ![0, 1] bcast_S1x1024_S2048x1024_0_1 g) (mulOut t w))
/-- Its entries. -/
theorem res3_at (x : Arr S2048x1024) (g : Arr S1x1024) (t : Arr S2048x1024) (w : Arr S1024x1024) (a : Fin 2048) (b : Fin 1024) :
    res3 x g t w (ix2 a b) = x (ix2 a b) + g (ix2 0 b) * ∑ k : Fin 1024, t (ix2 a k) * w (ix2 k b) := by
  rw [← mulOut_at]
  unfold res3
  generalize mulOut t w = y
  pointwise
/-- The output projection's weight gradient. -/
def res4 (d t : Arr S2048x1024) : FVec Ideal S1024x1024 .bf16 :=
  truncf .bf16 (transpose S1024x1024 [1, 0] (Host.dotGeneral dot_S2048x1024_S2048x1024_S1024x1024_0_0_1_1_n_n none d t)
    transposes_S1024x1024_S1024x1024_1_0) bitsLt_bf16_f32
/-- Its entries. -/
theorem res4_at (d t : Arr S2048x1024) (a : Fin 1024) (b : Fin 1024) :
    res4 d t (ix2 a b) = ∑ k : Fin 2048, t (ix2 k a) * d (ix2 k b) := by
  refine Eq.trans (b := ∑ k : Fin 2048, d (ix2 k b) * t (ix2 k a)) ?_ (Finset.sum_congr rfl fun k _ => mul_comm _ _)
  pointwise [res4]
/-- The output projection's input gradient. -/
def res5 (d : Arr S2048x1024) (w : Arr S1024x1024) : Arr S2048x1024 :=
  Host.dotGeneral dot_S2048x1024_S1024x1024_S2048x1024_1_1_0_0_n_n none d w
/-- Its entries. -/
theorem res5_at (d : Arr S2048x1024) (w : Arr S1024x1024) (a : Fin 2048) (b : Fin 1024) :
    res5 d w (ix2 a b) = ∑ k : Fin 1024, d (ix2 a k) * w (ix2 b k) := by
  pointwise [res5]
/-- The columns that belong to the input projection. -/
def cols (z : Arr S2048x1280) : Arr S2048x1216 := extractStridedSlice S2048x1216 ![0, 0] z slices_S2048x1280_S2048x1216_0_0
/-- Its entries. -/
theorem cols_at (z : Arr S2048x1280) (a : Fin 2048) (b : Fin 1216) : cols z (ix2 a b) = z (ix2 a ⟨b.val, by omega⟩) := by
  pointwise [cols]
  blk_ext
/-- The input projection's weight gradient, transposed. -/
def res6 (z : Arr S2048x1280) (h : Arr S2048x1024) : FVec Ideal S1216x1024 .bf16 :=
  truncf .bf16 (transpose S1216x1024 [1, 0] (transpose S1024x1216 [1, 0] (Host.dotGeneral dot_S2048x1216_S2048x1024_S1216x1024_0_0_1_1_n_n none
    (cols z) h) transposes_S1216x1024_S1024x1216_1_0) transposes_S1024x1216_S1216x1024_1_0) bitsLt_bf16_f32
/-- Its entries. -/
theorem res6_at (z : Arr S2048x1280) (h : Arr S2048x1024) (a : Fin 1216) (b : Fin 1024) :
    res6 z h (ix2 a b) = ∑ k : Fin 2048, z (ix2 k ⟨a.val, by omega⟩) * h (ix2 k b) := by
  have e := cols_at z
  unfold res6
  generalize cols z = y at e ⊢
  refine Eq.trans (b := ∑ k : Fin 2048, y (ix2 k a) * h (ix2 k b)) ?_ (Finset.sum_congr rfl fun k _ => congrArg (fun x : EReal => x * h (ix2 k b)) (e k a))
  pointwise
/-- The input projection's input gradient. -/
def res7 (z : Arr S2048x1280) (w : Arr S1024x1216) : Arr S2048x1024 :=
  Host.dotGeneral dot_S2048x1216_S1024x1216_S2048x1024_1_1_0_0_n_n none (cols z) w
/-- Its entries. -/
theorem res7_at (z : Arr S2048x1280) (w : Arr S1024x1216) (a : Fin 2048) (b : Fin 1024) :
    res7 z w (ix2 a b) = ∑ k : Fin 1216, z (ix2 a ⟨k.val, by omega⟩) * w (ix2 b k) := by
  have e := cols_at z
  unfold res7
  generalize cols z = y at e ⊢
  refine Eq.trans (b := ∑ k : Fin 1216, y (ix2 a k) * w (ix2 b k)) ?_ (Finset.sum_congr rfl fun k _ => congrArg (fun x : EReal => x * w (ix2 b k)) (e a k))
  pointwise

end Cert.Reference3Ideal.Prod

end
-- ==== Proof.SameBodies3.lean ====
module

public import proofs.«01_k».proof.Proof.Gen.Kernel3
public import proofs.«01_k».proof.Proof.Gen.Kernel3Ideal

@[expose] public section

namespace Cert.Proof

open Idealize.ShloMosaic

variable {F : FTy → Type} [FloatOps F]

/-! # The two printings of the products' kernel are one program -/

set_option maxHeartbeats 0 in
/-- The body of the down product. -/
theorem down_body_eq : @Cert.Kernel3.cc0_ffn_down F _ _ = @Cert.Kernel3Ideal.cc0_ffn_down F _ _ := (rfl)

set_option maxHeartbeats 0 in
/-- The body of the output projection. -/
theorem out_body_eq : @Cert.Kernel3.cc1_mix_out F _ _ = @Cert.Kernel3Ideal.cc1_mix_out F _ _ := (rfl)

set_option maxHeartbeats 0 in
/-- The body of the output projection's weight gradient. -/
theorem outW_body_eq : @Cert.Kernel3.cc2_mix_out_dw F _ _ = @Cert.Kernel3Ideal.cc2_mix_out_dw F _ _ := (rfl)

set_option maxHeartbeats 0 in
/-- The body of the output projection's input gradient. -/
theorem outX_body_eq : @Cert.Kernel3.cc3_mix_out_dx F _ _ = @Cert.Kernel3Ideal.cc3_mix_out_dx F _ _ := (rfl)

set_option maxHeartbeats 0 in
/-- The body of the input projection's weight gradient. -/
theorem inW_body_eq : @Cert.Kernel3.cc4_mix_in_dw F _ _ = @Cert.Kernel3Ideal.cc4_mix_in_dw F _ _ := (rfl)

set_option maxHeartbeats 0 in
/-- The body of the input projection's input gradient. -/
theorem inX_body_eq : @Cert.Kernel3.cc5_mix_in_dx F _ _ = @Cert.Kernel3Ideal.cc5_mix_in_dx F _ _ := (rfl)

set_option maxHeartbeats 0 in
/-- The table of bodies. -/
theorem bodies3_eq : @Cert.Kernel3.defs₀ F _ _ = @Cert.Kernel3Ideal.defs₀ F _ _ := by
  unfold Cert.Kernel3.defs₀ Cert.Kernel3Ideal.defs₀
  congr 1
  funext l x
  match l with
  | 0 =>
    obtain ⟨t, s⟩ := x
    dsimp only
    rw [down_body_eq]
    rfl
  | 1 =>
    obtain ⟨t, s⟩ := x
    dsimp only
    rw [out_body_eq]
    rfl
  | 2 =>
    obtain ⟨t, s⟩ := x
    dsimp only
    rw [outW_body_eq]
    rfl
  | 3 =>
    obtain ⟨t, s⟩ := x
    dsimp only
    rw [outX_body_eq]
    rfl
  | 4 =>
    obtain ⟨t, s⟩ := x
    dsimp only
    rw [inW_body_eq]
    rfl
  | 5 =>
    obtain ⟨t, s⟩ := x
    dsimp only
    rw [inX_body_eq]
    rfl
  | ⟨n + 6, h⟩ => exact absurd h (Nat.not_lt.2 (Nat.le_add_left _ _))

set_option maxHeartbeats 0 in
/-- The table of bodies and pipelines. -/
theorem table3_eq : @Cert.Kernel3.defs F _ _ = @Cert.Kernel3Ideal.defs F _ _ :=
  congrArg (Pipeline.defs (Kernel3Ideal.pcfgs (F := F))) bodies3_eq

end Cert.Proof
-- ==== Proof.ProdClaims.lean ====
module

public import proofs.«01_k».proof.Defs
public import proofs.«01_k».proof.Proof.ProdFinal
public import proofs.«01_k».proof.Proof.ProdRef
public import proofs.«01_k».proof.Proof.SameBodies3

@[expose] public section

noncomputable section

namespace Cert.Reference3Ideal.Prod

open Idealize.ShloMosaic Idealize.ShloMosaic.TcCoe Idealize.ShloMosaic.Tactic
open Cert.Reference3Ideal Cert.Reference3Ideal.Gen

/-! # An array with the same entries is the reference's result -/

/-- Result 0. -/
theorem same0 {t t' : Arr S2048x2816} {w w' : Arr S2816x1024} (ht : t' = t) (hw : w' = w) {o : S2048x1024.Idx → EReal}
    (e : ∀ (a : Fin 2048) (b : Fin 1024), o (ix2 a b) = (∑ k : Fin 2816, t (ix2 a k) * w (ix2 k b) : EReal)) : res0 t' w' = o := by
  subst ht hw
  funext y
  rw [eq_ix2 y]
  exact (res0_at _ _ _ _).trans (e _ _).symm
/-- Result 1. -/
theorem same1 {x x' : Arr S2048x1024} {g g' : Arr S1x1024} {t t' : Arr S2048x2816} {w w' : Arr S2816x1024} (hx : x' = x) (hg : g' = g) (ht : t' = t) (hw : w' = w) {o : S2048x1024.Idx → EReal}
    (e : ∀ (a : Fin 2048) (b : Fin 1024), o (ix2 a b) = (x (ix2 a b) + Ideal.ofBits .f32 0x3F000000#32 * g (ix2 0 b) * ∑ k : Fin 2816, t (ix2 a k) * w (ix2 k b) : EReal)) : res1 x' g' t' w' = o := by
  subst hx hg ht hw
  funext y
  rw [eq_ix2 y]
  exact (res1_at _ _ _ _ _ _).trans (e _ _).symm
/-- Result 2. -/
theorem same2 {t t' : Arr S2048x1024} {w w' : Arr S1024x1024} (ht : t' = t) (hw : w' = w) {o : S2048x1024.Idx → EReal}
    (e : ∀ (a : Fin 2048) (b : Fin 1024), o (ix2 a b) = (∑ k : Fin 1024, t (ix2 a k) * w (ix2 k b) : EReal)) : res2 t' w' = o := by
  subst ht hw
  funext y
  rw [eq_ix2 y]
  exact (res2_at _ _ _ _).trans (e _ _).symm
/-- Result 3. -/
theorem same3 {x x' : Arr S2048x1024} {g g' : Arr S1x1024} {t t' : Arr S2048x1024} {w w' : Arr S1024x1024} (hx : x' = x) (hg : g' = g) (ht : t' = t) (hw : w' = w) {o : S2048x1024.Idx → EReal}
    (e : ∀ (a : Fin 2048) (b : Fin 1024), o (ix2 a b) = (x (ix2 a b) + g (ix2 0 b) * ∑ k : Fin 1024, t (ix2 a k) * w (ix2 k b) : EReal)) : res3 x' g' t' w' = o := by
  subst hx hg ht hw
  funext y
  rw [eq_ix2 y]
  exact (res3_at _ _ _ _ _ _).trans (e _ _).symm
/-- Result 4. -/
theorem same4 {d d' : Arr S2048x1024} {t t' : Arr S2048x1024} (hd : d' = d) (ht : t' = t) {o : S1024x1024.Idx → EReal}
    (e : ∀ (a : Fin 1024) (b : Fin 1024), o (ix2 a b) = (∑ k : Fin 2048, t (ix2 k a) * d (ix2 k b) : EReal)) : res4 d' t' = o := by
  subst hd ht
  funext y
  rw [eq_ix2 y]
  exact (res4_at _ _ _ _).trans (e _ _).symm
/-- Result 5. -/
theorem same5 {d d' : Arr S2048x1024} {w w' : Arr S1024x1024} (hd : d' = d) (hw : w' = w) {o : S2048x1024.Idx → EReal}
    (e : ∀ (a : Fin 2048) (b : Fin 1024), o (ix2 a b) = (∑ k : Fin 1024, d (ix2 a k) * w (ix2 b k) : EReal)) : res5 d' w' = o := by
  subst hd hw
  funext y
  rw [eq_ix2 y]
  exact (res5_at _ _ _ _).trans (e _ _).symm
/-- Result 6. -/
theorem same6 {z z' : Arr S2048x1280} {h h' : Arr S2048x1024} (hz : z' = z) (hh : h' = h) {o : S1216x1024.Idx → EReal}
    (e : ∀ (a : Fin 1216) (b : Fin 1024), o (ix2 a b) = (∑ k : Fin 2048, z (ix2 k ⟨a.val, by omega⟩) * h (ix2 k b) : EReal)) : res6 z' h' = o := by
  subst hz hh
  funext y
  rw [eq_ix2 y]
  exact (res6_at _ _ _ _).trans (e _ _).symm
/-- Result 7. -/
theorem same7 {z z' : Arr S2048x1280} {w w' : Arr S1024x1216} (hz : z' = z) (hw : w' = w) {o : S2048x1024.Idx → EReal}
    (e : ∀ (a : Fin 2048) (b : Fin 1024), o (ix2 a b) = (∑ k : Fin 1216, z (ix2 a ⟨k.val, by omega⟩) * w (ix2 b k) : EReal)) : res7 z' w' = o := by
  subst hz hw
  funext y
  rw [eq_ix2 y]
  exact (res7_at _ _ _ _).trans (e _ _).symm

end Cert.Reference3Ideal.Prod

namespace Cert.Kernel3Ideal.Prod

open Idealize.ShloMosaic Idealize.ShloMosaic.TcCoe Idealize.ShloMosaic.Tactic Idealize.SL.Sem
open Cert.Kernel3Ideal Cert.Kernel3Ideal.Gen

/-- The program terminates and leaves its arguments and every counter, in either number system. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨fun c =>
    ⟨(h.1 c _ (mem_held _ (by decide))).trans (B10_args m ρ c _ (by decide)),
     (h.1 c _ (mem_held _ (by decide))).trans (B10_args m ρ c _ (by decide)),
     (h.1 c _ (mem_held _ (by decide))).trans (B10_args m ρ c _ (by decide)),
     (h.1 c _ (mem_held _ (by decide))).trans (B10_args m ρ c _ (by decide)),
     (h.1 c _ (mem_held _ (by decide))).trans (B10_args m ρ c _ (by decide)),
     (h.1 c _ (mem_held _ (by decide))).trans (B10_args m ρ c _ (by decide)),
     (h.1 c _ (mem_held _ (by decide))).trans (B10_args m ρ c _ (by decide)),
     (h.1 c _ (mem_held _ (by decide))).trans (B10_args m ρ c _ (by decide)),
     (h.1 c _ (mem_held _ (by decide))).trans (B10_args m ρ c _ (by decide)),
     (h.1 c _ (mem_held _ (by decide))).trans (B10_args m ρ c _ (by decide)),
     (h.1 c _ (mem_held _ (by decide))).trans (B10_args m ρ c _ (by decide)),
     (h.1 c _ (mem_held _ (by decide))).trans (B10_args m ρ c _ (by decide))⟩, h.2⟩)
    (run_main m ρ)

end Cert.Kernel3Ideal.Prod

namespace Cert.Proof

open Idealize.ShloMosaic Idealize.ShloMosaic.TcCoe Idealize.ShloMosaic.Tactic Idealize.SL.Sem

/-! # The claims about the matrix products -/

set_option maxHeartbeats 0 in
/-- The program terminates, leaves its arguments and every counter as they were: bits. -/
theorem frame_kernel3 : Cert.quiescent_Kernel3 := fun m ρ _ => by
  rw [table3_eq]; exact Kernel3Ideal.Prod.run_frame (F := Bits) m ρ

/-- The same over the extended reals. -/
theorem frame_ideal3 : Cert.quiescent_Kernel3Ideal := fun m ρ _ => Kernel3Ideal.Prod.run_frame (F := Ideal) m ρ

/-- The reference terminates and leaves its arguments; it has no counters. -/
theorem frame_reference3 : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

/-- The kernel's eight arrays are the reference's, whatever the arguments. -/
theorem algebraic_products : Cert.algebraic_Kernel3Ideal_Reference3Ideal := by
  intro m ρ m' ρ' _ hagree
  refine ⟨fun c => Kernel3Ideal.Prod.B10 m ρ c (Proc.devRef .tc Kernel3Ideal.main_v10_0),
    fun c => Kernel3Ideal.Prod.B10 m ρ c (Proc.devRef .tc Kernel3Ideal.main_v10_1),
    fun c => Kernel3Ideal.Prod.B10 m ρ c (Proc.devRef .tc Kernel3Ideal.main_v11_0),
    fun c => Kernel3Ideal.Prod.B10 m ρ c (Proc.devRef .tc Kernel3Ideal.main_v11_1),
    fun c => Kernel3Ideal.Prod.B10 m ρ c (Proc.devRef .tc Kernel3Ideal.main_v12),
    fun c => Kernel3Ideal.Prod.B10 m ρ c (Proc.devRef .tc Kernel3Ideal.main_v13),
    fun c => Kernel3Ideal.Prod.B10 m ρ c (Proc.devRef .tc Kernel3Ideal.main_v16),
    fun c => Kernel3Ideal.Prod.B10 m ρ c (Proc.devRef .tc Kernel3Ideal.main_v15), ?_, ?_⟩
  · refine (θ_run Cert.Kernel3Ideal.defs _ _).mono (fun _ h c => ?_) (Kernel3Ideal.Prod.run_main (F := Ideal) m ρ)
    have k := fun (a : Ref Kernel3Ideal.sig .tc) (ha : a ∈ Kernel3Ideal.Prod.theArgs) (hs : ¬ (Proc.devRef .tc a : DevRef Kernel3Ideal.τ Kernel3Ideal.sig).isScoped) =>
      (h.1 c _ (Kernel3Ideal.Prod.mem_held a hs)).trans (Kernel3Ideal.Prod.B10_args m ρ c a ha)
    exact ⟨h.1 c _ (Kernel3Ideal.Prod.mem_held _ (by decide)),
      h.1 c _ (Kernel3Ideal.Prod.mem_held _ (by decide)),
      h.1 c _ (Kernel3Ideal.Prod.mem_held _ (by decide)),
      h.1 c _ (Kernel3Ideal.Prod.mem_held _ (by decide)),
      h.1 c _ (Kernel3Ideal.Prod.mem_held _ (by decide)),
      h.1 c _ (Kernel3Ideal.Prod.mem_held _ (by decide)),
      h.1 c _ (Kernel3Ideal.Prod.mem_held _ (by decide)),
      h.1 c _ (Kernel3Ideal.Prod.mem_held _ (by decide)),
      k _ (by decide) (by decide),
      k _ (by decide) (by decide),
      k _ (by decide) (by decide),
      k _ (by decide) (by decide),
      k _ (by decide) (by decide),
      k _ (by decide) (by decide),
      k _ (by decide) (by decide),
      k _ (by decide) (by decide),
      k _ (by decide) (by decide),
      k _ (by decide) (by decide),
      k _ (by decide) (by decide),
      k _ (by decide) (by decide)⟩
  · refine (θ_run Cert.Reference3Ideal.defs _ _).mono (fun _ h c => ?_) (Cert.Reference3Ideal.Value.run (F := Ideal) m' ρ')
    obtain ⟨a0, a1, a2, a3, a4, a5, a6, a7, a8, a9, a10, a11⟩ := hagree c
    obtain ⟨r0, r1, r2, r3, r4, r5, r6, r7, ra⟩ := h c
    exact ⟨r0.trans (Reference3Ideal.Prod.same0 a0 a1 (Kernel3Ideal.Prod.out_v10_0 m ρ c)),
      r1.trans (Reference3Ideal.Prod.same1 a2 a3 a0 a1 (Kernel3Ideal.Prod.out_v10_1 m ρ c)),
      r2.trans (Reference3Ideal.Prod.same2 a4 a5 (Kernel3Ideal.Prod.out_v11_0 m ρ c)),
      r3.trans (Reference3Ideal.Prod.same3 a6 a7 a4 a5 (Kernel3Ideal.Prod.out_v11_1 m ρ c)),
      r4.trans (Reference3Ideal.Prod.same4 a8 a4 (Kernel3Ideal.Prod.out_v12 m ρ c)),
      r5.trans (Reference3Ideal.Prod.same5 a8 a5 (Kernel3Ideal.Prod.out_v13 m ρ c)),
      r6.trans (Reference3Ideal.Prod.same6 a11 a9 (Kernel3Ideal.Prod.out_v16 m ρ c)),
      r7.trans (Reference3Ideal.Prod.same7 a11 a10 (Kernel3Ideal.Prod.out_v15 m ρ c)), ra⟩

end Cert.Proof

end
-- ==== Proof.AdaClaims.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.KernelVsHost

@[expose] public section

noncomputable section

namespace Cert.Kernel4Ideal.Ada

open Idealize.ShloMosaic Idealize.ShloMosaic.TcCoe Idealize.ShloMosaic.Tactic Idealize.SL.Sem
open Idealize.ShloMosaic.Pipeline (Dat Cfg Window)
open Cert.Kernel4Ideal Cert.Kernel4Ideal.Gen

/-! # The gradient of the modulation's weights, entry by entry -/

/-- Reading a whole block. -/
theorem ld_cond (x : Vec Ideal S128x1024 .f32) (a : Fin 128) (b : Fin 1024) : View.ld x r0_0 (ix2 a b) = x (ix2 a b) := by
  pointwise
  blk_ext
/-- Reading a whole block. -/
theorem ld_cot (x : Vec Ideal S1x128x1152 .f32) (a : Fin 128) (b : Fin 1152) : View.ld x r0_1 (ix3 0 a b) = x (ix3 0 a b) := by
  pointwise
  blk_ext

/-- The conditioning's activation. -/
def act (x : EReal) : EReal := x * Ideal.logistic x

/-- The body's product. -/
theorem tile_val (x0 : Vec Ideal S128x1024 .f32) (x1 : Vec Ideal S1x128x1152 .f32) (a : Fin 1024) (b : Fin 1152) :
    out0_2 (F := Ideal) x0 x1 (ix3 0 a b) = ∑ k : Fin 128, act (x0 (ix2 k a)) * x1 (ix3 0 k b) := by
  have e0 := ld_cond x0
  have e1 := ld_cot x1
  refine (congrFun (View.canon_cons_unit_lit _ _ [] (by decide)) _).trans ?_
  generalize View.ld x0 r0_0 = y0 at e0 ⊢
  generalize View.ld x1 r0_1 = y1 at e1 ⊢
  pointwise [k0_pay1]
  refine Finset.sum_congr rfl fun k _ => congrArg₂ (fun x y : EReal => x * y) (congrArg act (e0 k a)) (e1 k b)

/-! # The array at the end -/

/-- The windows' blocks at a grid step: the conditioning whole, layer `t` of the cotangents and of the gradient. -/
theorem idx0 : ∀ t : Fin cfg0.N, win0_0.index t = ![0, 0] ∧ win0_1.index t = ![t.val, 0, 0] ∧ win0_2.index t = ![t.val, 0, 0] :=
  (by decide +kernel : ∀ t : Fin grid0.N, _)
/-- The number of grid steps. -/
theorem lt0 (t : Fin cfg0.N) : t.val < 4 := t.isLt

section
variable (m : (ℓ : Loc nD τ sig) → Buf (Elt Ideal) ℓ) (c : Dev nD)

/-- The entries of an array. -/
abbrev Tab (s : Shape) : Type := s.Idx → EReal
/-- The conditioning rows. -/
abbrev C : Tab S8x1024 := m ((c : Thread nD τ).loc main_arg0)
/-- The modulation's cotangents. -/
abbrev Y : Tab S8x4x1152 := m ((c : Thread nD τ).loc main_arg1)

/-- The cotangents, layer by layer. -/
abbrev yT : FVec Ideal S4x8x1152 .f32 := transpose S4x8x1152 [1, 0, 2] (m ((c : Thread nD τ).loc main_arg1) : FVec Ideal S8x4x1152 .f32) transposes_S8x4x1152_S4x8x1152_1_0_2
/-- Its entries. -/
theorem yT_at (l : Fin 4) (k : Fin 8) (b : Fin 1152) : yT m c (ix3 l k b) = Y m c (ix3 k l b) := by pointwise [yT]

/-- The host's padded conditioning rows. -/
theorem V2 : (V m c main_v2 : FVec Ideal S128x1024 .f32)
    = pad S128x1024 ![0, 0] ![120, 0] ![0, 0] (C m c) (sitofp (F := Ideal) .f32 (constantI S_ 32 0#32)) pads_S8x1024_S128x1024_01200_000 h_S_ := by
  unfold V hostOps0
  simp only [List.flatten_cons, List.flatten_nil, List.append_nil, List.cons_append, List.nil_append, StableHlo.TRef.binary, StableHlo.TRef.nullary, StableHlo.TRef.unary, StableHlo.TRef.toBuf, StableHlo.TRef.ofBuf, cast_eq]
  after_results <;> rfl
/-- The host's padded cotangents. -/
theorem V1 : (V m c main_v1 : FVec Ideal S4x128x1152 .f32)
    = pad S4x128x1152 ![0, 0, 0] ![0, 120, 0] ![0, 0, 0] (yT m c) (sitofp (F := Ideal) .f32 (constantI S_ 32 0#32)) pads_S4x8x1152_S4x128x1152_000_01200_000 h_S_ := by
  unfold V hostOps0
  simp only [List.flatten_cons, List.flatten_nil, List.append_nil, List.cons_append, List.nil_append, StableHlo.TRef.binary, StableHlo.TRef.nullary, StableHlo.TRef.unary, StableHlo.TRef.toBuf, StableHlo.TRef.ofBuf, cast_eq]
  after_results <;> rfl

/-- The padding's value. -/
theorem pad_zero : ((((0#32 : BitVec 32).toInt : ℝ)) : EReal) = 0 := by simp
/-- The first 8 padded rows are the conditioning rows. -/
theorem cond_in (k : Fin 8) (a : Fin 1024) : (V m c main_v2 : Tab S128x1024) (ix2 (Fin.castAdd 120 k : Fin 128) a) = C m c (ix2 k a) := by
  refine (congrFun (V2 m c) _).trans ?_
  refine pad_apply_of_inside _ _ _ _ _ _ _ _ (ix2 k a) fun d => ?_
  match d with
  | ⟨0, _⟩ => show k.val = 0 + k.val * 1; omega
  | ⟨1, _⟩ => show a.val = 0 + a.val * 1; omega
/-- Row `k` of every layer's padded cotangents, `k < 8`, is device `k`'s. -/
theorem cot_in (l : Fin 4) (k : Fin 8) (b : Fin 1152) : (V m c main_v1 : Tab S4x128x1152) (ix3 l (Fin.castAdd 120 k : Fin 128) b) = Y m c (ix3 k l b) := by
  refine (congrFun (V1 m c) _).trans (Eq.trans ?_ (yT_at m c l k b))
  refine pad_apply_of_inside _ _ _ _ _ _ _ _ (ix3 l k b) fun d => ?_
  match d with
  | ⟨0, _⟩ => show l.val = 0 + l.val * 1; omega
  | ⟨1, _⟩ => show k.val = 0 + k.val * 1; omega
  | ⟨2, _⟩ => show b.val = 0 + b.val * 1; omega
/-- The other 120 rows of every layer are zero. -/
theorem cot_out (l : Fin 4) (k : Fin 120) (b : Fin 1152) : (V m c main_v1 : Tab S4x128x1152) (ix3 l (Fin.natAdd 8 k : Fin 128) b) = (0 : EReal) := by
  refine (congrFun (V1 m c) _).trans ?_
  refine (pad_apply_of_not_inside _ _ _ _ _ _ _ _ 1 fun h => ?_).trans pad_zero
  have h' : (8 + k.val - 0) / 1 < 8 := h.2.2
  omega

/-- The gradient of the modulation's weights: the sum over the devices' rows. -/
def grad (x : Tab S8x1024) (y : Tab S8x4x1152) (l : Fin 4) (a : Fin 1024) (b : Fin 1152) : EReal := ∑ k : Fin 8, act (x (ix2 k a)) * y (ix3 k l b)

/-- The sum over all 128 padded rows. -/
theorem sum_rows (l : Fin 4) (a : Fin 1024) (b : Fin 1152) :
    ∑ k : Fin 128, act ((V m c main_v2 : Tab S128x1024) (ix2 k a)) * (V m c main_v1 : Tab S4x128x1152) (ix3 l k b) = grad (C m c) (Y m c) l a b := by
  refine (Fin.sum_univ_add (M := EReal) (a := 8) (b := 120) _).trans (Eq.trans (b := grad (C m c) (Y m c) l a b + 0)
    (congrArg₂ (fun x y : EReal => x + y) (Finset.sum_congr rfl fun k _ => ?_) (Finset.sum_eq_zero fun k _ => ?_)) (add_zero _))
  · exact congrArg₂ (fun x y : EReal => act x * y) (cond_in m c k a) (cot_in m c l k b)
  · exact (congrArg (fun y : EReal => act ((V m c main_v2 : Tab S128x1024) (ix2 (Fin.natAdd 8 k : Fin 128) a)) * y) (cot_out m c l k b)).trans (mul_zero _)

/-- An entry of the conditioning's block. -/
theorem blk_cond (t : Fin cfg0.N) (k : Fin 128) (a : Fin 1024) : iblk m c 0 t (ix2 k a) = (V m c main_v2 : Tab S128x1024) (ix2 k a) := by
  have ht := lt0 t
  blk_ext [iblk, idx0 t]
/-- An entry of the cotangents' block. -/
theorem blk_cot (t : Fin cfg0.N) (k : Fin 128) (b : Fin 1152) : iblk m c 1 t (ix3 0 k b) = (V m c main_v1 : Tab S4x128x1152) (ix3 ⟨t.val, lt0 t⟩ k b) := by
  have ht := lt0 t
  blk_ext [iblk, idx0 t]
/-- Where an entry of the output block lies in the array. -/
theorem emb_out (t : Fin cfg0.N) (y : ((cfg0.win 2).xblock (cfg0.grid.coords t)).Idx) :
    (((cfg0.win 2).blk t).view.emb y : S4x1024x1152.Idx) = ix3 ⟨t.val, lt0 t⟩ (y 1 : Fin 1024) (y 2 : Fin 1152) := by
  have ht := lt0 t
  have y0 : (y 0).val < 1 := (y 0).isLt
  have y1 : (y 1).val < 1024 := (y 1).isLt
  have y2 : (y 2).val < 1152 := (y 2).isLt
  blk_ext [idx0 t]
/-- The gradient, whole. -/
theorem final : (dats m 0 c).arrAt 2 cfg0.N = fun y : S4x1024x1152.Idx => grad (C m c) (Y m c) (y 0) (y 1) (y 2) := by
  refine (dats m 0 c).arrAt_eq_of_covers 2 _ (by decide +kernel) fun t hf y => ?_
  refine Eq.trans ?_ (congrArg (fun y : S4x1024x1152.Idx => grad (C m c) (Y m c) (y 0) (y 1) (y 2)) (emb_out t y)).symm
  blk_simp [idx0 t]
  rw [after0_2]
  have h0 : (y 0 : Fin 1) = (0 : Fin 1) := Subsingleton.elim (α := Fin 1) _ _
  have hy : y = ix3 (0 : Fin 1) (y 1 : Fin 1024) (y 2 : Fin 1152) := (eq_ix3 y).trans (congrArg (fun z : Fin 1 => ix3 z (y 1 : Fin 1024) (y 2 : Fin 1152)) h0)
  refine (congrArg _ hy).trans ((tile_val _ _ (y 1) (y 2)).trans (Eq.trans ?_ (sum_rows m c ⟨t.val, lt0 t⟩ (y 1) (y 2))))
  exact Finset.sum_congr rfl fun k _ => congrArg₂ (fun x y : EReal => act x * y) (blk_cond m c t k (y 1)) (blk_cot m c t k (y 2))

end

end Cert.Kernel4Ideal.Ada

namespace Cert.Reference4Ideal.Ada

open Idealize.ShloMosaic Idealize.ShloMosaic.TcCoe Idealize.ShloMosaic.Tactic Idealize.SL.Sem
open Cert.Reference4Ideal Cert.Reference4Ideal.Gen

/-- The logistic function as the reference computes it. -/
def sig (x : FVec Ideal S8x1024 .f32) : FVec Ideal S8x1024 .f32 :=
  Host.divf (broadcastInDim S8x1024 ![] bcast_S_S8x1024 (constant S_ .f32 0x3F800000#32))
    (addf (broadcastInDim S8x1024 ![] bcast_S_S8x1024 (constant S_ .f32 0x3F800000#32)) (Host.exp (Host.negf x)))
/-- Its entries. -/
theorem sig_at (x : FVec Ideal S8x1024 .f32) (k : Fin 8) (a : Fin 1024) : sig x (ix2 k a) = Ideal.logistic (x (ix2 k a)) := by
  pointwise [sig, Ideal.logistic]
/-- The reference's gradient. -/
def dw (x : FVec Ideal S8x1024 .f32) (y : FVec Ideal S8x4x1152 .f32) : FVec Ideal S4x1024x1152 .f32 :=
  transpose S4x1024x1152 [0, 2, 1] (Host.dotGeneral dot_S8x4x1152_S8x1024_S4x1152x1024_0_0_12_1_n_n none y (mulf x (sig x))) transposes_S4x1152x1024_S4x1024x1152_0_2_1
/-- Its entries. -/
theorem dw_at (x : FVec Ideal S8x1024 .f32) (y : FVec Ideal S8x4x1152 .f32) (l : Fin 4) (a : Fin 1024) (b : Fin 1152) :
    dw x y (ix3 l a b) = Kernel4Ideal.Ada.grad x y l a b := by
  have e := sig_at x
  unfold dw
  generalize sig x = z at e ⊢
  pointwise
  refine Finset.sum_congr rfl fun k _ => ?_
  rw [e k a]
  exact mul_comm _ _

end Cert.Reference4Ideal.Ada

namespace Cert.Proof

open Idealize.ShloMosaic Idealize.ShloMosaic.TcCoe Idealize.ShloMosaic.Tactic Idealize.SL.Sem

/-! # The claims about the gradient of the modulation's weights -/

/-- The program terminates, leaves its arguments and every counter as they were: bits. -/
theorem frame_kernel4 : Cert.quiescent_Kernel4 := fun m ρ _ => Cert.Kernel4.Gen.frame m ρ
/-- The same over the extended reals. -/
theorem frame_ideal4 : Cert.quiescent_Kernel4Ideal := fun m ρ _ => Cert.Kernel4Ideal.Gen.frame m ρ
/-- The reference terminates and leaves its arguments; it has no counters. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's gradient is the reference's, whatever the arguments. -/
theorem algebraic_modulation : Cert.algebraic_Kernel4Ideal_Reference4Ideal := by
  intro m ρ m' ρ' _ hagree
  refine ⟨fun c => (Kernel4Ideal.Gen.dats m 0 c).arrAt 2 Kernel4Ideal.cfg0.N, Kernel4Ideal.Value.run_blocks m ρ, ?_⟩
  refine (θ_run Cert.Reference4Ideal.defs _ _).mono (fun _ h c => ?_) (Cert.Reference4Ideal.Value.run (F := Ideal) m' ρ')
  obtain ⟨e0, e1⟩ := hagree c
  obtain ⟨h0, hargs⟩ := h c
  refine ⟨h0.trans ?_, hargs⟩
  rw [e0, e1]
  refine Eq.trans ?_ (Kernel4Ideal.Ada.final m c).symm
  funext y
  exact (congrArg _ (eq_ix3 y)).trans (Reference4Ideal.Ada.dw_at _ _ (y 0) (y 1) (y 2))

end Cert.Proof

end
-- ==== Proof.AdamClaims.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

noncomputable section

namespace Cert.Kernel5Ideal.Adam

open Idealize.ShloMosaic Idealize.ShloMosaic.TcCoe Idealize.ShloMosaic.Tactic Idealize.SL.Sem
open Idealize.ShloMosaic.Pipeline (Dat Cfg Window)
open Cert.Kernel5Ideal Cert.Kernel5Ideal.Gen

/-! # The update of one weight, entry by entry -/

/-- The new first moment of an entry. -/
def newM (g m : EReal) : EReal := Ideal.ofBits .f32 0x3F666666#32 * m + Ideal.ofBits .f32 0x3DCCCCCD#32 * g
/-- The new second moment of an entry. -/
def newV (g v : EReal) : EReal := Ideal.ofBits .f32 0x3F7FBE77#32 * v + Ideal.ofBits .f32 0x3A83126F#32 * (g * g)
/-- The change of an entry. -/
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32) + Ideal.ofBits .f32 0x3C23D70A#32 * w)

/-- A tile of 512 rows. -/
abbrev Tile : Type := Vec Ideal S512x1152 .f32

/-- Reading a whole block. -/
theorem ld_tile (x : Tile) (a : Fin 512) (b : Fin 1152) : View.ld x r0_0 (ix2 a b) = x (ix2 a b) := by
  pointwise
  blk_ext
/-- The body's change of the weight. -/
theorem tile_delta (x0 x1 x2 x3 : Tile) (a : Fin 512) (b : Fin 1152) :
    out0_4 (F := Ideal) x0 x1 x2 x3 (ix2 a b) = delta (x0 (ix2 a b)) (x1 (ix2 a b)) (x2 (ix2 a b)) (x3 (ix2 a b)) := by
  rw [← ld_tile x0, ← ld_tile x1, ← ld_tile x2, ← ld_tile x3]
  refine (congrFun (View.canon_cons_unit_lit _ _ [] (by decide)) _).trans ?_
  generalize View.ld x0 r0_0 = y0
  generalize View.ld x1 r0_0 = y1
  generalize View.ld x2 r0_0 = y2
  generalize View.ld x3 r0_0 = y3
  pointwise [k0_pay4, k0_pay3, k0_pay2, k0_pay1]
  rfl
/-- The body's first moment. -/
theorem tile_m (x0 x1 x2 x3 : Tile) (a : Fin 512) (b : Fin 1152) :
    out0_5 (F := Ideal) x0 x1 x2 x3 (ix2 a b) = newM (x1 (ix2 a b)) (x2 (ix2 a b)) := by
  rw [← ld_tile x1, ← ld_tile x2]
  refine (congrFun (View.canon_cons_unit_lit _ _ [] (by decide)) _).trans ?_
  generalize View.ld x1 r0_0 = y1
  generalize View.ld x2 r0_0 = y2
  pointwise [k0_pay4, k0_pay3, k0_pay2, k0_pay1]
  rfl
/-- The body's second moment. -/
theorem tile_v (x0 x1 x2 x3 : Tile) (a : Fin 512) (b : Fin 1152) :
    out0_6 (F := Ideal) x0 x1 x2 x3 (ix2 a b) = newV (x1 (ix2 a b)) (x3 (ix2 a b)) := by
  rw [← ld_tile x1, ← ld_tile x3]
  refine (congrFun (View.canon_cons_unit_lit _ _ [] (by decide)) _).trans ?_
  generalize View.ld x1 r0_0 = y1
  generalize View.ld x3 r0_0 = y3
  pointwise [k0_pay4, k0_pay3, k0_pay2, k0_pay1]
  rfl

/-! # The arrays at the end -/

/-- Every window's block at a grid step: tile `t` of the rows. -/
theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)
/-- The number of grid steps. -/
theorem lt0 (t : Fin cfg0.N) : t.val < 8 := t.isLt

section
variable (m : (ℓ : Loc nD τ sig) → Buf (Elt Ideal) ℓ) (c : Dev nD)

/-- The entries of an array. -/
abbrev Tab (s : Shape) : Type := s.Idx → EReal
/-- The weight's rows. -/
abbrev W : Tab S4096x1152 := shapeCast S4096x1152 (m ((c : Thread nD τ).loc main_arg0)) shapeCasts_S4x1024x1152_S4096x1152
/-- The gradient's rows. -/
abbrev G : Tab S4096x1152 := shapeCast S4096x1152 (m ((c : Thread nD τ).loc main_arg1)) shapeCasts_S4x1024x1152_S4096x1152
/-- The first moment's rows. -/
abbrev M : Tab S4096x1152 := shapeCast S4096x1152 (m ((c : Thread nD τ).loc main_arg2)) shapeCasts_S4x1024x1152_S4096x1152
/-- The second moment's rows. -/
abbrev N : Tab S4096x1152 := shapeCast S4096x1152 (m ((c : Thread nD τ).loc main_arg3)) shapeCasts_S4x1024x1152_S4096x1152

/-- The host's rows of the weight. -/
theorem V0 : V m c main_v0 = W m c := by unfold V; after_results_simp <;> rfl
/-- The host's rows of the gradient. -/
theorem V1 : V m c main_v1 = G m c := by unfold V; after_results_simp <;> rfl
/-- The host's rows of the first moment. -/
theorem V2 : V m c main_v2 = M m c := by unfold V; after_results_simp <;> rfl
/-- The host's rows of the second moment. -/
theorem V3 : V m c main_v3 = N m c := by unfold V; after_results_simp <;> rfl

variable {w g mm v : Tab S4096x1152}

/-- A block of the weight. -/
theorem blk_w (h : V m c main_v0 = w) (t : Fin cfg0.N) (a : Fin 512) (b : Fin 1152) :
    iblk m c 0 t (ix2 a b) = w (ix2 ⟨t.val * 512 + a.val, by have := lt0 t; omega⟩ b) := by
  have ht := lt0 t
  refine Eq.trans (b := V m c main_v0 (ix2 ⟨t.val * 512 + a.val, by omega⟩ b)) ?_ (congrFun h _)
  blk_ext [iblk, idx0 t]
/-- A block of the gradient. -/
theorem blk_g (h : V m c main_v1 = g) (t : Fin cfg0.N) (a : Fin 512) (b : Fin 1152) :
    iblk m c 1 t (ix2 a b) = g (ix2 ⟨t.val * 512 + a.val, by have := lt0 t; omega⟩ b) := by
  have ht := lt0 t
  refine Eq.trans (b := V m c main_v1 (ix2 ⟨t.val * 512 + a.val, by omega⟩ b)) ?_ (congrFun h _)
  blk_ext [iblk, idx0 t]
/-- A block of the first moment. -/
theorem blk_mm (h : V m c main_v2 = mm) (t : Fin cfg0.N) (a : Fin 512) (b : Fin 1152) :
    iblk m c 2 t (ix2 a b) = mm (ix2 ⟨t.val * 512 + a.val, by have := lt0 t; omega⟩ b) := by
  have ht := lt0 t
  refine Eq.trans (b := V m c main_v2 (ix2 ⟨t.val * 512 + a.val, by omega⟩ b)) ?_ (congrFun h _)
  blk_ext [iblk, idx0 t]
/-- A block of the second moment. -/
theorem blk_v (h : V m c main_v3 = v) (t : Fin cfg0.N) (a : Fin 512) (b : Fin 1152) :
    iblk m c 3 t (ix2 a b) = v (ix2 ⟨t.val * 512 + a.val, by have := lt0 t; omega⟩ b) := by
  have ht := lt0 t
  refine Eq.trans (b := V m c main_v3 (ix2 ⟨t.val * 512 + a.val, by omega⟩ b)) ?_ (congrFun h _)
  blk_ext [iblk, idx0 t]
/-- Where an entry of the output block lies in the array. -/
theorem emb_delta (t : Fin cfg0.N) (y : ((cfg0.win 4).xblock (cfg0.grid.coords t)).Idx) :
    (((cfg0.win 4).blk t).view.emb y : S4096x1152.Idx) = ix2 ⟨t.val * 512 + (y 0).val, by have := lt0 t; have : (y 0).val < 512 := (y 0).isLt; omega⟩ (y 1 : Fin 1152) := by
  have ht := lt0 t
  have y0 : (y 0).val < 512 := (y 0).isLt
  have y1 : (y 1).val < 1152 := (y 1).isLt
  blk_ext [idx0 t]
/-- The change of the weight, whole. -/
theorem final_delta (hw : V m c main_v0 = w) (hg : V m c main_v1 = g) (hmm : V m c main_v2 = mm) (hv : V m c main_v3 = v) : (dats m 0 c).arrAt 4 cfg0.N = fun y : S4096x1152.Idx => delta (w y) (g y) (mm y) (v y) := by
  refine (dats m 0 c).arrAt_eq_of_covers 4 _ (by decide +kernel) fun t hf y => ?_
  refine Eq.trans ?_ (congrArg (fun y : S4096x1152.Idx => delta (w y) (g y) (mm y) (v y)) (emb_delta t y)).symm
  blk_simp [idx0 t]
  rw [after0_4]
  refine (congrArg _ (eq_ix2 y)).trans ((tile_delta _ _ _ _ (y 0) (y 1)).trans ?_)
  exact congr (congr (congr (congrArg delta (blk_w m c hw t (y 0) (y 1))) (blk_g m c hg t (y 0) (y 1))) (blk_mm m c hmm t (y 0) (y 1))) (blk_v m c hv t (y 0) (y 1))
/-- Where an entry of the output block lies in the array. -/
theorem emb_m (t : Fin cfg0.N) (y : ((cfg0.win 5).xblock (cfg0.grid.coords t)).Idx) :
    (((cfg0.win 5).blk t).view.emb y : S4096x1152.Idx) = ix2 ⟨t.val * 512 + (y 0).val, by have := lt0 t; have : (y 0).val < 512 := (y 0).isLt; omega⟩ (y 1 : Fin 1152) := by
  have ht := lt0 t
  have y0 : (y 0).val < 512 := (y 0).isLt
  have y1 : (y 1).val < 1152 := (y 1).isLt
  blk_ext [idx0 t]
/-- The new first moment, whole. -/
theorem final_m (hg : V m c main_v1 = g) (hmm : V m c main_v2 = mm) : (dats m 0 c).arrAt 5 cfg0.N = fun y : S4096x1152.Idx => newM (g y) (mm y) := by
  refine (dats m 0 c).arrAt_eq_of_covers 5 _ (by decide +kernel) fun t hf y => ?_
  refine Eq.trans ?_ (congrArg (fun y : S4096x1152.Idx => newM (g y) (mm y)) (emb_m t y)).symm
  blk_simp [idx0 t]
  rw [after0_5]
  refine (congrArg _ (eq_ix2 y)).trans ((tile_m _ _ _ _ (y 0) (y 1)).trans ?_)
  exact congr (congrArg newM (blk_g m c hg t (y 0) (y 1))) (blk_mm m c hmm t (y 0) (y 1))
/-- Where an entry of the output block lies in the array. -/
theorem emb_v (t : Fin cfg0.N) (y : ((cfg0.win 6).xblock (cfg0.grid.coords t)).Idx) :
    (((cfg0.win 6).blk t).view.emb y : S4096x1152.Idx) = ix2 ⟨t.val * 512 + (y 0).val, by have := lt0 t; have : (y 0).val < 512 := (y 0).isLt; omega⟩ (y 1 : Fin 1152) := by
  have ht := lt0 t
  have y0 : (y 0).val < 512 := (y 0).isLt
  have y1 : (y 1).val < 1152 := (y 1).isLt
  blk_ext [idx0 t]
/-- The new second moment, whole. -/
theorem final_v (hg : V m c main_v1 = g) (hv : V m c main_v3 = v) : (dats m 0 c).arrAt 6 cfg0.N = fun y : S4096x1152.Idx => newV (g y) (v y) := by
  refine (dats m 0 c).arrAt_eq_of_covers 6 _ (by decide +kernel) fun t hf y => ?_
  refine Eq.trans ?_ (congrArg (fun y : S4096x1152.Idx => newV (g y) (v y)) (emb_v t y)).symm
  blk_simp [idx0 t]
  rw [after0_6]
  refine (congrArg _ (eq_ix2 y)).trans ((tile_v _ _ _ _ (y 0) (y 1)).trans ?_)
  exact congr (congrArg newV (blk_g m c hg t (y 0) (y 1))) (blk_v m c hv t (y 0) (y 1))

end

end Cert.Kernel5Ideal.Adam

namespace Cert.Proof

open Idealize.ShloMosaic Idealize.ShloMosaic.TcCoe Idealize.ShloMosaic.Tactic Idealize.SL.Sem

/-! # The claims about the update of a weight -/

/-- The program terminates, leaves its arguments and every counter as they were: bits. -/
theorem frame_kernel5 : Cert.quiescent_Kernel5 := fun m ρ _ => Cert.Kernel5.Gen.frame m ρ
/-- The same over the extended reals. -/
theorem frame_ideal5 : Cert.quiescent_Kernel5Ideal := fun m ρ _ => Cert.Kernel5Ideal.Gen.frame m ρ
/-- The reference terminates and leaves its arguments; it has no counters. -/
theorem frame_reference5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The kernel's change of the weight and its new moments are the reference's, whatever the arguments. -/
theorem algebraic_update : Cert.algebraic_Kernel5Ideal_Reference5Ideal := by
  intro m ρ m' ρ' _ hagree
  refine ⟨fun c => (Kernel5Ideal.Gen.dats m 0 c).arrAt 4 Kernel5Ideal.cfg0.N, fun c => (Kernel5Ideal.Gen.dats m 0 c).arrAt 5 Kernel5Ideal.cfg0.N,
    fun c => (Kernel5Ideal.Gen.dats m 0 c).arrAt 6 Kernel5Ideal.cfg0.N, Kernel5Ideal.Value.run_blocks m ρ, ?_⟩
  refine (θ_run Cert.Reference5Ideal.defs _ _).mono (fun _ h c => ?_) (Cert.Reference5Ideal.Value.run (F := Ideal) m' ρ')
  obtain ⟨e0, e1, e2, e3⟩ := hagree c
  obtain ⟨h0, h1, h2, hargs⟩ := h c
  refine ⟨h0.trans ?_, h1.trans ?_, h2.trans ?_, hargs⟩
  · rw [e0, e1, e2, e3]
    refine Eq.trans ?_ (Kernel5Ideal.Adam.final_delta m c (Kernel5Ideal.Adam.V0 m c) (Kernel5Ideal.Adam.V1 m c) (Kernel5Ideal.Adam.V2 m c) (Kernel5Ideal.Adam.V3 m c)).symm
    rfl
  · rw [e1, e2]
    refine Eq.trans ?_ (Kernel5Ideal.Adam.final_m m c (Kernel5Ideal.Adam.V1 m c) (Kernel5Ideal.Adam.V2 m c)).symm
    rfl
  · rw [e1, e3]
    refine Eq.trans ?_ (Kernel5Ideal.Adam.final_v m c (Kernel5Ideal.Adam.V1 m c) (Kernel5Ideal.Adam.V3 m c)).symm
    rfl

end Cert.Proof

end
-- ==== Proof.MixClaims.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.KernelVsHost

@[expose] public section

noncomputable section

namespace Cert.Kernel6Ideal.Mix

open Idealize.ShloMosaic Idealize.ShloMosaic.TcCoe Idealize.ShloMosaic.Tactic Idealize.SL.Sem
open Idealize.ShloMosaic.Pipeline (Dat Cfg Window)
open Cert.Kernel6Ideal Cert.Kernel6Ideal.Gen

/-! # The normalized rows and their product, entry by entry -/

/-- The entries of an array. -/
abbrev Tab (s : Shape) : Type := s.Idx → EReal

/-- One over the root of a row's mean square. -/
def root (x : Fin 1024 → EReal) : EReal :=
  Ideal.rsqrt (Ideal.div (∑ k : Fin 1024, x k * x k) (Ideal.ofBits .f32 0x44800000#32) + Ideal.ofBits .f32 0x358637BD#32)
/-- An entry of a normalized row, scaled and shifted. -/
def hid (x : Fin 1024 → EReal) (g sh sc : Tab S1x1024) (d : Fin 1024) : EReal :=
  x d * root x * g (ix2 0 d) * (1 + sc (ix2 0 d)) + sh (ix2 0 d)

/-- Reading a whole block. -/
theorem ld_x (x : Vec Ideal S1024x1024 .f32) (a : Fin 1024) (b : Fin 1024) : View.ld x r0_0 (ix2 a b) = x (ix2 a b) := by
  pointwise
  blk_ext
/-- Reading a whole block. -/
theorem ld_vec (x : Vec Ideal S1x1024 .f32) (b : Fin 1024) : View.ld x r0_1 (ix2 0 b) = x (ix2 0 b) := by
  pointwise
  blk_ext
/-- Reading a whole block. -/
theorem ld_w (x : Vec Ideal S1280x1024 .bf16) (a : Fin 1280) (b : Fin 1024) : View.ld x r0_2 (ix2 a b) = x (ix2 a b) := by
  pointwise
  blk_ext

section
variable (x0 : Vec Ideal S1024x1024 .f32) (x1 x2 x3 : Vec Ideal S1x1024 .f32) (x4 : Vec Ideal S1280x1024 .bf16)

/-- The body's rows, from what it read. -/
theorem pay_h (y0 : Vec Ideal S1024x1024 .f32) (y1 y2 y3 : Vec Ideal S1x1024 .f32) (a : Fin 1024) (d : Fin 1024) :
    k0_pay1 (F := Ideal) y0 y1 y3 y2 (ix2 a d) = hid (fun k => y0 (ix2 a k)) y1 y2 y3 d := by
  pointwise [k0_pay1]
  rfl
/-- The rows read are the block's. -/
theorem hid_ld (a : Fin 1024) (d : Fin 1024) :
    hid (fun k => View.ld x0 r0_0 (ix2 a k)) (View.ld x1 r0_1) (View.ld x2 r0_1) (View.ld x3 r0_1) d = hid (fun k => x0 (ix2 a k)) x1 x2 x3 d := by
  have e : (fun k => View.ld x0 r0_0 (ix2 a k)) = (fun k => x0 (ix2 a k)) := funext fun k => ld_x x0 a k
  unfold hid
  rw [e, ld_vec, ld_vec, ld_vec]
/-- The body's rows. -/
theorem tile_h (a : Fin 1024) (d : Fin 1024) :
    out0_5 (F := Ideal) x0 x1 x2 x3 x4 (ix2 a d) = hid (fun k => x0 (ix2 a k)) x1 x2 x3 d :=
  (congrFun (View.canon_cons_unit_lit _ _ [] (by decide)) _).trans ((pay_h _ _ _ _ a d).trans (hid_ld x0 x1 x2 x3 a d))
/-- The body's product. -/
theorem tile_z (a : Fin 1024) (b : Fin 1280) :
    out0_6 (F := Ideal) x0 x1 x2 x3 x4 (ix2 a b) = ∑ d : Fin 1024, hid (fun k => x0 (ix2 a k)) x1 x2 x3 d * x4 (ix2 b d) := by
  refine (congrFun (View.canon_cons_unit_lit _ _ [] (by decide)) _).trans ?_
  have e := fun d => (pay_h (View.ld x0 r0_0) (View.ld x1 r0_1) (View.ld x2 r0_1) (View.ld x3 r0_1) a d).trans (hid_ld x0 x1 x2 x3 a d)
  have e4 := ld_w x4
  unfold k0_pay2
  generalize k0_pay1 (F := Ideal) (View.ld x0 r0_0) (View.ld x1 r0_1) (View.ld x3 r0_1) (View.ld x2 r0_1) = h at e ⊢
  generalize View.ld x4 r0_2 = y4 at e4 ⊢
  pointwise
  exact Finset.sum_congr rfl fun d _ => congrArg₂ (fun x y : EReal => x * y) (e d) (e4 b d)
end

/-! # The arrays at the end -/

/-- The windows' blocks at a grid step: rows `t`, the vectors and the weights whole. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)
/-- The number of grid steps. -/
theorem lt0 (t : Fin cfg0.N) : t.val < 2 := t.isLt

section
variable (m : (ℓ : Loc nD τ sig) → Buf (Elt Ideal) ℓ) (c : Dev nD)

/-- The input rows. -/
abbrev X : Tab S2048x1024 := m ((c : Thread nD τ).loc main_arg0)
/-- The norm's weights. -/
abbrev G : Tab S1x1024 := m ((c : Thread nD τ).loc main_arg1)
/-- The shift. -/
abbrev Sh : Tab S1x1024 := m ((c : Thread nD τ).loc main_arg2)
/-- The scale. -/
abbrev Sc : Tab S1x1024 := m ((c : Thread nD τ).loc main_arg3)
/-- The product's weights. -/
abbrev Wi : Tab S1024x1216 := m ((c : Thread nD τ).loc main_arg4)

/-- The transposed weights. -/
abbrev wT : FVec Ideal S1216x1024 .bf16 :=
  transpose S1216x1024 [1, 0] (truncf (F := Ideal) .bf16 (m ((c : Thread nD τ).loc main_arg4) : FVec Ideal S1024x1216 .f32) bitsLt_bf16_f32)
    transposes_S1024x1216_S1216x1024_1_0
/-- Its entries. -/
theorem wT_at (k : Fin 1216) (b : Fin 1024) : wT m c (ix2 k b) = Wi m c (ix2 b k) := by
  pointwise [wT]
/-- The host's padded weights. -/
theorem V2 : (V m c main_v2 : FVec Ideal S1280x1024 .bf16)
    = pad S1280x1024 ![0, 0] ![64, 0] ![0, 0] (wT m c) (sitofp (F := Ideal) .bf16 (constantI S_ 32 0#32)) pads_S1216x1024_S1280x1024_0640_000 h_S_ := by
  unfold V hostOps0
  simp only [List.flatten_cons, List.flatten_nil, List.append_nil, List.cons_append, List.nil_append, StableHlo.TRef.binary, StableHlo.TRef.nullary, StableHlo.TRef.unary, StableHlo.TRef.toBuf, StableHlo.TRef.ofBuf, cast_eq]
  after_results <;> rfl
/-- The padding's value. -/
theorem pad_zero : ((((0#32 : BitVec 32).toInt : ℝ)) : EReal) = 0 := by simp
/-- The first 1216 rows are the transposed weights. -/
theorem V2_in (b : Fin 1280) (hb : b.val < 1216) (d : Fin 1024) : (V m c main_v2 : Tab S1280x1024) (ix2 b d) = Wi m c (ix2 d ⟨b.val, hb⟩) := by
  refine (congrFun (V2 m c) _).trans (Eq.trans ?_ (wT_at m c ⟨b.val, hb⟩ d))
  refine pad_apply_of_inside _ _ _ _ _ _ _ _ (ix2 (⟨b.val, hb⟩ : Fin 1216) d) fun a => ?_
  match a with
  | ⟨0, _⟩ => show b.val = 0 + b.val * 1; omega
  | ⟨1, _⟩ => show d.val = 0 + d.val * 1; omega
/-- The last 64 rows are zero. -/
theorem V2_out (b : Fin 1280) (hb : ¬ b.val < 1216) (d : Fin 1024) : (V m c main_v2 : Tab S1280x1024) (ix2 b d) = (0 : EReal) := by
  refine (congrFun (V2 m c) _).trans ?_
  refine (pad_apply_of_not_inside _ _ _ _ _ _ _ _ 0 fun h => ?_).trans pad_zero
  have h' : (b.val - 0) / 1 < 1216 := h.2.2
  omega

/-- The rows' final value. -/
def hFin : Tab S2048x1024 := fun y => hid (fun k => X m c (ix2 (y 0) k)) (G m c) (Sh m c) (Sc m c) (y 1)
/-- The product's final value, over the padded weights. -/
def zFin : Tab S2048x1280 := fun y => ∑ d : Fin 1024, hFin m c (ix2 (y 0) d) * (V m c main_v2 : Tab S1280x1024) (ix2 (y 1) d)

/-- An entry of the rows' block. -/
theorem blk_x (t : Fin cfg0.N) (a k : Fin 1024) : iblk m c 0 t (ix2 a k) = X m c (ix2 ⟨t.val * 1024 + a.val, by have := lt0 t; omega⟩ k) := by
  have ht := lt0 t
  refine Eq.trans (b := V m c main_arg0 (ix2 ⟨t.val * 1024 + a.val, by omega⟩ k)) ?_ (congrFun (V_main_arg0 m c) _)
  blk_ext [iblk, idx0 t]
/-- The block of the norm's weights. -/
theorem blk_g (t : Fin cfg0.N) (d : Fin 1024) : iblk m c 1 t (ix2 0 d) = G m c (ix2 0 d) := by
  refine Eq.trans (b := V m c main_arg1 (ix2 0 d)) ?_ (congrFun (V_main_arg1 m c) _)
  blk_ext [iblk, idx0 t]
/-- The block of the shift. -/
theorem blk_sh (t : Fin cfg0.N) (d : Fin 1024) : iblk m c 2 t (ix2 0 d) = Sh m c (ix2 0 d) := by
  refine Eq.trans (b := V m c main_arg2 (ix2 0 d)) ?_ (congrFun (V_main_arg2 m c) _)
  blk_ext [iblk, idx0 t]
/-- The block of the scale. -/
theorem blk_sc (t : Fin cfg0.N) (d : Fin 1024) : iblk m c 3 t (ix2 0 d) = Sc m c (ix2 0 d) := by
  refine Eq.trans (b := V m c main_arg3 (ix2 0 d)) ?_ (congrFun (V_main_arg3 m c) _)
  blk_ext [iblk, idx0 t]
/-- The block of the padded weights. -/
theorem blk_w (t : Fin cfg0.N) (b : Fin 1280) (d : Fin 1024) : iblk m c 4 t (ix2 b d) = (V m c main_v2 : Tab S1280x1024) (ix2 b d) := by
  blk_ext [iblk, idx0 t]

/-- A block's rows, in the array. -/
theorem hid_blk (t : Fin cfg0.N) (a d : Fin 1024) :
    hid (fun k => iblk m c 0 t (ix2 a k)) (iblk m c 1 t) (iblk m c 2 t) (iblk m c 3 t) d = hFin m c (ix2 ⟨t.val * 1024 + a.val, by have := lt0 t; omega⟩ d) := by
  have e : (fun k => iblk m c 0 t (ix2 a k)) = (fun k => X m c (ix2 ⟨t.val * 1024 + a.val, by have := lt0 t; omega⟩ k)) := funext fun k => blk_x m c t a k
  unfold hid
  rw [e, blk_g, blk_sh, blk_sc]
  rfl

/-- Where an entry of the rows' output block lies in the array. -/
theorem emb_h (t : Fin cfg0.N) (y : ((cfg0.win 5).xblock (cfg0.grid.coords t)).Idx) :
    (((cfg0.win 5).blk t).view.emb y : S2048x1024.Idx) = ix2 ⟨t.val * 1024 + (y 0).val, by have := lt0 t; have : (y 0).val < 1024 := (y 0).isLt; omega⟩ (y 1 : Fin 1024) := by
  have ht := lt0 t
  have y0 : (y 0).val < 1024 := (y 0).isLt
  have y1 : (y 1).val < 1024 := (y 1).isLt
  blk_ext [idx0 t]
/-- The rows, whole. -/
theorem final_h : (dats m 0 c).arrAt 5 cfg0.N = hFin m c := by
  refine (dats m 0 c).arrAt_eq_of_covers 5 _ (by decide +kernel) fun t hf y => ?_
  refine Eq.trans ?_ (congrArg (hFin m c) (emb_h t y)).symm
  blk_simp [idx0 t]
  rw [after0_5]
  exact (congrArg _ (eq_ix2 y)).trans ((tile_h _ _ _ _ _ (y 0) (y 1)).trans (hid_blk m c t (y 0) (y 1)))
/-- Where an entry of the product's output block lies in the array. -/
theorem emb_z (t : Fin cfg0.N) (y : ((cfg0.win 6).xblock (cfg0.grid.coords t)).Idx) :
    (((cfg0.win 6).blk t).view.emb y : S2048x1280.Idx) = ix2 ⟨t.val * 1024 + (y 0).val, by have := lt0 t; have : (y 0).val < 1024 := (y 0).isLt; omega⟩ (y 1 : Fin 1280) := by
  have ht := lt0 t
  have y0 : (y 0).val < 1024 := (y 0).isLt
  have y1 : (y 1).val < 1280 := (y 1).isLt
  blk_ext [idx0 t]
/-- The product, whole. -/
theorem final_z : (dats m 0 c).arrAt 6 cfg0.N = zFin m c := by
  refine (dats m 0 c).arrAt_eq_of_covers 6 _ (by decide +kernel) fun t hf y => ?_
  refine Eq.trans ?_ (congrArg (zFin m c) (emb_z t y)).symm
  blk_simp [idx0 t]
  rw [after0_6]
  refine (congrArg _ (eq_ix2 y)).trans ((tile_z _ _ _ _ _ (y 0) (y 1)).trans ?_)
  exact Finset.sum_congr rfl fun d _ => congrArg₂ (fun x y : EReal => x * y) (hid_blk m c t (y 0) d) (blk_w m c t (y 1) d)

end

end Cert.Kernel6Ideal.Mix

namespace Cert.Reference6Ideal.Mix

open Idealize.ShloMosaic Idealize.ShloMosaic.TcCoe Idealize.ShloMosaic.Tactic Idealize.SL.Sem
open Cert.Reference6Ideal Cert.Reference6Ideal.Gen
open Cert.Kernel6Ideal.Mix (Tab root hid)

/-- A row of numbers at each row. -/
def down (x : FVec Ideal S1x1024 .f32) : FVec Ideal S2048x1024 .f32 := broadcastInDim S2048x1024 ![0, 1] bcast_S1x1024_S2048x1024_0_1 x
/-- One over the root of each row's mean square. -/
def roots (x : FVec Ideal S2048x1024 .f32) : FVec Ideal S2048x1 .f32 :=
  Host.rsqrt (addf (Host.divf (broadcastInDim S2048x1 ![0] bcast_S2048_S2048x1_0 (Host.reduceAdd (mulf x x) (constant S_ .f32 0x00000000#32)
      reducesTo_S2048x1024_S2048_d1 h_S_)) (broadcastInDim S2048x1 ![] bcast_S_S2048x1 (constant S_ .f32 0x44800000#32)))
    (broadcastInDim S2048x1 ![] bcast_S_S2048x1 (constant S_ .f32 0x358637BD#32)))
/-- The normalized rows, scaled and shifted. -/
def rows (x : FVec Ideal S2048x1024 .f32) (g sh sc : FVec Ideal S1x1024 .f32) : FVec Ideal S2048x1024 .f32 :=
  addf (mulf (mulf (mulf x (broadcastInDim S2048x1024 ![0, 1] bcast_S2048x1_S2048x1024_0_1 (roots x))) (down g))
    (down (addf (broadcastInDim S1x1024 ![] bcast_S_S1x1024 (constant S_ .f32 0x3F800000#32)) sc))) (down sh)
/-- Their product with the weights. -/
def prod (h : FVec Ideal S2048x1024 .f32) (w : FVec Ideal S1024x1216 .f32) : FVec Ideal S2048x1216 .f32 :=
  Host.dotGeneral dot_S2048x1024_S1024x1216_S2048x1216_1_0_0_1_n_n none h w
/-- The product with 64 columns of zeros. -/
def wide (z : FVec Ideal S2048x1216 .f32) : FVec Ideal S2048x1280 .f32 :=
  pad S2048x1280 ![0, 0] ![0, 64] ![0, 0] z (sitofp .f32 (constantI S_ 32 0#32)) pads_S2048x1216_S2048x1280_000_0640 h_S_

/-- Its entries. -/
theorem roots_at (x : FVec Ideal S2048x1024 .f32) (i : Fin 2048) : roots x (ix2 i 0) = root fun k => x (ix2 i k) := by
  pointwise [roots]
  rfl
/-- Their entries. -/
theorem rows_at (x : FVec Ideal S2048x1024 .f32) (g sh sc : FVec Ideal S1x1024 .f32) (i : Fin 2048) (d : Fin 1024) :
    rows x g sh sc (ix2 i d) = hid (fun k => x (ix2 i k)) g sh sc d := by
  have e := roots_at x
  unfold rows
  generalize roots x = r at e ⊢
  pointwise [down]
  rw [e i]
  rfl
/-- Its entries. -/
theorem prod_at (h : FVec Ideal S2048x1024 .f32) (w : FVec Ideal S1024x1216 .f32) (i : Fin 2048) (b : Fin 1216) :
    prod h w (ix2 i b) = ∑ d : Fin 1024, h (ix2 i d) * w (ix2 d b) := by
  pointwise [prod]
/-- The first 1216 columns are the product's. -/
theorem wide_in (z : FVec Ideal S2048x1216 .f32) (i : Fin 2048) (b : Fin 1280) (hb : b.val < 1216) : wide z (ix2 i b) = z (ix2 i ⟨b.val, hb⟩) := by
  refine pad_apply_of_inside _ _ _ _ _ _ _ _ (ix2 i (⟨b.val, hb⟩ : Fin 1216)) fun a => ?_
  match a with
  | ⟨0, _⟩ => show i.val = 0 + i.val * 1; omega
  | ⟨1, _⟩ => show b.val = 0 + b.val * 1; omega
/-- The last 64 columns are zero. -/
theorem wide_out (z : FVec Ideal S2048x1216 .f32) (i : Fin 2048) (b : Fin 1280) (hb : ¬ b.val < 1216) : wide z (ix2 i b) = (0 : EReal) := by
  refine (pad_apply_of_not_inside _ _ _ _ _ _ _ _ 1 fun h => ?_).trans Kernel6Ideal.Mix.pad_zero
  have h' : (b.val - 0) / 1 < 1216 := h.2.2
  omega

end Cert.Reference6Ideal.Mix

namespace Cert.Proof

open Idealize.ShloMosaic Idealize.ShloMosaic.TcCoe Idealize.ShloMosaic.Tactic Idealize.SL.Sem

/-! # The claims about the normalized rows and their product -/

/-- The program terminates, leaves its arguments and every counter as they were: bits. -/
theorem frame_kernel6 : Cert.quiescent_Kernel6 := fun m ρ _ => Cert.Kernel6.Gen.frame m ρ
/-- The same over the extended reals. -/
theorem frame_ideal6 : Cert.quiescent_Kernel6Ideal := fun m ρ _ => Cert.Kernel6Ideal.Gen.frame m ρ
/-- The reference terminates and leaves its arguments; it has no counters. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The reference's rows are the kernel's. -/
theorem rows_eq (m : (ℓ : Loc Kernel6Ideal.nD Kernel6Ideal.τ Kernel6Ideal.sig) → Buf (Elt Ideal) ℓ) (c : Dev Kernel6Ideal.nD) (i : Fin 2048) (d : Fin 1024) :
    Reference6Ideal.Mix.rows (Kernel6Ideal.Mix.X m c) (Kernel6Ideal.Mix.G m c) (Kernel6Ideal.Mix.Sh m c) (Kernel6Ideal.Mix.Sc m c) (ix2 i d)
      = Kernel6Ideal.Mix.hFin m c (ix2 i d) := Reference6Ideal.Mix.rows_at _ _ _ _ i d
/-- The reference's product is the kernel's; the padded columns are zero on both sides. -/
theorem prod_eq (m : (ℓ : Loc Kernel6Ideal.nD Kernel6Ideal.τ Kernel6Ideal.sig) → Buf (Elt Ideal) ℓ) (c : Dev Kernel6Ideal.nD) (i : Fin 2048) (b : Fin 1280) :
    Reference6Ideal.Mix.wide (Reference6Ideal.Mix.prod (Reference6Ideal.Mix.rows (Kernel6Ideal.Mix.X m c) (Kernel6Ideal.Mix.G m c) (Kernel6Ideal.Mix.Sh m c)
      (Kernel6Ideal.Mix.Sc m c)) (Kernel6Ideal.Mix.Wi m c)) (ix2 i b) = Kernel6Ideal.Mix.zFin m c (ix2 i b) := by
  by_cases hb : b.val < 1216
  · refine (Reference6Ideal.Mix.wide_in _ i b hb).trans ((Reference6Ideal.Mix.prod_at _ _ i ⟨b.val, hb⟩).trans (Finset.sum_congr rfl fun d _ => ?_))
    exact congrArg₂ (fun x y : EReal => x * y) (rows_eq m c i d) (Kernel6Ideal.Mix.V2_in m c b hb d).symm
  · refine (Reference6Ideal.Mix.wide_out _ i b hb).trans (Finset.sum_eq_zero fun d _ => ?_).symm
    exact (congrArg (fun y : EReal => Kernel6Ideal.Mix.hFin m c (ix2 i d) * y) (Kernel6Ideal.Mix.V2_out m c b hb d)).trans (mul_zero _)

/-- The kernel's rows and product are the reference's, whatever the arguments. -/
theorem algebraic_mix_in : Cert.algebraic_Kernel6Ideal_Reference6Ideal := by
  intro m ρ m' ρ' _ hagree
  refine ⟨fun c => (Kernel6Ideal.Gen.dats m 0 c).arrAt 5 Kernel6Ideal.cfg0.N, fun c => (Kernel6Ideal.Gen.dats m 0 c).arrAt 6 Kernel6Ideal.cfg0.N,
    Kernel6Ideal.Value.run_blocks m ρ, ?_⟩
  refine (θ_run Cert.Reference6Ideal.defs _ _).mono (fun _ h c => ?_) (Cert.Reference6Ideal.Value.run (F := Ideal) m' ρ')
  obtain ⟨e0, e1, e2, e3, e4⟩ := hagree c
  obtain ⟨h0, h1, hargs⟩ := h c
  refine ⟨h0.trans ?_, h1.trans ?_, hargs⟩
  · rw [e0, e1, e2, e3]
    refine Eq.trans ?_ (Kernel6Ideal.Mix.final_h m c).symm
    funext y
    exact (congrArg _ (eq_ix2 y)).trans ((rows_eq m c (y 0) (y 1)).trans (congrArg (Kernel6Ideal.Mix.hFin m c) (eq_ix2 y).symm))
  · rw [e0, e1, e2, e3, e4]
    refine Eq.trans ?_ (Kernel6Ideal.Mix.final_z m c).symm
    funext y
    exact (congrArg _ (eq_ix2 y)).trans ((prod_eq m c (y 0) (y 1)).trans (congrArg (Kernel6Ideal.Mix.zFin m c) (eq_ix2 y).symm))

end Cert.Proof

end
-- ==== Proof.lean ====
module

public import proofs.«01_k».proof.Defs
public import proofs.«01_k».proof.Proof.AttnClaims
public import proofs.«01_k».proof.Proof.FfnClaims
public import proofs.«01_k».proof.Proof.ProdClaims
public import proofs.«01_k».proof.Proof.AdaClaims
public import proofs.«01_k».proof.Proof.AdamClaims
public import proofs.«01_k».proof.Proof.MixClaims
public import proofs.«01_k».proof.Proof.Gen.Kernel2
public import proofs.«01_k».proof.Proof.Gen.Kernel2Ideal
public import proofs.«01_k».proof.Proof.Gen.Kernel2Ideal.Regions
public import proofs.«01_k».proof.Proof.Gen.Kernel2Ideal.Skeleton
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference3Ideal.Run
public import proofs.«01_k».proof.Proof.Gen.Reference3Ideal
public import proofs.«01_k».proof.Proof.Gen.Kernel3Ideal.Points
public import proofs.«01_k».proof.Proof.Gen.Kernel3Ideal.Skeleton
public import proofs.«01_k».proof.Proof.Gen.Kernel3Ideal.Regions
public import proofs.«01_k».proof.Proof.Gen.Kernel3Ideal
public import proofs.«01_k».proof.Proof.Gen.Kernel3
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Kernel6Ideal.Value
public import proofs.«01_k».proof.Proof.Gen.Kernel6.Frame
public import proofs.«01_k».proof.Proof.Gen.Reference6Ideal.Run

@[expose] public section

noncomputable section

namespace Cert.Proof

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    preFacts, preFacts2,
    frame_kernel, frame_ideal, fun m ρ _ => frame_ideal m ρ trivial, frame_reference, fun m ρ _ => frame_reference m ρ trivial,
    frame_kernel2, frame_ideal2, fun m ρ _ => frame_ideal2 m ρ trivial, frame_reference2,
    fun m ρ _ => frame_reference2 m ρ trivial,
    frame_kernel3, frame_ideal3, frame_reference3,
    frame_kernel4, frame_ideal4, frame_reference4,
    frame_kernel5, frame_ideal5, frame_reference5,
    frame_kernel6, frame_ideal6, frame_reference6,
    trivial, algebraic_attention, trivial, algebraic_ffn, trivial, algebraic_products,
    trivial, algebraic_modulation, trivial, algebraic_update, trivial, algebraic_mix_in⟩

end Cert.Proof

end
